-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_up : Cert.Pre_experts_up.Facts] (m : (ℓ : Loc Cert.Kernel4.nD Cert.Kernel4.τ Cert.Kernel4.sig) → Buf (Elt Bits) ℓ) : Prop :=
  ∀ c : Dev Cert.Kernel4.nD,
    (Cert.Pre_experts_up.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_experts_up : Cert.Pre_experts_up.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_up [hPre_experts_up : Cert.Pre_experts_up.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 [hPre_experts_down : Cert.Pre_experts_down.Facts] (m : (ℓ : Loc Cert.Kernel5.nD Cert.Kernel5.τ Cert.Kernel5.sig) → Buf (Elt Bits) ℓ) : Prop :=
  ∀ c : Dev Cert.Kernel5.nD,
    (Cert.Pre_experts_down.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2))) = (fun _ => 1#1)

def Pre_Kernel5Ideal [hPre_experts_down : Cert.Pre_experts_down.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_down.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_down [hPre_experts_down : Cert.Pre_experts_down.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_down.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_experts_up : Cert.Pre_experts_up.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_experts_up : Cert.Pre_experts_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_experts_up [hReference4Ideal : Cert.Reference4Ideal.Facts] [hPre_experts_up : Cert.Pre_experts_up.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_up m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_experts_down : Cert.Pre_experts_down.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] [hPre_experts_down : Cert.Pre_experts_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_experts_down [hReference5Ideal : Cert.Reference5Ideal.Facts] [hPre_experts_down : Cert.Pre_experts_down.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_down m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] [hPre_experts_up : Cert.Pre_experts_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] [hPre_experts_down : Cert.Pre_experts_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_experts_up : Cert.Pre_experts_up.Facts) (hPre_experts_down : Cert.Pre_experts_down.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_up := hPre_experts_up)
    ∧ quiescent_Kernel4Ideal (hKernel4Ideal := hKernel4Ideal) (hPre_experts_up := hPre_experts_up)
    ∧ quiescent_Reference4Ideal (hReference4Ideal := hReference4Ideal)
    ∧ quiescent_Reference4Ideal_pre_experts_up (hReference4Ideal := hReference4Ideal) (hPre_experts_up := hPre_experts_up)
    ∧ quiescent_Kernel5 (hKernel5 := hKernel5) (hPre_experts_down := hPre_experts_down)
    ∧ quiescent_Kernel5Ideal (hKernel5Ideal := hKernel5Ideal) (hPre_experts_down := hPre_experts_down)
    ∧ quiescent_Reference5Ideal (hReference5Ideal := hReference5Ideal)
    ∧ quiescent_Reference5Ideal_pre_experts_down (hReference5Ideal := hReference5Ideal) (hPre_experts_down := hPre_experts_down)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_up := hPre_experts_up)
    ∧ preserves_Kernel5_Kernel5Ideal
    ∧ algebraic_Kernel5Ideal_Reference5Ideal (hKernel5Ideal := hKernel5Ideal) (hReference5Ideal := hReference5Ideal) (hPre_experts_down := hPre_experts_down)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_experts_down.lean ====
abbrev S69632x3584 : Shape := ⟨2, ![69632, 3584]⟩
abbrev S136 : Shape := ⟨1, ![136]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S69632x3584 .bf16) (main_arg1 : IVec S136 32) (main_arg2 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Pre_experts_up.lean ====
abbrev S69632x1024 : Shape := ⟨2, ![69632, 1024]⟩
abbrev S136 : Shape := ⟨1, ![136]⟩
abbrev S8x1024x3584 : Shape := ⟨3, ![8, 1024, 3584]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S69632x1024 .f32) (main_arg1 : IVec S136 32) (main_arg2 : FVec F S8x1024x3584 .f32) (main_arg3 : FVec F S8x1024x3584 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  main_v4
-- ==== Kernel.lean ====
abbrev S2x16384x5120 : Shape := ⟨3, ![2, 16384, 5120]⟩
abbrev S4x1024 : Shape := ⟨2, ![4, 1024]⟩
abbrev S2x2x8x128x128 : Shape := ⟨5, ![2, 2, 8, 128, 128]⟩
abbrev S_ : Shape := ⟨0, ![]⟩
abbrev S1024 : Shape := ⟨1, ![1024]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S2x16384x1024 : Shape := ⟨3, ![2, 16384, 1024]⟩
abbrev S1x256x512 : Shape := ⟨3, ![1, 256, 512]⟩
abbrev S1x512 : Shape := ⟨2, ![1, 512]⟩
abbrev S1x2x4x128x128 : Shape := ⟨5, ![1, 2, 4, 128, 128]⟩
abbrev S2x4x128x128 : Shape := ⟨4, ![2, 4, 128, 128]⟩
abbrev S1x128 : Shape := ⟨2, ![1, 128]⟩
abbrev S1x256x128 : Shape := ⟨3, ![1, 256, 128]⟩
abbrev S256x128 : Shape := ⟨2, ![256, 128]⟩
abbrev S64x128 : Shape := ⟨2, ![64, 128]⟩
abbrev S128x128 : Shape := ⟨2, ![128, 128]⟩
abbrev S1x1x128x128 : Shape := ⟨4, ![1, 1, 128, 128]⟩

abbrev nBuf : Space → Nat
  | .hbm => 90
  | .vmem => 24
  | .smem => 0
  | _ => 0

abbrev bufTy : (tb : Table) → Fin (tcTables nBuf tb) → BufTy
  | .hbm, ⟨0, _⟩ => ⟨S2x16384x5120, .f32⟩
  | .hbm, ⟨1, _⟩ => ⟨S4x1024, .f32⟩
  | .hbm, ⟨2, _⟩ => ⟨S2x2x8x128x128, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S_, .f32⟩
  | .hbm, ⟨19, _⟩ => ⟨S4x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4x1024, .f32⟩
  | .hbm, ⟨24, _⟩ => ⟨S4x1024, .f32⟩
  | .hbm, ⟨25, _⟩ => ⟨S1x1024, .f32⟩
  | .hbm, ⟨26, _⟩ => ⟨S1024, .f32⟩
  | .hbm, ⟨27, _⟩ => ⟨S256, .i32⟩
  | .hbm, ⟨28, _⟩ => ⟨S256x1, .i32⟩
  | .hbm, ⟨29, _⟩ => ⟨S_, .i32⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i1⟩
  | .hbm, ⟨42, _⟩ => ⟨S256x1, .i1⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S1x256, .i32⟩
  | .hbm, ⟨48, _⟩ => ⟨S_, .i32⟩
  | .hbm, ⟨49, _⟩ => ⟨S_, .i32⟩
  | .hbm, ⟨50, _⟩ => ⟨S1x256, .i32⟩
  | .hbm, ⟨51, _⟩ => ⟨S1x256, .i32⟩
  | .hbm, ⟨52, _⟩ => ⟨S1x256, .i32⟩
  | .hbm, ⟨53, _⟩ => ⟨S_, .i32⟩
  | .hbm, ⟨54, _⟩ => ⟨S1x256, .i32⟩
  | .hbm, ⟨55, _⟩ => ⟨S1x256, .i1⟩
  | .hbm, ⟨56, _⟩ => ⟨S1x256, .i32⟩
  | .hbm, ⟨57, _⟩ => ⟨S1x256, .i32⟩
  | .hbm, ⟨58, _⟩ => ⟨S_, .i32⟩
  | .hbm, ⟨59, _⟩ => ⟨S1x256, .i32⟩
  | .hbm, ⟨60, _⟩ => ⟨S1x256, .i1⟩
  | .hbm, ⟨61, _⟩ => ⟨S1x256, .i1⟩
  | .hbm, ⟨62, _⟩ => ⟨S_, .i32⟩
  | .hbm, ⟨63, _⟩ => ⟨S1x256, .i32⟩
  | .hbm, ⟨64, _⟩ => ⟨S1x256, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x1, .i32⟩
  | .hbm, ⟨70, _⟩ => ⟨S1x256, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S256x256, .i1⟩
  | .hbm, ⟨75, _⟩ => ⟨S256x1, .i32⟩
  | .hbm, ⟨76, _⟩ => ⟨S1x256, .i32⟩
  | .hbm, ⟨77, _⟩ => ⟨S256x256, .i32⟩
  | .hbm, ⟨78, _⟩ => ⟨S256x256, .i32⟩
  | .hbm, ⟨79, _⟩ => ⟨S256x256, .i1⟩
  | .hbm, ⟨80, _⟩ => ⟨S256x256, .i1⟩
  | .hbm, ⟨81, _⟩ => ⟨S1x256x256, .i1⟩
  | .hbm, ⟨82, _⟩ => ⟨S1x256x256, .i1⟩
  | .hbm, ⟨83, _⟩ => ⟨S2x256x256, .i1⟩
  | .hbm, ⟨84, _⟩ => ⟨S2x256x256, .f32⟩
  | .hbm, ⟨85, _⟩ => ⟨S2x256x256, .bf16⟩
  | .hbm, ⟨86, _⟩ => ⟨S1x1024, .f32⟩
  | .hbm, ⟨87, _⟩ => ⟨S2x16384x1024, .f32⟩
  | .hbm, ⟨88, _⟩ => ⟨S2x16384x1024, .f32⟩
  | .hbm, ⟨89, _⟩ => ⟨S2x2x8x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x512, .f32⟩
  | .local _ .vmem, ⟨13, _⟩ => ⟨S1x512, .f32⟩
  | .local _ .vmem, ⟨14, _⟩ => ⟨S2x256x256, .bf16⟩
  | .local _ .vmem, ⟨15, _⟩ => ⟨S1x2x4x128x128, .f32⟩
  | .local _ .vmem, ⟨16, _⟩ => ⟨S1x2x4x128x128, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x2x4x128x128, .f32⟩
  | .local _ .vmem, ⟨22, _⟩ => ⟨S1x2x4x128x128, .f32⟩
  | .local _ .vmem, ⟨23, _⟩ => ⟨S2x4x128x128, .f32⟩
  | _, _ => ⟨S2x16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45_0 : Ref sig .tc := ⟨.hbm, 87, rfl⟩
abbrev main_v45_1 : Ref sig .tc := ⟨.hbm, 88, rfl⟩
abbrev main_v45_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 2, 64], ![false, false, false]⟩

def k0_cond2 (i : grid0.Coords) : BitVec 1 :=
  let arg2 : BitVec 32 := BitVec.ofNat 32 (i 2).val
  let c63_i32 : BitVec 32 := 63#32
  let v891 : BitVec 1 := Scalar.cmpi .eq arg2 c63_i32
  let v892 : BitVec 32 := Scalar.extui v891
  let c0_i32_321 : BitVec 32 := 0#32
  let v893 : BitVec 1 := Scalar.cmpi .ne v892 c0_i32_321
  v893

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c0_i32 : BitVec 32 := 0#32
  let v1 : BitVec 32 := Scalar.addi c0_i32 arg1
  let c0_i32_0 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c2_i32 : BitVec 32 := 2#32
  let v1 : BitVec 32 := Scalar.addi c2_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c8_i32 : BitVec 32 := 8#32
  let v1 : BitVec 32 := Scalar.addi c8_i32 arg1
  let c0_i32 : BitVec 32 := 0#32
  ![arg0.toNat, v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.subi c63_i32 arg2
  let c0_i32 : BitVec 32 := 0#32
  let v1 : BitVec 32 := Scalar.addi c0_i32 arg1
  let c0_i32_0 : BitVec 32 := 0#32
  ![arg0.toNat, v0.toNat, v1.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S2x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S2x16384x5120 : Shape := ⟨3, ![2, 16384, 5120]⟩
abbrev S4x1024 : Shape := ⟨2, ![4, 1024]⟩
abbrev S2x2x8x128x128 : Shape := ⟨5, ![2, 2, 8, 128, 128]⟩
abbrev S_ : Shape := ⟨0, ![]⟩
abbrev S1024 : Shape := ⟨1, ![1024]⟩
abbrev S1x1024 : Shape := ⟨2, ![1, 1024]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S1x1x1024 : Shape := ⟨3, ![1, 1, 1024]⟩
abbrev S2x1x8x128x128 : Shape := ⟨5, ![2, 1, 8, 128, 128]⟩
abbrev S2x8x128x128 : Shape := ⟨4, ![2, 8, 128, 128]⟩
abbrev S4x8x16384x128 : Shape := ⟨4, ![4, 8, 16384, 128]⟩
abbrev S4x8x128x128 : Shape := ⟨4, ![4, 8, 128, 128]⟩
abbrev S4x8x256x64x128 : Shape := ⟨5, ![4, 8, 256, 64, 128]⟩
abbrev S4x8x256x1x128 : Shape := ⟨5, ![4, 8, 256, 1, 128]⟩
abbrev S64x64 : Shape := ⟨2, ![64, 64]⟩
abbrev S4x8x256x64x64 : Shape := ⟨5, ![4, 8, 256, 64, 64]⟩
abbrev S4x8x256x128x128 : Shape := ⟨5, ![4, 8, 256, 128, 128]⟩
abbrev S4x8x256x128 : Shape := ⟨4, ![4, 8, 256, 128]⟩
abbrev S256x4x8x128 : Shape := ⟨4, ![256, 4, 8, 128]⟩
abbrev S256x4x8x128x128 : Shape := ⟨5, ![256, 4, 8, 128, 128]⟩
abbrev S256x4x8x64x128 : Shape := ⟨5, ![256, 4, 8, 64, 128]⟩
abbrev S1x4x8x128 : Shape := ⟨4, ![1, 4, 8, 128]⟩
abbrev S4x8x128 : Shape := ⟨3, ![4, 8, 128]⟩
abbrev S1x4x8x128x128 : Shape := ⟨5, ![1, 4, 8, 128, 128]⟩
abbrev S1x4x8x64x128 : Shape := ⟨5, ![1, 4, 8, 64, 128]⟩
abbrev S4x8x64x128 : Shape := ⟨4, ![4, 8, 64, 128]⟩
abbrev S4x8x128x1 : Shape := ⟨4, ![4, 8, 128, 1]⟩

abbrev nBuf : Space → Nat
  | .hbm => 217
  | .vmem => 0
  | .smem => 0
  | _ => 0

abbrev hbmTy0_0 (i : Nat) : BufTy := match i % 128 with
  | 0 => ⟨S2x16384x5120, .f32⟩
  | 1 => ⟨S4x1024, .f32⟩
  | 2 => ⟨S2x2x8x128x128, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S4x1024, .f32⟩
  | 10 => ⟨S4x1024, .f32⟩
  | 11 => ⟨S4x1024, .f32⟩
  | 12 => ⟨S_, .f32⟩
  | 13 => ⟨S1024, .f32⟩
  | 14 => ⟨S1x1024, .f32⟩
  | 15 => ⟨S4x1024, .f32⟩
  | 16 => ⟨S4x1024, .f32⟩
  | 17 => ⟨S_, .f32⟩
  | 18 => ⟨S_, .f32⟩
  | 19 => ⟨S4x1024, .f32⟩
  | 20 => ⟨S1x1024, .f32⟩
  | 21 => ⟨S1024, .f32⟩
  | 22 => ⟨S1x1024, .f32⟩
  | 23 => ⟨S4x1024, .f32⟩
  | 24 => ⟨S4x1024, .f32⟩
  | 25 => ⟨S1x1024, .f32⟩
  | 26 => ⟨S1024, .f32⟩
  | 27 => ⟨S2x16384x1024, .f32⟩
  | 28 => ⟨S2x16384x1024, .f32⟩
  | 29 => ⟨S2x16384x1024, .f32⟩
  | 30 => ⟨S2x16384x1024, .f32⟩
  | 31 => ⟨S2x16384x1024, .f32⟩
  | 32 => ⟨S2x16384x1024, .f32⟩
  | 33 => ⟨S2x16384x1024, .f32⟩
  | 34 => ⟨S_, .f32⟩
  | 35 => ⟨S2x16384x1024, .f32⟩
  | 36 => ⟨S2x16384x1024, .f32⟩
  | 37 => ⟨S_, .f32⟩
  | 38 => ⟨S2x16384x1024, .f32⟩
  | 39 => ⟨S2x16384x1024, .f32⟩
  | 40 => ⟨S2x16384x1024, .f32⟩
  | 41 => ⟨S2x16384x8x128, .f32⟩
  | 42 => ⟨S2x8x16384x128, .f32⟩
  | 43 => ⟨S2x16384x8x128, .f32⟩
  | 44 => ⟨S2x8x16384x128, .f32⟩
  | 45 => ⟨S_, .f32⟩
  | 46 => ⟨S1024, .f32⟩
  | 47 => ⟨S1024, .f32⟩
  | 48 => ⟨S2x16384x1024, .f32⟩
  | 49 => ⟨S2x16384x1024, .f32⟩
  | 50 => ⟨S_, .f32⟩
  | 51 => ⟨S2x16384x1024, .f32⟩
  | 52 => ⟨S2x16384x1024, .f32⟩
  | 53 => ⟨S_, .f32⟩
  | 54 => ⟨S2x16384x1024, .f32⟩
  | 55 => ⟨S2x16384x1024, .f32⟩
  | 56 => ⟨S1x1x1024, .f32⟩
  | 57 => ⟨S2x16384x1024, .f32⟩
  | 58 => ⟨S2x16384x1024, .f32⟩
  | 59 => ⟨S1x1x1024, .f32⟩
  | 60 => ⟨S2x16384x1024, .f32⟩
  | 61 => ⟨S2x16384x1024, .f32⟩
  | 62 => ⟨S_, .f32⟩
  | 63 => ⟨S1024, .f32⟩
  | 64 => ⟨S1024, .f32⟩
  | 65 => ⟨S2x16384x1024, .f32⟩
  | 66 => ⟨S2x16384x1024, .f32⟩
  | 67 => ⟨S_, .f32⟩
  | 68 => ⟨S2x16384x1024, .f32⟩
  | 69 => ⟨S2x16384x1024, .f32⟩
  | 70 => ⟨S_, .f32⟩
  | 71 => ⟨S2x16384x1024, .f32⟩
  | 72 => ⟨S2x16384x1024, .f32⟩
  | 73 => ⟨S1x1x1024, .f32⟩
  | 74 => ⟨S2x16384x1024, .f32⟩
  | 75 => ⟨S2x16384x1024, .f32⟩
  | 76 => ⟨S1x1x1024, .f32⟩
  | 77 => ⟨S2x16384x1024, .f32⟩
  | 78 => ⟨S2x16384x1024, .f32⟩
  | 79 => ⟨S2x1x8x128x128, .f32⟩
  | 80 => ⟨S2x8x128x128, .f32⟩
  | 81 => ⟨S2x8x128x128, .f32⟩
  | 82 => ⟨S2x1x8x128x128, .f32⟩
  | 83 => ⟨S2x8x128x128, .f32⟩
  | 84 => ⟨S2x8x128x128, .f32⟩
  | 85 => ⟨S2x8x16384x128, .f32⟩
  | 86 => ⟨S4x8x16384x128, .f32⟩
  | 87 => ⟨S_, .f32⟩
  | 88 => ⟨S2x16384x1024, .f32⟩
  | 89 => ⟨S2x16384x1024, .f32⟩
  | 90 => ⟨S2x16384x8x128, .f32⟩
  | 91 => ⟨S2x8x16384x128, .f32⟩
  | 92 => ⟨S_, .f32⟩
  | 93 => ⟨S2x16384x1024, .f32⟩
  | 94 => ⟨S2x16384x1024, .f32⟩
  | 95 => ⟨S2x16384x8x128, .f32⟩
  | 96 => ⟨S2x8x16384x128, .f32⟩
  | 97 => ⟨S2x8x16384x128, .f32⟩
  | 98 => ⟨S4x8x16384x128, .f32⟩
  | 99 => ⟨S2x8x16384x128, .f32⟩
  | 100 => ⟨S4x8x16384x128, .f32⟩
  | 101 => ⟨S2x16384x1024, .f32⟩
  | 102 => ⟨S2x16384x8x128, .f32⟩
  | 103 => ⟨S2x8x16384x128, .f32⟩
  | 104 => ⟨S2x16384x1024, .f32⟩
  | 105 => ⟨S2x16384x8x128, .f32⟩
  | 106 => ⟨S2x8x16384x128, .f32⟩
  | 107 => ⟨S2x8x16384x128, .f32⟩
  | 108 => ⟨S4x8x16384x128, .f32⟩
  | 109 => ⟨S4x8x128x128, .f32⟩
  | 110 => ⟨S4x8x256x64x128, .f32⟩
  | 111 => ⟨S4x8x256x64x128, .f32⟩
  | 112 => ⟨S4x8x256x64x128, .f32⟩
  | 113 => ⟨S4x8x256x64x128, .f32⟩
  | 114 => ⟨S_, .f32⟩
  | 115 => ⟨S_, .f32⟩
  | 116 => ⟨S4x8x256x64x128, .f32⟩
  | 117 => ⟨S4x8x256x1x128, .f32⟩
  | 118 => ⟨S4x8x256x64x128, .f32⟩
  | 119 => ⟨S4x8x256x64x128, .f32⟩
  | 120 => ⟨S4x8x256x64x128, .f32⟩
  | 121 => ⟨S4x8x256x64x128, .f32⟩
  | 122 => ⟨S4x8x256x64x128, .f32⟩
  | 123 => ⟨S4x8x256x64x128, .f32⟩
  | 124 => ⟨S4x8x256x64x128, .f32⟩
  | 125 => ⟨S4x8x256x64x128, .f32⟩
  | 126 => ⟨S4x8x256x64x128, .f32⟩
  | 127 => ⟨S_, .i1⟩
  | _ => ⟨S2x16384x5120, .f32⟩

abbrev hbmTy0_1 (i : Nat) : BufTy := match i % 128 with
  | 0 => ⟨S64x64, .i1⟩
  | 1 => ⟨S64x64, .i32⟩
  | 2 => ⟨S_, .i32⟩
  | 3 => ⟨S64x64, .i32⟩
  | 4 => ⟨S64x64, .i32⟩
  | 5 => ⟨S64x64, .i32⟩
  | 6 => ⟨S64x64, .i1⟩
  | 7 => ⟨S_, .i1⟩
  | 8 => ⟨S64x64, .i1⟩
  | 9 => ⟨S64x64, .i1⟩
  | 10 => ⟨S4x8x256x64x64, .f32⟩
  | 11 => ⟨S_, .f32⟩
  | 12 => ⟨S_, .f32⟩
  | 13 => ⟨S4x8x256x64x64, .i1⟩
  | 14 => ⟨S4x8x256x64x64, .f32⟩
  | 15 => ⟨S4x8x256x64x64, .f32⟩
  | 16 => ⟨S4x8x256x64x128, .f32⟩
  | 17 => ⟨S4x8x256x128x128, .f32⟩
  | 18 => ⟨S4x8x256x128, .f32⟩
  | 19 => ⟨S4x8x256x128, .f32⟩
  | 20 => ⟨S256x4x8x128, .f32⟩
  | 21 => ⟨S256x4x8x128x128, .f32⟩
  | 22 => ⟨S256x4x8x64x128, .f32⟩
  | 23 => ⟨S256x4x8x64x128, .f32⟩
  | 24 => ⟨S_, .f32⟩
  | 25 => ⟨S256x4x8x64x128, .f32⟩
  | 26 => ⟨S_, .i32⟩
  | 27 => ⟨S256x4x8x128, .f32⟩
  | 28 => ⟨S256x4x8x128x128, .f32⟩
  | 29 => ⟨S256x4x8x64x128, .f32⟩
  | 30 => ⟨S256x4x8x64x128, .f32⟩
  | 31 => ⟨S_, .i32⟩
  | 32 => ⟨S4x8x128x128, .f32⟩
  | 33 => ⟨S256x4x8x64x128, .f32⟩
  | 34 => ⟨S_, .i32⟩
  | 35 => ⟨S_, .i1⟩
  | 36 => ⟨S_, .i32⟩
  | 37 => ⟨S_, .i32⟩
  | 38 => ⟨S_, .i32⟩
  | 39 => ⟨S1x4x8x128, .f32⟩
  | 40 => ⟨S4x8x128, .f32⟩
  | 41 => ⟨S_, .i32⟩
  | 42 => ⟨S_, .i32⟩
  | 43 => ⟨S_, .i32⟩
  | 44 => ⟨S_, .i32⟩
  | 45 => ⟨S1x4x8x128x128, .f32⟩
  | 46 => ⟨S4x8x128x128, .f32⟩
  | 47 => ⟨S_, .i32⟩
  | 48 => ⟨S_, .i32⟩
  | 49 => ⟨S_, .i32⟩
  | 50 => ⟨S_, .i32⟩
  | 51 => ⟨S1x4x8x64x128, .f32⟩
  | 52 => ⟨S4x8x64x128, .f32⟩
  | 53 => ⟨S_, .i32⟩
  | 54 => ⟨S_, .i32⟩
  | 55 => ⟨S_, .i32⟩
  | 56 => ⟨S_, .i32⟩
  | 57 => ⟨S1x4x8x64x128, .f32⟩
  | 58 => ⟨S4x8x64x128, .f32⟩
  | 59 => ⟨S4x8x128x1, .f32⟩
  | 60 => ⟨S4x8x128x128, .f32⟩
  | 61 => ⟨S4x8x128x128, .f32⟩
  | 62 => ⟨S4x8x128x128, .f32⟩
  | 63 => ⟨S4x8x64x128, .f32⟩
  | 64 => ⟨S4x8x64x128, .f32⟩
  | 65 => ⟨S1x4x8x64x128, .f32⟩
  | 66 => ⟨S_, .i32⟩
  | 67 => ⟨S_, .i32⟩
  | 68 => ⟨S_, .i32⟩
  | 69 => ⟨S_, .i32⟩
  | 70 => ⟨S256x4x8x64x128, .f32⟩
  | 71 => ⟨S_, .i32⟩
  | 72 => ⟨S_, .i32⟩
  | 73 => ⟨S4x8x256x64x128, .f32⟩
  | 74 => ⟨S4x8x16384x128, .f32⟩
  | 75 => ⟨S2x8x16384x128, .f32⟩
  | 76 => ⟨S2x8x16384x128, .f32⟩
  | 77 => ⟨S2x8x16384x128, .f32⟩
  | 78 => ⟨S2x8x128x128, .f32⟩
  | 79 => ⟨S2x8x128x128, .f32⟩
  | 80 => ⟨S2x16384x8x128, .f32⟩
  | 81 => ⟨S2x16384x1024, .f32⟩
  | 82 => ⟨S2x16384x8x128, .f32⟩
  | 83 => ⟨S2x16384x1024, .f32⟩
  | 84 => ⟨S2x8x128x128, .f32⟩
  | 85 => ⟨S2x8x128x128, .f32⟩
  | 86 => ⟨S2x1x8x128x128, .f32⟩
  | 87 => ⟨S2x1x8x128x128, .f32⟩
  | 88 => ⟨S2x2x8x128x128, .f32⟩
  | _ => ⟨S2x16384x5120, .f32⟩

abbrev hbmTy (i : Nat) : BufTy := match i / 128 with
  | 0 => hbmTy0_0 i
  | 1 => hbmTy0_1 i
  | _ => ⟨S2x16384x5120, .f32⟩

abbrev bufTy : (tb : Table) → Fin (tcTables nBuf tb) → BufTy
  | .hbm, ⟨i, _⟩ => hbmTy i
  | _, _ => ⟨S2x16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_call6_call0_cst : Ref sig .tc := ⟨.hbm, 114, rfl⟩
abbrev main_call6_call0_v0 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c : Ref sig .tc := ⟨.hbm, 127, rfl⟩
abbrev main_v101 : Ref sig .tc := ⟨.hbm, 128, rfl⟩
abbrev main_call7_v0 : Ref sig .tc := ⟨.hbm, 129, rfl⟩
abbrev main_call7_c : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_c_0 : Ref sig .tc := ⟨.hbm, 135, rfl⟩
abbrev main_call7_v5 : Ref sig .tc := ⟨.hbm, 136, rfl⟩
abbrev main_v102 : Ref sig .tc := ⟨.hbm, 137, rfl⟩
abbrev main_v103 : Ref sig .tc := ⟨.hbm, 138, rfl⟩
abbrev main_cst_10 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_11 : Ref sig .tc := ⟨.hbm, 152, rfl⟩
abbrev main_v113 : Ref sig .tc := ⟨.hbm, 153, rfl⟩
abbrev main_c_12 : Ref sig .tc := ⟨.hbm, 154, rfl⟩
abbrev main_v114_0 : Ref sig .tc := ⟨.hbm, 155, rfl⟩
abbrev main_v114_1 : Ref sig .tc := ⟨.hbm, 156, rfl⟩
abbrev main_v114_2 : Ref sig .tc := ⟨.hbm, 157, rfl⟩
abbrev main_v114_3 : Ref sig .tc := ⟨.hbm, 158, rfl⟩
abbrev main_v114_4 : Ref sig .tc := ⟨.hbm, 159, rfl⟩
abbrev main_v114_5 : Ref sig .tc := ⟨.hbm, 160, rfl⟩
abbrev main_v114_6 : Ref sig .tc := ⟨.hbm, 161, rfl⟩
abbrev main_while0c_c_19 : Ref sig .tc := ⟨.hbm, 162, rfl⟩
abbrev main_while0c_v131 : Ref sig .tc := ⟨.hbm, 163, rfl⟩
abbrev main_while0b_call9_c : Ref sig .tc := ⟨.hbm, 164, rfl⟩
abbrev main_while0b_call9_c_0 : Ref sig .tc := ⟨.hbm, 165, rfl⟩
abbrev main_while0b_call9_c_1 : Ref sig .tc := ⟨.hbm, 166, rfl⟩
abbrev main_while0b_call9_v0 : Ref sig .tc := ⟨.hbm, 167, rfl⟩
abbrev main_while0b_v131 : Ref sig .tc := ⟨.hbm, 168, rfl⟩
abbrev main_while0b_call10_c : Ref sig .tc := ⟨.hbm, 169, rfl⟩
abbrev main_while0b_call10_c_0 : Ref sig .tc := ⟨.hbm, 170, rfl⟩
abbrev main_while0b_call10_c_1 : Ref sig .tc := ⟨.hbm, 171, rfl⟩
abbrev main_while0b_call10_c_2 : Ref sig .tc := ⟨.hbm, 172, rfl⟩
abbrev main_while0b_call10_v0 : Ref sig .tc := ⟨.hbm, 173, rfl⟩
abbrev main_while0b_v132 : Ref sig .tc := ⟨.hbm, 174, rfl⟩
abbrev main_while0b_call11_c : Ref sig .tc := ⟨.hbm, 175, rfl⟩
abbrev main_while0b_call11_c_0 : Ref sig .tc := ⟨.hbm, 176, rfl⟩
abbrev main_while0b_call11_c_1 : Ref sig .tc := ⟨.hbm, 177, rfl⟩
abbrev main_while0b_call11_c_2 : Ref sig .tc := ⟨.hbm, 178, rfl⟩
abbrev main_while0b_call11_v0 : Ref sig .tc := ⟨.hbm, 179, rfl⟩
abbrev main_while0b_v133 : Ref sig .tc := ⟨.hbm, 180, rfl⟩
abbrev main_while0b_call12_c : Ref sig .tc := ⟨.hbm, 181, rfl⟩
abbrev main_while0b_call12_c_0 : Ref sig .tc := ⟨.hbm, 182, rfl⟩
abbrev main_while0b_call12_c_1 : Ref sig .tc := ⟨.hbm, 183, rfl⟩
abbrev main_while0b_call12_c_2 : Ref sig .tc := ⟨.hbm, 184, rfl⟩
abbrev main_while0b_call12_v0 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_call13_v0 : Ref sig .tc := ⟨.hbm, 193, rfl⟩
abbrev main_while0b_call13_c : Ref sig .tc := ⟨.hbm, 194, rfl⟩
abbrev main_while0b_call13_c_0 : Ref sig .tc := ⟨.hbm, 195, rfl⟩
abbrev main_while0b_call13_c_1 : Ref sig .tc := ⟨.hbm, 196, rfl⟩
abbrev main_while0b_call13_c_2 : Ref sig .tc := ⟨.hbm, 197, rfl⟩
abbrev main_while0b_v141 : Ref sig .tc := ⟨.hbm, 198, rfl⟩
abbrev main_while0b_c_19 : Ref sig .tc := ⟨.hbm, 199, rfl⟩
abbrev main_while0b_v142 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S2x16384x1024 : Shape := ⟨3, ![2, 16384, 1024]⟩
abbrev S1024 : Shape := ⟨1, ![1024]⟩
abbrev S2x1x1024 : Shape := ⟨3, ![2, 1, 1024]⟩
abbrev S1024x3584 : Shape := ⟨2, ![1024, 3584]⟩
abbrev S_ : Shape := ⟨0, ![]⟩
abbrev S3584 : Shape := ⟨1, ![3584]⟩
abbrev S1x3584 : Shape := ⟨2, ![1, 3584]⟩
abbrev S1x1024 : Shape := ⟨2, ![1, 1024]⟩
abbrev S2x16384x3584 : Shape := ⟨3, ![2, 16384, 3584]⟩
abbrev S1x512x1024 : Shape := ⟨3, ![1, 512, 1024]⟩
abbrev S1x1x1024 : Shape := ⟨3, ![1, 1, 1024]⟩
abbrev S1024x1792 : Shape := ⟨2, ![1024, 1792]⟩
abbrev S1x1792 : Shape := ⟨2, ![1, 1792]⟩
abbrev S1x512x1792 : Shape := ⟨3, ![1, 512, 1792]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩

abbrev nBuf : Space → Nat
  | .hbm => 17
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3584, .f32⟩
  | .hbm, ⟨5, _⟩ => ⟨S1024x3584, .f32⟩
  | .hbm, ⟨6, _⟩ => ⟨S1024x3584, .bf16⟩
  | .hbm, ⟨7, _⟩ => ⟨S1024x3584, .bf16⟩
  | .hbm, ⟨8, _⟩ => ⟨S_, .f32⟩
  | .hbm, ⟨9, _⟩ => ⟨S3584, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S1x3584, .f32⟩
  | .hbm, ⟨14, _⟩ => ⟨S1x3584, .f32⟩
  | .hbm, ⟨15, _⟩ => ⟨S1x1024, .f32⟩
  | .hbm, ⟨16, _⟩ => ⟨S2x16384x3584, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S1024x1792, .bf16⟩
  | .local _ .vmem, ⟨9, _⟩ => ⟨S1024x1792, .bf16⟩
  | .local _ .vmem, ⟨10, _⟩ => ⟨S1024x1792, .bf16⟩
  | .local _ .vmem, ⟨11, _⟩ => ⟨S1x1792, .f32⟩
  | .local _ .vmem, ⟨12, _⟩ => ⟨S1x1792, .f32⟩
  | .local _ .vmem, ⟨13, _⟩ => ⟨S1x1792, .f32⟩
  | .local _ .vmem, ⟨14, _⟩ => ⟨S1x1792, .f32⟩
  | .local _ .vmem, ⟨15, _⟩ => ⟨S1x512x1792, .bf16⟩
  | .local _ .vmem, ⟨16, _⟩ => ⟨S1x512x1792, .bf16⟩
  | .local _ .vmem, ⟨17, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 32, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference2Ideal.lean ====
abbrev S2x16384x1024 : Shape := ⟨3, ![2, 16384, 1024]⟩
abbrev S1024 : Shape := ⟨1, ![1024]⟩
abbrev S2x1x1024 : Shape := ⟨3, ![2, 1, 1024]⟩
abbrev S1024x3584 : Shape := ⟨2, ![1024, 3584]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3584 : Shape := ⟨3, ![2, 16384, 3584]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3584, .f32⟩
  | .hbm, ⟨5, _⟩ => ⟨S1024x3584, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x3584, .f32⟩
  | .hbm, ⟨30, _⟩ => ⟨S2x16384x3584, .f32⟩
  | .hbm, ⟨31, _⟩ => ⟨S2x16384x3584, .f32⟩
  | .hbm, ⟨32, _⟩ => ⟨S_, .f32⟩
  | .hbm, ⟨33, _⟩ => ⟨S2x16384x3584, .f32⟩
  | .hbm, ⟨34, _⟩ => ⟨S2x16384x3584, .f32⟩
  | .hbm, ⟨35, _⟩ => ⟨S_, .f32⟩
  | .hbm, ⟨36, _⟩ => ⟨S2x16384x3584, .f32⟩
  | .hbm, ⟨37, _⟩ => ⟨S2x16384x3584, .f32⟩
  | .hbm, ⟨38, _⟩ => ⟨S2x16384x3584, .f32⟩
  | .hbm, ⟨39, _⟩ => ⟨S2x16384x3584, .f32⟩
  | .hbm, ⟨40, _⟩ => ⟨S2x16384x3584, .f32⟩
  | .hbm, ⟨41, _⟩ => ⟨S2x16384x3584, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel3.lean ====
abbrev S2x16384x3584 : Shape := ⟨3, ![2, 16384, 3584]⟩
abbrev S3584x1024 : Shape := ⟨2, ![3584, 1024]⟩
abbrev S2x16384x1024 : Shape := ⟨3, ![2, 16384, 1024]⟩
abbrev S2x1x1024 : Shape := ⟨3, ![2, 1, 1024]⟩
abbrev S_ : Shape := ⟨0, ![]⟩
abbrev S1024 : Shape := ⟨1, ![1024]⟩
abbrev S1x1024 : Shape := ⟨2, ![1, 1024]⟩
abbrev S1x512x3584 : Shape := ⟨3, ![1, 512, 3584]⟩
abbrev S1x512x1024 : Shape := ⟨3, ![1, 512, 1024]⟩
abbrev S1x1x1024 : Shape := ⟨3, ![1, 1, 1024]⟩
abbrev S512x3584 : Shape := ⟨2, ![512, 3584]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2x16384x3584, .bf16⟩
  | .hbm, ⟨1, _⟩ => ⟨S3584x1024, .f32⟩
  | .hbm, ⟨2, _⟩ => ⟨S2x16384x1024, .f32⟩
  | .hbm, ⟨3, _⟩ => ⟨S2x1x1024, .f32⟩
  | .hbm, ⟨4, _⟩ => ⟨S3584x1024, .bf16⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S2x16384x1024, .f32⟩
  | .local _ .vmem, ⟨0, _⟩ => ⟨S1x512x3584, .bf16⟩
  | .local _ .vmem, ⟨1, _⟩ => ⟨S1x512x3584, .bf16⟩
  | .local _ .vmem, ⟨2, _⟩ => ⟨S3584x1024, .bf16⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x16384x3584 : Shape := ⟨3, ![2, 16384, 3584]⟩
abbrev S3584x1024 : Shape := ⟨2, ![3584, 1024]⟩
abbrev S2x16384x1024 : Shape := ⟨3, ![2, 16384, 1024]⟩
abbrev S2x1x1024 : Shape := ⟨3, ![2, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x16384x3584, .bf16⟩
  | .hbm, ⟨1, _⟩ => ⟨S3584x1024, .f32⟩
  | .hbm, ⟨2, _⟩ => ⟨S2x16384x1024, .f32⟩
  | .hbm, ⟨3, _⟩ => ⟨S2x1x1024, .f32⟩
  | .hbm, ⟨4, _⟩ => ⟨S2x16384x3584, .f32⟩
  | .hbm, ⟨5, _⟩ => ⟨S2x16384x1024, .f32⟩
  | .hbm, ⟨6, _⟩ => ⟨S2x16384x1024, .f32⟩
  | .hbm, ⟨7, _⟩ => ⟨S2x16384x1024, .f32⟩
  | .hbm, ⟨8, _⟩ => ⟨S2x16384x1024, .f32⟩
  | _, _ => ⟨S2x16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S69632x1024 : Shape := ⟨2, ![69632, 1024]⟩
abbrev S136 : Shape := ⟨1, ![136]⟩
abbrev S8x1024x3584 : Shape := ⟨3, ![8, 1024, 3584]⟩
abbrev S69632x3584 : Shape := ⟨2, ![69632, 3584]⟩
abbrev S512x1024 : Shape := ⟨2, ![512, 1024]⟩
abbrev S1x1024x1792 : Shape := ⟨3, ![1, 1024, 1792]⟩
abbrev S1 : Shape := ⟨1, ![1]⟩
abbrev S512x1792 : Shape := ⟨2, ![512, 1792]⟩
abbrev S1024x1792 : Shape := ⟨2, ![1024, 1792]⟩

abbrev nBuf : Space → Nat
  | .hbm => 6
  | .vmem => 9
  | .smem => 1
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x1024x3584, .bf16⟩
  | .hbm, ⟨4, _⟩ => ⟨S8x1024x3584, .bf16⟩
  | .hbm, ⟨5, _⟩ => ⟨S69632x3584, .bf16⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S512x1792, .bf16⟩
  | .local _ .vmem, ⟨7, _⟩ => ⟨S512x1792, .bf16⟩
  | .local _ .vmem, ⟨8, _⟩ => ⟨S512x1024, .bf16⟩
  | .local _ .smem, ⟨0, _⟩ => ⟨S136, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S69632x1024 : Shape := ⟨2, ![69632, 1024]⟩
abbrev S136 : Shape := ⟨1, ![136]⟩
abbrev S8x1024x3584 : Shape := ⟨3, ![8, 1024, 3584]⟩
abbrev S136x512x1024 : Shape := ⟨3, ![136, 512, 1024]⟩
abbrev S_ : Shape := ⟨0, ![]⟩
abbrev S136x1 : Shape := ⟨2, ![136, 1]⟩
abbrev S136x1024x3584 : Shape := ⟨3, ![136, 1024, 3584]⟩
abbrev S136x512x3584 : Shape := ⟨3, ![136, 512, 3584]⟩
abbrev S69632x3584 : Shape := ⟨2, ![69632, 3584]⟩

abbrev nBuf : Space → Nat
  | .hbm => 37
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S136, .i32⟩
  | .hbm, ⟨2, _⟩ => ⟨S8x1024x3584, .f32⟩
  | .hbm, ⟨3, _⟩ => ⟨S8x1024x3584, .f32⟩
  | .hbm, ⟨4, _⟩ => ⟨S136x512x1024, .f32⟩
  | .hbm, ⟨5, _⟩ => ⟨S_, .i32⟩
  | .hbm, ⟨6, _⟩ => ⟨S136, .i32⟩
  | .hbm, ⟨7, _⟩ => ⟨S136, .i1⟩
  | .hbm, ⟨8, _⟩ => ⟨S_, .i32⟩
  | .hbm, ⟨9, _⟩ => ⟨S136, .i32⟩
  | .hbm, ⟨10, _⟩ => ⟨S136, .i32⟩
  | .hbm, ⟨11, _⟩ => ⟨S136, .i32⟩
  | .hbm, ⟨12, _⟩ => ⟨S136x1, .i32⟩
  | .hbm, ⟨13, _⟩ => ⟨S136x1024x3584, .f32⟩
  | .hbm, ⟨14, _⟩ => ⟨S136x512x3584, .f32⟩
  | .hbm, ⟨15, _⟩ => ⟨S136x512x3584, .f32⟩
  | .hbm, ⟨16, _⟩ => ⟨S136x512x3584, .f32⟩
  | .hbm, ⟨17, _⟩ => ⟨S_, .f32⟩
  | .hbm, ⟨18, _⟩ => ⟨S136x512x3584, .f32⟩
  | .hbm, ⟨19, _⟩ => ⟨S136x512x3584, .f32⟩
  | .hbm, ⟨20, _⟩ => ⟨S_, .f32⟩
  | .hbm, ⟨21, _⟩ => ⟨S136x512x3584, .f32⟩
  | .hbm, ⟨22, _⟩ => ⟨S136x512x3584, .f32⟩
  | .hbm, ⟨23, _⟩ => ⟨S136x512x3584, .f32⟩
  | .hbm, ⟨24, _⟩ => ⟨S_, .i32⟩
  | .hbm, ⟨25, _⟩ => ⟨S136, .i32⟩
  | .hbm, ⟨26, _⟩ => ⟨S136, .i1⟩
  | .hbm, ⟨27, _⟩ => ⟨S_, .i32⟩
  | .hbm, ⟨28, _⟩ => ⟨S136, .i32⟩
  | .hbm, ⟨29, _⟩ => ⟨S136, .i32⟩
  | .hbm, ⟨30, _⟩ => ⟨S136, .i32⟩
  | .hbm, ⟨31, _⟩ => ⟨S136x1, .i32⟩
  | .hbm, ⟨32, _⟩ => ⟨S136x1024x3584, .f32⟩
  | .hbm, ⟨33, _⟩ => ⟨S136x512x3584, .f32⟩
  | .hbm, ⟨34, _⟩ => ⟨S136x512x3584, .f32⟩
  | .hbm, ⟨35, _⟩ => ⟨S69632x3584, .f32⟩
  | .hbm, ⟨36, _⟩ => ⟨S69632x3584, .bf16⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel5.lean ====
abbrev S69632x3584 : Shape := ⟨2, ![69632, 3584]⟩
abbrev S136 : Shape := ⟨1, ![136]⟩
abbrev S8x3584x1024 : Shape := ⟨3, ![8, 3584, 1024]⟩
abbrev S69632x1024 : Shape := ⟨2, ![69632, 1024]⟩
abbrev S512x3584 : Shape := ⟨2, ![512, 3584]⟩
abbrev S1x3584x1024 : Shape := ⟨3, ![1, 3584, 1024]⟩
abbrev S1 : Shape := ⟨1, ![1]⟩
abbrev S512x1024 : Shape := ⟨2, ![512, 1024]⟩
abbrev S3584x1024 : Shape := ⟨2, ![3584, 1024]⟩

abbrev nBuf : Space → Nat
  | .hbm => 4
  | .vmem => 6
  | .smem => 1
  | _ => 0

abbrev bufTy : (tb : Table) → Fin (tcTables nBuf tb) → BufTy
  | .hbm, ⟨0, _⟩ => ⟨S69632x3584, .bf16⟩
  | .hbm, ⟨1, _⟩ => ⟨S8x3584x1024, .f32⟩
  | .hbm, ⟨2, _⟩ => ⟨S8x3584x1024, .bf16⟩
  | .hbm, ⟨3, _⟩ => ⟨S69632x1024, .f32⟩
  | .local _ .vmem, ⟨0, _⟩ => ⟨S512x3584, .bf16⟩
  | .local _ .vmem, ⟨1, _⟩ => ⟨S512x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S512x1024, .f32⟩
  | .local _ .vmem, ⟨5, _⟩ => ⟨S512x1024, .f32⟩
  | .local _ .smem, ⟨0, _⟩ => ⟨S136, .i32⟩
  | _, _ => ⟨S69632x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![136], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S69632x3584 : Shape := ⟨2, ![69632, 3584]⟩
abbrev S136 : Shape := ⟨1, ![136]⟩
abbrev S8x3584x1024 : Shape := ⟨3, ![8, 3584, 1024]⟩
abbrev S136x512x3584 : Shape := ⟨3, ![136, 512, 3584]⟩
abbrev S_ : Shape := ⟨0, ![]⟩
abbrev S136x1 : Shape := ⟨2, ![136, 1]⟩
abbrev S136x3584x1024 : Shape := ⟨3, ![136, 3584, 1024]⟩
abbrev S136x512x1024 : Shape := ⟨3, ![136, 512, 1024]⟩
abbrev S69632x1024 : Shape := ⟨2, ![69632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S69632x3584, .bf16⟩
  | .hbm, ⟨1, _⟩ => ⟨S136, .i32⟩
  | .hbm, ⟨2, _⟩ => ⟨S8x3584x1024, .f32⟩
  | .hbm, ⟨3, _⟩ => ⟨S69632x3584, .f32⟩
  | .hbm, ⟨4, _⟩ => ⟨S136x512x3584, .f32⟩
  | .hbm, ⟨5, _⟩ => ⟨S_, .i32⟩
  | .hbm, ⟨6, _⟩ => ⟨S136, .i32⟩
  | .hbm, ⟨7, _⟩ => ⟨S136, .i1⟩
  | .hbm, ⟨8, _⟩ => ⟨S_, .i32⟩
  | .hbm, ⟨9, _⟩ => ⟨S136, .i32⟩
  | .hbm, ⟨10, _⟩ => ⟨S136, .i32⟩
  | .hbm, ⟨11, _⟩ => ⟨S136, .i32⟩
  | .hbm, ⟨12, _⟩ => ⟨S136x1, .i32⟩
  | .hbm, ⟨13, _⟩ => ⟨S136x3584x1024, .f32⟩
  | .hbm, ⟨14, _⟩ => ⟨S136x512x1024, .f32⟩
  | .hbm, ⟨15, _⟩ => ⟨S69632x1024, .f32⟩
  | _, _ => ⟨S69632x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S2x16384x1024 : Shape := ⟨3, ![2, 16384, 1024]⟩
abbrev S1024 : Shape := ⟨1, ![1024]⟩
abbrev S2x1x1024 : Shape := ⟨3, ![2, 1, 1024]⟩
abbrev S1024x5120 : Shape := ⟨2, ![1024, 5120]⟩
abbrev S_ : Shape := ⟨0, ![]⟩
abbrev S5120 : Shape := ⟨1, ![5120]⟩
abbrev S1x5120 : Shape := ⟨2, ![1, 5120]⟩
abbrev S1x1024 : Shape := ⟨2, ![1, 1024]⟩
abbrev S2x16384x5120 : Shape := ⟨3, ![2, 16384, 5120]⟩
abbrev S1x1024x1024 : Shape := ⟨3, ![1, 1024, 1024]⟩
abbrev S1x1x1024 : Shape := ⟨3, ![1, 1, 1024]⟩
abbrev S1024x1280 : Shape := ⟨2, ![1024, 1280]⟩
abbrev S1x1280 : Shape := ⟨2, ![1, 1280]⟩
abbrev S1x1024x1280 : Shape := ⟨3, ![1, 1024, 1280]⟩
abbrev S1024x1024 : Shape := ⟨2, ![1024, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x5120, .f32⟩
  | .hbm, ⟨5, _⟩ => ⟨S1024x5120, .bf16⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S_, .f32⟩
  | .hbm, ⟨10, _⟩ => ⟨S5120, .f32⟩
  | .hbm, ⟨11, _⟩ => ⟨S1x5120, .f32⟩
  | .hbm, ⟨12, _⟩ => ⟨S1x1024, .f32⟩
  | .hbm, ⟨13, _⟩ => ⟨S2x16384x5120, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1024x1280, .bf16⟩
  | .local _ .vmem, ⟨9, _⟩ => ⟨S1x1280, .f32⟩
  | .local _ .vmem, ⟨10, _⟩ => ⟨S1x1280, .f32⟩
  | .local _ .vmem, ⟨11, _⟩ => ⟨S1x1024x1280, .f32⟩
  | .local _ .vmem, ⟨12, _⟩ => ⟨S1x1024x1280, .f32⟩
  | .local _ .vmem, ⟨13, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference6Ideal.lean ====
abbrev S2x16384x1024 : Shape := ⟨3, ![2, 16384, 1024]⟩
abbrev S1024 : Shape := ⟨1, ![1024]⟩
abbrev S2x1x1024 : Shape := ⟨3, ![2, 1, 1024]⟩
abbrev S1024x5120 : Shape := ⟨2, ![1024, 5120]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5120 : Shape := ⟨3, ![2, 16384, 5120]⟩

abbrev nBuf : Space → Nat
  | .hbm => 29
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x5120, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x5120, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel7.lean ====
abbrev S2x16384x1024 : Shape := ⟨3, ![2, 16384, 1024]⟩
abbrev S1024 : Shape := ⟨1, ![1024]⟩
abbrev S2x1x1024 : Shape := ⟨3, ![2, 1, 1024]⟩
abbrev S1024x2048 : Shape := ⟨2, ![1024, 2048]⟩
abbrev S2048 : Shape := ⟨1, ![2048]⟩
abbrev S1024x1024 : Shape := ⟨2, ![1024, 1024]⟩
abbrev S_ : Shape := ⟨0, ![]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S2048, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference7Ideal.lean ====
abbrev S2x16384x1024 : Shape := ⟨3, ![2, 16384, 1024]⟩
abbrev S1024 : Shape := ⟨1, ![1024]⟩
abbrev S2x1x1024 : Shape := ⟨3, ![2, 1, 1024]⟩
abbrev S1024x2048 : Shape := ⟨2, ![1024, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S2048, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x2048, .f32⟩
  | .hbm, ⟨30, _⟩ => ⟨S1x1x2048, .f32⟩
  | .hbm, ⟨31, _⟩ => ⟨S2x16384x2048, .f32⟩
  | .hbm, ⟨32, _⟩ => ⟨S2x16384x2048, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel8.lean ====
abbrev S2x16384x1024 : Shape := ⟨3, ![2, 16384, 1024]⟩
abbrev S1024 : Shape := ⟨1, ![1024]⟩
abbrev S2x1x1024 : Shape := ⟨3, ![2, 1, 1024]⟩
abbrev S1024x3072 : Shape := ⟨2, ![1024, 3072]⟩
abbrev S3072 : Shape := ⟨1, ![3072]⟩
abbrev S_ : Shape := ⟨0, ![]⟩
abbrev S3072x1024 : Shape := ⟨2, ![3072, 1024]⟩
abbrev S3072x1 : Shape := ⟨2, ![3072, 1]⟩
abbrev S1x1024 : Shape := ⟨2, ![1, 1024]⟩
abbrev S2x3072x16384 : Shape := ⟨3, ![2, 3072, 16384]⟩
abbrev S1x1024x1024 : Shape := ⟨3, ![1, 1024, 1024]⟩
abbrev S1x1x1024 : Shape := ⟨3, ![1, 1, 1024]⟩
abbrev S1536x1024 : Shape := ⟨2, ![1536, 1024]⟩
abbrev S1536x1 : Shape := ⟨2, ![1536, 1]⟩
abbrev S1x1536x1024 : Shape := ⟨3, ![1, 1536, 1024]⟩
abbrev S1024x1024 : Shape := ⟨2, ![1024, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3072, .f32⟩
  | .hbm, ⟨5, _⟩ => ⟨S3072, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S3072x1024, .f32⟩
  | .hbm, ⟨10, _⟩ => ⟨S3072x1024, .bf16⟩
  | .hbm, ⟨11, _⟩ => ⟨S3072x1, .f32⟩
  | .hbm, ⟨12, _⟩ => ⟨S1x1024, .f32⟩
  | .hbm, ⟨13, _⟩ => ⟨S2x3072x16384, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1536x1024, .bf16⟩
  | .local _ .vmem, ⟨8, _⟩ => ⟨S1536x1024, .bf16⟩
  | .local _ .vmem, ⟨9, _⟩ => ⟨S1536x1, .f32⟩
  | .local _ .vmem, ⟨10, _⟩ => ⟨S1536x1, .f32⟩
  | .local _ .vmem, ⟨11, _⟩ => ⟨S1x1536x1024, .f32⟩
  | .local _ .vmem, ⟨12, _⟩ => ⟨S1x1536x1024, .f32⟩
  | .local _ .vmem, ⟨13, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1536x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1536x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference8Ideal.lean ====
abbrev S2x16384x1024 : Shape := ⟨3, ![2, 16384, 1024]⟩
abbrev S1024 : Shape := ⟨1, ![1024]⟩
abbrev S2x1x1024 : Shape := ⟨3, ![2, 1, 1024]⟩
abbrev S1024x3072 : Shape := ⟨2, ![1024, 3072]⟩
abbrev S3072 : Shape := ⟨1, ![3072]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S1x1x3072 : Shape := ⟨3, ![1, 1, 3072]⟩
abbrev S2x3072x16384 : Shape := ⟨3, ![2, 3072, 16384]⟩

abbrev nBuf : Space → Nat
  | .hbm => 34
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x3072, .f32⟩
  | .hbm, ⟨5, _⟩ => ⟨S3072, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x3072, .f32⟩
  | .hbm, ⟨30, _⟩ => ⟨S1x1x3072, .f32⟩
  | .hbm, ⟨31, _⟩ => ⟨S2x16384x3072, .f32⟩
  | .hbm, ⟨32, _⟩ => ⟨S2x16384x3072, .f32⟩
  | .hbm, ⟨33, _⟩ => ⟨S2x3072x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel9.lean ====
abbrev S2x1024x16384 : Shape := ⟨3, ![2, 1024, 16384]⟩
abbrev S1024x1024 : Shape := ⟨2, ![1024, 1024]⟩
abbrev S1024 : Shape := ⟨1, ![1024]⟩
abbrev S2x16384x1024 : Shape := ⟨3, ![2, 16384, 1024]⟩
abbrev S2x1x1024 : Shape := ⟨3, ![2, 1, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1024x512 : Shape := ⟨2, ![1024, 512]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2x1024x16384, .bf16⟩
  | .hbm, ⟨1, _⟩ => ⟨S1024x1024, .f32⟩
  | .hbm, ⟨2, _⟩ => ⟨S1024, .f32⟩
  | .hbm, ⟨3, _⟩ => ⟨S2x16384x1024, .f32⟩
  | .hbm, ⟨4, _⟩ => ⟨S2x1x1024, .f32⟩
  | .hbm, ⟨5, _⟩ => ⟨S1024x1024, .bf16⟩
  | .hbm, ⟨6, _⟩ => ⟨S1x1024, .f32⟩
  | .hbm, ⟨7, _⟩ => ⟨S2x16384x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2x1024x16384 : Shape := ⟨3, ![2, 1024, 16384]⟩
abbrev S1024x1024 : Shape := ⟨2, ![1024, 1024]⟩
abbrev S1024 : Shape := ⟨1, ![1024]⟩
abbrev S2x16384x1024 : Shape := ⟨3, ![2, 16384, 1024]⟩
abbrev S2x1x1024 : Shape := ⟨3, ![2, 1, 1024]⟩
abbrev S1x1x1024 : Shape := ⟨3, ![1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x1024x16384, .bf16⟩
  | .hbm, ⟨1, _⟩ => ⟨S1024x1024, .f32⟩
  | .hbm, ⟨2, _⟩ => ⟨S1024, .f32⟩
  | .hbm, ⟨3, _⟩ => ⟨S2x16384x1024, .f32⟩
  | .hbm, ⟨4, _⟩ => ⟨S2x1x1024, .f32⟩
  | .hbm, ⟨5, _⟩ => ⟨S2x1024x16384, .f32⟩
  | .hbm, ⟨6, _⟩ => ⟨S2x16384x1024, .f32⟩
  | .hbm, ⟨7, _⟩ => ⟨S2x16384x1024, .f32⟩
  | .hbm, ⟨8, _⟩ => ⟨S1x1x1024, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | _, _ => ⟨S2x1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel10.lean ====
abbrev S2x16384x1024 : Shape := ⟨3, ![2, 16384, 1024]⟩
abbrev S2x16384x5120 : Shape := ⟨3, ![2, 16384, 5120]⟩
abbrev S1024 : Shape := ⟨1, ![1024]⟩
abbrev S1024x1024 : Shape := ⟨2, ![1024, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x5120, .f32⟩
  | .hbm, ⟨3, _⟩ => ⟨S1024, .f32⟩
  | .hbm, ⟨4, _⟩ => ⟨S1024x1024, .f32⟩
  | .hbm, ⟨5, _⟩ => ⟨S2x16384x1024, .f32⟩
  | .hbm, ⟨6, _⟩ => ⟨S2x1x1024, .f32⟩
  | .hbm, ⟨7, _⟩ => ⟨S1024x1024, .bf16⟩
  | .hbm, ⟨8, _⟩ => ⟨S1x1024, .f32⟩
  | .hbm, ⟨9, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S2x16384x1024 : Shape := ⟨3, ![2, 16384, 1024]⟩
abbrev S2x16384x5120 : Shape := ⟨3, ![2, 16384, 5120]⟩
abbrev S1024 : Shape := ⟨1, ![1024]⟩
abbrev S1024x1024 : Shape := ⟨2, ![1024, 1024]⟩
abbrev S2x1x1024 : Shape := ⟨3, ![2, 1, 1024]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S8x128 : Shape := ⟨2, ![8, 128]⟩
abbrev S1x1x8x128 : Shape := ⟨4, ![1, 1, 8, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x5120, .f32⟩
  | .hbm, ⟨3, _⟩ => ⟨S1024, .f32⟩
  | .hbm, ⟨4, _⟩ => ⟨S1024x1024, .f32⟩
  | .hbm, ⟨5, _⟩ => ⟨S2x16384x1024, .f32⟩
  | .hbm, ⟨6, _⟩ => ⟨S2x1x1024, .f32⟩
  | .hbm, ⟨7, _⟩ => ⟨S2x16384x1024, .f32⟩
  | .hbm, ⟨8, _⟩ => ⟨S2x16384x1024, .f32⟩
  | .hbm, ⟨9, _⟩ => ⟨S2x16384x8x128, .f32⟩
  | .hbm, ⟨10, _⟩ => ⟨S2x16384x8x128, .f32⟩
  | .hbm, ⟨11, _⟩ => ⟨S_, .f32⟩
  | .hbm, ⟨12, _⟩ => ⟨S2x16384x8, .f32⟩
  | .hbm, ⟨13, _⟩ => ⟨S2x16384x8x1, .f32⟩
  | .hbm, ⟨14, _⟩ => ⟨S_, .f32⟩
  | .hbm, ⟨15, _⟩ => ⟨S2x16384x8x1, .f32⟩
  | .hbm, ⟨16, _⟩ => ⟨S2x16384x8x1, .f32⟩
  | .hbm, ⟨17, _⟩ => ⟨S_, .f32⟩
  | .hbm, ⟨18, _⟩ => ⟨S2x16384x8x1, .f32⟩
  | .hbm, ⟨19, _⟩ => ⟨S2x16384x8x1, .f32⟩
  | .hbm, ⟨20, _⟩ => ⟨S2x16384x8x1, .f32⟩
  | .hbm, ⟨21, _⟩ => ⟨S2x16384x8x128, .f32⟩
  | .hbm, ⟨22, _⟩ => ⟨S2x16384x8x128, .f32⟩
  | .hbm, ⟨23, _⟩ => ⟨S8x128, .f32⟩
  | .hbm, ⟨24, _⟩ => ⟨S1x1x8x128, .f32⟩
  | .hbm, ⟨25, _⟩ => ⟨S2x16384x8x128, .f32⟩
  | .hbm, ⟨26, _⟩ => ⟨S2x16384x8x128, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x16384x1024, .f32⟩
  | .hbm, ⟨32, _⟩ => ⟨S2x16384x1024, .f32⟩
  | .hbm, ⟨33, _⟩ => ⟨S_, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Proof.Window.lean ====
/- A host running sum (`jnp.cumsum` of floats) read at an index over the extended reals: the sum of the entries up to and
   including the index, along the axis it runs. Two forms, those of this certificate's programs. -/
module

public import Idealize.ShloMosaic.Lib.Pointwise
public import Idealize.ShloMosaic.PureOps.Ideal

@[expose] public section

noncomputable section

namespace Cert.Scan

open Idealize.ShloMosaic

/-- A fold of additions from zero is a sum. -/
theorem foldl_add_eq {n : Nat} (f : Fin n → EReal) : ((List.finRange n).foldl (fun r k => r + f k) 0) = ∑ k : Fin n, f k := by
  have h : ∀ (l : List (Fin n)) (a : EReal), l.foldl (fun r k => r + f k) a = a + (l.map f).sum := by
    intro l
    induction l with
    | nil => intro a; simp
    | cons x l ih => intro a; rw [List.foldl_cons, ih, List.map_cons, List.sum_cons, add_assoc]
  rw [h, zero_add, ← List.ofFn_eq_map, List.sum_ofFn]

/-- A window sum from a zero initial value: over the window's positions, the entries of the operand they meet. -/
theorem window_sum {s t u : Shape} (W st lo hi : Fin s.rank → Nat) (x : s.Idx → EReal) (init : u.Idx → EReal)
    (h : s.ReduceWindows W st lo hi t) (hu : 0 < u.numel) (h0 : init (Shape.Idx.first hu) = 0) (j : t.Idx) :
    Host.reduceWindow (· + ·) W st lo hi x init h hu j =
      ∑ w : (⟨s.rank, W⟩ : Shape).Idx,
        if hin : ∀ a, lo a ≤ (j (a.cast h.1.symm)).val * st a + (w a).val ∧ (j (a.cast h.1.symm)).val * st a + (w a).val - lo a < s.size a
        then x (fun a => ⟨(j (a.cast h.1.symm)).val * st a + (w a).val - lo a, (hin a).2⟩) else 0 := by
  unfold Host.reduceWindow
  dsimp only
  rw [h0, foldl_add_eq]
  refine Eq.trans (Finset.sum_congr rfl fun k _ => ?_) <| Equiv.sum_comp (⟨s.rank, W⟩ : Shape).rowMajor.symm (fun w : (⟨s.rank, W⟩ : Shape).Idx =>
    if hin : ∀ a, lo a ≤ (j (a.cast h.1.symm)).val * st a + (w a).val ∧ (j (a.cast h.1.symm)).val * st a + (w a).val - lo a < s.size a
        then x (fun a => ⟨(j (a.cast h.1.symm)).val * st a + (w a).val - lo a, (hin a).2⟩) else 0)
  congr

/-- The entries a window of `N`, padded low by one less, meets at position `j`: those up to `j`. -/
theorem prefix_sum {N : Nat} (f : Fin (N + 1) → EReal) (j : Fin (N + 1)) :
    (∑ k : Fin (N + 1), if h : N ≤ j.val + k.val ∧ j.val + k.val - N < N + 1 then f ⟨j.val + k.val - N, h.2⟩ else 0)
      = ∑ k : Fin (N + 1), if k ≤ j then f k else 0 := by
  rw [← Finset.sum_filter]
  have e : ∀ k : Fin (N + 1), (if h : N ≤ j.val + k.val ∧ j.val + k.val - N < N + 1 then f ⟨j.val + k.val - N, h.2⟩ else 0)
      = if N ≤ j.val + k.val then f ⟨j.val + k.val - N, by omega⟩ else 0 := fun k => by
    by_cases h : N ≤ j.val + k.val
    · rw [if_pos h, dif_pos ⟨h, by omega⟩]
    · rw [if_neg h, dif_neg fun q => h q.1]
  rw [Finset.sum_congr rfl fun k _ => e k, ← Finset.sum_filter]
  refine Finset.sum_bij' (fun k _ => (⟨j.val + k.val - N, by omega⟩ : Fin (N + 1))) (fun k hk => (⟨N + k.val - j.val, by
      have := (Finset.mem_filter.1 hk).2
      have : k.val ≤ j.val := this
      omega⟩ : Fin (N + 1))) ?_ ?_ ?_ ?_ ?_
  · intro k hk
    have := (Finset.mem_filter.1 hk).2
    refine Finset.mem_filter.2 ⟨Finset.mem_univ _, ?_⟩
    show j.val + k.val - N ≤ j.val
    omega
  · intro k hk
    have : k.val ≤ j.val := (Finset.mem_filter.1 hk).2
    refine Finset.mem_filter.2 ⟨Finset.mem_univ _, ?_⟩
    dsimp only
    omega
  · intro k hk
    have := (Finset.mem_filter.1 hk).2
    apply Fin.ext
    dsimp only
    omega
  · intro k hk
    have : k.val ≤ j.val := (Finset.mem_filter.1 hk).2
    apply Fin.ext
    dsimp only
    omega
  · intro k hk
    rfl

/-- The running sum down the rows of a matrix. -/
theorem cumsum_rows {A B : Nat} (x : FVec Ideal ⟨2, ![A + 1, B]⟩ .f32) (init : FVec Ideal ⟨0, ![]⟩ .f32) (h0 : ∀ i, init i = 0)
    (h : Shape.ReduceWindows ⟨2, ![A + 1, B]⟩ (![A + 1, 1] : Fin 2 → Nat) ![1, 1] ![A, 0] ![0, 0] ⟨2, ![A + 1, B]⟩) (hu : 0 < (⟨0, ![]⟩ : Shape).numel)
    (a : Fin (A + 1)) (b : Fin B) :
    Host.reduceWindowAdd ![A + 1, 1] ![1, 1] ![A, 0] ![0, 0] x init h hu (ix2 a b) = ∑ k : Fin (A + 1), if k ≤ a then x (ix2 k b) else 0 := by
  refine (window_sum (s := ⟨2, ![A + 1, B]⟩) ![A + 1, 1] ![1, 1] ![A, 0] ![0, 0] x init h hu (h0 _) (ix2 a b)).trans ?_
  rw [← prefix_sum (fun k => x (ix2 k b)) a]
  refine (Fintype.sum_bijective (fun k : Fin (A + 1) => (ix2 k (0 : Fin 1) : (⟨2, ![A + 1, 1]⟩ : Shape).Idx)) ⟨fun k k' e => congrFun e 0, fun w => ⟨w 0, ?_⟩⟩ _ _ fun k => ?_).symm
  · funext q
    match q with
    | ⟨0, _⟩ => rfl
    | ⟨1, _⟩ => exact Subsingleton.elim (α := Fin 1) _ _
  · by_cases hk : A ≤ a.val + k.val
    · rw [dif_pos ⟨hk, by omega⟩, dif_pos]
      · refine congrArg x (funext fun q => Fin.ext ?_)
        match q with
        | ⟨0, _⟩ => show a.val + k.val - A = a.val * 1 + k.val - A; omega
        | ⟨1, _⟩ => show b.val = b.val * 1 + 0 - 0; omega
      · intro q
        match q with
        | ⟨0, _⟩ => show A ≤ a.val * 1 + k.val ∧ a.val * 1 + k.val - A < A + 1; omega
        | ⟨1, _⟩ => show 0 ≤ b.val * 1 + 0 ∧ b.val * 1 + 0 - 0 < B; omega
    · rw [dif_neg fun q => hk q.1, dif_neg]
      intro q
      have : A ≤ a.val * 1 + k.val ∧ _ := q 0
      omega

/-- The running sum along the fourth of five axes. -/
theorem cumsum_ax3 {A B C D E : Nat} (x : FVec Ideal ⟨5, ![A, B, C, D + 1, E]⟩ .f32) (init : FVec Ideal ⟨0, ![]⟩ .f32) (h0 : ∀ i, init i = 0)
    (h : Shape.ReduceWindows ⟨5, ![A, B, C, D + 1, E]⟩ (![1, 1, 1, D + 1, 1] : Fin 5 → Nat) ![1, 1, 1, 1, 1] ![0, 0, 0, D, 0] ![0, 0, 0, 0, 0] ⟨5, ![A, B, C, D + 1, E]⟩)
    (hu : 0 < (⟨0, ![]⟩ : Shape).numel) (a : Fin A) (b : Fin B) (c : Fin C) (d : Fin (D + 1)) (e : Fin E) :
    Host.reduceWindowAdd ![1, 1, 1, D + 1, 1] ![1, 1, 1, 1, 1] ![0, 0, 0, D, 0] ![0, 0, 0, 0, 0] x init h hu (ix5 a b c d e)
      = ∑ k : Fin (D + 1), if k ≤ d then x (ix5 a b c k e) else 0 := by
  refine (window_sum (s := ⟨5, ![A, B, C, D + 1, E]⟩) ![1, 1, 1, D + 1, 1] ![1, 1, 1, 1, 1] ![0, 0, 0, D, 0] ![0, 0, 0, 0, 0] x init h hu (h0 _)
    (ix5 a b c d e)).trans ?_
  rw [← prefix_sum (fun k => x (ix5 a b c k e)) d]
  refine (Fintype.sum_bijective (fun k : Fin (D + 1) => (ix5 (0 : Fin 1) (0 : Fin 1) (0 : Fin 1) k (0 : Fin 1) : (⟨5, ![1, 1, 1, D + 1, 1]⟩ : Shape).Idx))
    ⟨fun k k' e => congrFun e 3, fun w => ⟨w 3, ?_⟩⟩ _ _ fun k => ?_).symm
  · funext q
    match q with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  · by_cases hk : D ≤ d.val + k.val
    · rw [dif_pos ⟨hk, by omega⟩, dif_pos]
      · refine congrArg x (funext fun q => Fin.ext ?_)
        match q with
        | ⟨0, _⟩ => show a.val = a.val * 1 + 0 - 0; omega
        | ⟨1, _⟩ => show b.val = b.val * 1 + 0 - 0; omega
        | ⟨2, _⟩ => show c.val = c.val * 1 + 0 - 0; omega
        | ⟨3, _⟩ => show d.val + k.val - D = d.val * 1 + k.val - D; omega
        | ⟨4, _⟩ => show e.val = e.val * 1 + 0 - 0; omega
      · intro q
        match q with
        | ⟨0, _⟩ => show 0 ≤ a.val * 1 + 0 ∧ a.val * 1 + 0 - 0 < A; omega
        | ⟨1, _⟩ => show 0 ≤ b.val * 1 + 0 ∧ b.val * 1 + 0 - 0 < B; omega
        | ⟨2, _⟩ => show 0 ≤ c.val * 1 + 0 ∧ c.val * 1 + 0 - 0 < C; omega
        | ⟨3, _⟩ => show D ≤ d.val * 1 + k.val ∧ d.val * 1 + k.val - D < D + 1; omega
        | ⟨4, _⟩ => show 0 ≤ e.val * 1 + 0 ∧ e.val * 1 + 0 - 0 < E; omega
    · rw [dif_neg fun q => hk q.1, dif_neg]
      intro q
      have : D ≤ d.val * 1 + k.val ∧ _ := q 3
      omega

end Cert.Scan

end
-- ==== Proof.Bound.lean ====
/- The lower bound of the forget gate, as both programs compute it before their scans: the third partial sum of the softmax of the
   logits over the layers, less its first row. Its entries are below `⊤`. -/
module

public import proofs.«01_k».proof.Proof.Gen.KernelIdeal
public import proofs.«01_k».proof.Proof.Window

@[expose] public section

noncomputable section

namespace Cert.Scan

open Cert.KernelIdeal Cert.KernelIdeal.Gen Idealize.ShloMosaic Idealize.ShloMosaic.TcCoe

section Terms
variable {F : FTy → Type} [FloatOps F]

/-- The exponentials of the logits less their maxima. -/
def expT (x : Vec F S4x1024 .f32) : Vec F S4x1024 .f32 :=
  Host.exp (subf x (broadcastInDim S4x1024 ![0, 1] bcast_S1x1024_S4x1024_0_1 (broadcastInDim S1x1024 ![1] bcast_S1024_S1x1024_1
    (maximumf (broadcastInDim S1024 ![] bcast_S_S1024 (constant S_ .f32 0xFF800000#32))
      (Host.reduce FloatOps.maximumf x (constant S_ .f32 0xFF800000#32) reducesTo_S4x1024_S1024_d0 h_S_)))))

/-- The softmax. -/
def softT (x : Vec F S4x1024 .f32) : Vec F S4x1024 .f32 :=
  Host.divf (expT x) (broadcastInDim S4x1024 ![0, 1] bcast_S1x1024_S4x1024_0_1 (broadcastInDim S1x1024 ![1] bcast_S1024_S1x1024_1
    (Host.reduceAdd (expT x) (constant S_ .f32 0x00000000#32) reducesTo_S4x1024_S1024_d0 h_S_)))

/-- Its running sum. -/
def cumT (x : Vec F S4x1024 .f32) : Vec F S4x1024 .f32 :=
  Host.reduceWindowAdd ![4, 1] ![1, 1] ![3, 0] ![0, 0] (softT x) (broadcastInDim S_ ![] bcast_S_S_ (constant S_ .f32 0x00000000#32))
    reduceWindows_S4x1024_S4x1024_w4s1p3_0_w1s1p0_0 h_S_

/-- The lower bounds. -/
def lbT (x : Vec F S4x1024 .f32) : Vec F S1024 .f32 :=
  shapeCast S1024 (extractStridedSlice S1x1024 ![2, 0] (subf (cumT x)
    (broadcastInDim S4x1024 ![0, 1] bcast_S1x1024_S4x1024_0_1 (broadcastInDim S1x1024 ![1] bcast_S1024_S1x1024_1
      (shapeCast S1024 (extractStridedSlice S1x1024 ![0, 0] (softT x) slices_S4x1024_S1x1024_0_0) shapeCasts_S1x1024_S1024))))
    slices_S4x1024_S1x1024_2_0) shapeCasts_S1x1024_S1024

end Terms

/-- An exponential is not negative. -/
theorem exp_nonneg (x : EReal) : 0 ≤ Ideal.exp x := by
  induction x with
  | bot => exact le_rfl
  | coe r => exact EReal.coe_nonneg.2 (Real.exp_pos r).le
  | top => exact le_top

/-- A share of a sum of nonnegative numbers is below `⊤`. -/
theorem share_ne_top (x y : EReal) (h0 : 0 ≤ x) (h : x ≤ y) : Ideal.div x y ≠ ⊤ := by
  unfold Ideal.div
  by_cases hy : y = 0
  · rw [if_pos hy, if_neg (not_lt.2 (hy ▸ h))]
    simp
  · rw [if_neg hy]
    induction y with
    | bot => exact absurd (h0.trans h) (by simp)
    | coe r =>
      induction x with
      | bot => exact absurd h0 (by simp)
      | coe q =>
        rw [← EReal.coe_inv, ← EReal.coe_mul]
        exact EReal.coe_ne_top _
      | top => exact absurd h (by simp)
    | top => simp

theorem soft_ne_top (x : Vec Ideal S4x1024 .f32) (k : Fin 4) (n : Fin 1024) : softT x (ix2 k n) ≠ ⊤ := by
  have e : softT x (ix2 k n) = Ideal.div (expT x (ix2 k n)) (∑ k' : Fin 4, expT x (ix2 k' n)) := by
    unfold softT
    generalize expT x = y
    pointwise
  rw [e]
  have hp : ∀ k', 0 ≤ expT x (ix2 k' n) := fun k' => by
    unfold expT
    exact exp_nonneg _
  exact share_ne_top _ _ (hp k) (Finset.single_le_sum (f := fun k' => expT x (ix2 k' n)) (fun k' _ => hp k') (Finset.mem_univ k))

theorem partial_ne_top (a b c : EReal) (h0 : a ≠ ⊤) (h1 : b ≠ ⊤) (h2 : c ≠ ⊤) : a + b + c - a ≠ ⊤ := by
  have hs : a + b + c ≠ ⊤ := EReal.add_ne_top (EReal.add_ne_top h0 h1) h2
  induction a with
  | bot =>
    rw [EReal.bot_add, EReal.bot_add]
    exact fun h => absurd h (by simp)
  | coe r =>
    rw [sub_eq_add_neg, ← EReal.coe_neg]
    exact EReal.add_ne_top hs (EReal.coe_ne_top _)
  | top => exact absurd rfl h0

theorem lb_ne_top (x : Vec Ideal S4x1024 .f32) (n : Fin 1024) : lbT x (ix1 n) ≠ ⊤ := by
  have hc : cumT x (ix2 2 n) = ∑ k : Fin 4, if k ≤ 2 then softT x (ix2 k n) else 0 := by
    unfold cumT
    generalize softT x = y
    exact cumsum_rows (A := 3) y _ (fun i => by pointwise) _ _ 2 n
  have e : lbT x (ix1 n) = (∑ k : Fin 4, if k ≤ 2 then softT x (ix2 k n) else 0) - softT x (ix2 0 n) := by
    rw [← hc]
    unfold lbT
    generalize cumT x = y
    generalize softT x = z
    pointwise
  rw [e, Fin.sum_univ_four, if_pos (by decide), if_pos (by decide), if_pos (by decide), if_neg (by decide), add_zero]
  exact partial_ne_top _ _ _ (soft_ne_top x 0 n) (soft_ne_top x 1 n) (soft_ne_top x 2 n)

end Cert.Scan

end
-- ==== Proof.Block.lean ====
/- One 256-row block of the scan, as the kernel computes it for one head and one direction: functions of the
   loaded rows (`z` gate logits, `q` queries, `v` values), the head's lower bounds `lb`, the 0/1 chunk-causal
   mask `tri` and the carried state `st`, at any float instance. `blkF` and `blkB` are the two directions'
   output rows, `newF` and `newB` the states they leave. -/
module

public import proofs.«01_k».proof.Proof.Gen.KernelIdeal

@[expose] public section

noncomputable section

namespace Cert.KernelIdeal.Scan

open Cert.KernelIdeal Cert.KernelIdeal.Gen Idealize.ShloMosaic

variable {F : FTy → Type} [FloatOps F]

/-- The forget gate: lower bound plus the rest of the unit interval times the logistic of the logits. -/
def gate (lb : Vec F S1x128 .f32) (z : Vec F S1x256x128 .f32) : FVec F S256x128 .f32 :=
  addf (broadcastTo S256x128 (shapeCast S1x128 lb shapeCasts_S1x128_S1x128) broadcasts_S1x128_S256x128)
    (mulf (broadcastTo S256x128 (subf (broadcast S1x128 (Scalar.ofBits .f32 0x3F800000#32))
        (shapeCast S1x128 lb shapeCasts_S1x128_S1x128)) broadcasts_S1x128_S256x128)
      (logistic (shapeCast S256x128 z shapeCasts_S1x256x128_S256x128)))

/-- The keys: one minus the gate. -/
def key (lb : Vec F S1x128 .f32) (z : Vec F S1x256x128 .f32) : FVec F S256x128 .f32 :=
  subf (broadcast S256x128 (Scalar.ofBits .f32 0x3F800000#32)) (gate lb z)

/-- The mask, its unit axis dropped. -/
def msk (tri : Vec F S1x256x256 .bf16) : FVec F S256x256 .bf16 := shapeCast S256x256 tri shapeCasts_S1x256x256_S256x256

/-- The cumulative log decays inside the chunks: the mask times the log gates, in two roundings. -/
def dec (lb : Vec F S1x128 .f32) (tri : Vec F S1x256x256 .bf16) (z : Vec F S1x256x128 .f32) : FVec F S256x128 .f32 :=
  addf
    (matmul dot_S256x256_S256x128_S256x128_1_0_0_1_n_n none (msk tri) (truncf .bf16 (log (gate lb z)) bitsLt_bf16_f32)
      (constant S256x128 .f32 0x00000000#32))
    (matmul dot_S256x256_S256x128_S256x128_1_0_0_1_n_n none (msk tri)
      (truncf .bf16 (subf (log (gate lb z)) (extf .f32 (truncf .bf16 (log (gate lb z)) bitsLt_bf16_f32) bitsLt_bf16_f32))
        bitsLt_bf16_f32)
      (constant S256x128 .f32 0x00000000#32))

/-- Four rows, each repeated over its chunk of 64. -/
def rep (r0 r1 r2 r3 : FVec F S1x128 .f32) : FVec F S256x128 .f32 :=
  concatenate S256x128 0
    [⟨S64x128, broadcastTo S64x128 (shapeCast S1x128 r0 shapeCasts_S1x128_S1x128) broadcasts_S1x128_S64x128⟩,
     ⟨S64x128, broadcastTo S64x128 (shapeCast S1x128 r1 shapeCasts_S1x128_S1x128) broadcasts_S1x128_S64x128⟩,
     ⟨S64x128, broadcastTo S64x128 (shapeCast S1x128 r2 shapeCasts_S1x128_S1x128) broadcasts_S1x128_S64x128⟩,
     ⟨S64x128, broadcastTo S64x128 (shapeCast S1x128 r3 shapeCasts_S1x128_S1x128) broadcasts_S1x128_S64x128⟩]
    concatenates_S64x128_S64x128_S64x128_S64x128_S256x128_d0

/-- The decayed queries. -/
def qdec (b : FVec F S256x128 .f32) (q : Vec F S1x256x128 .f32) : FVec F S256x128 .bf16 :=
  truncf .bf16 (mulf (mulf (shapeCast S256x128 q shapeCasts_S1x256x128_S256x128)
    (logistic (shapeCast S256x128 q shapeCasts_S1x256x128_S256x128))) (exp b)) bitsLt_bf16_f32

/-- The keys, decay undone. -/
def kinv (k b : FVec F S256x128 .f32) : FVec F S256x128 .bf16 :=
  truncf .bf16 (mulf k (exp (subf (broadcast S256x128 (Scalar.ofBits .f32 0x00000000#32)) b))) bitsLt_bf16_f32

/-- The keys decayed to the chunk's end. -/
def kend (k b bt : FVec F S256x128 .f32) : FVec F S256x128 .bf16 :=
  truncf .bf16 (mulf k (exp (subf bt b))) bitsLt_bf16_f32

/-- The values. -/
def val (v : Vec F S1x256x128 .f32) : FVec F S256x128 .bf16 :=
  truncf .bf16 (shapeCast S256x128 v shapeCasts_S1x256x128_S256x128) bitsLt_bf16_f32

/-- The attention inside the chunks, applied to the values. -/
def intra (m : FVec F S256x256 .bf16) (qd ki vb : FVec F S256x128 .bf16) : FVec F S256x128 .f32 :=
  matmul dot_S256x256_S256x128_S256x128_1_0_0_1_n_n none
    (truncf .bf16 (select (cmpf .one m (broadcast S256x256 (Scalar.ofBits .bf16 0x0000#16)))
      (matmul dot_S256x128_S256x128_S256x256_1_1_0_0_n_n none qd ki (constant S256x256 .f32 0x00000000#32))
      (broadcast S256x256 (Scalar.ofBits .f32 0x00000000#32))) bitsLt_bf16_f32)
    vb (constant S256x128 .f32 0x00000000#32)

/-- What one chunk (its 64 rows of values and of decayed keys) adds to the state. -/
def kv (vb ke : FVec F S64x128 .bf16) : FVec F S128x128 .f32 :=
  matmul dot_S64x128_S64x128_S128x128_0_0_1_1_n_n none vb ke (constant S128x128 .f32 0x00000000#32)

/-- What the state adds to one chunk's output. -/
def inter (qd : FVec F S64x128 .bf16) (st : FVec F S128x128 .f32) : FVec F S64x128 .f32 :=
  matmul dot_S64x128_S128x128_S64x128_1_1_0_0_n_n none qd (truncf .bf16 st bitsLt_bf16_f32) (constant S64x128 .f32 0x00000000#32)

/-- The state after one chunk. -/
def adv (st : FVec F S128x128 .f32) (tot : FVec F S1x128 .f32) (u : FVec F S128x128 .f32) : FVec F S128x128 .f32 :=
  addf (mulf st (broadcastTo S128x128 (exp tot) broadcasts_S1x128_S128x128)) u

/-- The four chunks of a block. -/
def c0 {φ : FTy} (x : FVec F S256x128 φ) : FVec F S64x128 φ := extractStridedSlice S64x128 ![0, 0] x slices_S256x128_o0_0_S64x128
@[inherit_doc c0] def c1 {φ : FTy} (x : FVec F S256x128 φ) : FVec F S64x128 φ := extractStridedSlice S64x128 ![64, 0] x slices_S256x128_o64_0_S64x128
@[inherit_doc c0] def c2 {φ : FTy} (x : FVec F S256x128 φ) : FVec F S64x128 φ := extractStridedSlice S64x128 ![128, 0] x slices_S256x128_o128_0_S64x128
@[inherit_doc c0] def c3 {φ : FTy} (x : FVec F S256x128 φ) : FVec F S64x128 φ := extractStridedSlice S64x128 ![192, 0] x slices_S256x128_o192_0_S64x128

/-- A chunk's last row in scan order: forward its row 63, -/
def f0 (b : FVec F S256x128 .f32) : FVec F S1x128 .f32 := extractStridedSlice S1x128 ![63, 0] b slices_S256x128_o63_0_S1x128
@[inherit_doc f0] def f1 (b : FVec F S256x128 .f32) : FVec F S1x128 .f32 := extractStridedSlice S1x128 ![127, 0] b slices_S256x128_o127_0_S1x128
@[inherit_doc f0] def f2 (b : FVec F S256x128 .f32) : FVec F S1x128 .f32 := extractStridedSlice S1x128 ![191, 0] b slices_S256x128_o191_0_S1x128
@[inherit_doc f0] def f3 (b : FVec F S256x128 .f32) : FVec F S1x128 .f32 := extractStridedSlice S1x128 ![255, 0] b slices_S256x128_o255_0_S1x128
/-- backward its row 0. -/
def b0 (b : FVec F S256x128 .f32) : FVec F S1x128 .f32 := extractStridedSlice S1x128 ![0, 0] b slices_S256x128_o0_0_S1x128
@[inherit_doc b0] def b1 (b : FVec F S256x128 .f32) : FVec F S1x128 .f32 := extractStridedSlice S1x128 ![64, 0] b slices_S256x128_o64_0_S1x128
@[inherit_doc b0] def b2 (b : FVec F S256x128 .f32) : FVec F S1x128 .f32 := extractStridedSlice S1x128 ![128, 0] b slices_S256x128_o128_0_S1x128
@[inherit_doc b0] def b3 (b : FVec F S256x128 .f32) : FVec F S1x128 .f32 := extractStridedSlice S1x128 ![192, 0] b slices_S256x128_o192_0_S1x128

/-- The states before the second, third and fourth chunk and after the last, forward: from the state `s`, the decays `b`, the
    decayed keys `ke` and the values `vb`. -/
def sF1 (s : FVec F S128x128 .f32) (b : FVec F S256x128 .f32) (ke vb : FVec F S256x128 .bf16) := adv s (f0 b) (kv (c0 vb) (c0 ke))
@[inherit_doc sF1] def sF2 (s : FVec F S128x128 .f32) (b : FVec F S256x128 .f32) (ke vb : FVec F S256x128 .bf16) := adv (sF1 s b ke vb) (f1 b) (kv (c1 vb) (c1 ke))
@[inherit_doc sF1] def sF3 (s : FVec F S128x128 .f32) (b : FVec F S256x128 .f32) (ke vb : FVec F S256x128 .bf16) := adv (sF2 s b ke vb) (f2 b) (kv (c2 vb) (c2 ke))
@[inherit_doc sF1] def sF4 (s : FVec F S128x128 .f32) (b : FVec F S256x128 .f32) (ke vb : FVec F S256x128 .bf16) := adv (sF3 s b ke vb) (f3 b) (kv (c3 vb) (c3 ke))

/-- The same backward, where the block's last chunk is the first of the scan. -/
def sB1 (s : FVec F S128x128 .f32) (b : FVec F S256x128 .f32) (ke vb : FVec F S256x128 .bf16) := adv s (b3 b) (kv (c3 vb) (c3 ke))
@[inherit_doc sB1] def sB2 (s : FVec F S128x128 .f32) (b : FVec F S256x128 .f32) (ke vb : FVec F S256x128 .bf16) := adv (sB1 s b ke vb) (b2 b) (kv (c2 vb) (c2 ke))
@[inherit_doc sB1] def sB3 (s : FVec F S128x128 .f32) (b : FVec F S256x128 .f32) (ke vb : FVec F S256x128 .bf16) := adv (sB2 s b ke vb) (b1 b) (kv (c1 vb) (c1 ke))
@[inherit_doc sB1] def sB4 (s : FVec F S128x128 .f32) (b : FVec F S256x128 .f32) (ke vb : FVec F S256x128 .bf16) := adv (sB3 s b ke vb) (b0 b) (kv (c0 vb) (c0 ke))

/-- Four chunks laid end to end. -/
def cat (x0 x1 x2 x3 : FVec F S64x128 .f32) : FVec F S256x128 .f32 :=
  concatenate S256x128 0 [⟨S64x128, x0⟩, ⟨S64x128, x1⟩, ⟨S64x128, x2⟩, ⟨S64x128, x3⟩] concatenates_S64x128_S64x128_S64x128_S64x128_S256x128_d0

/-- The carried state, its unit axes dropped. -/
def drop (st : Vec F S1x1x128x128 .f32) : FVec F S128x128 .f32 := shapeCast S128x128 st shapeCasts_S1x1x128x128_S128x128

/-- The decayed keys of a block, forward and backward. -/
def keF (lb : Vec F S1x128 .f32) (tri : Vec F S1x256x256 .bf16) (z : Vec F S1x256x128 .f32) : FVec F S256x128 .bf16 :=
  kend (key lb z) (dec lb tri z) (rep (f0 (dec lb tri z)) (f1 (dec lb tri z)) (f2 (dec lb tri z)) (f3 (dec lb tri z)))
@[inherit_doc keF] def keB (lb : Vec F S1x128 .f32) (tri : Vec F S1x256x256 .bf16) (z : Vec F S1x256x128 .f32) : FVec F S256x128 .bf16 :=
  kend (key lb z) (dec lb tri z) (rep (b0 (dec lb tri z)) (b1 (dec lb tri z)) (b2 (dec lb tri z)) (b3 (dec lb tri z)))

/-- The output rows of a block, forward. -/
def blkF (lb : Vec F S1x128 .f32) (tri : Vec F S1x256x256 .bf16) (z q v : Vec F S1x256x128 .f32) (st : Vec F S1x1x128x128 .f32) :
    Vec F S1x256x128 .f32 :=
  shapeCast S1x256x128
    (addf (intra (msk tri) (qdec (dec lb tri z) q) (kinv (key lb z) (dec lb tri z)) (val v))
      (cat (inter (c0 (qdec (dec lb tri z) q)) (drop st))
        (inter (c1 (qdec (dec lb tri z) q)) (sF1 (drop st) (dec lb tri z) (keF lb tri z) (val v)))
        (inter (c2 (qdec (dec lb tri z) q)) (sF2 (drop st) (dec lb tri z) (keF lb tri z) (val v)))
        (inter (c3 (qdec (dec lb tri z) q)) (sF3 (drop st) (dec lb tri z) (keF lb tri z) (val v)))))
    shapeCasts_S256x128_S1x256x128

/-- The output rows of a block, backward. -/
def blkB (lb : Vec F S1x128 .f32) (tri : Vec F S1x256x256 .bf16) (z q v : Vec F S1x256x128 .f32) (st : Vec F S1x1x128x128 .f32) :
    Vec F S1x256x128 .f32 :=
  shapeCast S1x256x128
    (addf (intra (msk tri) (qdec (dec lb tri z) q) (kinv (key lb z) (dec lb tri z)) (val v))
      (cat (inter (c0 (qdec (dec lb tri z) q)) (sB3 (drop st) (dec lb tri z) (keB lb tri z) (val v)))
        (inter (c1 (qdec (dec lb tri z) q)) (sB2 (drop st) (dec lb tri z) (keB lb tri z) (val v)))
        (inter (c2 (qdec (dec lb tri z) q)) (sB1 (drop st) (dec lb tri z) (keB lb tri z) (val v)))
        (inter (c3 (qdec (dec lb tri z) q)) (drop st))))
    shapeCasts_S256x128_S1x256x128

/-- The state a block leaves, forward and backward. -/
def newF (lb : Vec F S1x128 .f32) (tri : Vec F S1x256x256 .bf16) (z v : Vec F S1x256x128 .f32) (st : Vec F S1x1x128x128 .f32) :
    Vec F S1x1x128x128 .f32 :=
  shapeCast S1x1x128x128 (sF4 (drop st) (dec lb tri z) (keF lb tri z) (val v)) shapeCasts_S128x128_S1x1x128x128
@[inherit_doc newF] def newB (lb : Vec F S1x128 .f32) (tri : Vec F S1x256x256 .bf16) (z v : Vec F S1x256x128 .f32) (st : Vec F S1x1x128x128 .f32) :
    Vec F S1x1x128x128 .f32 :=
  shapeCast S1x1x128x128 (sB4 (drop st) (dec lb tri z) (keB lb tri z) (val v)) shapeCasts_S128x128_S1x1x128x128

end Cert.KernelIdeal.Scan

end
-- ==== Proof.Pieces.lean ====
/- The kernel body's stores, in each of its three cases, as the block functions of its loads: head by head the output
   columns and the carried state. -/
module

public import proofs.«01_k».proof.Proof.Block
public import proofs.«01_k».proof.Proof.Gen.KernelIdeal.Value
public import Idealize.ShloMosaic.Lib.Pipeline.Value
public import Idealize.ShloMosaic.Lib.Pipeline.ValueKit

@[expose] public section

set_option maxRecDepth 16384

noncomputable section

namespace Cert.KernelIdeal.Scan

open Cert.KernelIdeal Cert.KernelIdeal.Gen Idealize.ShloMosaic Idealize.ShloMosaic.Tactic

variable {F : FTy → Type} [FloatOps F]

/-- The four heads' columns of a block of rows, -/
abbrev rX0 : Rect S1x256x512 := Rect.unit ![0, 0, 0] S1x256x128.size inb_S1x256x512_S1x256x128_0_0_0
@[inherit_doc rX0] abbrev rX1 : Rect S1x256x512 := Rect.unit ![0, 0, 128] S1x256x128.size inb_S1x256x512_S1x256x128_0_0_128
@[inherit_doc rX0] abbrev rX2 : Rect S1x256x512 := Rect.unit ![0, 0, 256] S1x256x128.size inb_S1x256x512_S1x256x128_0_0_256
@[inherit_doc rX0] abbrev rX3 : Rect S1x256x512 := Rect.unit ![0, 0, 384] S1x256x128.size inb_S1x256x512_S1x256x128_0_0_384
/-- of the lower bounds, -/
abbrev rL0 : Rect S1x512 := Rect.unit ![0, 0] S1x128.size inb_S1x512_S1x128_0_0
@[inherit_doc rL0] abbrev rL1 : Rect S1x512 := Rect.unit ![0, 128] S1x128.size inb_S1x512_S1x128_0_128
@[inherit_doc rL0] abbrev rL2 : Rect S1x512 := Rect.unit ![0, 256] S1x128.size inb_S1x512_S1x128_0_256
@[inherit_doc rL0] abbrev rL3 : Rect S1x512 := Rect.unit ![0, 384] S1x128.size inb_S1x512_S1x128_0_384
/-- the two masks, -/
abbrev rT0 : Rect S2x256x256 := Rect.unit ![0, 0, 0] S1x256x256.size inb_S2x256x256_S1x256x256_0_0_0
@[inherit_doc rT0] abbrev rT1 : Rect S2x256x256 := Rect.unit ![1, 0, 0] S1x256x256.size inb_S2x256x256_S1x256x256_1_0_0
/-- and the states, by direction and head. -/
abbrev rS00 : Rect S2x4x128x128 := Rect.unit ![0, 0, 0, 0] S1x1x128x128.size inb_S2x4x128x128_S1x1x128x128_0_0_0_0
@[inherit_doc rS00] abbrev rS01 : Rect S2x4x128x128 := Rect.unit ![0, 1, 0, 0] S1x1x128x128.size inb_S2x4x128x128_S1x1x128x128_0_1_0_0
@[inherit_doc rS00] abbrev rS02 : Rect S2x4x128x128 := Rect.unit ![0, 2, 0, 0] S1x1x128x128.size inb_S2x4x128x128_S1x1x128x128_0_2_0_0
@[inherit_doc rS00] abbrev rS03 : Rect S2x4x128x128 := Rect.unit ![0, 3, 0, 0] S1x1x128x128.size inb_S2x4x128x128_S1x1x128x128_0_3_0_0
@[inherit_doc rS00] abbrev rS10 : Rect S2x4x128x128 := Rect.unit ![1, 0, 0, 0] S1x1x128x128.size inb_S2x4x128x128_S1x1x128x128_1_0_0_0
@[inherit_doc rS00] abbrev rS11 : Rect S2x4x128x128 := Rect.unit ![1, 1, 0, 0] S1x1x128x128.size inb_S2x4x128x128_S1x1x128x128_1_1_0_0
@[inherit_doc rS00] abbrev rS12 : Rect S2x4x128x128 := Rect.unit ![1, 2, 0, 0] S1x1x128x128.size inb_S2x4x128x128_S1x1x128x128_1_2_0_0
@[inherit_doc rS00] abbrev rS13 : Rect S2x4x128x128 := Rect.unit ![1, 3, 0, 0] S1x1x128x128.size inb_S2x4x128x128_S1x1x128x128_1_3_0_0

/-- The forward output columns of a block. -/
def pcF (lb : Vec F S1x512 .f32) (tri : Vec F S2x256x256 .bf16) (z q v : Vec F S1x256x512 .f32) (st : Vec F S2x4x128x128 .f32) :
    List (View.Piece (Elt F) S1x256x512 .f32) :=
  [⟨rX3, blkF (View.ld lb rL3) (View.ld tri rT0) (View.ld z rX3) (View.ld q rX3) (View.ld v rX3) (View.ld st rS03)⟩,
   ⟨rX2, blkF (View.ld lb rL2) (View.ld tri rT0) (View.ld z rX2) (View.ld q rX2) (View.ld v rX2) (View.ld st rS02)⟩,
   ⟨rX1, blkF (View.ld lb rL1) (View.ld tri rT0) (View.ld z rX1) (View.ld q rX1) (View.ld v rX1) (View.ld st rS01)⟩,
   ⟨rX0, blkF (View.ld lb rL0) (View.ld tri rT0) (View.ld z rX0) (View.ld q rX0) (View.ld v rX0) (View.ld st rS00)⟩]

/-- The backward output columns. -/
def pcB (lb : Vec F S1x512 .f32) (tri : Vec F S2x256x256 .bf16) (z q v : Vec F S1x256x512 .f32) (st : Vec F S2x4x128x128 .f32) :
    List (View.Piece (Elt F) S1x256x512 .f32) :=
  [⟨rX3, blkB (View.ld lb rL3) (View.ld tri rT1) (View.ld z rX3) (View.ld q rX3) (View.ld v rX3) (View.ld st rS13)⟩,
   ⟨rX2, blkB (View.ld lb rL2) (View.ld tri rT1) (View.ld z rX2) (View.ld q rX2) (View.ld v rX2) (View.ld st rS12)⟩,
   ⟨rX1, blkB (View.ld lb rL1) (View.ld tri rT1) (View.ld z rX1) (View.ld q rX1) (View.ld v rX1) (View.ld st rS11)⟩,
   ⟨rX0, blkB (View.ld lb rL0) (View.ld tri rT1) (View.ld z rX0) (View.ld q rX0) (View.ld v rX0) (View.ld st rS10)⟩]

/-- The states a block leaves. -/
def pcS (lb : Vec F S1x512 .f32) (tri : Vec F S2x256x256 .bf16) (zf vf zb vb : Vec F S1x256x512 .f32) (st : Vec F S2x4x128x128 .f32) :
    List (View.Piece (Elt F) S2x4x128x128 .f32) :=
  [⟨rS13, newB (View.ld lb rL3) (View.ld tri rT1) (View.ld zb rX3) (View.ld vb rX3) (View.ld st rS13)⟩,
   ⟨rS03, newF (View.ld lb rL3) (View.ld tri rT0) (View.ld zf rX3) (View.ld vf rX3) (View.ld st rS03)⟩,
   ⟨rS12, newB (View.ld lb rL2) (View.ld tri rT1) (View.ld zb rX2) (View.ld vb rX2) (View.ld st rS12)⟩,
   ⟨rS02, newF (View.ld lb rL2) (View.ld tri rT0) (View.ld zf rX2) (View.ld vf rX2) (View.ld st rS02)⟩,
   ⟨rS11, newB (View.ld lb rL1) (View.ld tri rT1) (View.ld zb rX1) (View.ld vb rX1) (View.ld st rS11)⟩,
   ⟨rS01, newF (View.ld lb rL1) (View.ld tri rT0) (View.ld zf rX1) (View.ld vf rX1) (View.ld st rS01)⟩,
   ⟨rS10, newB (View.ld lb rL0) (View.ld tri rT1) (View.ld zb rX0) (View.ld vb rX0) (View.ld st rS10)⟩,
   ⟨rS00, newF (View.ld lb rL0) (View.ld tri rT0) (View.ld zf rX0) (View.ld vf rX0) (View.ld st rS00)⟩]

/-- The first state, its leading axis dropped. -/
def st0 (s0 : Vec F S1x2x4x128x128 .f32) : Vec F S2x4x128x128 .f32 := shapeCast S2x4x128x128 (shapeCast S2x4x128x128 s0 shapeCasts_S1x2x4x128x128_S2x4x128x128) shapeCasts_S2x4x128x128_S2x4x128x128
/-- The last state, with a leading axis. -/
def stN (st : Vec F S2x4x128x128 .f32) : Vec F S1x2x4x128x128 .f32 := shapeCast S1x2x4x128x128 st shapeCasts_S2x4x128x128_S1x2x4x128x128
/-- All of the scratch. -/
abbrev rSw : Rect S2x4x128x128 := Rect.unit ![0, 0, 0, 0] ![2, 4, 128, 128] inb_S2x4x128x128_S2x4x128x128_0_0_0_0
/-- All of the last state's block. -/
abbrev rNw : Rect S1x2x4x128x128 := Rect.unit ![0, 0, 0, 0, 0] ![1, 2, 4, 128, 128] inb_S1x2x4x128x128_S1x2x4x128x128_0_0_0_0_0

/-- A load of what a store of the whole scratch left. -/
theorem readCov_whole (v : View sig .tc .vmem S2x4x128x128 .f32) (w : Vec F S2x4x128x128 .f32) (off size : Fin 4 → ℕ)
    (hi : ∀ a, off a + size a ≤ S2x4x128x128.size a) :
    v.readCov (Val := Elt F) [⟨rSw, w⟩] (Rect.unit (s := S2x4x128x128) off size hi).toLoadRect = View.ld w (Rect.unit off size hi) := by
  rw [View.readCov_eq_canon']
  funext j
  rw [View.canon_cons_unit_lit _ _ _ (by decide)]

/-- A load of all of the first state's block. -/
theorem ld_all (x : Vec F S1x2x4x128x128 .f32) : View.ld (Val := Elt F) x rNw = x := View.ld_unit_lit (S := S1x2x4x128x128) _ x (by decide)

/-- Stores of one state do not touch another. -/
theorem readCov_miss (v : View sig .tc .vmem S2x4x128x128 .f32) (off off' : Fin 4 → ℕ) (hi' : ∀ a, off' a + ![1, 1, 128, 128] a ≤ S2x4x128x128.size a)
    (w : (Rect.unit (s := S2x4x128x128) off' ![1, 1, 128, 128] hi').shape.Idx → Elt F .f32) (L : List (View.Piece (Elt F) S2x4x128x128 .f32))
    (hi : ∀ a, off a + ![1, 1, 128, 128] a ≤ S2x4x128x128.size a) (h : off' 0 ≠ off 0 ∨ off' 1 ≠ off 1) :
    v.readCov (Val := Elt F) (⟨Rect.unit off' ![1, 1, 128, 128] hi', w⟩ :: L) (Rect.unit (s := S2x4x128x128) off ![1, 1, 128, 128] hi).toLoadRect
      = v.readCov (Val := Elt F) L (Rect.unit off ![1, 1, 128, 128] hi).toLoadRect := by
  rw [View.readCov_eq_canon', View.readCov_eq_canon']
  funext j
  refine View.canon_cons_of_not_mem _ _ fun hm => ?_
  rw [Rect.mem_set_unit] at hm
  rcases h with h | h
  · have h0 := hm 0
    have e : (((Rect.unit (s := S2x4x128x128) off ![1, 1, 128, 128] hi).idx j 0 : Fin _) : ℕ) = off 0 + (j 0 : ℕ) := Rect.idx_unit_val _ _ _ _ _
    have hj : (j 0 : ℕ) < 1 := (j 0).isLt
    have h1 : off' 0 ≤ (((Rect.unit (s := S2x4x128x128) off ![1, 1, 128, 128] hi).idx j 0 : Fin _) : ℕ) ∧ (((Rect.unit (s := S2x4x128x128) off ![1, 1, 128, 128] hi).idx j 0 : Fin _) : ℕ) < off' 0 + 1 := h0
    omega
  · have h0 := hm 1
    have e : (((Rect.unit (s := S2x4x128x128) off ![1, 1, 128, 128] hi).idx j 1 : Fin _) : ℕ) = off 1 + (j 1 : ℕ) := Rect.idx_unit_val _ _ _ _ _
    have hj : (j 1 : ℕ) < 1 := (j 1).isLt
    have h1 : off' 1 ≤ (((Rect.unit (s := S2x4x128x128) off ![1, 1, 128, 128] hi).idx j 1 : Fin _) : ℕ) ∧ (((Rect.unit (s := S2x4x128x128) off ![1, 1, 128, 128] hi).idx j 1 : Fin _) : ℕ) < off' 1 + 1 := h0
    omega

/-- A load of all of the scratch. -/
theorem readCov_all (v : View sig .tc .vmem S2x4x128x128 .f32) (L : List (View.Piece (Elt F) S2x4x128x128 .f32)) :
    v.readCov (Val := Elt F) L rSw.toLoadRect = View.canon L := by
  rw [View.readCov_eq_canon']
  funext j
  refine congrArg (View.canon L) (funext fun a => Fin.ext ((Rect.idx_unit_val _ _ _ _ _).trans ?_))
  rw [show (![0, 0, 0, 0] : Fin 4 → ℕ) a = 0 from by revert a; decide, Nat.zero_add]

end Cert.KernelIdeal.Scan

end
-- ==== Proof.KernelRead.lean ====
/- The kernel body's stores in each of its three cases (the first block of a batch and head group, a middle one, the last one) are
   the block functions of its loads. -/
module

public import proofs.«01_k».proof.Proof.Pieces

@[expose] public section

set_option maxRecDepth 16384

noncomputable section

namespace Cert.KernelIdeal.Scan

open Cert.KernelIdeal Cert.KernelIdeal.Gen Idealize.ShloMosaic Idealize.ShloMosaic.Tactic

variable {F : FTy → Type} [FloatOps F]

section cases

variable (c : Dev nD) (i : grid0.Coords) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x512 .f32) (harg9 : arg9.IsWhole) (arg10 : Memref sig .tc .vmem S2x256x256 .bf16) (harg10 : arg10.IsWhole) (arg11 : Memref sig .tc .vmem S1x2x4x128x128 .f32) (harg11 : arg11.IsWhole) (arg12 : Memref sig .tc .vmem S1x256x512 .f32) (harg12 : arg12.IsWhole) (arg13 : Memref sig .tc .vmem S1x256x512 .f32) (harg13 : arg13.IsWhole) (arg14 : Memref sig .tc .vmem S1x2x4x128x128 .f32) (harg14 : arg14.IsWhole) (arg15 : Memref sig .tc .vmem S2x4x128x128 .f32) (harg15 : arg15.IsWhole)
  (x0 x1 x2 x3 x4 x5 : Vec F S1x256x512 .f32) (x6 : Vec F S1x512 .f32) (x7 : Vec F S2x256x256 .bf16) (x8 : Vec F S1x2x4x128x128 .f32) (xs0 : Vec F S2x4x128x128 .f32)

set_option maxHeartbeats 4000000 in
theorem runB_9 (hc0 : ¬cond0_0 i) (hc1 : ¬cond0_1 i) :
    (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).1 = pcF x6 x7 x2 x0 x1 xs0 := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runB_10 (hc0 : ¬cond0_0 i) (hc1 : ¬cond0_1 i) :
    (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.1 = pcB x6 x7 x5 x3 x4 xs0 := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runB_S (hc0 : ¬cond0_0 i) (hc1 : ¬cond0_1 i) :
    (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.2.2.1 = pcS x6 x7 x2 x1 x5 x4 xs0 := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runC_9 (hc0 : ¬cond0_0 i) (hc1 : cond0_1 i) :
    (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).1 = pcF x6 x7 x2 x0 x1 xs0 := by
  unfold kernelRun0_C
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runC_10 (hc0 : ¬cond0_0 i) (hc1 : cond0_1 i) :
    (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.1 = pcB x6 x7 x5 x3 x4 xs0 := by
  unfold kernelRun0_C
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runC_S (hc0 : ¬cond0_0 i) (hc1 : cond0_1 i) :
    (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.2.2.1 = pcS x6 x7 x2 x1 x5 x4 xs0 := by
  unfold kernelRun0_C
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread]
  rfl

set_option maxHeartbeats 4000000 in
theorem runC_11 (hc0 : ¬cond0_0 i) (hc1 : cond0_1 i) :
    (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.2.1 = [⟨rNw, stN (View.canon (pcS x6 x7 x2 x1 x5 x4 xs0))⟩] := by
  unfold kernelRun0_C
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, readCov_all]
  rfl

set_option maxHeartbeats 4000000 in
theorem runA_9 (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1 = pcF x6 x7 x2 x0 x1 (st0 x8) := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, ↓readCov_miss, readCov_whole, ld_all]
  rfl

set_option maxHeartbeats 4000000 in
theorem runA_10 (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 = pcB x6 x7 x5 x3 x4 (st0 x8) := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, ↓readCov_miss, readCov_whole, ld_all]
  rfl

set_option maxHeartbeats 4000000 in
theorem runA_S (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1 = pcS x6 x7 x2 x1 x5 x4 (st0 x8) ++ [⟨rSw, st0 x8⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, ↓readCov_miss, readCov_whole, ld_all]
  rfl

end cases

end Cert.KernelIdeal.Scan

end
-- ==== Proof.Outs.lean ====
/- What each grid point leaves in the two output blocks, in the last state's block and in the carried state: the block functions of
   the point's input blocks and of the state before it. -/
module

public import proofs.«01_k».proof.Proof.KernelRead

@[expose] public section

noncomputable section

namespace Cert.KernelIdeal.Scan

open Cert.KernelIdeal Cert.KernelIdeal.Gen Idealize.ShloMosaic Idealize.ShloMosaic.TcCoe

variable {F : FTy → Type} [FloatOps F]
variable (m : (ℓ : Loc nD τ sig) → Buf (Elt F) ℓ) (c : Dev nD) (t : Fin cfg0.N)

/-- The state before point `t`: the given one at the first block of a batch and head group, what the point before left otherwise. -/
def pre : Vec F S2x4x128x128 .f32 :=
  if t.val % 64 = 0 then st0 (iblk m c 8 t) else (outsAt0 m c (t.val - 1) (Nat.lt_of_le_of_lt (Nat.sub_le _ _) t.isLt)).2.2.2

theorem outs_9 : (outsAt0 m c t.val t.isLt).1
    = View.canon (pcF (iblk m c 6 t) (iblk m c 7 t) (iblk m c 2 t) (iblk m c 0 t) (iblk m c 1 t) (pre m c t)) := by
  by_cases h0 : t.val % 64 = 0
  · have h1 : ¬t.val % 64 = 63 := by omega
    rw [outsAt0_A m c t h0 h1]
    dsimp only
    unfold out0_A_9
    rw [runA_9, View.read_writes_junk_eq_canon, pre, if_pos h0]
  · by_cases h1 : t.val % 64 = 63
    · rw [outsAt0_C m c t h0 h1]
      dsimp only
      unfold out0_C_9
      rw [runC_9, View.read_writes_junk_eq_canon, pre, if_neg h0]
    · rw [outsAt0_B m c t h0 h1]
      dsimp only
      unfold out0_B_9
      rw [runB_9, View.read_writes_junk_eq_canon, pre, if_neg h0]

theorem outs_10 : (outsAt0 m c t.val t.isLt).2.1
    = View.canon (pcB (iblk m c 6 t) (iblk m c 7 t) (iblk m c 5 t) (iblk m c 3 t) (iblk m c 4 t) (pre m c t)) := by
  by_cases h0 : t.val % 64 = 0
  · have h1 : ¬t.val % 64 = 63 := by omega
    rw [outsAt0_A m c t h0 h1]
    dsimp only
    unfold out0_A_10
    rw [runA_10, View.read_writes_junk_eq_canon, pre, if_pos h0]
  · by_cases h1 : t.val % 64 = 63
    · rw [outsAt0_C m c t h0 h1]
      dsimp only
      unfold out0_C_10
      rw [runC_10, View.read_writes_junk_eq_canon, pre, if_neg h0]
    · rw [outsAt0_B m c t h0 h1]
      dsimp only
      unfold out0_B_10
      rw [runB_10, View.read_writes_junk_eq_canon, pre, if_neg h0]

theorem outs_S : ∃ L : List (View.Piece (Elt F) S2x4x128x128 .f32), (outsAt0 m c t.val t.isLt).2.2.2
    = View.canon (pcS (iblk m c 6 t) (iblk m c 7 t) (iblk m c 2 t) (iblk m c 1 t) (iblk m c 5 t) (iblk m c 4 t) (pre m c t) ++ L) := by
  by_cases h0 : t.val % 64 = 0
  · have h1 : ¬t.val % 64 = 63 := by omega
    refine ⟨[⟨rSw, st0 (iblk m c 8 t)⟩], ?_⟩
    rw [outsAt0_A m c t h0 h1]
    dsimp only
    unfold sout0_A_0
    rw [runA_S, View.read_writes_junk_eq_canon, pre, if_pos h0]
  · refine ⟨[], ?_⟩
    by_cases h1 : t.val % 64 = 63
    · rw [outsAt0_C m c t h0 h1]
      dsimp only
      unfold sout0_C_0
      rw [runC_S, View.read_writes_junk_eq_canon, pre, if_neg h0, List.append_nil]
    · rw [outsAt0_B m c t h0 h1]
      dsimp only
      unfold sout0_B_0
      rw [runB_S, View.read_writes_junk_eq_canon, pre, if_neg h0, List.append_nil]

theorem outs_11 (h1 : t.val % 64 = 63) : (outsAt0 m c t.val t.isLt).2.2.1
    = stN (View.canon (pcS (iblk m c 6 t) (iblk m c 7 t) (iblk m c 2 t) (iblk m c 1 t) (iblk m c 5 t) (iblk m c 4 t) (pre m c t))) := by
  have h0 : ¬t.val % 64 = 0 := by omega
  rw [outsAt0_C m c t h0 h1]
  dsimp only
  unfold out0_C_11
  rw [runC_11, View.read_writes_junk_eq_canon, pre, if_neg h0]
  exact View.canon_cons_unit_lit (S := S1x2x4x128x128) _ _ _ (by decide)

end Cert.KernelIdeal.Scan

end
-- ==== Proof.KernelHost.lean ====
/- What the kernel's host computes before the pallas_call: the lower bounds as a row, and the two causal masks of a block of 256
   steps, forward and backward, that keep a step's own chunk of 64. -/
module

public import proofs.«01_k».proof.Proof.Bound
public import proofs.«01_k».proof.Proof.Outs
public import Idealize.ShloMosaic.Lib.StableHlo.Run

@[expose] public section

noncomputable section

namespace Cert.KernelIdeal.Scan

open Cert.KernelIdeal Cert.KernelIdeal.Gen Idealize.ShloMosaic Idealize.ShloMosaic.TcCoe Idealize.ShloMosaic.StableHlo Cert.Scan

/-- An integer array divided by 64, rounded down. -/
def fdT (s : Shape) (h : S_.BroadcastsInDim s ![]) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

def colT : IVec S256x1 32 := broadcastInDim S256x1 ![0] bcast_S256_S256x1_0 (iotaInDim S256 32 0)
def rowT : IVec S1x256 32 := broadcastInDim S1x256 ![1] bcast_S256_S1x256_1 (iotaInDim S256 32 0)

/-- Where two steps of a block lie in one chunk. -/
def sameT : IVec S256x256 1 :=
  cmpi .eq (broadcastInDim S256x256 ![0, 1] bcast_S256x1_S256x256_0_1 (fdT S256x1 bcast_S_S256x1 colT))
    (broadcastInDim S256x256 ![0, 1] bcast_S1x256_S256x256_0_1 (fdT S1x256 bcast_S_S1x256 rowT))

/-- The mask as bits: one chunk, and before or after. -/
def maskT (p : CmpIPredicate) : IVec S256x256 1 :=
  andi sameT (cmpi p (broadcastInDim S256x256 ![0, 1] bcast_S256x1_S256x256_0_1 colT)
    (broadcastInDim S256x256 ![0, 1] bcast_S1x256_S256x256_0_1 rowT))

def bitsT : IVec S2x256x256 1 :=
  concatenate S2x256x256 0 [⟨S1x256x256, broadcastInDim S1x256x256 ![1, 2] bcast_S256x256_S1x256x256_1_2 (maskT .sge)⟩,
    ⟨S1x256x256, broadcastInDim S1x256x256 ![1, 2] bcast_S256x256_S1x256x256_1_2 (maskT .sle)⟩] concatenates_S1x256x256_S1x256x256_S2x256x256_d0

section Read
variable {F : FTy → Type} [FloatOps F] (m : (ℓ : Loc nD τ sig) → Buf (Elt F) ℓ) (c : Dev nD)

theorem V44 : (V m c main_v44 : Vec F S1x1024 .f32)
    = shapeCast S1x1024 (lbT (m (c.tc.loc main_arg1) : Vec F S4x1024 .f32)) shapeCasts_S1024_S1x1024 := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil,
    List.append_nil, List.cons_append, List.nil_append]
  after_results
  rfl

theorem V43 : (V m c main_v43 : Vec F S2x256x256 .bf16) = truncf .bf16 (uitofp .f32 bitsT) bitsLt_bf16_f32 := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil,
    List.append_nil, List.cons_append, List.nil_append]
  after_results
  rfl

end Read

/-- The lower bound of channel `n` in the row. -/
theorem V44_at (m : (ℓ : Loc nD τ sig) → Buf (Elt Ideal) ℓ) (c : Dev nD) (n : Fin 1024) :
    (V m c main_v44 : Vec Ideal S1x1024 .f32) (ix2 0 n) = lbT (m (c.tc.loc main_arg1) : Vec Ideal S4x1024 .f32) (ix1 n) := by
  rw [V44]
  generalize (lbT (m (c.tc.loc main_arg1) : Vec Ideal S4x1024 .f32) : Vec Ideal S1024 .f32) = y
  pointwise

theorem fdT_col : ∀ a : Fin 256, fdT S256x1 bcast_S_S256x1 colT (ix2 a 0) = BitVec.ofNat 32 (a.val / 64) := by
  decide +kernel

theorem fdT_row : ∀ a : Fin 256, fdT S1x256 bcast_S_S1x256 rowT (ix2 0 a) = BitVec.ofNat 32 (a.val / 64) := by
  decide +kernel

theorem maskT_at (p : CmpIPredicate) (a b : Fin 256) :
    maskT p (ix2 a b) = IntOp.andi (IntOp.cmpi .eq (BitVec.ofNat 32 (a.val / 64)) (BitVec.ofNat 32 (b.val / 64)))
      (IntOp.cmpi p (BitVec.ofNat 32 a.val) (BitVec.ofNat 32 b.val)) := by
  have h1 := fdT_col a
  have h2 := fdT_row b
  unfold maskT sameT
  rw [← h1, ← h2]
  generalize fdT S256x1 _ _ = y
  generalize fdT S1x256 _ _ = z
  pointwise [colT, rowT]

theorem cmp_eq (x y : ℕ) (hx : x < 256) (hy : y < 256) : IntOp.cmpi .eq (BitVec.ofNat 32 x) (BitVec.ofNat 32 y) = if x = y then 1#1 else 0#1 := by
  show BitVec.ofBool (BitVec.ofNat 32 x == BitVec.ofNat 32 y) = _
  have h : (BitVec.ofNat 32 x = BitVec.ofNat 32 y) ↔ x = y := by
    rw [← BitVec.toNat_inj, BitVec.toNat_ofNat, BitVec.toNat_ofNat]
    omega
  by_cases e : x = y
  · rw [if_pos e, beq_iff_eq.2 (h.2 e)]
    rfl
  · rw [if_neg e, beq_eq_false_iff_ne.2 fun q => e (h.1 q)]
    rfl

theorem sle_nat (x y : ℕ) (hx : x < 256) (hy : y < 256) : (BitVec.ofNat 32 x).sle (BitVec.ofNat 32 y) = decide (x ≤ y) := by
  rw [BitVec.sle_eq_decide, decide_eq_decide, BitVec.toInt_eq_toNat_of_lt, BitVec.toInt_eq_toNat_of_lt, BitVec.toNat_ofNat, BitVec.toNat_ofNat]
  · omega
  · rw [BitVec.toNat_ofNat]
    omega
  · rw [BitVec.toNat_ofNat]
    omega

theorem and_bits (p q : Prop) [Decidable p] [Decidable q] :
    (((IntOp.andi (if p then 1#1 else 0#1) (BitVec.ofBool (decide q))).toNat : ℝ) : EReal) = if p ∧ q then 1 else 0 := by
  by_cases hp : p
  · by_cases hq : q
    · rw [if_pos hp, if_pos ⟨hp, hq⟩, decide_eq_true hq]
      show (((1 : ℕ) : ℝ) : EReal) = 1
      simp
    · rw [if_pos hp, if_neg fun h => hq h.2, decide_eq_false hq]
      show (((0 : ℕ) : ℝ) : EReal) = 0
      simp
  · rw [if_neg hp, if_neg fun h => hp h.1]
    by_cases hq : q
    · rw [decide_eq_true hq]
      show (((0 : ℕ) : ℝ) : EReal) = 0
      simp
    · rw [decide_eq_false hq]
      show (((0 : ℕ) : ℝ) : EReal) = 0
      simp

theorem V43_bit (m : (ℓ : Loc nD τ sig) → Buf (Elt Ideal) ℓ) (c : Dev nD) (a b : Fin 256) :
    (V m c main_v43 : Vec Ideal S2x256x256 .bf16) (ix3 0 a b) = (((maskT .sge (ix2 a b)).toNat : ℝ) : EReal)
    ∧ (V m c main_v43 : Vec Ideal S2x256x256 .bf16) (ix3 1 a b) = (((maskT .sle (ix2 a b)).toNat : ℝ) : EReal) := by
  rw [V43]
  unfold bitsT
  generalize maskT .sge = y
  generalize maskT .sle = z
  constructor
  · pointwise
    rfl
  · pointwise
    rfl

/-- The forward mask. -/
theorem V43_at0 (m : (ℓ : Loc nD τ sig) → Buf (Elt Ideal) ℓ) (c : Dev nD) (a b : Fin 256) :
    (V m c main_v43 : Vec Ideal S2x256x256 .bf16) (ix3 0 a b) = if a.val / 64 = b.val / 64 ∧ b.val ≤ a.val then (1 : EReal) else 0 := by
  rw [(V43_bit m c a b).1, maskT_at, cmp_eq _ _ (by omega) (by omega)]
  show (((IntOp.andi _ (BitVec.ofBool ((BitVec.ofNat 32 b.val).sle (BitVec.ofNat 32 a.val)))).toNat : ℝ) : EReal) = _
  rw [sle_nat _ _ b.isLt a.isLt, and_bits]

/-- The backward mask. -/
theorem V43_at1 (m : (ℓ : Loc nD τ sig) → Buf (Elt Ideal) ℓ) (c : Dev nD) (a b : Fin 256) :
    (V m c main_v43 : Vec Ideal S2x256x256 .bf16) (ix3 1 a b) = if a.val / 64 = b.val / 64 ∧ a.val ≤ b.val then (1 : EReal) else 0 := by
  rw [(V43_bit m c a b).2, maskT_at, cmp_eq _ _ (by omega) (by omega)]
  show (((IntOp.andi _ (BitVec.ofBool ((BitVec.ofNat 32 a.val).sle (BitVec.ofNat 32 b.val)))).toNat : ℝ) : EReal) = _
  rw [sle_nat _ _ a.isLt b.isLt, and_bits]

end Cert.KernelIdeal.Scan

end
-- ==== Proof.Entry.lean ====
/- The block functions of `Block.lean` read at an index over the extended reals. -/
module

public import proofs.«01_k».proof.Proof.Block
public import Idealize.ShloMosaic.Lib.Pointwise

@[expose] public section

set_option maxRecDepth 2048

noncomputable section

namespace Cert.KernelIdeal.Scan

open Cert.KernelIdeal Cert.KernelIdeal.Gen Idealize.ShloMosaic

theorem gate_at (lb : Vec Ideal S1x128 .f32) (z : Vec Ideal S1x256x128 .f32) (r : Fin 256) (k : Fin 128) :
    gate (F := Ideal) lb z (ix2 r k) = lb (ix2 0 k) + (1 - lb (ix2 0 k)) * Ideal.logistic (z (ix3 0 r k)) := by
  pointwise [gate]

theorem key_at (lb : Vec Ideal S1x128 .f32) (z : Vec Ideal S1x256x128 .f32) (r : Fin 256) (k : Fin 128) :
    key (F := Ideal) lb z (ix2 r k) = 1 - gate (F := Ideal) lb z (ix2 r k) := by
  pointwise [key]

theorem msk_at (tri : Vec Ideal S1x256x256 .bf16) (r r' : Fin 256) :
    msk (F := Ideal) tri (ix2 r r') = tri (ix3 0 r r') := by
  pointwise [msk]

theorem dec_at (lb : Vec Ideal S1x128 .f32) (tri : Vec Ideal S1x256x256 .bf16) (z : Vec Ideal S1x256x128 .f32)
    (r : Fin 256) (k : Fin 128) :
    dec (F := Ideal) lb tri z (ix2 r k) =
      ∑ r' : Fin 256, tri (ix3 0 r r') * Ideal.log (gate (F := Ideal) lb z (ix2 r' k))
      + ∑ r' : Fin 256, tri (ix3 0 r r') * (Ideal.log (gate (F := Ideal) lb z (ix2 r' k)) - Ideal.log (gate (F := Ideal) lb z (ix2 r' k))) := by
  pointwise [dec, msk]

theorem rep_at0 (r0 r1 r2 r3 : FVec Ideal S1x128 .f32) (s : Fin 64) (k : Fin 128) :
    rep (F := Ideal) r0 r1 r2 r3 (ix2 ⟨s.val, by omega⟩ k) = r0 (ix2 0 k) := by
  pointwise [rep]

theorem rep_at1 (r0 r1 r2 r3 : FVec Ideal S1x128 .f32) (s : Fin 64) (k : Fin 128) :
    rep (F := Ideal) r0 r1 r2 r3 (ix2 ⟨64 + s.val, by omega⟩ k) = r1 (ix2 0 k) := by
  pointwise [rep]

theorem rep_at2 (r0 r1 r2 r3 : FVec Ideal S1x128 .f32) (s : Fin 64) (k : Fin 128) :
    rep (F := Ideal) r0 r1 r2 r3 (ix2 ⟨128 + s.val, by omega⟩ k) = r2 (ix2 0 k) := by
  pointwise [rep]
  repeat' split
  all_goals first | omega | rfl | (congr 2; apply Fin.ext; dsimp; omega)

theorem rep_at3 (r0 r1 r2 r3 : FVec Ideal S1x128 .f32) (s : Fin 64) (k : Fin 128) :
    rep (F := Ideal) r0 r1 r2 r3 (ix2 ⟨192 + s.val, by omega⟩ k) = r3 (ix2 0 k) := by
  pointwise [rep]
  repeat' split
  all_goals first | omega | rfl | (congr 2; apply Fin.ext; dsimp; omega)

theorem cat_at0 (r0 r1 r2 r3 : FVec Ideal S64x128 .f32) (s : Fin 64) (k : Fin 128) :
    cat (F := Ideal) r0 r1 r2 r3 (ix2 ⟨s.val, by omega⟩ k) = r0 (ix2 s k) := by
  pointwise [cat]

theorem cat_at1 (r0 r1 r2 r3 : FVec Ideal S64x128 .f32) (s : Fin 64) (k : Fin 128) :
    cat (F := Ideal) r0 r1 r2 r3 (ix2 ⟨64 + s.val, by omega⟩ k) = r1 (ix2 s k) := by
  pointwise [cat]

theorem cat_at2 (r0 r1 r2 r3 : FVec Ideal S64x128 .f32) (s : Fin 64) (k : Fin 128) :
    cat (F := Ideal) r0 r1 r2 r3 (ix2 ⟨128 + s.val, by omega⟩ k) = r2 (ix2 s k) := by
  pointwise [cat]
  repeat' split
  all_goals first | omega | rfl | (congr 2; apply Fin.ext; dsimp; omega)

theorem cat_at3 (r0 r1 r2 r3 : FVec Ideal S64x128 .f32) (s : Fin 64) (k : Fin 128) :
    cat (F := Ideal) r0 r1 r2 r3 (ix2 ⟨192 + s.val, by omega⟩ k) = r3 (ix2 s k) := by
  pointwise [cat]
  repeat' split
  all_goals first | omega | rfl | (congr 2; apply Fin.ext; dsimp; omega)

theorem qdec_at (b : FVec Ideal S256x128 .f32) (q : Vec Ideal S1x256x128 .f32) (r : Fin 256) (k : Fin 128) :
    qdec (F := Ideal) b q (ix2 r k) = q (ix3 0 r k) * Ideal.logistic (q (ix3 0 r k)) * Ideal.exp (b (ix2 r k)) := by
  pointwise [qdec]

theorem kinv_at (x b : FVec Ideal S256x128 .f32) (r : Fin 256) (k : Fin 128) :
    kinv (F := Ideal) x b (ix2 r k) = x (ix2 r k) * Ideal.exp (-(b (ix2 r k))) := by
  pointwise [kinv]
  rw [zero_sub]

theorem kend_at (x b bt : FVec Ideal S256x128 .f32) (r : Fin 256) (k : Fin 128) :
    kend (F := Ideal) x b bt (ix2 r k) = x (ix2 r k) * Ideal.exp (bt (ix2 r k) - b (ix2 r k)) := by
  pointwise [kend]

theorem val_at (v : Vec Ideal S1x256x128 .f32) (r : Fin 256) (k : Fin 128) :
    val (F := Ideal) v (ix2 r k) = v (ix3 0 r k) := by
  pointwise [val]

theorem intra_at (m : FVec Ideal S256x256 .bf16) (qd ki vb : FVec Ideal S256x128 .bf16) (r : Fin 256) (k : Fin 128) :
    intra (F := Ideal) m qd ki vb (ix2 r k) =
      ∑ r' : Fin 256, (if m (ix2 r r') ≠ 0 then ∑ j : Fin 128, qd (ix2 r j) * ki (ix2 r' j) else 0) * vb (ix2 r' k) := by
  pointwise [intra]

theorem kv_at (vb ke : FVec Ideal S64x128 .bf16) (v k : Fin 128) :
    kv (F := Ideal) vb ke (ix2 v k) = ∑ s : Fin 64, vb (ix2 s v) * ke (ix2 s k) := by
  pointwise [kv]

theorem inter_at (qd : FVec Ideal S64x128 .bf16) (st : FVec Ideal S128x128 .f32) (s : Fin 64) (v : Fin 128) :
    inter (F := Ideal) qd st (ix2 s v) = ∑ k : Fin 128, qd (ix2 s k) * st (ix2 v k) := by
  pointwise [inter]

theorem adv_at (st : FVec Ideal S128x128 .f32) (tot : FVec Ideal S1x128 .f32) (u : FVec Ideal S128x128 .f32) (v k : Fin 128) :
    adv (F := Ideal) st tot u (ix2 v k) = st (ix2 v k) * Ideal.exp (tot (ix2 0 k)) + u (ix2 v k) := by
  pointwise [adv]

theorem drop_at (st : Vec Ideal S1x1x128x128 .f32) (v k : Fin 128) :
    drop (F := Ideal) st (ix2 v k) = st (ix4 0 0 v k) := by
  pointwise [drop]

theorem c0_at {φ : FTy} (x : FVec Ideal S256x128 φ) (s : Fin 64) (k : Fin 128) : c0 (F := Ideal) x (ix2 s k) = x (ix2 ⟨s.val, by omega⟩ k) := by
  pointwise [c0]
theorem c1_at {φ : FTy} (x : FVec Ideal S256x128 φ) (s : Fin 64) (k : Fin 128) : c1 (F := Ideal) x (ix2 s k) = x (ix2 ⟨64 + s.val, by omega⟩ k) := by
  pointwise [c1]
theorem c2_at {φ : FTy} (x : FVec Ideal S256x128 φ) (s : Fin 64) (k : Fin 128) : c2 (F := Ideal) x (ix2 s k) = x (ix2 ⟨128 + s.val, by omega⟩ k) := by
  pointwise [c2]
theorem c3_at {φ : FTy} (x : FVec Ideal S256x128 φ) (s : Fin 64) (k : Fin 128) : c3 (F := Ideal) x (ix2 s k) = x (ix2 ⟨192 + s.val, by omega⟩ k) := by
  pointwise [c3]

theorem f0_at (b : FVec Ideal S256x128 .f32) (k : Fin 128) : f0 (F := Ideal) b (ix2 0 k) = b (ix2 63 k) := by pointwise [f0]
theorem f1_at (b : FVec Ideal S256x128 .f32) (k : Fin 128) : f1 (F := Ideal) b (ix2 0 k) = b (ix2 127 k) := by pointwise [f1]
theorem f2_at (b : FVec Ideal S256x128 .f32) (k : Fin 128) : f2 (F := Ideal) b (ix2 0 k) = b (ix2 191 k) := by pointwise [f2]
theorem f3_at (b : FVec Ideal S256x128 .f32) (k : Fin 128) : f3 (F := Ideal) b (ix2 0 k) = b (ix2 255 k) := by pointwise [f3]
theorem b0_at (b : FVec Ideal S256x128 .f32) (k : Fin 128) : b0 (F := Ideal) b (ix2 0 k) = b (ix2 0 k) := by pointwise [b0]
theorem b1_at (b : FVec Ideal S256x128 .f32) (k : Fin 128) : b1 (F := Ideal) b (ix2 0 k) = b (ix2 64 k) := by pointwise [b1]
theorem b2_at (b : FVec Ideal S256x128 .f32) (k : Fin 128) : b2 (F := Ideal) b (ix2 0 k) = b (ix2 128 k) := by pointwise [b2]
theorem b3_at (b : FVec Ideal S256x128 .f32) (k : Fin 128) : b3 (F := Ideal) b (ix2 0 k) = b (ix2 192 k) := by pointwise [b3]

end Cert.KernelIdeal.Scan

end
-- ==== Proof.Spec.lean ====
/- The gated linear recurrence the layer computes, for one head: written over scan time, with the inputs as functions of
   time and channel. Every quantity of a chunk of 64 steps and the state carried from chunk to chunk. -/
module

public import Idealize.ShloMosaic.Lib.Pointwise
public import Idealize.ShloMosaic.PureOps.Ideal

@[expose] public section

noncomputable section

namespace Cert.Scan

open Idealize.ShloMosaic

/-- One head's inputs: gate logits, query projections and values over time and channel, the lower bounds of the gate and
    the first state (value channel, key channel). -/
structure Inp where
  Z : ℕ → Fin 128 → EReal
  Q : ℕ → Fin 128 → EReal
  V : ℕ → Fin 128 → EReal
  L : Fin 128 → EReal
  S0 : Fin 128 → Fin 128 → EReal

variable (I : Inp)

/-- The forget gate. -/
def Inp.fg (t : ℕ) (k : Fin 128) : EReal := I.L k + (1 - I.L k) * Ideal.logistic (I.Z t k)
/-- Its logarithm. -/
def Inp.gl (t : ℕ) (k : Fin 128) : EReal := Ideal.log (I.fg t k)
/-- The running sum of the log gates inside chunk `n`. -/
def Inp.cb (n : ℕ) (s : Fin 64) (k : Fin 128) : EReal := ∑ s' : Fin 64, if s' ≤ s then I.gl (64 * n + s'.val) k else 0
/-- Decayed queries. -/
def Inp.qd (n : ℕ) (s : Fin 64) (k : Fin 128) : EReal :=
  I.Q (64 * n + s.val) k * Ideal.logistic (I.Q (64 * n + s.val) k) * Ideal.exp (I.cb n s k)
/-- Keys, decay undone. -/
def Inp.ki (n : ℕ) (s : Fin 64) (k : Fin 128) : EReal := (1 - I.fg (64 * n + s.val) k) * Ideal.exp (-(I.cb n s k))
/-- Keys decayed to the end of their chunk. -/
def Inp.ke (n : ℕ) (s : Fin 64) (k : Fin 128) : EReal :=
  (1 - I.fg (64 * n + s.val) k) * Ideal.exp (I.cb n 63 k - I.cb n s k)
/-- The causal attention inside a chunk. -/
def Inp.att (n : ℕ) (s s' : Fin 64) : EReal := if s' ≤ s then ∑ k : Fin 128, I.qd n s k * I.ki n s' k else 0
/-- Its output. -/
def Inp.oi (n : ℕ) (s : Fin 64) (v : Fin 128) : EReal := ∑ s' : Fin 64, I.att n s s' * I.V (64 * n + s'.val) v
/-- What a chunk adds to the state. -/
def Inp.du (n : ℕ) (v k : Fin 128) : EReal := ∑ s : Fin 64, I.V (64 * n + s.val) v * I.ke n s k
/-- The state before chunk `n`. -/
def Inp.St : ℕ → Fin 128 → Fin 128 → EReal
  | 0, v, k => I.S0 v k
  | n + 1, v, k => Inp.St n v k * Ideal.exp (I.cb n 63 k) + I.du n v k
/-- The output at step `s` of chunk `n`. -/
def Inp.out (n : ℕ) (s : Fin 64) (v : Fin 128) : EReal := I.oi n s v + ∑ k : Fin 128, I.qd n s k * I.St n v k

/-- The logistic function stays between 0 and 1. -/
theorem logistic_mem (x : EReal) : ∃ r : ℝ, 0 ≤ r ∧ Ideal.logistic x = (r : EReal) := by
  unfold Ideal.logistic
  induction x with
  | bot =>
    refine ⟨0, le_rfl, ?_⟩
    show Ideal.div 1 (1 + Ideal.exp (-⊥)) = _
    rw [EReal.neg_bot]
    show Ideal.div 1 (1 + ⊤) = _
    rw [show (1 : EReal) + ⊤ = ⊤ from rfl]
    unfold Ideal.div
    rw [if_neg (by simp)]
    simp
  | coe r =>
    refine ⟨1 * (1 + Real.exp (-r))⁻¹, by positivity, ?_⟩
    show Ideal.div 1 (1 + Ideal.exp (-(r : EReal))) = _
    rw [← EReal.coe_neg]
    show Ideal.div 1 (1 + (Real.exp (-r) : EReal)) = _
    have h : (0 : ℝ) < 1 + Real.exp (-r) := by positivity
    unfold Ideal.div
    rw [show (1 : EReal) + (Real.exp (-r) : EReal) = ((1 + Real.exp (-r) : ℝ) : EReal) by push_cast; rfl]
    rw [if_neg (by exact_mod_cast h.ne')]
    rw [← EReal.coe_inv, EReal.coe_mul]
    rfl
  | top =>
    refine ⟨1, zero_le_one, ?_⟩
    show Ideal.div 1 (1 + Ideal.exp (-⊤)) = _
    rw [EReal.neg_top]
    show Ideal.div 1 (1 + 0) = _
    rw [add_zero]
    unfold Ideal.div
    rw [if_neg one_ne_zero]
    simp

/-- The log gate is never `⊤` where the lower bound is not. -/
theorem Inp.gl_ne_top (hL : ∀ k, I.L k ≠ ⊤) (t : ℕ) (k : Fin 128) : I.gl t k ≠ ⊤ := by
  have hf : I.fg t k ≠ ⊤ := by
    unfold Inp.fg
    obtain ⟨r, -, hr⟩ := logistic_mem (I.Z t k)
    rw [hr]
    have h := hL k
    generalize I.L k = l at h
    induction l with
    | bot => exact fun e => absurd ((EReal.bot_add _).symm.trans e) (by simp)
    | coe l =>
      intro e
      have : ((l + (1 - l) * r : ℝ) : EReal) = ⊤ := by push_cast; exact e
      exact EReal.coe_ne_top _ this
    | top => exact absurd rfl h
  unfold Inp.gl
  generalize I.fg t k = f at hf
  induction f with
  | bot =>
    show (⊥ : EReal) ≠ ⊤
    simp
  | coe f =>
    show (if f ≤ 0 then ⊥ else (Real.log f : EReal)) ≠ ⊤
    split
    · simp
    · exact EReal.coe_ne_top _
  | top => exact absurd rfl hf

/-- A number that is not `⊤` swallows its difference from itself. -/
theorem add_sub_self_of_ne_top {x : EReal} (h : x ≠ ⊤) : x + (x - x) = x := by
  induction x with
  | bot => exact EReal.bot_add _
  | coe x =>
    rw [show ((x : EReal) - x) = ((x - x : ℝ) : EReal) by push_cast; rfl]
    change (x : EReal) + ((x - x : ℝ) : EReal) = x
    rw [sub_self, EReal.coe_zero, add_zero]
  | top => exact absurd rfl h

/-- A sum over a block's 256 rows, chunk by chunk, in forward order. -/
theorem sum_rows (f : Fin 256 → EReal) : ∑ r, f r = ∑ c : Fin 4, ∑ s : Fin 64, f ⟨64 * c.val + s.val, by omega⟩ := by
  rw [← Fintype.sum_prod_type' (fun (c : Fin 4) (s : Fin 64) => f ⟨64 * c.val + s.val, by omega⟩)]
  refine (Fintype.sum_equiv (finProdFinEquiv (m := 4) (n := 64)) _ _ fun p => congrArg f (Fin.ext ?_)).symm
  show 64 * p.1.val + p.2.val = p.2.val + 64 * p.1.val
  omega

/-- The same from the last row back. -/
theorem sum_rows_rev (f : Fin 256 → EReal) : ∑ r, f r = ∑ c : Fin 4, ∑ s : Fin 64, f ⟨255 - (64 * c.val + s.val), by omega⟩ := by
  rw [← Equiv.sum_comp Fin.revPerm f, sum_rows]
  refine Finset.sum_congr rfl fun c _ => Finset.sum_congr rfl fun s _ => congrArg f (Fin.ext ?_)
  show 256 - (64 * c.val + s.val + 1) = 255 - (64 * c.val + s.val)
  omega

end Cert.Scan

end
-- ==== Proof.BlockSpec.lean ====
/- One block of the kernel computes the recurrence: from inputs that hold the recurrence's inputs at the block's times and the
   state before the block's first chunk, the block functions hold its outputs and the state after its last chunk. -/
module

public import proofs.«01_k».proof.Proof.Entry
public import proofs.«01_k».proof.Proof.Spec

@[expose] public section

noncomputable section

namespace Cert.KernelIdeal.Scan

open Cert.KernelIdeal Cert.KernelIdeal.Gen Idealize.ShloMosaic Cert.Scan

section rows

variable (I : Inp) (hg : ∀ t k, I.gl t k ≠ ⊤) (m : ℕ) (row : Fin 4 → Fin 64 → Fin 256)
  (hsum : ∀ f : Fin 256 → EReal, ∑ r, f r = ∑ c : Fin 4, ∑ s : Fin 64, f (row c s))
  (lb : Vec Ideal S1x128 .f32) (tri : Vec Ideal S1x256x256 .bf16) (z q v : Vec Ideal S1x256x128 .f32)
  (hlb : ∀ k, lb (ix2 0 k) = I.L k)
  (htri : ∀ c s c' s', tri (ix3 0 (row c s) (row c' s')) = if c = c' ∧ s' ≤ s then 1 else 0)
  (hz : ∀ c s k, z (ix3 0 (row c s) k) = I.Z (64 * (4 * m + c.val) + s.val) k)
  (hq : ∀ c s k, q (ix3 0 (row c s) k) = I.Q (64 * (4 * m + c.val) + s.val) k)
  (hv : ∀ c s k, v (ix3 0 (row c s) k) = I.V (64 * (4 * m + c.val) + s.val) k)

include hlb hz in
theorem gate_row (c : Fin 4) (s : Fin 64) (k : Fin 128) :
    gate (F := Ideal) lb z (ix2 (row c s) k) = I.fg (64 * (4 * m + c.val) + s.val) k := by
  rw [gate_at, hlb, hz]
  rfl

/-- The mask picks a chunk's earlier steps out of a block. -/
theorem mask_sum (f : Fin 4 → Fin 64 → EReal) (c : Fin 4) (s : Fin 64) :
    (∑ c' : Fin 4, ∑ s' : Fin 64, (if c = c' ∧ s' ≤ s then (1 : EReal) else 0) * f c' s') = ∑ s' : Fin 64, if s' ≤ s then f c s' else 0 := by
  rw [Finset.sum_eq_single c]
  · refine Finset.sum_congr rfl fun s' _ => ?_
    by_cases h : s' ≤ s
    · rw [if_pos ⟨rfl, h⟩, if_pos h, one_mul]
    · rw [if_neg (fun q => h q.2), if_neg h, zero_mul]
  · intro c' _ hc
    refine Finset.sum_eq_zero fun s' _ => ?_
    rw [if_neg (fun q => hc q.1.symm), zero_mul]
  · exact fun h => absurd (Finset.mem_univ _) h

include hg hsum hlb htri hz in
theorem dec_row (c : Fin 4) (s : Fin 64) (k : Fin 128) :
    dec (F := Ideal) lb tri z (ix2 (row c s) k) = I.cb (4 * m + c.val) s k := by
  rw [dec_at, hsum, hsum]
  simp only [htri, gate_row I m row lb z hlb hz]
  rw [mask_sum (fun c s => Ideal.log (I.fg (64 * (4 * m + c.val) + s.val) k)), mask_sum (fun c s =>
    Ideal.log (I.fg (64 * (4 * m + c.val) + s.val) k) - Ideal.log (I.fg (64 * (4 * m + c.val) + s.val) k)), ← Finset.sum_add_distrib]
  unfold Inp.cb
  refine Finset.sum_congr rfl fun s' _ => ?_
  by_cases h : s' ≤ s
  · rw [if_pos h, if_pos h, if_pos h]
    exact add_sub_self_of_ne_top (hg _ k)
  · rw [if_neg h, if_neg h, if_neg h, add_zero]

include hg hsum hlb htri hz hq in
theorem qdec_row (c : Fin 4) (s : Fin 64) (k : Fin 128) :
    qdec (F := Ideal) (dec lb tri z) q (ix2 (row c s) k) = I.qd (4 * m + c.val) s k := by
  rw [qdec_at, hq, dec_row I hg m row hsum lb tri z hlb htri hz]
  rfl

include hg hsum hlb htri hz in
theorem kinv_row (c : Fin 4) (s : Fin 64) (k : Fin 128) :
    kinv (F := Ideal) (key lb z) (dec lb tri z) (ix2 (row c s) k) = I.ki (4 * m + c.val) s k := by
  rw [kinv_at, key_at, gate_row I m row lb z hlb hz, dec_row I hg m row hsum lb tri z hlb htri hz]
  rfl

include hg hsum hlb htri hz hq hv in
theorem intra_row (c : Fin 4) (s : Fin 64) (k : Fin 128) :
    intra (F := Ideal) (msk tri) (qdec (dec lb tri z) q) (kinv (key lb z) (dec lb tri z)) (val v) (ix2 (row c s) k)
      = I.oi (4 * m + c.val) s k := by
  rw [intra_at, hsum]
  simp only [msk_at, htri, val_at, hv, qdec_row I hg m row hsum lb tri z q hlb htri hz hq,
    kinv_row I hg m row hsum lb tri z hlb htri hz]
  rw [Finset.sum_eq_single c]
  · refine Finset.sum_congr rfl fun s' _ => congrArg (· * _) ?_
    unfold Inp.att
    by_cases h : s' ≤ s
    · rw [if_pos (by rw [if_pos ⟨rfl, h⟩]; exact one_ne_zero), if_pos h]
    · rw [if_neg (fun q => q (if_neg fun q => h q.2)), if_neg h]
  · intro c' _ hc
    refine Finset.sum_eq_zero fun s' _ => ?_
    rw [if_neg (fun q => q (if_neg fun q => hc q.1.symm)), zero_mul]
  · exact fun h => absurd (Finset.mem_univ _) h

include hg hsum hlb htri hz in
theorem kend_row (bt : FVec Ideal S256x128 .f32) (c : Fin 4) (s : Fin 64) (k : Fin 128)
    (hbt : bt (ix2 (row c s) k) = dec (F := Ideal) lb tri z (ix2 (row c 63) k)) :
    kend (F := Ideal) (key lb z) (dec lb tri z) bt (ix2 (row c s) k) = I.ke (4 * m + c.val) s k := by
  rw [kend_at, key_at, hbt, gate_row I m row lb z hlb hz, dec_row I hg m row hsum lb tri z hlb htri hz,
    dec_row I hg m row hsum lb tri z hlb htri hz]
  rfl

end rows

/-- Row `s` of chunk `c`, forward. -/
def rowF (c : Fin 4) (s : Fin 64) : Fin 256 := ⟨64 * c.val + s.val, by omega⟩
/-- Row `s` of chunk `c`, backward. -/
def rowB (c : Fin 4) (s : Fin 64) : Fin 256 := ⟨255 - (64 * c.val + s.val), by omega⟩

section blocks

variable (I : Inp) (hg : ∀ t k, I.gl t k ≠ ⊤) (m : ℕ)
  (lb : Vec Ideal S1x128 .f32) (tri : Vec Ideal S1x256x256 .bf16) (z q v : Vec Ideal S1x256x128 .f32) (st : Vec Ideal S1x1x128x128 .f32)
  (hlb : ∀ k, lb (ix2 0 k) = I.L k)
  (hst : ∀ v k, st (ix4 0 0 v k) = I.St (4 * m) v k)

section fwd

variable
  (htri : ∀ c s c' s', tri (ix3 0 (rowF c s) (rowF c' s')) = if c = c' ∧ s' ≤ s then 1 else 0)
  (hz : ∀ c s k, z (ix3 0 (rowF c s) k) = I.Z (64 * (4 * m + c.val) + s.val) k)
  (hq : ∀ c s k, q (ix3 0 (rowF c s) k) = I.Q (64 * (4 * m + c.val) + s.val) k)
  (hv : ∀ c s k, v (ix3 0 (rowF c s) k) = I.V (64 * (4 * m + c.val) + s.val) k)

theorem rowF0 (s : Fin 64) : (⟨s.val, by omega⟩ : Fin 256) = rowF 0 s := Fin.ext (by show s.val = 64 * 0 + s.val; omega)
theorem rowF1 (s : Fin 64) : (⟨64 + s.val, by omega⟩ : Fin 256) = rowF 1 s := rfl
theorem rowF2 (s : Fin 64) : (⟨128 + s.val, by omega⟩ : Fin 256) = rowF 2 s := rfl
theorem rowF3 (s : Fin 64) : (⟨192 + s.val, by omega⟩ : Fin 256) = rowF 3 s := rfl

include hg hlb htri hz in
theorem keF_row (c : Fin 4) (s : Fin 64) (k : Fin 128) :
    keF (F := Ideal) lb tri z (ix2 (rowF c s) k) = I.ke (4 * m + c.val) s k := by
  refine kend_row I hg m rowF sum_rows lb tri z hlb htri hz _ c s k ?_
  obtain rfl | rfl | rfl | rfl : c = 0 ∨ c = 1 ∨ c = 2 ∨ c = 3 := by omega
  · rw [← rowF0, rep_at0, f0_at]; rfl
  · rw [← rowF1, rep_at1, f1_at]; rfl
  · rw [← rowF2, rep_at2, f2_at]; rfl
  · rw [← rowF3, rep_at3, f3_at]; rfl

include hg hlb htri hz hv hst in
theorem sF_at :
    (∀ v' k, sF1 (F := Ideal) (drop st) (dec lb tri z) (keF lb tri z) (val v) (ix2 v' k) = I.St (4 * m + 1) v' k) ∧
    (∀ v' k, sF2 (F := Ideal) (drop st) (dec lb tri z) (keF lb tri z) (val v) (ix2 v' k) = I.St (4 * m + 2) v' k) ∧
    (∀ v' k, sF3 (F := Ideal) (drop st) (dec lb tri z) (keF lb tri z) (val v) (ix2 v' k) = I.St (4 * m + 3) v' k) ∧
    (∀ v' k, sF4 (F := Ideal) (drop st) (dec lb tri z) (keF lb tri z) (val v) (ix2 v' k) = I.St (4 * m + 4) v' k) := by
  have hd := dec_row I hg m rowF sum_rows lb tri z hlb htri hz
  have hk := keF_row I hg m lb tri z hlb htri hz
  have h1 : ∀ v' k, sF1 (F := Ideal) (drop st) (dec lb tri z) (keF lb tri z) (val v) (ix2 v' k) = I.St (4 * m + 1) v' k := fun v' k => by
    unfold sF1
    rw [adv_at, f0_at, kv_at, drop_at, hst]
    simp only [c0_at, rowF0, val_at, hv, hk]
    exact congrArg₂ (fun a b => I.St (4 * m) v' k * Ideal.exp a + b) (hd 0 63 k) rfl
  have h2 : ∀ v' k, sF2 (F := Ideal) (drop st) (dec lb tri z) (keF lb tri z) (val v) (ix2 v' k) = I.St (4 * m + 2) v' k := fun v' k => by
    unfold sF2
    rw [adv_at, f1_at, kv_at, h1]
    simp only [c1_at, rowF1, val_at, hv, hk]
    exact congrArg₂ (fun a b => I.St (4 * m + 1) v' k * Ideal.exp a + b) (hd 1 63 k) rfl
  have h3 : ∀ v' k, sF3 (F := Ideal) (drop st) (dec lb tri z) (keF lb tri z) (val v) (ix2 v' k) = I.St (4 * m + 3) v' k := fun v' k => by
    unfold sF3
    rw [adv_at, f2_at, kv_at, h2]
    simp only [c2_at, rowF2, val_at, hv, hk]
    exact congrArg₂ (fun a b => I.St (4 * m + 2) v' k * Ideal.exp a + b) (hd 2 63 k) rfl
  refine ⟨h1, h2, h3, fun v' k => ?_⟩
  unfold sF4
  rw [adv_at, f3_at, kv_at, h3]
  simp only [c3_at, rowF3, val_at, hv, hk]
  exact congrArg₂ (fun a b => I.St (4 * m + 3) v' k * Ideal.exp a + b) (hd 3 63 k) rfl

include hg hlb htri hz hq hv hst in
/-- The forward block's output rows. -/
theorem blkF_at (c : Fin 4) (s : Fin 64) (k : Fin 128) :
    blkF (F := Ideal) lb tri z q v st (ix3 0 (rowF c s) k) = I.out (4 * m + c.val) s k := by
  have hs := sF_at I hg m lb tri z v st hlb hst htri hz hv
  have hi := intra_row I hg m rowF sum_rows lb tri z q v hlb htri hz hq hv c s k
  have hqd := qdec_row I hg m rowF sum_rows lb tri z q hlb htri hz hq
  have e : blkF (F := Ideal) lb tri z q v st (ix3 0 (rowF c s) k) = I.oi (4 * m + c.val) s k
      + cat (F := Ideal) (inter (c0 (qdec (dec lb tri z) q)) (drop st))
        (inter (c1 (qdec (dec lb tri z) q)) (sF1 (drop st) (dec lb tri z) (keF lb tri z) (val v)))
        (inter (c2 (qdec (dec lb tri z) q)) (sF2 (drop st) (dec lb tri z) (keF lb tri z) (val v)))
        (inter (c3 (qdec (dec lb tri z) q)) (sF3 (drop st) (dec lb tri z) (keF lb tri z) (val v))) (ix2 (rowF c s) k) := by
    rw [← hi]
    pointwise [blkF]
  rw [e]
  refine congrArg (_ + ·) ?_
  clear e hi
  obtain rfl | rfl | rfl | rfl : c = 0 ∨ c = 1 ∨ c = 2 ∨ c = 3 := by omega
  · rw [← rowF0, cat_at0, inter_at]
    simp only [c0_at, rowF0, hqd, drop_at, hst]
    rfl
  · rw [← rowF1, cat_at1, inter_at]
    simp only [c1_at, rowF1, hqd, hs.1]
    rfl
  · rw [← rowF2, cat_at2, inter_at]
    simp only [c2_at, rowF2, hqd, hs.2.1]
    rfl
  · rw [← rowF3, cat_at3, inter_at]
    simp only [c3_at, rowF3, hqd, hs.2.2.1]
    rfl

include hg hlb htri hz hv hst in
/-- The state it leaves. -/
theorem newF_at (v' k : Fin 128) : newF (F := Ideal) lb tri z v st (ix4 0 0 v' k) = I.St (4 * (m + 1)) v' k := by
  refine Eq.trans ?_ ((sF_at I hg m lb tri z v st hlb hst htri hz hv).2.2.2 v' k)
  pointwise [newF]

end fwd

section bwd

variable
  (htri : ∀ c s c' s', tri (ix3 0 (rowB c s) (rowB c' s')) = if c = c' ∧ s' ≤ s then 1 else 0)
  (hz : ∀ c s k, z (ix3 0 (rowB c s) k) = I.Z (64 * (4 * m + c.val) + s.val) k)
  (hq : ∀ c s k, q (ix3 0 (rowB c s) k) = I.Q (64 * (4 * m + c.val) + s.val) k)
  (hv : ∀ c s k, v (ix3 0 (rowB c s) k) = I.V (64 * (4 * m + c.val) + s.val) k)

theorem rowB0 (s : Fin 64) : (⟨s.val, by omega⟩ : Fin 256) = rowB 3 s.rev := Fin.ext (by
  show s.val = 255 - (64 * 3 + (64 - (s.val + 1))); omega)
theorem rowB1 (s : Fin 64) : (⟨64 + s.val, by omega⟩ : Fin 256) = rowB 2 s.rev := Fin.ext (by
  show 64 + s.val = 255 - (64 * 2 + (64 - (s.val + 1))); omega)
theorem rowB2 (s : Fin 64) : (⟨128 + s.val, by omega⟩ : Fin 256) = rowB 1 s.rev := Fin.ext (by
  show 128 + s.val = 255 - (64 * 1 + (64 - (s.val + 1))); omega)
theorem rowB3 (s : Fin 64) : (⟨192 + s.val, by omega⟩ : Fin 256) = rowB 0 s.rev := Fin.ext (by
  show 192 + s.val = 255 - (64 * 0 + (64 - (s.val + 1))); omega)
theorem rowB0' (s : Fin 64) : rowB 3 s = (⟨s.rev.val, by omega⟩ : Fin 256) := by rw [rowB0, Fin.rev_rev]
theorem rowB1' (s : Fin 64) : rowB 2 s = (⟨64 + s.rev.val, by omega⟩ : Fin 256) := by rw [rowB1, Fin.rev_rev]
theorem rowB2' (s : Fin 64) : rowB 1 s = (⟨128 + s.rev.val, by omega⟩ : Fin 256) := by rw [rowB2, Fin.rev_rev]
theorem rowB3' (s : Fin 64) : rowB 0 s = (⟨192 + s.rev.val, by omega⟩ : Fin 256) := by rw [rowB3, Fin.rev_rev]

include hg hlb htri hz in
theorem keB_row (c : Fin 4) (s : Fin 64) (k : Fin 128) :
    keB (F := Ideal) lb tri z (ix2 (rowB c s) k) = I.ke (4 * m + c.val) s k := by
  refine kend_row I hg m rowB sum_rows_rev lb tri z hlb htri hz _ c s k ?_
  obtain rfl | rfl | rfl | rfl : c = 0 ∨ c = 1 ∨ c = 2 ∨ c = 3 := by omega
  · rw [rowB3', rep_at3, b3_at]; rfl
  · rw [rowB2', rep_at2, b2_at]; rfl
  · rw [rowB1', rep_at1, b1_at]; rfl
  · rw [rowB0', rep_at0, b0_at]; rfl

/-- A chunk's sum does not mind the order. -/
theorem sum_rev (f : Fin 64 → EReal) : ∑ s : Fin 64, f s.rev = ∑ s : Fin 64, f s := Equiv.sum_comp Fin.revPerm f

include hg hlb htri hz hv hst in
theorem sB_at :
    (∀ v' k, sB1 (F := Ideal) (drop st) (dec lb tri z) (keB lb tri z) (val v) (ix2 v' k) = I.St (4 * m + 1) v' k) ∧
    (∀ v' k, sB2 (F := Ideal) (drop st) (dec lb tri z) (keB lb tri z) (val v) (ix2 v' k) = I.St (4 * m + 2) v' k) ∧
    (∀ v' k, sB3 (F := Ideal) (drop st) (dec lb tri z) (keB lb tri z) (val v) (ix2 v' k) = I.St (4 * m + 3) v' k) ∧
    (∀ v' k, sB4 (F := Ideal) (drop st) (dec lb tri z) (keB lb tri z) (val v) (ix2 v' k) = I.St (4 * m + 4) v' k) := by
  have hd := dec_row I hg m rowB sum_rows_rev lb tri z hlb htri hz
  have hk := keB_row I hg m lb tri z hlb htri hz
  have h1 : ∀ v' k, sB1 (F := Ideal) (drop st) (dec lb tri z) (keB lb tri z) (val v) (ix2 v' k) = I.St (4 * m + 1) v' k := fun v' k => by
    unfold sB1
    rw [adv_at, b3_at, kv_at, drop_at, hst]
    simp only [c3_at, rowB3, val_at, hv, hk]
    exact congrArg₂ (fun a b => I.St (4 * m) v' k * Ideal.exp a + b) (hd 0 63 k)
      (sum_rev fun s => I.V (64 * (4 * m) + s.val) v' * I.ke (4 * m) s k)
  have h2 : ∀ v' k, sB2 (F := Ideal) (drop st) (dec lb tri z) (keB lb tri z) (val v) (ix2 v' k) = I.St (4 * m + 2) v' k := fun v' k => by
    unfold sB2
    rw [adv_at, b2_at, kv_at, h1]
    simp only [c2_at, rowB2, val_at, hv, hk]
    exact congrArg₂ (fun a b => I.St (4 * m + 1) v' k * Ideal.exp a + b) (hd 1 63 k)
      (sum_rev fun s => I.V (64 * (4 * m + 1) + s.val) v' * I.ke (4 * m + 1) s k)
  have h3 : ∀ v' k, sB3 (F := Ideal) (drop st) (dec lb tri z) (keB lb tri z) (val v) (ix2 v' k) = I.St (4 * m + 3) v' k := fun v' k => by
    unfold sB3
    rw [adv_at, b1_at, kv_at, h2]
    simp only [c1_at, rowB1, val_at, hv, hk]
    exact congrArg₂ (fun a b => I.St (4 * m + 2) v' k * Ideal.exp a + b) (hd 2 63 k)
      (sum_rev fun s => I.V (64 * (4 * m + 2) + s.val) v' * I.ke (4 * m + 2) s k)
  refine ⟨h1, h2, h3, fun v' k => ?_⟩
  unfold sB4
  rw [adv_at, b0_at, kv_at, h3]
  simp only [c0_at, rowB0, val_at, hv, hk]
  exact congrArg₂ (fun a b => I.St (4 * m + 3) v' k * Ideal.exp a + b) (hd 3 63 k)
    (sum_rev fun s => I.V (64 * (4 * m + 3) + s.val) v' * I.ke (4 * m + 3) s k)

include hg hlb htri hz hq hv hst in
/-- The backward block's output rows. -/
theorem blkB_at (c : Fin 4) (s : Fin 64) (k : Fin 128) :
    blkB (F := Ideal) lb tri z q v st (ix3 0 (rowB c s) k) = I.out (4 * m + c.val) s k := by
  have hs := sB_at I hg m lb tri z v st hlb hst htri hz hv
  have hi := intra_row I hg m rowB sum_rows_rev lb tri z q v hlb htri hz hq hv c s k
  have hqd := qdec_row I hg m rowB sum_rows_rev lb tri z q hlb htri hz hq
  have e : blkB (F := Ideal) lb tri z q v st (ix3 0 (rowB c s) k) = I.oi (4 * m + c.val) s k
      + cat (F := Ideal) (inter (c0 (qdec (dec lb tri z) q)) (sB3 (drop st) (dec lb tri z) (keB lb tri z) (val v)))
        (inter (c1 (qdec (dec lb tri z) q)) (sB2 (drop st) (dec lb tri z) (keB lb tri z) (val v)))
        (inter (c2 (qdec (dec lb tri z) q)) (sB1 (drop st) (dec lb tri z) (keB lb tri z) (val v)))
        (inter (c3 (qdec (dec lb tri z) q)) (drop st)) (ix2 (rowB c s) k) := by
    rw [← hi]
    pointwise [blkB]
  rw [e]
  refine congrArg (_ + ·) ?_
  clear e hi
  obtain rfl | rfl | rfl | rfl : c = 0 ∨ c = 1 ∨ c = 2 ∨ c = 3 := by omega
  · rw [rowB3', cat_at3, inter_at]
    simp only [c3_at, rowB3, Fin.rev_rev, hqd, drop_at, hst]
    rfl
  · rw [rowB2', cat_at2, inter_at]
    simp only [c2_at, rowB2, Fin.rev_rev, hqd, hs.1]
    rfl
  · rw [rowB1', cat_at1, inter_at]
    simp only [c1_at, rowB1, Fin.rev_rev, hqd, hs.2.1]
    rfl
  · rw [rowB0', cat_at0, inter_at]
    simp only [c0_at, rowB0, Fin.rev_rev, hqd, hs.2.2.1]
    rfl

include hg hlb htri hz hv hst in
/-- The state it leaves. -/
theorem newB_at (v' k : Fin 128) : newB (F := Ideal) lb tri z v st (ix4 0 0 v' k) = I.St (4 * (m + 1)) v' k := by
  refine Eq.trans ?_ ((sB_at I hg m lb tri z v st hlb hst htri hz hv).2.2.2 v' k)
  pointwise [newB]

end bwd

end blocks

end Cert.KernelIdeal.Scan

end
-- ==== Proof.BlockRead.lean ====
/- A block's stores read back at an index: for every head the outputs and the states are the recurrence's, when its loads hold the
   recurrence's inputs and the state before the block. -/
module

public import proofs.«01_k».proof.Proof.Pieces
public import proofs.«01_k».proof.Proof.BlockSpec

@[expose] public section

noncomputable section

namespace Cert.KernelIdeal.Scan

open Cert.KernelIdeal Cert.KernelIdeal.Gen Idealize.ShloMosaic Cert.Scan

/-- Channel `k` of head `H` among a group's columns. -/
def col (H : Fin 4) (k : Fin 128) : Fin 512 := ⟨128 * H.val + k.val, by omega⟩

/-! ### One store or load at a head's index -/

theorem emb_col (H : Fin 4) (off : Fin 3 → ℕ) (hoff : off = ![0, 0, 128 * H.val]) (inb : ∀ a, off a + S1x256x128.size a ≤ S1x256x512.size a)
    (r : Fin 256) (k : Fin 128) :
    (Rect.unit (s := S1x256x512) off S1x256x128.size inb).idx (ix3 0 r k) = (ix3 0 r (col H k) : S1x256x512.Idx) := by
  subst hoff
  refine funext fun a => Fin.ext ((Rect.idx_unit_val _ _ _ _ _).trans ?_)
  match a with
  | ⟨0, _⟩ => rfl
  | ⟨1, _⟩ => show 0 + r.val = r.val; omega
  | ⟨2, _⟩ => rfl

theorem emb_head (d : Fin 2) (H : Fin 4) (off : Fin 4 → ℕ) (hoff : off = ![d.val, H.val, 0, 0])
    (inb : ∀ a, off a + S1x1x128x128.size a ≤ S2x4x128x128.size a) (v k : Fin 128) :
    (Rect.unit (s := S2x4x128x128) off S1x1x128x128.size inb).idx (ix4 0 0 v k) = (ix4 d H v k : S2x4x128x128.Idx) := by
  subst hoff
  refine funext fun a => Fin.ext ((Rect.idx_unit_val _ _ _ _ _).trans ?_)
  match a with
  | ⟨0, _⟩ => rfl
  | ⟨1, _⟩ => rfl
  | ⟨2, _⟩ => show 0 + v.val = v.val; omega
  | ⟨3, _⟩ => show 0 + k.val = k.val; omega

theorem hitX (H : Fin 4) (off : Fin 3 → ℕ) (hoff : off = ![0, 0, 128 * H.val]) (inb : ∀ a, off a + S1x256x128.size a ≤ S1x256x512.size a)
    (P : Vec Ideal S1x256x128 .f32) (L : List (View.Piece (Elt Ideal) S1x256x512 .f32)) (r : Fin 256) (k : Fin 128) :
    View.canon ((⟨Rect.unit (s := S1x256x512) off S1x256x128.size inb, P⟩ : View.Piece (Elt Ideal) S1x256x512 .f32) :: L) (ix3 0 r (col H k)) = P (ix3 0 r k) := by
  rw [← emb_col H off hoff inb r k]
  exact View.canon_cons_emb (Val := Elt Ideal) (Rect.unit (s := S1x256x512) off S1x256x128.size inb) P L _

theorem missX (H h : Fin 4) (hne : H ≠ h) (off : Fin 3 → ℕ) (hoff : off = ![0, 0, 128 * h.val])
    (inb : ∀ a, off a + S1x256x128.size a ≤ S1x256x512.size a)
    (P : Vec Ideal S1x256x128 .f32) (L : List (View.Piece (Elt Ideal) S1x256x512 .f32)) (r : Fin 256) (k : Fin 128) :
    View.canon ((⟨Rect.unit (s := S1x256x512) off S1x256x128.size inb, P⟩ : View.Piece (Elt Ideal) S1x256x512 .f32) :: L) (ix3 0 r (col H k))
      = View.canon L (ix3 0 r (col H k)) := by
  subst hoff
  refine View.canon_cons_of_not_mem _ _ fun hm => ?_
  rw [Rect.mem_set_unit] at hm
  have h2 : 128 * h.val ≤ 128 * H.val + k.val ∧ 128 * H.val + k.val < 128 * h.val + 128 := hm 2
  have : H.val ≠ h.val := fun e => hne (Fin.ext e)
  omega

theorem hitS (d : Fin 2) (H : Fin 4) (off : Fin 4 → ℕ) (hoff : off = ![d.val, H.val, 0, 0])
    (inb : ∀ a, off a + S1x1x128x128.size a ≤ S2x4x128x128.size a)
    (P : Vec Ideal S1x1x128x128 .f32) (L : List (View.Piece (Elt Ideal) S2x4x128x128 .f32)) (v k : Fin 128) :
    View.canon ((⟨Rect.unit (s := S2x4x128x128) off S1x1x128x128.size inb, P⟩ : View.Piece (Elt Ideal) S2x4x128x128 .f32) :: L) (ix4 d H v k) = P (ix4 0 0 v k) := by
  rw [← emb_head d H off hoff inb v k]
  exact View.canon_cons_emb (Val := Elt Ideal) (Rect.unit (s := S2x4x128x128) off S1x1x128x128.size inb) P L _

theorem missS (d : Fin 2) (H : Fin 4) (off : Fin 4 → ℕ) (inb : ∀ a, off a + S1x1x128x128.size a ≤ S2x4x128x128.size a)
    (P : Vec Ideal S1x1x128x128 .f32) (L : List (View.Piece (Elt Ideal) S2x4x128x128 .f32)) (v k : Fin 128)
    (hne : d.val ≠ off 0 ∨ H.val ≠ off 1) :
    View.canon ((⟨Rect.unit (s := S2x4x128x128) off S1x1x128x128.size inb, P⟩ : View.Piece (Elt Ideal) S2x4x128x128 .f32) :: L) (ix4 d H v k)
      = View.canon L (ix4 d H v k) := by
  refine View.canon_cons_of_not_mem _ _ fun hm => ?_
  rw [Rect.mem_set_unit] at hm
  have h0 : off 0 ≤ d.val ∧ d.val < off 0 + 1 := hm 0
  have h1 : off 1 ≤ H.val ∧ H.val < off 1 + 1 := hm 1
  omega

theorem ldL (H : Fin 4) (off : Fin 2 → ℕ) (hoff : off = ![0, 128 * H.val]) (inb : ∀ a, off a + S1x128.size a ≤ S1x512.size a)
    (X : Vec Ideal S1x512 .f32) (k : Fin 128) :
    View.ld (Val := Elt Ideal) (e' := .f32) X (Rect.unit (s := S1x512) off S1x128.size inb) (ix2 0 k) = X (ix2 0 (col H k)) := by
  subst hoff
  refine View.ld_unit_apply_of _ _ _ _ _ _ fun a => ?_
  match a with
  | ⟨0, _⟩ => rfl
  | ⟨1, _⟩ => rfl

theorem ldX (H : Fin 4) (off : Fin 3 → ℕ) (hoff : off = ![0, 0, 128 * H.val]) (inb : ∀ a, off a + S1x256x128.size a ≤ S1x256x512.size a)
    (X : Vec Ideal S1x256x512 .f32) (r : Fin 256) (k : Fin 128) :
    View.ld (Val := Elt Ideal) (e' := .f32) X (Rect.unit (s := S1x256x512) off S1x256x128.size inb) (ix3 0 r k) = X (ix3 0 r (col H k)) :=
  congrArg X (emb_col H off hoff inb r k)

theorem ldS (d : Fin 2) (H : Fin 4) (off : Fin 4 → ℕ) (hoff : off = ![d.val, H.val, 0, 0])
    (inb : ∀ a, off a + S1x1x128x128.size a ≤ S2x4x128x128.size a) (X : Vec Ideal S2x4x128x128 .f32) (v k : Fin 128) :
    View.ld (Val := Elt Ideal) (e' := .f32) X (Rect.unit (s := S2x4x128x128) off S1x1x128x128.size inb) (ix4 0 0 v k) = X (ix4 d H v k) :=
  congrArg X (emb_head d H off hoff inb v k)

theorem ldT (d : Fin 2) (off : Fin 3 → ℕ) (hoff : off = ![d.val, 0, 0]) (inb : ∀ a, off a + S1x256x256.size a ≤ S2x256x256.size a)
    (X : Vec Ideal S2x256x256 .bf16) (r r' : Fin 256) :
    View.ld (Val := Elt Ideal) (e' := .bf16) X (Rect.unit (s := S2x256x256) off S1x256x256.size inb) (ix3 0 r r') = X (ix3 d r r') := by
  subst hoff
  refine View.ld_unit_apply_of _ _ _ _ _ _ fun a => ?_
  match a with
  | ⟨0, _⟩ => rfl
  | ⟨1, _⟩ => show r.val = 0 + r.val; omega
  | ⟨2, _⟩ => show r'.val = 0 + r'.val; omega

/-! ### The block -/

/-- The loads of a block hold the inputs of four heads' recurrences: the rows in scan order `row`, the mask and the state
    of direction `d`, before block `m`. -/
structure Holds (d : Fin 2) (row : Fin 4 → Fin 64 → Fin 256) (I : Fin 4 → Inp) (m : ℕ) (lb : Vec Ideal S1x512 .f32) (tri : Vec Ideal S2x256x256 .bf16)
    (z q v : Vec Ideal S1x256x512 .f32) (st : Vec Ideal S2x4x128x128 .f32) : Prop where
  hg : ∀ H t k, (I H).gl t k ≠ ⊤
  hlb : ∀ H k, lb (ix2 0 (col H k)) = (I H).L k
  hst : ∀ H v k, st (ix4 d H v k) = (I H).St (4 * m) v k
  htri : ∀ c s c' s', tri (ix3 d (row c s) (row c' s')) = if c = c' ∧ s' ≤ s then 1 else 0
  hz : ∀ H c s k, z (ix3 0 (row c s) (col H k)) = (I H).Z (64 * (4 * m + c.val) + s.val) k
  hq : ∀ H c s k, q (ix3 0 (row c s) (col H k)) = (I H).Q (64 * (4 * m + c.val) + s.val) k
  hv : ∀ H c s k, v (ix3 0 (row c s) (col H k)) = (I H).V (64 * (4 * m + c.val) + s.val) k

section
variable {I : Fin 4 → Inp} {m : ℕ} {lb : Vec Ideal S1x512 .f32} {tri : Vec Ideal S2x256x256 .bf16}
    {z q v : Vec Ideal S1x256x512 .f32} {st : Vec Ideal S2x4x128x128 .f32}

theorem blkF_head (h : Holds 0 rowF I m lb tri z q v st) (H : Fin 4)
    (oL : Fin 2 → ℕ) (hL : oL = ![0, 128 * H.val]) (iL : ∀ a, oL a + S1x128.size a ≤ S1x512.size a)
    (oX : Fin 3 → ℕ) (hX : oX = ![0, 0, 128 * H.val]) (iX : ∀ a, oX a + S1x256x128.size a ≤ S1x256x512.size a)
    (oS : Fin 4 → ℕ) (hS : oS = ![0, H.val, 0, 0]) (iS : ∀ a, oS a + S1x1x128x128.size a ≤ S2x4x128x128.size a) (c : Fin 4) (s : Fin 64) (k : Fin 128) :
    blkF (F := Ideal) (View.ld (Val := Elt Ideal) (e' := .f32) lb (Rect.unit (s := S1x512) oL S1x128.size iL)) (View.ld (Val := Elt Ideal) (e' := .bf16) tri rT0) (View.ld (Val := Elt Ideal) (e' := .f32) z (Rect.unit (s := S1x256x512) oX S1x256x128.size iX)) (View.ld (Val := Elt Ideal) (e' := .f32) q (Rect.unit (s := S1x256x512) oX S1x256x128.size iX)) (View.ld (Val := Elt Ideal) (e' := .f32) v (Rect.unit (s := S1x256x512) oX S1x256x128.size iX)) (View.ld (Val := Elt Ideal) (e' := .f32) st (Rect.unit (s := S2x4x128x128) oS S1x1x128x128.size iS))
      (ix3 0 (rowF c s) k) = (I H).out (4 * m + c.val) s k :=
  blkF_at (I H) (h.hg H) m _ _ _ _ _ _ (fun k => (ldL H oL hL iL _ k).trans (h.hlb H k)) (fun v k => (ldS 0 H oS hS iS _ v k).trans (h.hst H v k))
    (fun c s c' s' => (ldT 0 _ rfl _ _ _ _).trans (h.htri c s c' s')) (fun c s k => (ldX H oX hX iX _ _ _).trans (h.hz H c s k)) (fun c s k => (ldX H oX hX iX _ _ _).trans (h.hq H c s k)) (fun c s k => (ldX H oX hX iX _ _ _).trans (h.hv H c s k)) c s k

theorem newF_head (h : Holds 0 rowF I m lb tri z q v st) (H : Fin 4)
    (oL : Fin 2 → ℕ) (hL : oL = ![0, 128 * H.val]) (iL : ∀ a, oL a + S1x128.size a ≤ S1x512.size a)
    (oX : Fin 3 → ℕ) (hX : oX = ![0, 0, 128 * H.val]) (iX : ∀ a, oX a + S1x256x128.size a ≤ S1x256x512.size a)
    (oS : Fin 4 → ℕ) (hS : oS = ![0, H.val, 0, 0]) (iS : ∀ a, oS a + S1x1x128x128.size a ≤ S2x4x128x128.size a) (v' k : Fin 128) :
    newF (F := Ideal) (View.ld (Val := Elt Ideal) (e' := .f32) lb (Rect.unit (s := S1x512) oL S1x128.size iL)) (View.ld (Val := Elt Ideal) (e' := .bf16) tri rT0) (View.ld (Val := Elt Ideal) (e' := .f32) z (Rect.unit (s := S1x256x512) oX S1x256x128.size iX)) (View.ld (Val := Elt Ideal) (e' := .f32) v (Rect.unit (s := S1x256x512) oX S1x256x128.size iX)) (View.ld (Val := Elt Ideal) (e' := .f32) st (Rect.unit (s := S2x4x128x128) oS S1x1x128x128.size iS))
      (ix4 0 0 v' k) = (I H).St (4 * (m + 1)) v' k :=
  newF_at (I H) (h.hg H) m _ _ _ _ _ (fun k => (ldL H oL hL iL _ k).trans (h.hlb H k)) (fun v k => (ldS 0 H oS hS iS _ v k).trans (h.hst H v k))
    (fun c s c' s' => (ldT 0 _ rfl _ _ _ _).trans (h.htri c s c' s')) (fun c s k => (ldX H oX hX iX _ _ _).trans (h.hz H c s k)) (fun c s k => (ldX H oX hX iX _ _ _).trans (h.hv H c s k)) v' k

/-- The output columns of a block. -/
theorem pcF_at (h : Holds 0 rowF I m lb tri z q v st) (H : Fin 4) (c : Fin 4) (s : Fin 64) (k : Fin 128) :
    View.canon (pcF (F := Ideal) lb tri z q v st) (ix3 0 (rowF c s) (col H k)) = (I H).out (4 * m + c.val) s k := by
  unfold pcF
  obtain rfl | rfl | rfl | rfl : H = 0 ∨ H = 1 ∨ H = 2 ∨ H = 3 := by omega
  · exact (missX 0 3 (by decide) _ rfl _ _ _ _ _).trans <| (missX 0 2 (by decide) _ rfl _ _ _ _ _).trans <| (missX 0 1 (by decide) _ rfl _ _ _ _ _).trans <| (hitX 0 _ rfl _ _ _ _ _).trans (blkF_head h 0 _ rfl _ _ rfl _ _ rfl _ c s k)
  · exact (missX 1 3 (by decide) _ rfl _ _ _ _ _).trans <| (missX 1 2 (by decide) _ rfl _ _ _ _ _).trans <| (hitX 1 _ rfl _ _ _ _ _).trans (blkF_head h 1 _ rfl _ _ rfl _ _ rfl _ c s k)
  · exact (missX 2 3 (by decide) _ rfl _ _ _ _ _).trans <| (hitX 2 _ rfl _ _ _ _ _).trans (blkF_head h 2 _ rfl _ _ rfl _ _ rfl _ c s k)
  · exact (hitX 3 _ rfl _ _ _ _ _).trans (blkF_head h 3 _ rfl _ _ rfl _ _ rfl _ c s k)

theorem blkB_head (h : Holds 1 rowB I m lb tri z q v st) (H : Fin 4)
    (oL : Fin 2 → ℕ) (hL : oL = ![0, 128 * H.val]) (iL : ∀ a, oL a + S1x128.size a ≤ S1x512.size a)
    (oX : Fin 3 → ℕ) (hX : oX = ![0, 0, 128 * H.val]) (iX : ∀ a, oX a + S1x256x128.size a ≤ S1x256x512.size a)
    (oS : Fin 4 → ℕ) (hS : oS = ![1, H.val, 0, 0]) (iS : ∀ a, oS a + S1x1x128x128.size a ≤ S2x4x128x128.size a) (c : Fin 4) (s : Fin 64) (k : Fin 128) :
    blkB (F := Ideal) (View.ld (Val := Elt Ideal) (e' := .f32) lb (Rect.unit (s := S1x512) oL S1x128.size iL)) (View.ld (Val := Elt Ideal) (e' := .bf16) tri rT1) (View.ld (Val := Elt Ideal) (e' := .f32) z (Rect.unit (s := S1x256x512) oX S1x256x128.size iX)) (View.ld (Val := Elt Ideal) (e' := .f32) q (Rect.unit (s := S1x256x512) oX S1x256x128.size iX)) (View.ld (Val := Elt Ideal) (e' := .f32) v (Rect.unit (s := S1x256x512) oX S1x256x128.size iX)) (View.ld (Val := Elt Ideal) (e' := .f32) st (Rect.unit (s := S2x4x128x128) oS S1x1x128x128.size iS))
      (ix3 0 (rowB c s) k) = (I H).out (4 * m + c.val) s k :=
  blkB_at (I H) (h.hg H) m _ _ _ _ _ _ (fun k => (ldL H oL hL iL _ k).trans (h.hlb H k)) (fun v k => (ldS 1 H oS hS iS _ v k).trans (h.hst H v k))
    (fun c s c' s' => (ldT 1 _ rfl _ _ _ _).trans (h.htri c s c' s')) (fun c s k => (ldX H oX hX iX _ _ _).trans (h.hz H c s k)) (fun c s k => (ldX H oX hX iX _ _ _).trans (h.hq H c s k)) (fun c s k => (ldX H oX hX iX _ _ _).trans (h.hv H c s k)) c s k

theorem newB_head (h : Holds 1 rowB I m lb tri z q v st) (H : Fin 4)
    (oL : Fin 2 → ℕ) (hL : oL = ![0, 128 * H.val]) (iL : ∀ a, oL a + S1x128.size a ≤ S1x512.size a)
    (oX : Fin 3 → ℕ) (hX : oX = ![0, 0, 128 * H.val]) (iX : ∀ a, oX a + S1x256x128.size a ≤ S1x256x512.size a)
    (oS : Fin 4 → ℕ) (hS : oS = ![1, H.val, 0, 0]) (iS : ∀ a, oS a + S1x1x128x128.size a ≤ S2x4x128x128.size a) (v' k : Fin 128) :
    newB (F := Ideal) (View.ld (Val := Elt Ideal) (e' := .f32) lb (Rect.unit (s := S1x512) oL S1x128.size iL)) (View.ld (Val := Elt Ideal) (e' := .bf16) tri rT1) (View.ld (Val := Elt Ideal) (e' := .f32) z (Rect.unit (s := S1x256x512) oX S1x256x128.size iX)) (View.ld (Val := Elt Ideal) (e' := .f32) v (Rect.unit (s := S1x256x512) oX S1x256x128.size iX)) (View.ld (Val := Elt Ideal) (e' := .f32) st (Rect.unit (s := S2x4x128x128) oS S1x1x128x128.size iS))
      (ix4 0 0 v' k) = (I H).St (4 * (m + 1)) v' k :=
  newB_at (I H) (h.hg H) m _ _ _ _ _ (fun k => (ldL H oL hL iL _ k).trans (h.hlb H k)) (fun v k => (ldS 1 H oS hS iS _ v k).trans (h.hst H v k))
    (fun c s c' s' => (ldT 1 _ rfl _ _ _ _).trans (h.htri c s c' s')) (fun c s k => (ldX H oX hX iX _ _ _).trans (h.hz H c s k)) (fun c s k => (ldX H oX hX iX _ _ _).trans (h.hv H c s k)) v' k

/-- The output columns of a block. -/
theorem pcB_at (h : Holds 1 rowB I m lb tri z q v st) (H : Fin 4) (c : Fin 4) (s : Fin 64) (k : Fin 128) :
    View.canon (pcB (F := Ideal) lb tri z q v st) (ix3 0 (rowB c s) (col H k)) = (I H).out (4 * m + c.val) s k := by
  unfold pcB
  obtain rfl | rfl | rfl | rfl : H = 0 ∨ H = 1 ∨ H = 2 ∨ H = 3 := by omega
  · exact (missX 0 3 (by decide) _ rfl _ _ _ _ _).trans <| (missX 0 2 (by decide) _ rfl _ _ _ _ _).trans <| (missX 0 1 (by decide) _ rfl _ _ _ _ _).trans <| (hitX 0 _ rfl _ _ _ _ _).trans (blkB_head h 0 _ rfl _ _ rfl _ _ rfl _ c s k)
  · exact (missX 1 3 (by decide) _ rfl _ _ _ _ _).trans <| (missX 1 2 (by decide) _ rfl _ _ _ _ _).trans <| (hitX 1 _ rfl _ _ _ _ _).trans (blkB_head h 1 _ rfl _ _ rfl _ _ rfl _ c s k)
  · exact (missX 2 3 (by decide) _ rfl _ _ _ _ _).trans <| (hitX 2 _ rfl _ _ _ _ _).trans (blkB_head h 2 _ rfl _ _ rfl _ _ rfl _ c s k)
  · exact (hitX 3 _ rfl _ _ _ _ _).trans (blkB_head h 3 _ rfl _ _ rfl _ _ rfl _ c s k)

end

/-- The states a block leaves, whatever was stored before. -/
theorem pcS_at {I J : Fin 4 → Inp} {m : ℕ} {lb : Vec Ideal S1x512 .f32} {tri : Vec Ideal S2x256x256 .bf16}
    {zf qf vf zb qb vb : Vec Ideal S1x256x512 .f32} {st : Vec Ideal S2x4x128x128 .f32}
    (hF : Holds 0 rowF I m lb tri zf qf vf st) (hB : Holds 1 rowB J m lb tri zb qb vb st)
    (L : List (View.Piece (Elt Ideal) S2x4x128x128 .f32)) (H : Fin 4) (v' k : Fin 128) :
    View.canon (pcS (F := Ideal) lb tri zf vf zb vb st ++ L) (ix4 0 H v' k) = (I H).St (4 * (m + 1)) v' k ∧
    View.canon (pcS (F := Ideal) lb tri zf vf zb vb st ++ L) (ix4 1 H v' k) = (J H).St (4 * (m + 1)) v' k := by
  unfold pcS
  simp only [List.cons_append, List.nil_append]
  obtain rfl | rfl | rfl | rfl : H = 0 ∨ H = 1 ∨ H = 2 ∨ H = 3 := by omega
  · exact ⟨(missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (hitS 0 0 _ rfl _ _ _ _ _).trans (newF_head hF 0 _ rfl _ _ rfl _ _ rfl _ v' k),
      (missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (hitS 1 0 _ rfl _ _ _ _ _).trans (newB_head hB 0 _ rfl _ _ rfl _ _ rfl _ v' k)⟩
  · exact ⟨(missS _ _ _ _ _ _ _ _ (by decide)).trans <| (missS _ _ _ _ _ _ _ _ (by decide)).trans <| (missS _ _ _ _ _ _ _ _ (by decide)).trans <| (missS _ _ _ _ _ _ _ _ (by decide)).trans <| (missS _ _ _ _ _ _ _ _ (by decide)).trans <| (hitS 0 1 _ rfl _ _ _ _ _).trans (newF_head hF 1 _ rfl _ _ rfl _ _ rfl _ v' k),
      (missS _ _ _ _ _ _ _ _ (by decide)).trans <| (missS _ _ _ _ _ _ _ _ (by decide)).trans <| (missS _ _ _ _ _ _ _ _ (by decide)).trans <| (missS _ _ _ _ _ _ _ _ (by decide)).trans <| (hitS 1 1 _ rfl _ _ _ _ _).trans (newB_head hB 1 _ rfl _ _ rfl _ _ rfl _ v' k)⟩
  · exact ⟨(missS _ _ _ _ _ _ _ _ (by decide)).trans <| (missS _ _ _ _ _ _ _ _ (by decide)).trans <| (missS _ _ _ _ _ _ _ _ (by decide)).trans <| (hitS 0 2 _ rfl _ _ _ _ _).trans (newF_head hF 2 _ rfl _ _ rfl _ _ rfl _ v' k),
      (missS _ _ _ _ _ _ _ _ (by decide)).trans <| (missS _ _ _ _ _ _ _ _ (by decide)).trans <| (hitS 1 2 _ rfl _ _ _ _ _).trans (newB_head hB 2 _ rfl _ _ rfl _ _ rfl _ v' k)⟩
  · exact ⟨(missS _ _ _ _ _ _ _ _ (by decide)).trans <| (hitS 0 3 _ rfl _ _ _ _ _).trans (newF_head hF 3 _ rfl _ _ rfl _ _ rfl _ v' k),
      (hitS 1 3 _ rfl _ _ _ _ _).trans (newB_head hB 3 _ rfl _ _ rfl _ _ rfl _ v' k)⟩

end Cert.KernelIdeal.Scan

end
-- ==== Proof.Inputs.lean ====
/- The recurrences the layer runs, one for each direction, batch and head, from the three arguments: the projections, the lower-bound
   logits and the states. The backward recurrence meets the steps in reverse order. -/
module

public import proofs.«01_k».proof.Proof.Bound
public import proofs.«01_k».proof.Proof.Spec

@[expose] public section

noncomputable section

namespace Cert.Scan

open Cert.KernelIdeal Cert.KernelIdeal.Gen Idealize.ShloMosaic

/-- The position in the sequence of step `t` of direction `d`. -/
def tm (d : Fin 2) (t : ℕ) : Fin 16384 := if d = 0 then ⟨t % 16384, Nat.mod_lt _ (by decide)⟩ else ⟨16383 - t % 16384, by omega⟩

/-- Channel `k` of head `H` in part `o` of the projections. -/
def cl (o : Fin 5) (H : Fin 8) (k : Fin 128) : Fin 5120 := ⟨1024 * o.val + 128 * H.val + k.val, by omega⟩

/-- Channel `k` of head `H`. -/
def ch (H : Fin 8) (k : Fin 128) : Fin 1024 := ⟨128 * H.val + k.val, by omega⟩

/-- The inputs of direction `d`'s recurrence at batch `b` and head `H`. -/
def inp (x0 : Vec Ideal S2x16384x5120 .f32) (x1 : Vec Ideal S4x1024 .f32) (x2 : Vec Ideal S2x2x8x128x128 .f32)
    (d b : Fin 2) (H : Fin 8) : Inp where
  Z t k := x0 (ix3 b (tm d t) (cl ⟨3 + d.val, by omega⟩ H k))
  Q t k := x0 (ix3 b (tm d t) (cl 0 H k))
  V t k := x0 (ix3 b (tm d t) (cl 1 H k))
  L k := lbT x1 (ix1 (ch H k))
  S0 v k := x2 (ix5 b d H v k)

theorem inp_gl (x0 : Vec Ideal S2x16384x5120 .f32) (x1 : Vec Ideal S4x1024 .f32) (x2 : Vec Ideal S2x2x8x128x128 .f32)
    (d b : Fin 2) (H : Fin 8) (t : ℕ) (k : Fin 128) : (inp x0 x1 x2 d b H).gl t k ≠ ⊤ :=
  Inp.gl_ne_top _ (fun k => lb_ne_top x1 (ch H k)) t k

/-! ### The layer's three results -/

section Results
variable (x0 : Vec Ideal S2x16384x5120 .f32) (x1 : Vec Ideal S4x1024 .f32) (x2 : Vec Ideal S2x2x8x128x128 .f32)

/-- The head and its channel of channel `n`. -/
def hOf (n : Fin 1024) : Fin 8 := ⟨n.val / 128, by omega⟩
def kOf (n : Fin 1024) : Fin 128 := ⟨n.val % 128, by omega⟩
/-- The step of a chunk of step `t`. -/
def sOf (t : ℕ) : Fin 64 := ⟨t % 64, by omega⟩

/-- The outputs of direction `d`: at batch `b`, position `u` and channel `n`. -/
def outAt (d b : Fin 2) (u : Fin 16384) (n : Fin 1024) : EReal :=
  (inp x0 x1 x2 d b (hOf n)).out ((tm d u.val).val / 64) (sOf (tm d u.val).val) (kOf n)

/-- As an array. -/
def outA (d : Fin 2) : Vec Ideal S2x16384x1024 .f32 := fun j => outAt x0 x1 x2 d (j 0) (j 1) (j 2)

/-- The last states. -/
def lastA : Vec Ideal S2x2x8x128x128 .f32 := fun j => (inp x0 x1 x2 (j 1) (j 0) (j 2)).St 256 (j 3) (j 4)

theorem outA_at (d b : Fin 2) (H : Fin 8) (n : ℕ) (s : Fin 64) (k : Fin 128) (u : Fin 16384) (N : Fin 1024) (j : S2x16384x1024.Idx)
    (hn : n < 256) (hu : u = tm d (64 * n + s.val)) (hN : N = ch H k) (hj : j = ix3 b u N) :
    outA x0 x1 x2 d j = (inp x0 x1 x2 d b H).out n s k := by
  subst hj
  show (inp x0 x1 x2 d b (hOf N)).out ((tm d u.val).val / 64) (sOf (tm d u.val).val) (kOf N) = _
  have e1 : hOf N = H := Fin.ext (by subst hN; show (128 * H.val + k.val) / 128 = H.val; omega)
  have e2 : kOf N = k := Fin.ext (by subst hN; show (128 * H.val + k.val) % 128 = k.val; omega)
  have e3 : (tm d u.val).val = 64 * n + s.val := by
    subst hu
    obtain rfl | rfl : d = 0 ∨ d = 1 := by omega
    · show (64 * n + s.val) % 16384 % 16384 = _
      omega
    · show 16383 - (16383 - (64 * n + s.val) % 16384) % 16384 = _
      omega
  have e4 : (64 * n + s.val) / 64 = n := by omega
  have e5 : sOf (64 * n + s.val) = s := Fin.ext (show (64 * n + s.val) % 64 = s.val by omega)
  rw [e1, e2, e3, e4, e5]

end Results

end Cert.Scan

end
-- ==== Proof.Blocks.lean ====
/- The blocks the pipeline hands each grid point, read at an index of the arguments and of the host's arrays, and from them: at every
   point the loads hold the inputs of the four heads' recurrences, and the carried state is theirs (by induction on the point). -/
module

public import proofs.«01_k».proof.Proof.KernelHost
public import proofs.«01_k».proof.Proof.BlockRead
public import proofs.«01_k».proof.Proof.Inputs

@[expose] public section

noncomputable section

namespace Cert.KernelIdeal.Scan

open Cert.KernelIdeal Cert.KernelIdeal.Gen Idealize.ShloMosaic Idealize.ShloMosaic.TcCoe Cert.Scan

/-! ### Where each window's block lies -/

theorem ix_0 : ∀ t : Fin cfg0.N, win0_0.index t 0 = t.val / 128 ∧ win0_0.index t 1 = t.val % 64 ∧ win0_0.index t 2 = t.val / 64 % 2 := by
  decide +kernel
theorem ix_1 : ∀ t : Fin cfg0.N, win0_1.index t 0 = t.val / 128 ∧ win0_1.index t 1 = t.val % 64 ∧ win0_1.index t 2 = 2 + t.val / 64 % 2 := by
  decide +kernel
theorem ix_2 : ∀ t : Fin cfg0.N, win0_2.index t 0 = t.val / 128 ∧ win0_2.index t 1 = t.val % 64 ∧ win0_2.index t 2 = 6 + t.val / 64 % 2 := by
  decide +kernel
theorem ix_3 : ∀ t : Fin cfg0.N, win0_3.index t 0 = t.val / 128 ∧ win0_3.index t 1 = 63 - t.val % 64 ∧ win0_3.index t 2 = t.val / 64 % 2 := by
  decide +kernel
theorem ix_4 : ∀ t : Fin cfg0.N, win0_4.index t 0 = t.val / 128 ∧ win0_4.index t 1 = 63 - t.val % 64 ∧ win0_4.index t 2 = 2 + t.val / 64 % 2 := by
  decide +kernel
theorem ix_5 : ∀ t : Fin cfg0.N, win0_5.index t 0 = t.val / 128 ∧ win0_5.index t 1 = 63 - t.val % 64 ∧ win0_5.index t 2 = 8 + t.val / 64 % 2 := by
  decide +kernel
theorem ix_9 : ∀ t : Fin cfg0.N, win0_9.index t 0 = t.val / 128 ∧ win0_9.index t 1 = t.val % 64 ∧ win0_9.index t 2 = t.val / 64 % 2 := by
  decide +kernel
theorem ix_10 : ∀ t : Fin cfg0.N, win0_10.index t 0 = t.val / 128 ∧ win0_10.index t 1 = 63 - t.val % 64 ∧ win0_10.index t 2 = t.val / 64 % 2 := by
  decide +kernel
theorem ix_6 : ∀ t : Fin cfg0.N, win0_6.index t 0 = 0 ∧ win0_6.index t 1 = t.val / 64 % 2 := by
  decide +kernel
theorem ix_7 : ∀ t : Fin cfg0.N, win0_7.index t 0 = 0 ∧ win0_7.index t 1 = 0 ∧ win0_7.index t 2 = 0 := by
  decide +kernel
theorem ix_8 : ∀ t : Fin cfg0.N, win0_8.index t 0 = t.val / 128 ∧ win0_8.index t 1 = 0 ∧ win0_8.index t 2 = t.val / 64 % 2
    ∧ win0_8.index t 3 = 0 ∧ win0_8.index t 4 = 0 := by
  decide +kernel
theorem ix_11 : ∀ t : Fin cfg0.N, win0_11.index t 0 = t.val / 128 ∧ win0_11.index t 1 = 0 ∧ win0_11.index t 2 = t.val / 64 % 2
    ∧ win0_11.index t 3 = 0 ∧ win0_11.index t 4 = 0 := by
  decide +kernel

/-! ### The blocks at an index -/

section Read
variable (m : (ℓ : Loc nD τ sig) → Buf (Elt Ideal) ℓ) (c : Dev nD) (t : Fin cfg0.N)

/-- The three arguments. -/
abbrev x0 : Vec Ideal S2x16384x5120 .f32 := m (c.tc.loc main_arg0)
abbrev x1 : Vec Ideal S4x1024 .f32 := m (c.tc.loc main_arg1)
abbrev x2 : Vec Ideal S2x2x8x128x128 .f32 := m (c.tc.loc main_arg2)

/-- The batch of point `t`, and head `H` of its group. -/
def bt : Fin 2 := ⟨t.val / 128, by have := lt_of_lt_of_eq t.isLt Gen.N_0; omega⟩
def hd (H : Fin 4) : Fin 8 := ⟨4 * (t.val / 64 % 2) + H.val, by omega⟩

theorem blk_0 (r : Fin 256) (n : Fin 512) (R : Fin 16384) (N : Fin 5120) (hR : R.val = 256 * (t.val % 64) + r.val)
    (hN : N.val = 512 * (t.val / 64 % 2) + n.val) : (iblk m c 0 t : Vec Ideal S1x256x512 .f32) (ix3 0 r n) = x0 m c (ix3 (bt t) R N) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 128; rw [hi.1]; omega
  | ⟨1, _⟩ => show win0_0.index t 1 * 256 + 1 * r.val = R.val; rw [hi.2.1, hR]; omega
  | ⟨2, _⟩ => show win0_0.index t 2 * 512 + 1 * n.val = N.val; rw [hi.2.2, hN]; omega

theorem blk_1 (r : Fin 256) (n : Fin 512) (R : Fin 16384) (N : Fin 5120) (hR : R.val = 256 * (t.val % 64) + r.val)
    (hN : N.val = 512 * (2 + t.val / 64 % 2) + n.val) : (iblk m c 1 t : Vec Ideal S1x256x512 .f32) (ix3 0 r n) = x0 m c (ix3 (bt t) R N) := by
  have hi := ix_1 t
  unfold iblk
  rw [View.read_apply]
  show V m c main_arg0 _ = m (c.tc.loc main_arg0) _
  rw [V_main_arg0]
  congr 1
  funext a
  apply Fin.ext
  match a with
  | ⟨0, _⟩ => show win0_1.index t 0 * 1 + 1 * 0 = t.val / 128; rw [hi.1]; omega
  | ⟨1, _⟩ => show win0_1.index t 1 * 256 + 1 * r.val = R.val; rw [hi.2.1, hR]; omega
  | ⟨2, _⟩ => show win0_1.index t 2 * 512 + 1 * n.val = N.val; rw [hi.2.2, hN]; omega

theorem blk_2 (r : Fin 256) (n : Fin 512) (R : Fin 16384) (N : Fin 5120) (hR : R.val = 256 * (t.val % 64) + r.val)
    (hN : N.val = 512 * (6 + t.val / 64 % 2) + n.val) : (iblk m c 2 t : Vec Ideal S1x256x512 .f32) (ix3 0 r n) = x0 m c (ix3 (bt t) R N) := by
  have hi := ix_2 t
  unfold iblk
  rw [View.read_apply]
  show V m c main_arg0 _ = m (c.tc.loc main_arg0) _
  rw [V_main_arg0]
  congr 1
  funext a
  apply Fin.ext
  match a with
  | ⟨0, _⟩ => show win0_2.index t 0 * 1 + 1 * 0 = t.val / 128; rw [hi.1]; omega
  | ⟨1, _⟩ => show win0_2.index t 1 * 256 + 1 * r.val = R.val; rw [hi.2.1, hR]; omega
  | ⟨2, _⟩ => show win0_2.index t 2 * 512 + 1 * n.val = N.val; rw [hi.2.2, hN]; omega

theorem blk_3 (r : Fin 256) (n : Fin 512) (R : Fin 16384) (N : Fin 5120) (hR : R.val = 256 * (63 - t.val % 64) + r.val)
    (hN : N.val = 512 * (t.val / 64 % 2) + n.val) : (iblk m c 3 t : Vec Ideal S1x256x512 .f32) (ix3 0 r n) = x0 m c (ix3 (bt t) R N) := by
  have hi := ix_3 t
  unfold iblk
  rw [View.read_apply]
  show V m c main_arg0 _ = m (c.tc.loc main_arg0) _
  rw [V_main_arg0]
  congr 1
  funext a
  apply Fin.ext
  match a with
  | ⟨0, _⟩ => show win0_3.index t 0 * 1 + 1 * 0 = t.val / 128; rw [hi.1]; omega
  | ⟨1, _⟩ => show win0_3.index t 1 * 256 + 1 * r.val = R.val; rw [hi.2.1, hR]; omega
  | ⟨2, _⟩ => show win0_3.index t 2 * 512 + 1 * n.val = N.val; rw [hi.2.2, hN]; omega

theorem blk_4 (r : Fin 256) (n : Fin 512) (R : Fin 16384) (N : Fin 5120) (hR : R.val = 256 * (63 - t.val % 64) + r.val)
    (hN : N.val = 512 * (2 + t.val / 64 % 2) + n.val) : (iblk m c 4 t : Vec Ideal S1x256x512 .f32) (ix3 0 r n) = x0 m c (ix3 (bt t) R N) := by
  have hi := ix_4 t
  unfold iblk
  rw [View.read_apply]
  show V m c main_arg0 _ = m (c.tc.loc main_arg0) _
  rw [V_main_arg0]
  congr 1
  funext a
  apply Fin.ext
  match a with
  | ⟨0, _⟩ => show win0_4.index t 0 * 1 + 1 * 0 = t.val / 128; rw [hi.1]; omega
  | ⟨1, _⟩ => show win0_4.index t 1 * 256 + 1 * r.val = R.val; rw [hi.2.1, hR]; omega
  | ⟨2, _⟩ => show win0_4.index t 2 * 512 + 1 * n.val = N.val; rw [hi.2.2, hN]; omega

theorem blk_5 (r : Fin 256) (n : Fin 512) (R : Fin 16384) (N : Fin 5120) (hR : R.val = 256 * (63 - t.val % 64) + r.val)
    (hN : N.val = 512 * (8 + t.val / 64 % 2) + n.val) : (iblk m c 5 t : Vec Ideal S1x256x512 .f32) (ix3 0 r n) = x0 m c (ix3 (bt t) R N) := by
  have hi := ix_5 t
  unfold iblk
  rw [View.read_apply]
  show V m c main_arg0 _ = m (c.tc.loc main_arg0) _
  rw [V_main_arg0]
  congr 1
  funext a
  apply Fin.ext
  match a with
  | ⟨0, _⟩ => show win0_5.index t 0 * 1 + 1 * 0 = t.val / 128; rw [hi.1]; omega
  | ⟨1, _⟩ => show win0_5.index t 1 * 256 + 1 * r.val = R.val; rw [hi.2.1, hR]; omega
  | ⟨2, _⟩ => show win0_5.index t 2 * 512 + 1 * n.val = N.val; rw [hi.2.2, hN]; omega

theorem blk_6 (n : Fin 512) (N : Fin 1024) (hN : N.val = 512 * (t.val / 64 % 2) + n.val) :
    (iblk m c 6 t : Vec Ideal S1x512 .f32) (ix2 0 n) = lbT (x1 m c) (ix1 N) := by
  have hi := ix_6 t
  rw [← V44_at m c N]
  unfold iblk
  rw [View.read_apply]
  show V m c main_v44 _ = V m c main_v44 _
  congr 1
  funext a
  apply Fin.ext
  match a with
  | ⟨0, _⟩ => show win0_6.index t 0 * 1 + 1 * 0 = 0; rw [hi.1]
  | ⟨1, _⟩ => show win0_6.index t 1 * 512 + 1 * n.val = N.val; rw [hi.2, hN]; omega

theorem blk_7 (d : Fin 2) (a b : Fin 256) :
    (iblk m c 7 t : Vec Ideal S2x256x256 .bf16) (ix3 d a b) = (V m c main_v43 : Vec Ideal S2x256x256 .bf16) (ix3 d a b) := by
  have hi := ix_7 t
  unfold iblk
  rw [View.read_apply]
  show V m c main_v43 _ = V m c main_v43 _
  congr 1
  funext q
  apply Fin.ext
  match q with
  | ⟨0, _⟩ => show win0_7.index t 0 * 2 + 1 * d.val = d.val; rw [hi.1]; omega
  | ⟨1, _⟩ => show win0_7.index t 1 * 256 + 1 * a.val = a.val; rw [hi.2.1]; omega
  | ⟨2, _⟩ => show win0_7.index t 2 * 256 + 1 * b.val = b.val; rw [hi.2.2]; omega

theorem blk_8 (d : Fin 2) (H : Fin 4) (v k : Fin 128) :
    (iblk m c 8 t : Vec Ideal S1x2x4x128x128 .f32) (ix5 0 d H v k) = x2 m c (ix5 (bt t) d (hd t H) v k) := by
  have hi := ix_8 t
  unfold iblk
  rw [View.read_apply]
  show V m c main_arg2 _ = m (c.tc.loc main_arg2) _
  rw [V_main_arg2]
  congr 1
  funext a
  apply Fin.ext
  match a with
  | ⟨0, _⟩ => show win0_8.index t 0 * 1 + 1 * 0 = t.val / 128; rw [hi.1]; omega
  | ⟨1, _⟩ => show win0_8.index t 1 * 2 + 1 * d.val = d.val; rw [hi.2.1]; omega
  | ⟨2, _⟩ => show win0_8.index t 2 * 4 + 1 * H.val = 4 * (t.val / 64 % 2) + H.val; rw [hi.2.2.1]; omega
  | ⟨3, _⟩ => show win0_8.index t 3 * 128 + 1 * v.val = v.val; rw [hi.2.2.2.1]; omega
  | ⟨4, _⟩ => show win0_8.index t 4 * 128 + 1 * k.val = k.val; rw [hi.2.2.2.2]; omega

/-! ### The recurrences at a point -/

/-- Head `H`'s recurrence of direction `d` at point `t`. -/
def rec (d : Fin 2) (H : Fin 4) : Inp := inp (x0 m c) (x1 m c) (x2 m c) d (bt t) (hd t H)

theorem tri_0 (q s q' s' : ℕ) (hs : s < 64) (hs' : s' < 64) :
    ((64 * q + s) / 64 = (64 * q' + s') / 64 ∧ 64 * q' + s' ≤ 64 * q + s) ↔ (q = q' ∧ s' ≤ s) := by
  omega

theorem tri_1 (q s q' s' : ℕ) (hs : s < 64) (hs' : s' < 64) (hq : q < 4) (hq' : q' < 4) :
    ((255 - (64 * q + s)) / 64 = (255 - (64 * q' + s')) / 64 ∧ 255 - (64 * q + s) ≤ 255 - (64 * q' + s')) ↔ (q = q' ∧ s' ≤ s) := by
  omega

theorem holdsF (hst : ∀ H v k, pre m c t (ix4 0 H v k) = (rec m c t 0 H).St (4 * (t.val % 64)) v k) :
    Holds 0 rowF (rec m c t 0) (t.val % 64) (iblk m c 6 t) (iblk m c 7 t) (iblk m c 2 t) (iblk m c 0 t) (iblk m c 1 t) (pre m c t) where
  hg H u k := inp_gl _ _ _ _ _ _ u k
  hlb H k := blk_6 m c t (col H k) (ch (hd t H) k) (by
    show 128 * (4 * (t.val / 64 % 2) + H.val) + k.val = 512 * (t.val / 64 % 2) + (128 * H.val + k.val)
    omega)
  hst := hst
  htri q s q' s' := by
    rw [blk_7, V43_at0]
    exact if_congr (tri_0 q.val s.val q'.val s'.val s.isLt s'.isLt |>.trans (and_congr Fin.ext_iff.symm Iff.rfl)) rfl rfl
  hz H q s k := blk_2 m c t (rowF q s) (col H k) _ _ (by
    show (64 * (4 * (t.val % 64) + q.val) + s.val) % 16384 = 256 * (t.val % 64) + (64 * q.val + s.val)
    omega) (by
    show 1024 * 3 + 128 * (4 * (t.val / 64 % 2) + H.val) + k.val = 512 * (6 + t.val / 64 % 2) + (128 * H.val + k.val)
    omega)
  hq H q s k := blk_0 m c t (rowF q s) (col H k) _ _ (by
    show (64 * (4 * (t.val % 64) + q.val) + s.val) % 16384 = 256 * (t.val % 64) + (64 * q.val + s.val)
    omega) (by
    show 1024 * 0 + 128 * (4 * (t.val / 64 % 2) + H.val) + k.val = 512 * (t.val / 64 % 2) + (128 * H.val + k.val)
    omega)
  hv H q s k := blk_1 m c t (rowF q s) (col H k) _ _ (by
    show (64 * (4 * (t.val % 64) + q.val) + s.val) % 16384 = 256 * (t.val % 64) + (64 * q.val + s.val)
    omega) (by
    show 1024 * 1 + 128 * (4 * (t.val / 64 % 2) + H.val) + k.val = 512 * (2 + t.val / 64 % 2) + (128 * H.val + k.val)
    omega)

theorem holdsB (hst : ∀ H v k, pre m c t (ix4 1 H v k) = (rec m c t 1 H).St (4 * (t.val % 64)) v k) :
    Holds 1 rowB (rec m c t 1) (t.val % 64) (iblk m c 6 t) (iblk m c 7 t) (iblk m c 5 t) (iblk m c 3 t) (iblk m c 4 t) (pre m c t) where
  hg H u k := inp_gl _ _ _ _ _ _ u k
  hlb H k := blk_6 m c t (col H k) (ch (hd t H) k) (by
    show 128 * (4 * (t.val / 64 % 2) + H.val) + k.val = 512 * (t.val / 64 % 2) + (128 * H.val + k.val)
    omega)
  hst := hst
  htri q s q' s' := by
    rw [blk_7, V43_at1]
    exact if_congr (tri_1 q.val s.val q'.val s'.val s.isLt s'.isLt q.isLt q'.isLt |>.trans (and_congr Fin.ext_iff.symm Iff.rfl)) rfl rfl
  hz H q s k := blk_5 m c t (rowB q s) (col H k) _ _ (by
    show 16383 - (64 * (4 * (t.val % 64) + q.val) + s.val) % 16384 = 256 * (63 - t.val % 64) + (255 - (64 * q.val + s.val))
    omega) (by
    show 1024 * 4 + 128 * (4 * (t.val / 64 % 2) + H.val) + k.val = 512 * (8 + t.val / 64 % 2) + (128 * H.val + k.val)
    omega)
  hq H q s k := blk_3 m c t (rowB q s) (col H k) _ _ (by
    show 16383 - (64 * (4 * (t.val % 64) + q.val) + s.val) % 16384 = 256 * (63 - t.val % 64) + (255 - (64 * q.val + s.val))
    omega) (by
    show 1024 * 0 + 128 * (4 * (t.val / 64 % 2) + H.val) + k.val = 512 * (t.val / 64 % 2) + (128 * H.val + k.val)
    omega)
  hv H q s k := blk_4 m c t (rowB q s) (col H k) _ _ (by
    show 16383 - (64 * (4 * (t.val % 64) + q.val) + s.val) % 16384 = 256 * (63 - t.val % 64) + (255 - (64 * q.val + s.val))
    omega) (by
    show 1024 * 1 + 128 * (4 * (t.val / 64 % 2) + H.val) + k.val = 512 * (2 + t.val / 64 % 2) + (128 * H.val + k.val)
    omega)

end Read

section Fold
variable (m : (ℓ : Loc nD τ sig) → Buf (Elt Ideal) ℓ) (c : Dev nD)

/-- The state the pipeline carries into point `t` is the recurrences'. -/
def Carries (t : Fin cfg0.N) : Prop :=
  ∀ d H v k, pre m c t (ix4 d H v k) = (rec m c t d H).St (4 * (t.val % 64)) v k

/-- What a point leaves in the carried state. -/
theorem after_point (t : Fin cfg0.N) (h : Carries m c t) (d : Fin 2) (H : Fin 4) (v k : Fin 128) :
    ((outsAt0 m c t.val t.isLt).2.2.2 : Vec Ideal S2x4x128x128 .f32) (ix4 d H v k) = (rec m c t d H).St (4 * (t.val % 64 + 1)) v k := by
  obtain ⟨L, e⟩ := outs_S m c t
  rw [e]
  have p := pcS_at (holdsF m c t (h 0)) (holdsB m c t (h 1)) L H v k
  obtain rfl | rfl : d = 0 ∨ d = 1 := by omega
  · exact p.1
  · exact p.2

theorem st0_at (s : Vec Ideal S1x2x4x128x128 .f32) (d : Fin 2) (H : Fin 4) (v k : Fin 128) : st0 s (ix4 d H v k) = s (ix5 0 d H v k) := by
  unfold st0
  pointwise

theorem carries : ∀ (n : ℕ) (hn : n < cfg0.N), Carries m c ⟨n, hn⟩ := by
  intro n
  induction n with
  | zero =>
    intro hn d H v k
    unfold pre
    rw [if_pos (show (0 : ℕ) % 64 = 0 from rfl), st0_at]
    exact blk_8 m c _ d H v k
  | succ n ih =>
    intro hn d H v k
    by_cases h0 : (n + 1) % 64 = 0
    · unfold pre
      rw [if_pos h0, st0_at]
      refine (blk_8 m c _ d H v k).trans ?_
      show _ = Inp.St _ (4 * ((n + 1) % 64)) v k
      rw [h0]
      rfl
    · unfold pre
      rw [if_neg h0]
      have e := after_point m c ⟨n, Nat.lt_of_succ_lt hn⟩ (ih _) d H v k
      have eb : rec m c ⟨n + 1, hn⟩ d H = rec m c ⟨n, Nat.lt_of_succ_lt hn⟩ d H := by
        have q1 : bt ⟨n + 1, hn⟩ = bt ⟨n, Nat.lt_of_succ_lt hn⟩ := Fin.ext (show (n + 1) / 128 = n / 128 by omega)
        have q2 : hd ⟨n + 1, hn⟩ H = hd ⟨n, Nat.lt_of_succ_lt hn⟩ H := Fin.ext (show 4 * ((n + 1) / 64 % 2) + H.val = 4 * (n / 64 % 2) + H.val by omega)
        unfold rec
        rw [q1, q2]
      rw [eb]
      show _ = Inp.St _ (4 * ((n + 1) % 64)) v k
      rw [show (n + 1) % 64 = n % 64 + 1 by omega]
      exact e

/-- The outputs and the state a point leaves. -/
theorem point_F (t : Fin cfg0.N) (H : Fin 4) (q : Fin 4) (s : Fin 64) (k : Fin 128) :
    ((outsAt0 m c t.val t.isLt).1 : Vec Ideal S1x256x512 .f32) (ix3 0 (rowF q s) (col H k))
      = (rec m c t 0 H).out (4 * (t.val % 64) + q.val) s k := by
  rw [outs_9]
  exact pcF_at (holdsF m c t (carries m c t.val t.isLt 0)) H q s k

theorem point_B (t : Fin cfg0.N) (H : Fin 4) (q : Fin 4) (s : Fin 64) (k : Fin 128) :
    ((outsAt0 m c t.val t.isLt).2.1 : Vec Ideal S1x256x512 .f32) (ix3 0 (rowB q s) (col H k))
      = (rec m c t 1 H).out (4 * (t.val % 64) + q.val) s k := by
  rw [outs_10]
  exact pcB_at (holdsB m c t (carries m c t.val t.isLt 1)) H q s k

theorem stN_at (s : Vec Ideal S2x4x128x128 .f32) (d : Fin 2) (H : Fin 4) (v k : Fin 128) : stN s (ix5 0 d H v k) = s (ix4 d H v k) := by
  unfold stN
  pointwise

theorem point_N (t : Fin cfg0.N) (h1 : t.val % 64 = 63) (d : Fin 2) (H : Fin 4) (v k : Fin 128) :
    ((outsAt0 m c t.val t.isLt).2.2.1 : Vec Ideal S1x2x4x128x128 .f32) (ix5 0 d H v k) = (rec m c t d H).St 256 v k := by
  rw [outs_11 m c t h1, stN_at]
  have p := pcS_at (holdsF m c t (carries m c t.val t.isLt 0)) (holdsB m c t (carries m c t.val t.isLt 1)) [] H v k
  rw [List.append_nil, h1] at p
  obtain rfl | rfl : d = 0 ∨ d = 1 := by omega
  · exact p.1
  · exact p.2

end Fold

end Cert.KernelIdeal.Scan

end
-- ==== Proof.Result.lean ====
/- The kernel's three result arrays: each block written back is the results' block, and the blocks written back fill the arrays. -/
module

public import proofs.«01_k».proof.Proof.Blocks
public import proofs.«01_k».proof.Proof.Gen.KernelIdeal.Value

@[expose] public section

noncomputable section

namespace Cert.KernelIdeal.Scan

open Cert.KernelIdeal Cert.KernelIdeal.Gen Idealize.ShloMosaic Idealize.ShloMosaic.TcCoe Idealize.SL.Sem Cert.Scan

variable (m : (ℓ : Loc nD τ sig) → Buf (Elt Ideal) ℓ) (c : Dev nD)

/-- An index of an output block, by chunk, step, head and channel: in time order and in reverse. -/
theorem idx_F (y : S1x256x512.Idx) : ∃ q s H k, y = ix3 0 (rowF q s) (col H k) := by
  have h1 : (y 1).val < 256 := (y 1).isLt
  have h2 : (y 2).val < 512 := (y 2).isLt
  refine ⟨⟨(y 1).val / 64, by omega⟩, ⟨(y 1).val % 64, by omega⟩, ⟨(y 2).val / 128, by omega⟩, ⟨(y 2).val % 128, by omega⟩, ?_⟩
  funext a
  match a with
  | ⟨0, _⟩ => exact Subsingleton.elim (α := Fin 1) _ _
  | ⟨1, _⟩ => exact Fin.ext (show (y 1).val = 64 * ((y 1).val / 64) + (y 1).val % 64 by omega)
  | ⟨2, _⟩ => exact Fin.ext (show (y 2).val = 128 * ((y 2).val / 128) + (y 2).val % 128 by omega)

theorem idx_B (y : S1x256x512.Idx) : ∃ q s H k, y = ix3 0 (rowB q s) (col H k) := by
  have h1 : (y 1).val < 256 := (y 1).isLt
  have h2 : (y 2).val < 512 := (y 2).isLt
  refine ⟨⟨(255 - (y 1).val) / 64, by omega⟩, ⟨(255 - (y 1).val) % 64, by omega⟩, ⟨(y 2).val / 128, by omega⟩, ⟨(y 2).val % 128, by omega⟩, ?_⟩
  funext a
  match a with
  | ⟨0, _⟩ => exact Subsingleton.elim (α := Fin 1) _ _
  | ⟨1, _⟩ => exact Fin.ext (show (y 1).val = 255 - (64 * ((255 - (y 1).val) / 64) + (255 - (y 1).val) % 64) by omega)
  | ⟨2, _⟩ => exact Fin.ext (show (y 2).val = 128 * ((y 2).val / 128) + (y 2).val % 128 by omega)

theorem flush_9 (t : Fin cfg0.N) :
    (dats m 0 c).flushed 9 t = ((cfg0.win 9).blk t).view.read (Elt Ideal) (outA (x0 m c) (x1 m c) (x2 m c) 0) := by
  have ht : t.val < 256 := lt_of_lt_of_eq t.isLt Gen.N_0
  have hi := ix_9 t
  rw [Value.flushed9]
  funext j
  rw [View.read_apply]
  show (outsAt0 m c t.val t.isLt).1 (win0_9.xinj (grid0.coords t) j) = outA _ _ _ 0 _
  obtain ⟨q, s, H, k, e⟩ := idx_F (win0_9.xinj (grid0.coords t) j)
  have e0 : (j 0).val = 0 := congrArg Fin.val (congrFun e 0)
  have e1 : (j 1).val = 64 * q.val + s.val := congrArg Fin.val (congrFun e 1)
  have e2 : (j 2).val = 128 * H.val + k.val := congrArg Fin.val (congrFun e 2)
  refine Eq.trans ((congrArg _ e).trans (point_F m c t H q s k)) (outA_at _ _ _ 0 (bt t) (hd t H) (4 * (t.val % 64) + q.val) s k _ _ _ (by omega) rfl rfl ?_).symm
  funext a
  apply Fin.ext
  match a with
  | ⟨0, _⟩ => show win0_9.index t 0 * 1 + 1 * (j 0).val = t.val / 128; rw [hi.1, e0]; omega
  | ⟨1, _⟩ =>
    show win0_9.index t 1 * 256 + 1 * (j 1).val = (64 * (4 * (t.val % 64) + q.val) + s.val) % 16384
    rw [hi.2.1, e1]; omega
  | ⟨2, _⟩ =>
    show win0_9.index t 2 * 512 + 1 * (j 2).val = 128 * (4 * (t.val / 64 % 2) + H.val) + k.val
    rw [hi.2.2, e2]; omega

theorem flush_10 (t : Fin cfg0.N) :
    (dats m 0 c).flushed 10 t = ((cfg0.win 10).blk t).view.read (Elt Ideal) (outA (x0 m c) (x1 m c) (x2 m c) 1) := by
  have ht : t.val < 256 := lt_of_lt_of_eq t.isLt Gen.N_0
  have hi := ix_10 t
  rw [Value.flushed10]
  funext j
  rw [View.read_apply]
  show (outsAt0 m c t.val t.isLt).2.1 (win0_10.xinj (grid0.coords t) j) = outA _ _ _ 1 _
  obtain ⟨q, s, H, k, e⟩ := idx_B (win0_10.xinj (grid0.coords t) j)
  have e0 : (j 0).val = 0 := congrArg Fin.val (congrFun e 0)
  have e1 : (j 1).val = 255 - (64 * q.val + s.val) := congrArg Fin.val (congrFun e 1)
  have e2 : (j 2).val = 128 * H.val + k.val := congrArg Fin.val (congrFun e 2)
  refine Eq.trans ((congrArg _ e).trans (point_B m c t H q s k)) (outA_at _ _ _ 1 (bt t) (hd t H) (4 * (t.val % 64) + q.val) s k _ _ _ (by omega) rfl rfl ?_).symm
  funext a
  apply Fin.ext
  match a with
  | ⟨0, _⟩ => show win0_10.index t 0 * 1 + 1 * (j 0).val = t.val / 128; rw [hi.1, e0]; omega
  | ⟨1, _⟩ =>
    show win0_10.index t 1 * 256 + 1 * (j 1).val = 16383 - (64 * (4 * (t.val % 64) + q.val) + s.val) % 16384
    rw [hi.2.1, e1]; omega
  | ⟨2, _⟩ =>
    show win0_10.index t 2 * 512 + 1 * (j 2).val = 128 * (4 * (t.val / 64 % 2) + H.val) + k.val
    rw [hi.2.2, e2]; omega

theorem flush_11 (t : Fin cfg0.N) (hf : (cfg0.win 11).flush t = true) :
    (dats m 0 c).flushed 11 t = ((cfg0.win 11).blk t).view.read (Elt Ideal) (lastA (x0 m c) (x1 m c) (x2 m c)) := by
  have hi := ix_11 t
  have h1 := (flush0_11 t).1 hf
  rw [Value.flushed11]
  funext j
  rw [View.read_apply]
  show (outsAt0 m c t.val t.isLt).2.2.1 (win0_11.xinj (grid0.coords t) j) = lastA _ _ _ _
  have e : win0_11.xinj (grid0.coords t) j = (ix5 0 (j 1) (j 2) (j 3) (j 4) : S1x2x4x128x128.Idx) := by
    funext a
    match a with
    | ⟨0, _⟩ => exact Subsingleton.elim (α := Fin 1) _ _
    | ⟨1, _⟩ => rfl
    | ⟨2, _⟩ => rfl
    | ⟨3, _⟩ => rfl
    | ⟨4, _⟩ => rfl
  have h0 : (j 0).val = 0 := by have : (j 0).val < 1 := (j 0).isLt; omega
  have e' : (((cfg0.win 11).blk t).view.emb j : S2x2x8x128x128.Idx) = ix5 (bt t) (j 1) (hd t (j 2)) (j 3) (j 4) := by
    funext a
    apply Fin.ext
    match a with
    | ⟨0, _⟩ => show win0_11.index t 0 * 1 + 1 * (j 0).val = t.val / 128; rw [hi.1, h0]; omega
    | ⟨1, _⟩ => show win0_11.index t 1 * 2 + 1 * (j 1).val = (j 1).val; rw [hi.2.1]; omega
    | ⟨2, _⟩ => show win0_11.index t 2 * 4 + 1 * (j 2).val = 4 * (t.val / 64 % 2) + (j 2).val; rw [hi.2.2.1]; omega
    | ⟨3, _⟩ => show win0_11.index t 3 * 128 + 1 * (j 3).val = (j 3).val; rw [hi.2.2.2.1]; omega
    | ⟨4, _⟩ => show win0_11.index t 4 * 128 + 1 * (j 4).val = (j 4).val; rw [hi.2.2.2.2]; omega
  refine ((congrArg _ e).trans (point_N m c t h1 _ _ _ _)).trans ?_
  exact (congrArg (lastA (x0 m c) (x1 m c) (x2 m c)) e').symm

theorem arr_9 : (dats m 0 c).arrAt 9 cfg0.N = outA (x0 m c) (x1 m c) (x2 m c) 0 :=
  (dats m 0 c).arrAt_eq_of_cover 9 (outA (x0 m c) (x1 m c) (x2 m c) 0) (fun t _ => flush_9 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 128 + (i 2 : Nat) / 512 * 64 + (i 1 : Nat) / 256 := ⟨⟨_, by rw [show cfg0.N = 256 from Gen.N_0]; omega⟩, rfl⟩
    refine ⟨t, flush0_9 _, ?_⟩
    have hi := ix_9 t
    rw [ht] at hi
    show i ∈ ((View.whole main_v45_0).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [hi.1]; omega
    | ⟨1, _⟩ =>
      show win0_9.index t 1 * 256 ≤ (i 1 : Nat) ∧ (i 1 : Nat) < win0_9.index t 1 * 256 + 256
      rw [hi.2.1]; omega
    | ⟨2, _⟩ =>
      show win0_9.index t 2 * 512 ≤ (i 2 : Nat) ∧ (i 2 : Nat) < win0_9.index t 2 * 512 + 512
      rw [hi.2.2]; omega

theorem arr_10 : (dats m 0 c).arrAt 10 cfg0.N = outA (x0 m c) (x1 m c) (x2 m c) 1 :=
  (dats m 0 c).arrAt_eq_of_cover 10 (outA (x0 m c) (x1 m c) (x2 m c) 1) (fun t _ => flush_10 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 128 + (i 2 : Nat) / 512 * 64 + (63 - (i 1 : Nat) / 256) := ⟨⟨_, by rw [show cfg0.N = 256 from Gen.N_0]; omega⟩, rfl⟩
    refine ⟨t, flush0_10 _, ?_⟩
    have hi := ix_10 t
    rw [ht] at hi
    show i ∈ ((View.whole main_v45_1).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [hi.1]; omega
    | ⟨1, _⟩ =>
      show win0_10.index t 1 * 256 ≤ (i 1 : Nat) ∧ (i 1 : Nat) < win0_10.index t 1 * 256 + 256
      rw [hi.2.1]; omega
    | ⟨2, _⟩ =>
      show win0_10.index t 2 * 512 ≤ (i 2 : Nat) ∧ (i 2 : Nat) < win0_10.index t 2 * 512 + 512
      rw [hi.2.2]; omega

theorem arr_11 : (dats m 0 c).arrAt 11 cfg0.N = lastA (x0 m c) (x1 m c) (x2 m c) :=
  (dats m 0 c).arrAt_eq_of_cover 11 (lastA (x0 m c) (x1 m c) (x2 m c)) (flush_11 m c) fun i => by
    have h0 : (i 0 : Nat) < 2 := (i 0).isLt
    have h1 : (i 1 : Nat) < 2 := (i 1).isLt
    have h2 : (i 2 : Nat) < 8 := (i 2).isLt
    have h3 : (i 3 : Nat) < 128 := (i 3).isLt
    have h4 : (i 4 : Nat) < 128 := (i 4).isLt
    obtain ⟨t, ht⟩ : ∃ t : Fin cfg0.N, t.val = (i 0 : Nat) * 128 + (i 2 : Nat) / 4 * 64 + 63 := ⟨⟨_, by rw [show cfg0.N = 256 from Gen.N_0]; omega⟩, rfl⟩
    refine ⟨t, (flush0_11 _).2 (by rw [ht]; omega), ?_⟩
    have hi := ix_11 t
    rw [ht] at hi
    show i ∈ ((View.whole main_v45_2).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [hi.1]; omega
    | ⟨1, _⟩ =>
      show win0_11.index t 1 * 2 ≤ (i 1 : Nat) ∧ (i 1 : Nat) < win0_11.index t 1 * 2 + 2
      rw [hi.2.1]; omega
    | ⟨2, _⟩ =>
      show win0_11.index t 2 * 4 ≤ (i 2 : Nat) ∧ (i 2 : Nat) < win0_11.index t 2 * 4 + 4
      rw [hi.2.2.1]; omega
    | ⟨3, _⟩ =>
      show win0_11.index t 3 * 128 ≤ (i 3 : Nat) ∧ (i 3 : Nat) < win0_11.index t 3 * 128 + 128
      rw [hi.2.2.2.1]; omega
    | ⟨4, _⟩ =>
      show win0_11.index t 4 * 128 ≤ (i 4 : Nat) ∧ (i 4 : Nat) < win0_11.index t 4 * 128 + 128
      rw [hi.2.2.2.2]; omega

/-- The kernel's run: the results are the recurrences', the arguments unchanged. -/
theorem runV (ρ : Dev nD → PrngReg) : θ_run defs (onTc (τ := τ) (main (F := Ideal))) ⟨m, fun _ => 0, ρ⟩ fun r => ∀ c : Dev nD,
      r.2.mem ((c : Thread nD τ).loc main_v45_0) = outA (x0 m c) (x1 m c) (x2 m c) 0
      ∧ r.2.mem ((c : Thread nD τ).loc main_v45_1) = outA (x0 m c) (x1 m c) (x2 m c) 1
      ∧ r.2.mem ((c : Thread nD τ).loc main_v45_2) = lastA (x0 m c) (x1 m c) (x2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_9 m c), (h c).2.1.trans (arr_10 m c), (h c).2.2.1.trans (arr_11 m c), (h c).2.2.2⟩)
    (Value.run_blocks m ρ)

end Cert.KernelIdeal.Scan

end
-- ==== Proof.RefTerms.lean ====
/- What the reference's host computes before its scan over the chunks, as terms of the arguments: the gates, queries, keys, values
   and states of both directions, and what the scan reads of each chunk. -/
module

public import proofs.«01_k».proof.Proof.Gen.ReferenceIdeal.Run
public import proofs.«01_k».proof.Proof.Bound

@[expose] public section

noncomputable section

namespace Cert.ReferenceIdeal.Scan

open Cert.ReferenceIdeal Cert.ReferenceIdeal.Gen Cert.ReferenceIdeal.Value Idealize.ShloMosaic Idealize.ShloMosaic.TcCoe Idealize.ShloMosaic.StableHlo Cert.Scan

section Terms
variable {F : FTy → Type} [FloatOps F]

def one : Vec F S2x16384x1024 .f32 := broadcastInDim S2x16384x1024 ![] bcast_S_S2x16384x1024 (constant S_ .f32 0x3F800000#32)

/-- The logistic function. -/
def sigT (y : Vec F S2x16384x1024 .f32) : Vec F S2x16384x1024 .f32 := Host.divf one (addf one (Host.exp (Host.negf y)))

/-- A channel vector at every batch and step. -/
def chT (l : Vec F S1024 .f32) : Vec F S2x16384x1024 .f32 :=
  broadcastInDim S2x16384x1024 ![0, 1, 2] bcast_S1x1x1024_S2x16384x1024_0_1_2 (broadcastInDim S1x1x1024 ![2] bcast_S1024_S1x1x1024_2 l)

/-- The gate from its logits. -/
def gateT (l : Vec F S1024 .f32) (y : Vec F S2x16384x1024 .f32) : Vec F S2x16384x1024 .f32 :=
  addf (chT l) (mulf (chT (subf (broadcastInDim S1024 ![] bcast_S_S1024 (constant S_ .f32 0x3F800000#32)) l)) (sigT y))

/-- Heads apart. -/
def headT (y : Vec F S2x16384x1024 .f32) : Vec F S2x8x16384x128 .f32 :=
  transpose S2x8x16384x128 [0, 2, 1, 3] (shapeCast S2x16384x8x128 y shapeCasts_S2x16384x1024_S2x16384x8x128) transposes_S2x16384x8x128_S2x8x16384x128_0_2_1_3

/-- The two directions, the second reversed, cut in chunks. -/
def bothT (a b : Vec F S2x8x16384x128 .f32) : Vec F S4x8x256x64x128 .f32 :=
  shapeCast S4x8x256x64x128 (concatenate S4x8x16384x128 0 [⟨S2x8x16384x128, a⟩, ⟨S2x8x16384x128, Host.reverse [2] b⟩]
    concatenates_S2x8x16384x128_S2x8x16384x128_S4x8x16384x128_d0) shapeCasts_S4x8x16384x128_S4x8x256x64x128

/-- The running sums of the log gates in each chunk. -/
def cumT (g : Vec F S4x8x256x64x128 .f32) : Vec F S4x8x256x64x128 .f32 :=
  Host.reduceWindowAdd ![1, 1, 1, 64, 1] ![1, 1, 1, 1, 1] ![0, 0, 0, 63, 0] ![0, 0, 0, 0, 0] g (broadcastInDim S_ ![] bcast_S_S_ (constant S_ .f32 0x00000000#32))
    reduceWindows_S4x8x256x64x128_S4x8x256x64x128_w1s1p0_0_w1s1p0_0_w1s1p0_0_w64s1p63_0_w1s1p0_0 h_S_

/-- Their last rows. -/
def endT (b : Vec F S4x8x256x64x128 .f32) : Vec F S4x8x256x1x128 .f32 :=
  extractStridedSlice S4x8x256x1x128 ![0, 0, 0, 63, 0] b slices_S4x8x256x64x128_S4x8x256x1x128_0_0_0_63_0

def qdT (q b : Vec F S4x8x256x64x128 .f32) : Vec F S4x8x256x64x128 .f32 := mulf q (Host.exp b)
def kiT (k b : Vec F S4x8x256x64x128 .f32) : Vec F S4x8x256x64x128 .f32 := mulf k (Host.exp (Host.negf b))
def keT (k b : Vec F S4x8x256x64x128 .f32) : Vec F S4x8x256x64x128 .f32 :=
  mulf k (Host.exp (subf (broadcastInDim S4x8x256x64x128 ![0, 1, 2, 3, 4] bcast_S4x8x256x1x128_S4x8x256x64x128_0_1_2_3_4 (endT b)) b))

/-- The causal mask of a chunk. -/
def trilT : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

def attT (qd ki : Vec F S4x8x256x64x128 .f32) : Vec F S4x8x256x64x64 .f32 :=
  select (broadcastInDim S4x8x256x64x64 ![3, 4] bcast_S64x64_S4x8x256x64x64_3_4 trilT)
    (Host.dotGeneral dot_S4x8x256x64x128_S4x8x256x64x128_S4x8x256x64x64_4_4_3_3_012_012 none qd ki)
    (broadcastInDim S4x8x256x64x64 ![] bcast_S_S4x8x256x64x64 (constant S_ .f32 0x00000000#32))

def oiT (at' : Vec F S4x8x256x64x64 .f32) (v : Vec F S4x8x256x64x128 .f32) : Vec F S256x4x8x64x128 .f32 :=
  transpose S256x4x8x64x128 [2, 0, 1, 3, 4] (Host.dotGeneral dot_S4x8x256x64x64_S4x8x256x64x128_S4x8x256x64x128_4_3_3_4_012_012 none at' v)
    transposes_S4x8x256x64x128_S256x4x8x64x128_2_0_1_3_4

def dsT (ke v : Vec F S4x8x256x64x128 .f32) : Vec F S256x4x8x128x128 .f32 :=
  transpose S256x4x8x128x128 [2, 0, 1, 3, 4] (Host.dotGeneral dot_S4x8x256x64x128_S4x8x256x64x128_S4x8x256x128x128_3_3_4_4_012_012 none ke v)
    transposes_S4x8x256x128x128_S256x4x8x128x128_2_0_1_3_4

def decT (b : Vec F S4x8x256x64x128 .f32) : Vec F S256x4x8x128 .f32 :=
  transpose S256x4x8x128 [2, 0, 1, 3] (Host.exp (shapeCast S4x8x256x128 (endT b) shapeCasts_S4x8x256x1x128_S4x8x256x128)) transposes_S4x8x256x128_S256x4x8x128_2_0_1_3

/-- The states, both directions. -/
def stT (x2 : Vec F S2x2x8x128x128 .f32) : Vec F S4x8x128x128 .f32 :=
  concatenate S4x8x128x128 0
    [⟨S2x8x128x128, transpose S2x8x128x128 [0, 1, 3, 2] (shapeCast S2x8x128x128 (extractStridedSlice S2x1x8x128x128 ![0, 0, 0, 0, 0] x2
        slices_S2x2x8x128x128_S2x1x8x128x128_0_0_0_0_0) shapeCasts_S2x1x8x128x128_S2x8x128x128) transposes_S2x8x128x128_S2x8x128x128_0_1_3_2⟩,
     ⟨S2x8x128x128, transpose S2x8x128x128 [0, 1, 3, 2] (shapeCast S2x8x128x128 (extractStridedSlice S2x1x8x128x128 ![0, 1, 0, 0, 0] x2
        slices_S2x2x8x128x128_S2x1x8x128x128_0_1_0_0_0) shapeCasts_S2x1x8x128x128_S2x8x128x128) transposes_S2x8x128x128_S2x8x128x128_0_1_3_2⟩]
    concatenates_S2x8x128x128_S2x8x128x128_S4x8x128x128_d0

variable (x0 : Vec F S2x16384x5120 .f32) (x1 : Vec F S4x1024 .f32)

/-- The gates of the two directions. -/
def fF : Vec F S2x16384x1024 .f32 :=
  gateT (lbT x1) (extractStridedSlice S2x16384x1024 ![0, 0, 3072] x0 slices_S2x16384x5120_S2x16384x1024_0_0_3072)
def fB : Vec F S2x16384x1024 .f32 :=
  gateT (lbT x1) (extractStridedSlice S2x16384x1024 ![0, 0, 4096] x0 slices_S2x16384x5120_S2x16384x1024_0_0_4096)

/-- Queries, keys, values and running log gates of both directions, in chunks. -/
def qT : Vec F S4x8x256x64x128 .f32 :=
  let y := extractStridedSlice S2x16384x1024 ![0, 0, 0] x0 slices_S2x16384x5120_S2x16384x1024_0_0_0
  bothT (headT (mulf y (sigT y))) (headT (mulf y (sigT y)))
def kT : Vec F S4x8x256x64x128 .f32 := bothT (headT (subf one (fF x0 x1))) (headT (subf one (fB x0 x1)))
def vT : Vec F S4x8x256x64x128 .f32 :=
  let y := extractStridedSlice S2x16384x1024 ![0, 0, 1024] x0 slices_S2x16384x5120_S2x16384x1024_0_0_1024
  bothT (headT y) (headT y)
def bT : Vec F S4x8x256x64x128 .f32 := cumT (bothT (headT (Host.log (fF x0 x1))) (headT (Host.log (fB x0 x1))))

end Terms

section Read
variable {F : FTy → Type} [FloatOps F] (m : (ℓ : Loc nD τ sig) → Buf (Elt F) ℓ) (c : Dev nD)

abbrev a0 : Vec F S2x16384x5120 .f32 := m (c.tc.loc main_arg0)
abbrev a1 : Vec F S4x1024 .f32 := m (c.tc.loc main_arg1)
abbrev a2 : Vec F S2x2x8x128x128 .f32 := m (c.tc.loc main_arg2)

theorem entry_5 : (entryContents preI m c (Proc.devRef .tc main_v114_5) : Vec F S4x8x128x128 .f32) = stT (a2 m c) := by
  simp only [entryContents, preI, afterL_cons, afterL_nil, hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15, hostOps0_16, hostOps0_17, hostOps0_18]
  after_results
  rfl

theorem entry_2 : (entryContents preI m c (Proc.devRef .tc main_v114_2) : Vec F S256x4x8x64x128 .f32)
    = transpose S256x4x8x64x128 [2, 0, 1, 3, 4] (qdT (qT (a0 m c)) (bT (a0 m c) (a1 m c))) transposes_S4x8x256x64x128_S256x4x8x64x128_2_0_1_3_4 := by
  simp only [entryContents, preI, afterL_cons, afterL_nil, hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15, hostOps0_16, hostOps0_17, hostOps0_18]
  after_results
  rfl

theorem entry_0 : (entryContents preI m c (Proc.devRef .tc main_v114_0) : Vec F S256x4x8x128 .f32) = decT (bT (a0 m c) (a1 m c)) := by
  simp only [entryContents, preI, afterL_cons, afterL_nil, hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15, hostOps0_16, hostOps0_17, hostOps0_18]
  after_results
  rfl

theorem entry_1 : (entryContents preI m c (Proc.devRef .tc main_v114_1) : Vec F S256x4x8x128x128 .f32)
    = dsT (keT (kT (a0 m c) (a1 m c)) (bT (a0 m c) (a1 m c))) (vT (a0 m c)) := by
  simp only [entryContents, preI, afterL_cons, afterL_nil, hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15, hostOps0_16, hostOps0_17, hostOps0_18]
  after_results
  rfl

theorem entry_3 : (entryContents preI m c (Proc.devRef .tc main_v114_3) : Vec F S256x4x8x64x128 .f32)
    = oiT (attT (qdT (qT (a0 m c)) (bT (a0 m c) (a1 m c))) (kiT (kT (a0 m c) (a1 m c)) (bT (a0 m c) (a1 m c)))) (vT (a0 m c)) := by
  simp only [entryContents, preI, afterL_cons, afterL_nil, hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15, hostOps0_16, hostOps0_17, hostOps0_18]
  after_results
  rfl

end Read

end Cert.ReferenceIdeal.Scan

end
-- ==== Proof.RefEntry.lean ====
/- The reference's terms before its scan, read at an index over the extended reals: at direction `d`, batch `b` and head `H` they are
   the recurrence's quantities. -/
module

public import proofs.«01_k».proof.Proof.RefTerms
public import proofs.«01_k».proof.Proof.Inputs

@[expose] public section

noncomputable section

namespace Cert.ReferenceIdeal.Scan

open Cert.ReferenceIdeal Cert.ReferenceIdeal.Gen Idealize.ShloMosaic Cert.Scan

/-- Batch `b` of direction `d` among the reference's four rows. -/
def db (d b : Fin 2) : Fin 4 := ⟨2 * d.val + b.val, by omega⟩

/-- Step `s` of chunk `n`. -/
def stp (n : Fin 256) (s : Fin 64) : Fin 16384 := ⟨64 * n.val + s.val, by omega⟩

theorem tm_stp0 (n : Fin 256) (s : Fin 64) : tm 0 (64 * n.val + s.val) = stp n s :=
  Fin.ext (show (64 * n.val + s.val) % 16384 = 64 * n.val + s.val by omega)

theorem tm_stp1 (n : Fin 256) (s : Fin 64) : tm 1 (64 * n.val + s.val) = (stp n s).rev :=
  Fin.ext (show 16383 - (64 * n.val + s.val) % 16384 = 16384 - (64 * n.val + s.val + 1) by omega)

theorem headT_at (y : Vec Ideal S2x16384x1024 .f32) (b : Fin 2) (H : Fin 8) (u : Fin 16384) (k : Fin 128) :
    headT y (ix4 b H u k) = y (ix3 b u (ch H k)) := by
  unfold headT ch
  pointwise
  exact congrArg (fun z => y (ix3 b u z)) (Fin.ext (show H.val * 128 + k.val = 128 * H.val + k.val by omega))

theorem bothT_at (x y : Vec Ideal S2x8x16384x128 .f32) (d b : Fin 2) (H : Fin 8) (n : Fin 256) (s : Fin 64) (k : Fin 128) :
    bothT x y (ix5 (db d b) H n s k) = (if d = 0 then x else y) (ix4 b H (tm d (64 * n.val + s.val)) k) := by
  have e : ∀ z : Vec Ideal S4x8x16384x128 .f32, (shapeCast S4x8x256x64x128 z shapeCasts_S4x8x16384x128_S4x8x256x64x128 : Vec Ideal S4x8x256x64x128 .f32) (ix5 (db d b) H n s k)
      = z (ix4 (db d b) H (stp n s) k) := fun z => by
    unfold stp
    pointwise
    exact congrArg (fun r => z (ix4 (db d b) H r k)) (Fin.ext (show n.val * 64 + s.val = 64 * n.val + s.val by omega))
  unfold bothT
  rw [e]
  obtain rfl | rfl : d = 0 ∨ d = 1 := by omega
  · rw [tm_stp0, if_pos rfl]
    generalize stp n s = u
    obtain rfl | rfl : b = 0 ∨ b = 1 := by omega
    · unfold db; pointwise
    · unfold db; pointwise
  · rw [tm_stp1, if_neg (by decide)]
    generalize stp n s = u
    obtain rfl | rfl : b = 0 ∨ b = 1 := by omega
    · unfold db; pointwise; rfl
    · unfold db; pointwise; rfl

variable (x0 : Vec Ideal S2x16384x5120 .f32) (x1 : Vec Ideal S4x1024 .f32) (x2 : Vec Ideal S2x2x8x128x128 .f32) (d b : Fin 2) (H : Fin 8)
variable (n : Fin 256) (s : Fin 64) (k v : Fin 128)

theorem gateT_at (l : Vec Ideal S1024 .f32) (y : Vec Ideal S2x16384x1024 .f32) (u : Fin 16384) (K : Fin 1024) :
    gateT l y (ix3 b u K) = l (ix1 K) + (1 - l (ix1 K)) * Ideal.logistic (y (ix3 b u K)) := by
  unfold gateT sigT chT one
  pointwise
  rfl

/-- Channel `K` in part `o` of the projections. -/
def clc (o : Fin 5) (K : Fin 1024) : Fin 5120 := ⟨1024 * o.val + K.val, by omega⟩

theorem cl_eq (o : Fin 5) : cl o H k = clc o (ch H k) :=
  Fin.ext (show 1024 * o.val + 128 * H.val + k.val = 1024 * o.val + (128 * H.val + k.val) by omega)

theorem fF_at (u : Fin 16384) :
    headT (fF x0 x1) (ix4 b H u k) = lbT x1 (ix1 (ch H k)) + (1 - lbT x1 (ix1 (ch H k))) * Ideal.logistic (x0 (ix3 b u (cl 3 H k))) := by
  rw [headT_at, fF, gateT_at, cl_eq]
  generalize (lbT x1 : Vec Ideal S1024 .f32) = l
  generalize ch H k = K
  unfold clc
  pointwise

theorem fB_at (u : Fin 16384) :
    headT (fB x0 x1) (ix4 b H u k) = lbT x1 (ix1 (ch H k)) + (1 - lbT x1 (ix1 (ch H k))) * Ideal.logistic (x0 (ix3 b u (cl 4 H k))) := by
  rw [headT_at, fB, gateT_at, cl_eq]
  generalize (lbT x1 : Vec Ideal S1024 .f32) = l
  generalize ch H k = K
  unfold clc
  pointwise

/-- The gates of direction `d`. -/
theorem f_at : (if d = 0 then headT (fF x0 x1) else headT (fB x0 x1)) (ix4 b H (tm d (64 * n.val + s.val)) k)
    = (inp x0 x1 x2 d b H).fg (64 * n.val + s.val) k := by
  obtain rfl | rfl : d = 0 ∨ d = 1 := by omega
  · rw [if_pos rfl, fF_at]; rfl
  · rw [if_neg (by decide), fB_at]; rfl

theorem headT_sub (y : Vec Ideal S2x16384x1024 .f32) (u : Fin 16384) : headT (subf one y) (ix4 b H u k) = 1 - headT y (ix4 b H u k) := by
  rw [headT_at, headT_at]
  generalize ch H k = K
  unfold one
  pointwise

theorem headT_log (y : Vec Ideal S2x16384x1024 .f32) (u : Fin 16384) : headT (F := Ideal) (Host.log (F := Ideal) (φ := .f32) y) (ix4 b H u k) = Ideal.log (headT y (ix4 b H u k)) := by
  rw [headT_at, headT_at]
  generalize ch H k = K
  pointwise

theorem qT_at : qT x0 (ix5 (db d b) H n s k)
    = (inp x0 x1 x2 d b H).Q (64 * n.val + s.val) k * Ideal.logistic ((inp x0 x1 x2 d b H).Q (64 * n.val + s.val) k) := by
  show bothT _ _ _ = x0 (ix3 b (tm d (64 * n.val + s.val)) (cl 0 H k)) * Ideal.logistic (x0 (ix3 b (tm d (64 * n.val + s.val)) (cl 0 H k)))
  rw [bothT_at, ite_self, headT_at, cl_eq]
  generalize ch H k = K
  generalize tm d _ = u
  unfold clc
  unfold sigT one
  pointwise
  rfl

theorem vT_at : vT x0 (ix5 (db d b) H n s k) = (inp x0 x1 x2 d b H).V (64 * n.val + s.val) k := by
  show bothT _ _ _ = x0 (ix3 b (tm d (64 * n.val + s.val)) (cl 1 H k))
  rw [bothT_at, ite_self, headT_at, cl_eq]
  generalize ch H k = K
  generalize tm d _ = u
  unfold clc
  pointwise

theorem kT_at : kT x0 x1 (ix5 (db d b) H n s k) = 1 - (inp x0 x1 x2 d b H).fg (64 * n.val + s.val) k := by
  rw [← f_at, kT, bothT_at]
  obtain rfl | rfl : d = 0 ∨ d = 1 := by omega
  · rw [if_pos rfl, if_pos rfl, headT_sub]
  · rw [if_neg (by decide), if_neg (by decide), headT_sub]

theorem g_at : bothT (headT (Host.log (fF x0 x1))) (headT (Host.log (fB x0 x1))) (ix5 (db d b) H n s k)
    = (inp x0 x1 x2 d b H).gl (64 * n.val + s.val) k := by
  rw [Inp.gl, ← f_at, bothT_at]
  obtain rfl | rfl : d = 0 ∨ d = 1 := by omega
  · rw [if_pos rfl, if_pos rfl, headT_log]
  · rw [if_neg (by decide), if_neg (by decide), headT_log]

theorem cumT_at (g : Vec Ideal S4x8x256x64x128 .f32) (B : Fin 4) : ReferenceIdeal.Scan.cumT g (ix5 B H n s k)
    = ∑ s' : Fin 64, if s' ≤ s then g (ix5 B H n s' k) else 0 :=
  cumsum_ax3 (D := 63) g _ (fun i => by pointwise) _ _ B H n s k

theorem bT_at : bT x0 x1 (ix5 (db d b) H n s k) = (inp x0 x1 x2 d b H).cb n.val s k := by
  rw [bT, cumT_at, Inp.cb]
  refine Finset.sum_congr rfl fun s' _ => ?_
  rw [g_at x0 x1 x2]

end Cert.ReferenceIdeal.Scan

end
-- ==== Proof.RefParts.lean ====
/- The reference's chunk products at an index: they are the recurrence's. -/
module

public import proofs.«01_k».proof.Proof.RefEntry
public import proofs.«01_k».proof.Proof.KernelHost

@[expose] public section

noncomputable section

namespace Cert.ReferenceIdeal.Scan

open Cert.ReferenceIdeal Cert.ReferenceIdeal.Gen Idealize.ShloMosaic Cert.Scan

/-! ### For any arrays -/

section Any
variable (q w : Vec Ideal S4x8x256x64x128 .f32) (B : Fin 4) (H : Fin 8) (n : Fin 256) (s s' : Fin 64) (k v : Fin 128)

theorem qdT_of : qdT q w (ix5 B H n s k) = q (ix5 B H n s k) * Ideal.exp (w (ix5 B H n s k)) := by
  unfold qdT
  pointwise

theorem kiT_of : kiT q w (ix5 B H n s k) = q (ix5 B H n s k) * Ideal.exp (-(w (ix5 B H n s k) : EReal)) := by
  unfold kiT
  pointwise

theorem keT_of : keT q w (ix5 B H n s k) = q (ix5 B H n s k) * Ideal.exp (w (ix5 B H n 63 k) - w (ix5 B H n s k)) := by
  unfold keT endT
  pointwise

theorem trilT_at : trilT (ix2 s s') = if s' ≤ s then 1#1 else 0#1 := by
  unfold trilT
  pointwise
  rw [show IntOp.addi (BitVec.ofNat 32 s.val) 0#32 = BitVec.ofNat 32 s.val from BitVec.add_zero _]
  show Scalar.select (BitVec.ofBool ((BitVec.ofNat 32 s'.val).sle (BitVec.ofNat 32 s.val))) 1#1 0#1 = _
  rw [Cert.KernelIdeal.Scan.sle_nat _ _ (by omega) (by omega)]
  by_cases h : s' ≤ s
  · rw [if_pos h, decide_eq_true (show s'.val ≤ s.val from h)]
    rfl
  · rw [if_neg h, decide_eq_false (show ¬ s'.val ≤ s.val from h)]
    rfl

theorem attT_of : attT q w (ix5 B H n s s') = if s' ≤ s then ∑ k : Fin 128, q (ix5 B H n s k) * w (ix5 B H n s' k) else 0 := by
  have ht := trilT_at s s'
  unfold attT
  generalize trilT = T at ht ⊢
  pointwise
  rw [ht]
  by_cases h : s' ≤ s
  · rw [if_pos h, if_pos h]; exact ValueIdx.select_one _ _
  · rw [if_neg h, if_neg h]; exact ValueIdx.select_zero _ _

theorem oiT_of (a : Vec Ideal S4x8x256x64x64 .f32) : oiT a w (ix5 n B H s v) = ∑ s' : Fin 64, a (ix5 B H n s s') * w (ix5 B H n s' v) := by
  unfold oiT
  pointwise

theorem dsT_of : dsT q w (ix5 n B H k v) = ∑ s : Fin 64, q (ix5 B H n s k) * w (ix5 B H n s v) := by
  unfold dsT
  pointwise

theorem decT_of : decT w (ix4 n B H k) = Ideal.exp (w (ix5 B H n 63 k)) := by
  unfold decT endT
  pointwise

theorem stT_of (x2 : Vec Ideal S2x2x8x128x128 .f32) (d b : Fin 2) : stT x2 (ix4 (db d b) H k v) = x2 (ix5 b d H v k) := by
  unfold stT db
  obtain rfl | rfl : d = 0 ∨ d = 1 := by omega
  · obtain rfl | rfl : b = 0 ∨ b = 1 := by omega
    · pointwise
    · pointwise
  · obtain rfl | rfl : b = 0 ∨ b = 1 := by omega
    · pointwise
    · pointwise

theorem qdN_of : (transpose S256x4x8x64x128 [2, 0, 1, 3, 4] q transposes_S4x8x256x64x128_S256x4x8x64x128_2_0_1_3_4 : Vec Ideal S256x4x8x64x128 .f32)
    (ix5 n B H s k) = q (ix5 B H n s k) := by
  pointwise

end Any

/-! ### The recurrence's -/

variable (x0 : Vec Ideal S2x16384x5120 .f32) (x1 : Vec Ideal S4x1024 .f32) (x2 : Vec Ideal S2x2x8x128x128 .f32) (d b : Fin 2) (H : Fin 8)
variable (n : Fin 256) (s s' : Fin 64) (k v : Fin 128)

theorem qd_at : qdT (qT x0) (bT x0 x1) (ix5 (db d b) H n s k) = (inp x0 x1 x2 d b H).qd n.val s k := by
  rw [qdT_of, qT_at x0 x1 x2, bT_at x0 x1 x2, Inp.qd]

theorem ki_at : kiT (kT x0 x1) (bT x0 x1) (ix5 (db d b) H n s k) = (inp x0 x1 x2 d b H).ki n.val s k := by
  rw [kiT_of, kT_at x0 x1 x2, bT_at x0 x1 x2, Inp.ki]

theorem ke_at : keT (kT x0 x1) (bT x0 x1) (ix5 (db d b) H n s k) = (inp x0 x1 x2 d b H).ke n.val s k := by
  rw [keT_of, kT_at x0 x1 x2, bT_at x0 x1 x2, bT_at x0 x1 x2, Inp.ke]

theorem att_at : attT (qdT (qT x0) (bT x0 x1)) (kiT (kT x0 x1) (bT x0 x1)) (ix5 (db d b) H n s s') = (inp x0 x1 x2 d b H).att n.val s s' := by
  rw [attT_of, Inp.att]
  simp only [qd_at x0 x1 x2, ki_at x0 x1 x2]

theorem oi_at : oiT (attT (qdT (qT x0) (bT x0 x1)) (kiT (kT x0 x1) (bT x0 x1))) (vT x0) (ix5 n (db d b) H s v) = (inp x0 x1 x2 d b H).oi n.val s v := by
  rw [oiT_of, Inp.oi]
  simp only [att_at x0 x1 x2, vT_at x0 x1 x2]

theorem ds_at : dsT (keT (kT x0 x1) (bT x0 x1)) (vT x0) (ix5 n (db d b) H k v) = (inp x0 x1 x2 d b H).du n.val v k := by
  rw [dsT_of, Inp.du]
  refine Finset.sum_congr rfl fun s _ => ?_
  rw [ke_at x0 x1 x2, vT_at x0 x1 x2, mul_comm]

theorem dec_at : decT (bT x0 x1) (ix4 n (db d b) H k) = Ideal.exp ((inp x0 x1 x2 d b H).cb n.val 63 k) := by
  rw [decT_of, bT_at x0 x1 x2]

theorem st_at : stT x2 (ix4 (db d b) H k v) = (inp x0 x1 x2 d b H).S0 v k := by
  rw [stT_of]
  rfl

theorem qdN_at : (transpose S256x4x8x64x128 [2, 0, 1, 3, 4] (qdT (qT x0) (bT x0 x1)) transposes_S4x8x256x64x128_S256x4x8x64x128_2_0_1_3_4
      : Vec Ideal S256x4x8x64x128 .f32) (ix5 n (db d b) H s k) = (inp x0 x1 x2 d b H).qd n.val s k := by
  rw [qdN_of, qd_at x0 x1 x2]

end Cert.ReferenceIdeal.Scan

end
-- ==== Proof.RefLoop.lean ====
/- The reference's scan: after `n` trips its state is the recurrence's and its first `n` output rows are written. -/
module

public import proofs.«01_k».proof.Proof.RefParts
public import Idealize.ShloMosaic.Lib.DynamicIndex

@[expose] public section

noncomputable section

namespace Cert.ReferenceIdeal.Scan

open Cert.ReferenceIdeal Cert.ReferenceIdeal.Gen Cert.ReferenceIdeal.Value Idealize.ShloMosaic Cert.Scan

/-! ### One row in, one row out -/

section Rows
variable (n : Fin 256) (B : Fin 4) (H : Fin 8) (s : Fin 64) (k v : Fin 128)

theorem row4 (x : Vec Ideal S256x4x8x128 .f32) (start : Fin 4 → Int) (hs : ∀ a, start a = ((![n.val, 0, 0, 0] : Fin 4 → ℕ) a : Int)) :
    (shapeCast S4x8x128 (Host.dynamicSlice S1x4x8x128 x start sliceFits_S256x4x8x128_S1x4x8x128) shapeCasts_S1x4x8x128_S4x8x128 : Vec Ideal S4x8x128 .f32)
      (ix3 B H k) = x (ix4 n B H k) := by
  have hoff : S256x4x8x128.Slices ![n.val, 0, 0, 0] S1x4x8x128 := ⟨rfl, fun a => match a with
    | ⟨0, _⟩ => by show n.val + 1 ≤ 256; omega
    | ⟨1, _⟩ => by show 0 + 4 ≤ 4; omega
    | ⟨2, _⟩ => by show 0 + 8 ≤ 8; omega
    | ⟨3, _⟩ => by show 0 + 128 ≤ 128; omega⟩
  rw [Host.dynamicSlice_eq_extractStridedSlice _ x start ![n.val, 0, 0, 0] _ hoff hs]
  pointwise

theorem rowV (x : Vec Ideal S256x4x8x64x128 .f32) (start : Fin 5 → Int) (hs : ∀ a, start a = ((![n.val, 0, 0, 0, 0] : Fin 5 → ℕ) a : Int)) :
    (shapeCast S4x8x64x128 (Host.dynamicSlice S1x4x8x64x128 x start sliceFits_S256x4x8x64x128_S1x4x8x64x128) shapeCasts_S1x4x8x64x128_S4x8x64x128
      : Vec Ideal S4x8x64x128 .f32) (ix4 B H s k) = x (ix5 n B H s k) := by
  have hoff : S256x4x8x64x128.Slices ![n.val, 0, 0, 0, 0] S1x4x8x64x128 := ⟨rfl, fun a => match a with
    | ⟨0, _⟩ => by show n.val + 1 ≤ 256; omega
    | ⟨1, _⟩ => by show 0 + 4 ≤ 4; omega
    | ⟨2, _⟩ => by show 0 + 8 ≤ 8; omega
    | ⟨3, _⟩ => by show 0 + 64 ≤ 64; omega
    | ⟨4, _⟩ => by show 0 + 128 ≤ 128; omega⟩
  rw [Host.dynamicSlice_eq_extractStridedSlice _ x start ![n.val, 0, 0, 0, 0] _ hoff hs]
  pointwise

theorem rowS (x : Vec Ideal S256x4x8x128x128 .f32) (start : Fin 5 → Int) (hs : ∀ a, start a = ((![n.val, 0, 0, 0, 0] : Fin 5 → ℕ) a : Int)) :
    (shapeCast S4x8x128x128 (Host.dynamicSlice S1x4x8x128x128 x start sliceFits_S256x4x8x128x128_S1x4x8x128x128) shapeCasts_S1x4x8x128x128_S4x8x128x128
      : Vec Ideal S4x8x128x128 .f32) (ix4 B H k v) = x (ix5 n B H k v) := by
  have hoff : S256x4x8x128x128.Slices ![n.val, 0, 0, 0, 0] S1x4x8x128x128 := ⟨rfl, fun a => match a with
    | ⟨0, _⟩ => by show n.val + 1 ≤ 256; omega
    | ⟨1, _⟩ => by show 0 + 4 ≤ 4; omega
    | ⟨2, _⟩ => by show 0 + 8 ≤ 8; omega
    | ⟨3, _⟩ => by show 0 + 128 ≤ 128; omega
    | ⟨4, _⟩ => by show 0 + 128 ≤ 128; omega⟩
  rw [Host.dynamicSlice_eq_extractStridedSlice _ x start ![n.val, 0, 0, 0, 0] _ hoff hs]
  pointwise

theorem rowUp (x : Vec Ideal S256x4x8x64x128 .f32) (y : Vec Ideal S1x4x8x64x128 .f32) (start : Fin 5 → Int)
    (hs : ∀ a, start a = ((![n.val, 0, 0, 0, 0] : Fin 5 → ℕ) a : Int)) (n' : Fin 256) :
    (Host.dynamicUpdateSlice x y start updateFits_S256x4x8x64x128_S1x4x8x64x128 : Vec Ideal S256x4x8x64x128 .f32) (ix5 n' B H s v)
      = if n' = n then y (ix5 0 B H s v) else x (ix5 n' B H s v) := by
  have hoff : S256x4x8x64x128.Slices ![n.val, 0, 0, 0, 0] S1x4x8x64x128 := ⟨rfl, fun a => match a with
    | ⟨0, _⟩ => by show n.val + 1 ≤ 256; omega
    | ⟨1, _⟩ => by show 0 + 4 ≤ 4; omega
    | ⟨2, _⟩ => by show 0 + 8 ≤ 8; omega
    | ⟨3, _⟩ => by show 0 + 64 ≤ 64; omega
    | ⟨4, _⟩ => by show 0 + 128 ≤ 128; omega⟩
  rw [Host.dynamicUpdateSlice_eq_updateSlice x y start _ ![n.val, 0, 0, 0, 0] (fun a => by
    rw [hs a]
    have := hoff.2 a
    omega) hoff]
  unfold updateSlice
  by_cases e : n' = n
  · subst e
    rw [if_pos rfl, dif_pos (fun a => by
      match a with
      | ⟨0, _⟩ => show n'.val ≤ n'.val ∧ n'.val < n'.val + 1; omega
      | ⟨1, _⟩ => show 0 ≤ B.val ∧ B.val < 0 + 4; omega
      | ⟨2, _⟩ => show 0 ≤ H.val ∧ H.val < 0 + 8; omega
      | ⟨3, _⟩ => show 0 ≤ s.val ∧ s.val < 0 + 64; omega
      | ⟨4, _⟩ => show 0 ≤ v.val ∧ v.val < 0 + 128; omega)]
    refine congrArg y (funext fun a => Fin.ext ?_)
    match a with
    | ⟨0, _⟩ => show n'.val - n'.val = 0; omega
    | ⟨1, _⟩ => rfl
    | ⟨2, _⟩ => rfl
    | ⟨3, _⟩ => rfl
    | ⟨4, _⟩ => rfl
  · rw [if_neg e, dif_neg (fun h => e (Fin.ext (by
      have h0 : n.val ≤ n'.val ∧ n'.val < n.val + 1 := h (0 : Fin 5)
      omega)))]

theorem dus_of (y : Vec Ideal S4x8x128 .f32) (z w : Vec Ideal S4x8x128x128 .f32) :
    (addf (F := Ideal) (φ := .f32) (mulf (broadcastInDim S4x8x128x128 ![0, 1, 2, 3] bcast_S4x8x128x1_S4x8x128x128_0_1_2_3
      (broadcastInDim S4x8x128x1 ![0, 1, 2] bcast_S4x8x128_S4x8x128x1_0_1_2 y)) z) w : Vec Ideal S4x8x128x128 .f32) (ix4 B H k v)
      = y (ix3 B H k) * z (ix4 B H k v) + w (ix4 B H k v) := by
  pointwise

theorem outs_of (y q : Vec Ideal S4x8x64x128 .f32) (z : Vec Ideal S4x8x128x128 .f32) (o : Fin 1) :
    (broadcastInDim S1x4x8x64x128 ![1, 2, 3, 4] bcast_S4x8x64x128_S1x4x8x64x128_1_2_3_4
      (addf (F := Ideal) (φ := .f32) y (Host.dotGeneral (φ₁ := .f32) (φ₂ := .f32) dot_S4x8x64x128_S4x8x128x128_S4x8x64x128_3_2_2_3_01_01 none q z)) : Vec Ideal S1x4x8x64x128 .f32) (ix5 o B H s v)
      = y (ix4 B H s v) + ∑ k : Fin 128, q (ix4 B H s k) * z (ix4 B H k v) := by
  pointwise

end Rows

/-! ### The trips -/

/-- The buffers before trip `n`, for inputs `I`. -/
structure At (I : Fin 2 → Fin 2 → Fin 8 → Inp) (W : Valuation τ sig (Elt Ideal)) (n : ℕ) : Prop where
  ctr : W (Proc.devRef .tc main_v114_4) = fun _ => BitVec.ofNat 32 n
  dec : ∀ (n' : Fin 256) (d b : Fin 2) (H : Fin 8) (k : Fin 128),
    (W (Proc.devRef .tc main_v114_0) : Vec Ideal S256x4x8x128 .f32) (ix4 n' (db d b) H k) = Ideal.exp ((I d b H).cb n'.val 63 k)
  ds : ∀ (n' : Fin 256) (d b : Fin 2) (H : Fin 8) (k v : Fin 128),
    (W (Proc.devRef .tc main_v114_1) : Vec Ideal S256x4x8x128x128 .f32) (ix5 n' (db d b) H k v) = (I d b H).du n'.val v k
  qd : ∀ (n' : Fin 256) (d b : Fin 2) (H : Fin 8) (s : Fin 64) (k : Fin 128),
    (W (Proc.devRef .tc main_v114_2) : Vec Ideal S256x4x8x64x128 .f32) (ix5 n' (db d b) H s k) = (I d b H).qd n'.val s k
  oi : ∀ (n' : Fin 256) (d b : Fin 2) (H : Fin 8) (s : Fin 64) (v : Fin 128),
    (W (Proc.devRef .tc main_v114_3) : Vec Ideal S256x4x8x64x128 .f32) (ix5 n' (db d b) H s v) = (I d b H).oi n'.val s v
  st : ∀ (d b : Fin 2) (H : Fin 8) (k v : Fin 128),
    (W (Proc.devRef .tc main_v114_5) : Vec Ideal S4x8x128x128 .f32) (ix4 (db d b) H k v) = (I d b H).St n v k
  out : ∀ (n' : Fin 256), n'.val < n → ∀ (d b : Fin 2) (H : Fin 8) (s : Fin 64) (v : Fin 128),
    (W (Proc.devRef .tc main_v114_6) : Vec Ideal S256x4x8x64x128 .f32) (ix5 n' (db d b) H s v) = (I d b H).out n'.val s v

theorem starts4 (C : (⟨S_, .i32⟩ : BufTy).Contents (Elt Ideal)) (n : Fin 256) (hC : C = fun _ => BitVec.ofNat 32 n.val) (a : Fin 4) :
    (((![C, constantI S_ 32 0#32, constantI S_ 32 0#32, constantI S_ 32 0#32] : Fin 4 → (⟨S_, .i32⟩ : BufTy).Contents (Elt Ideal))) a
      (Shape.Idx.first h_S_)).toInt = ((![n.val, 0, 0, 0] : Fin 4 → ℕ) a : Int) := by
  subst hC
  match a with
  | ⟨0, _⟩ => exact toInt_ofNat_of_lt (by omega)
  | ⟨1, _⟩ => rfl
  | ⟨2, _⟩ => rfl
  | ⟨3, _⟩ => rfl

theorem starts5 (C : (⟨S_, .i32⟩ : BufTy).Contents (Elt Ideal)) (n : Fin 256) (hC : C = fun _ => BitVec.ofNat 32 n.val) (a : Fin 5) :
    (((![C, constantI S_ 32 0#32, constantI S_ 32 0#32, constantI S_ 32 0#32, constantI S_ 32 0#32] : Fin 5 → (⟨S_, .i32⟩ : BufTy).Contents (Elt Ideal))) a
      (Shape.Idx.first h_S_)).toInt = ((![n.val, 0, 0, 0, 0] : Fin 5 → ℕ) a : Int) := by
  subst hC
  match a with
  | ⟨0, _⟩ => exact toInt_ofNat_of_lt (by omega)
  | ⟨1, _⟩ => rfl
  | ⟨2, _⟩ => rfl
  | ⟨3, _⟩ => rfl
  | ⟨4, _⟩ => rfl

variable {I : Fin 2 → Fin 2 → Fin 8 → Inp} {W : Valuation τ sig (Elt Ideal)} {n : Fin 256}

theorem At.st' (h : At I W n.val) (d b : Fin 2) (H : Fin 8) (k v : Fin 128) :
    (step_main_v114_5 W : Vec Ideal S4x8x128x128 .f32) (ix4 (db d b) H k v) = (I d b H).St (n.val + 1) v k := by
  unfold step_main_v114_5
  refine (dus_of (db d b) H k v _ _ _).trans ?_
  refine (congrArg₂ (fun x y : EReal => x + y) (congrArg₂ (fun x y : EReal => x * y)
    ((row4 n (db d b) H k _ _ (starts4 _ n h.ctr)).trans (h.dec n d b H k)) (h.st d b H k v))
    ((rowS n (db d b) H k v _ _ (starts5 _ n h.ctr)).trans (h.ds n d b H k v))).trans ?_
  show Ideal.exp ((I d b H).cb n.val 63 k) * (I d b H).St n.val v k + _ = (I d b H).St n.val v k * Ideal.exp ((I d b H).cb n.val 63 k) + _
  rw [mul_comm]

theorem At.out' (h : At I W n.val) (n' : Fin 256) (hn : n'.val < n.val + 1) (d b : Fin 2) (H : Fin 8) (s : Fin 64) (v : Fin 128) :
    (step_main_v114_6 W : Vec Ideal S256x4x8x64x128 .f32) (ix5 n' (db d b) H s v) = (I d b H).out n'.val s v := by
  unfold step_main_v114_6
  refine (rowUp n (db d b) H s v _ _ _ (starts5 _ n h.ctr) n').trans ?_
  by_cases e : n' = n
  · subst e
    rw [if_pos rfl]
    refine (outs_of (db d b) H s v _ _ _ 0).trans ?_
    exact congrArg₂ (fun x y : EReal => x + y) ((rowV n' (db d b) H s v _ _ (starts5 _ n' h.ctr)).trans (h.oi n' d b H s v))
      (Finset.sum_congr rfl fun k _ => congrArg₂ (fun x y : EReal => x * y)
        ((rowV n' (db d b) H s k _ _ (starts5 _ n' h.ctr)).trans (h.qd n' d b H s k)) (h.st d b H k v))
  · rw [if_neg e, h.out n' (by omega)]

theorem At.step (h : At I W n.val) : At I (STEP W) (n.val + 1) where
  ctr := by
    rw [STEP_main_v114_4]
    unfold step_main_v114_4
    rw [h.ctr]
    funext i
    show BitVec.ofNat 32 n.val + 1#32 = BitVec.ofNat 32 (n.val + 1)
    rw [BitVec.ofNat_add]
  dec := by rw [STEP_main_v114_0]; exact h.dec
  ds := by rw [STEP_main_v114_1]; exact h.ds
  qd := by rw [STEP_main_v114_2]; exact h.qd
  oi := by rw [STEP_main_v114_3]; exact h.oi
  st := by rw [STEP_main_v114_5]; exact h.st'
  out := by rw [STEP_main_v114_6]; exact h.out'

theorem At.steps (h : At I W 0) : ∀ n : ℕ, n ≤ 256 → At I (STEP^[n] W) n := by
  intro n
  induction n with
  | zero => exact fun _ => h
  | succ n ih =>
    intro hn
    rw [Function.iterate_succ_apply']
    exact At.step (n := ⟨n, by omega⟩) (ih (by omega))

end Cert.ReferenceIdeal.Scan

end
-- ==== Proof.RefResult.lean ====
/- The reference's run: its results are the layer's, `outA` in each direction and `lastA`. -/
module

public import proofs.«01_k».proof.Proof.RefLoop

@[expose] public section

noncomputable section

namespace Cert.ReferenceIdeal.Scan

open Cert.ReferenceIdeal Cert.ReferenceIdeal.Gen Cert.ReferenceIdeal.Value Idealize.ShloMosaic Idealize.SL.Sem StableHlo TcCoe Cert.Scan

section Final
variable (W : Valuation τ sig (Elt Ideal)) (b : Fin 2) (H : Fin 8) (n : Fin 256) (s : Fin 64) (k v : Fin 128)

/-- A row of the scan's outputs, chunks joined and heads together. -/
theorem join_at (x : Vec Ideal S256x4x8x64x128 .f32) (B : Fin 4) :
    (shapeCast S4x8x16384x128 (transpose S4x8x256x64x128 [1, 2, 0, 3, 4] x transposes_S256x4x8x64x128_S4x8x256x64x128_1_2_0_3_4)
      shapeCasts_S4x8x256x64x128_S4x8x16384x128 : Vec Ideal S4x8x16384x128 .f32) (ix4 B H (stp n s) v) = x (ix5 n B H s v) := by
  unfold stp
  pointwise

theorem heads_at (y : Vec Ideal S2x8x16384x128 .f32) (u : Fin 16384) :
    (shapeCast S2x16384x1024 (transpose S2x16384x8x128 [0, 2, 1, 3] y transposes_S2x8x16384x128_S2x16384x8x128_0_2_1_3)
      shapeCasts_S2x16384x8x128_S2x16384x1024 : Vec Ideal S2x16384x1024 .f32) (ix3 b u (ch H v)) = y (ix4 b H u v) := by
  unfold ch
  pointwise

theorem half0_at (y : Vec Ideal S4x8x16384x128 .f32) (u : Fin 16384) :
    (extractStridedSlice S2x8x16384x128 ![0, 0, 0, 0] y slices_S4x8x16384x128_S2x8x16384x128_0_0_0_0 : Vec Ideal S2x8x16384x128 .f32) (ix4 b H u v)
      = y (ix4 (db 0 b) H u v) := by
  unfold db
  obtain rfl | rfl : b = 0 ∨ b = 1 := by omega
  · pointwise
  · pointwise

theorem half1_at (y : Vec Ideal S4x8x16384x128 .f32) (u : Fin 16384) :
    (Host.reverse [2] (extractStridedSlice S2x8x16384x128 ![2, 0, 0, 0] y slices_S4x8x16384x128_S2x8x16384x128_2_0_0_0) : Vec Ideal S2x8x16384x128 .f32)
      (ix4 b H u.rev v) = y (ix4 (db 1 b) H u v) := by
  unfold db
  obtain rfl | rfl : b = 0 ∨ b = 1 := by omega
  · pointwise
    show y (ix4 2 H u.rev.rev v) = _
    rw [Fin.rev_rev]
  · pointwise
    show y (ix4 3 H u.rev.rev v) = _
    rw [Fin.rev_rev]

theorem v123_at : (out_main_v123 W : Vec Ideal S2x16384x1024 .f32) (ix3 b (stp n s) (ch H v))
    = (W (Proc.devRef .tc main_v114_6) : Vec Ideal S256x4x8x64x128 .f32) (ix5 n (db 0 b) H s v) := by
  unfold out_main_v123
  exact (heads_at b H v _ _).trans ((half0_at b H v _ _).trans (join_at H n s v _ _))

theorem v125_at : (out_main_v125 W : Vec Ideal S2x16384x1024 .f32) (ix3 b (stp n s).rev (ch H v))
    = (W (Proc.devRef .tc main_v114_6) : Vec Ideal S256x4x8x64x128 .f32) (ix5 n (db 1 b) H s v) := by
  unfold out_main_v125
  exact (heads_at b H v _ _).trans ((half1_at b H v _ _).trans (join_at H n s v _ _))

theorem last_at (x : Vec Ideal S4x8x128x128 .f32) (d : Fin 2) :
    (concatenate S2x2x8x128x128 1 [⟨S2x1x8x128x128, (broadcastInDim S2x1x8x128x128 ![0, 2, 3, 4] bcast_S2x8x128x128_S2x1x8x128x128_0_2_3_4 (transpose S2x8x128x128 [0, 1, 3, 2] (extractStridedSlice S2x8x128x128 ![0, 0, 0, 0] x slices_S4x8x128x128_S2x8x128x128_0_0_0_0) transposes_S2x8x128x128_S2x8x128x128_0_1_3_2))⟩,
      ⟨S2x1x8x128x128, (broadcastInDim S2x1x8x128x128 ![0, 2, 3, 4] bcast_S2x8x128x128_S2x1x8x128x128_0_2_3_4 (transpose S2x8x128x128 [0, 1, 3, 2] (extractStridedSlice S2x8x128x128 ![2, 0, 0, 0] x slices_S4x8x128x128_S2x8x128x128_2_0_0_0) transposes_S2x8x128x128_S2x8x128x128_0_1_3_2))⟩]
      concatenates_S2x1x8x128x128_S2x1x8x128x128_S2x2x8x128x128_d1 : Vec Ideal S2x2x8x128x128 .f32) (ix5 b d H v k) = x (ix4 (db d b) H k v) := by
  unfold db
  obtain rfl | rfl : d = 0 ∨ d = 1 := by omega
  · obtain rfl | rfl : b = 0 ∨ b = 1 := by omega
    · pointwise
    · pointwise
  · obtain rfl | rfl : b = 0 ∨ b = 1 := by omega
    · pointwise
    · pointwise

theorem v130_at (d : Fin 2) : (out_main_v130 W : Vec Ideal S2x2x8x128x128 .f32) (ix5 b d H v k)
    = (W (Proc.devRef .tc main_v114_5) : Vec Ideal S4x8x128x128 .f32) (ix4 (db d b) H k v) := by
  unfold out_main_v130
  exact last_at b H k v _ d

end Final

/-! ### The run -/

variable (m : (ℓ : Loc nD τ sig) → Buf (Elt Ideal) ℓ) (c : Dev nD)

/-- The inputs of the recurrences. -/
abbrev II (d b : Fin 2) (H : Fin 8) : Inp := inp (a0 m c) (a1 m c) (a2 m c) d b H

theorem at0 : At (II m c) (entryContents preI m c) 0 where
  ctr := ctr_entry m c
  dec n d b H k := (congrFun (entry_0 m c) _).trans (dec_at _ _ _ d b H n k)
  ds n d b H k v := (congrFun (entry_1 m c) _).trans (ds_at _ _ _ d b H n k v)
  qd n d b H s k := (congrFun (entry_2 m c) _).trans (qdN_at _ _ _ d b H n s k)
  oi n d b H s v := (congrFun (entry_3 m c) _).trans (oi_at _ _ _ d b H n s v)
  st d b H k v := (congrFun (entry_5 m c) _).trans (st_at _ _ _ d b H k v)
  out n h := absurd h (Nat.not_lt_zero _)

/-- The buffers after the scan. -/
theorem atEnd : At (II m c) (STEP^[256] (entryContents preI m c)) 256 := (at0 m c).steps 256 le_rfl

/-- Every position is a chunk's step. -/
theorem ex_stp (u : Fin 16384) : ∃ (n : Fin 256) (s : Fin 64), u = stp n s :=
  ⟨⟨u.val / 64, by omega⟩, ⟨u.val % 64, by omega⟩, Fin.ext (show u.val = 64 * (u.val / 64) + u.val % 64 by omega)⟩

theorem ex_ch (N : Fin 1024) : ∃ (H : Fin 8) (v : Fin 128), N = ch H v :=
  ⟨⟨N.val / 128, by omega⟩, ⟨N.val % 128, by omega⟩, Fin.ext (show N.val = 128 * (N.val / 128) + N.val % 128 by omega)⟩

theorem ex_ix3 (j : S2x16384x1024.Idx) : ∃ (b : Fin 2) (u : Fin 16384) (N : Fin 1024), j = ix3 b u N :=
  ⟨j 0, j 1, j 2, funext fun a => match a with
    | ⟨0, _⟩ => rfl
    | ⟨1, _⟩ => rfl
    | ⟨2, _⟩ => rfl⟩

theorem ex_ix5 (j : S2x2x8x128x128.Idx) : ∃ (b d : Fin 2) (H : Fin 8) (v k : Fin 128), j = ix5 b d H v k :=
  ⟨j 0, j 1, j 2, j 3, j 4, funext fun a => match a with
    | ⟨0, _⟩ => rfl
    | ⟨1, _⟩ => rfl
    | ⟨2, _⟩ => rfl
    | ⟨3, _⟩ => rfl
    | ⟨4, _⟩ => rfl⟩

theorem res_123 : (out_main_v123 (STEP^[256] (entryContents preI m c)) : Vec Ideal S2x16384x1024 .f32) = outA (a0 m c) (a1 m c) (a2 m c) 0 := by
  have h := atEnd m c
  revert h
  generalize STEP^[256] (entryContents preI m c) = W
  intro h
  funext j
  obtain ⟨b, u, N, rfl⟩ := ex_ix3 j
  obtain ⟨n, s, rfl⟩ := ex_stp u
  obtain ⟨H, v, rfl⟩ := ex_ch N
  exact (v123_at W b H n s v).trans ((h.out n n.isLt 0 b H s v).trans
    (outA_at _ _ _ 0 b H n.val s v _ _ _ n.isLt (tm_stp0 n s).symm rfl rfl).symm)

theorem res_125 : (out_main_v125 (STEP^[256] (entryContents preI m c)) : Vec Ideal S2x16384x1024 .f32) = outA (a0 m c) (a1 m c) (a2 m c) 1 := by
  have h := atEnd m c
  revert h
  generalize STEP^[256] (entryContents preI m c) = W
  intro h
  funext j
  obtain ⟨b, u, N, rfl⟩ := ex_ix3 j
  obtain ⟨n, s, e⟩ := ex_stp u.rev
  obtain rfl : u = (stp n s).rev := by rw [← e, Fin.rev_rev]
  obtain ⟨H, v, rfl⟩ := ex_ch N
  exact (v125_at W b H n s v).trans ((h.out n n.isLt 1 b H s v).trans
    (outA_at _ _ _ 1 b H n.val s v _ _ _ n.isLt (tm_stp1 n s).symm rfl rfl).symm)

theorem res_130 : (out_main_v130 (STEP^[256] (entryContents preI m c)) : Vec Ideal S2x2x8x128x128 .f32) = lastA (a0 m c) (a1 m c) (a2 m c) := by
  have h := atEnd m c
  revert h
  generalize STEP^[256] (entryContents preI m c) = W
  intro h
  funext j
  obtain ⟨b, d, H, v, k, rfl⟩ := ex_ix5 j
  exact (v130_at W b H k v d).trans (h.st d b H k v)

theorem runV (ρ : Dev nD → PrngReg) : θ_run (defs (F := Ideal)) (onTc (τ := τ) (main (F := Ideal))) ⟨m, fun _ => 0, ρ⟩ fun r => ∀ c : Dev nD,
      r.2.mem ((c : Thread nD τ).loc main_v123) = outA (a0 m c) (a1 m c) (a2 m c) 0
      ∧ r.2.mem ((c : Thread nD τ).loc main_v125) = outA (a0 m c) (a1 m c) (a2 m c) 1
      ∧ r.2.mem ((c : Thread nD τ).loc main_v130) = lastA (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (res_123 m c), (h c).2.1.trans (res_125 m c), (h c).2.2.1.trans (res_130 m c), (h c).2.2.2⟩)
    (run m ρ)

end Cert.ReferenceIdeal.Scan

end
-- ==== Proof.UpBody.lean ====
/- The dense layer's first product: the blocks the kernel's body computes, at an index. -/
module

public import proofs.«01_k».proof.Proof.Gen.Kernel2Ideal.Value
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel2Ideal.Up

open Cert.Kernel2Ideal Cert.Kernel2Ideal.Gen Idealize.ShloMosaic Idealize.ShloMosaic.Tactic

/-- A row's scale: one over the root of the mean square of its 1024 entries. -/
def scale (f : Fin 1024 → EReal) : EReal :=
  Ideal.rsqrt (Ideal.div (∑ j, f j * f j) (FloatOps.ofBits (F := Ideal) .f32 0x44800000#32) + FloatOps.ofBits (F := Ideal) .f32 0x358637BD#32)

/-- The gated product of two sums. -/
def gated (a b : EReal) : EReal := a * Ideal.logistic a * b

theorem pay1_at (v25 : Vec Ideal S1x512x1024 .f32) (v27 : Vec Ideal S1x1024 .f32) (v29 v31 : Vec Ideal S1x1x1024 .f32) (r : Fin 512) (k : Fin 1024) :
    @Eq EReal ((k0_pay1 v25 v27 v29 v31 : Vec Ideal S512x1024 .bf16) (ix2 r k))
      (v25 (ix3 0 r k) * scale (fun j => v25 (ix3 0 r j)) * v27 (ix2 0 k) * v29 (ix3 0 0 k) + v31 (ix3 0 0 k)) := by
  unfold k0_pay1 scale
  pointwise

theorem pay2_at (v3 : Vec Ideal S512x1024 .bf16) (v4 v11 : Vec Ideal S1024x1792 .bf16) (v7 v14 : Vec Ideal S1x1792 .f32) (r : Fin 512) (n : Fin 1792) :
    @Eq EReal ((k0_pay2 v3 v4 v7 v11 v14 : Vec Ideal S1x512x1792 .bf16) (ix3 0 r n))
      (gated ((∑ k : Fin 1024, v3 (ix2 r k) * v4 (ix2 k n)) + v7 (ix2 0 n)) ((∑ k : Fin 1024, v3 (ix2 r k) * v11 (ix2 k n)) + v14 (ix2 0 n))) := by
  unfold k0_pay2 gated
  pointwise

/-- All of each block. -/
abbrev rOut : Rect S1x512x1792 := Rect.unit ![0, 0, 0] ![1, 512, 1792] inb_S1x512x1792_S1x512x1792_0_0_0
@[inherit_doc rOut] abbrev rScr : Rect S512x1024 := Rect.unit ![0, 0] ![512, 1024] inb_S512x1024_S512x1024_0_0

section loads
variable {F : FTy → Type} [FloatOps F]

theorem ld_x (x : Vec F S1x512x1024 .f32) : View.ld (Val := Elt F) x (Rect.unit ![0, 0, 0] ![1, 512, 1024] inb_S1x512x1024_S1x512x1024_0_0_0) = x := View.ld_unit_lit _ x (by decide)
theorem ld_g (x : Vec F S1x1024 .f32) : View.ld (Val := Elt F) x (Rect.unit ![0, 0] ![1, 1024] inb_S1x1024_S1x1024_0_0) = x := View.ld_unit_lit _ x (by decide)
theorem ld_s (x : Vec F S1x1x1024 .f32) : View.ld (Val := Elt F) x (Rect.unit ![0, 0, 0] ![1, 1, 1024] inb_S1x1x1024_S1x1x1024_0_0_0) = x := View.ld_unit_lit _ x (by decide)
theorem ld_w (x : Vec F S1024x1792 .bf16) : View.ld (Val := Elt F) x (Rect.unit ![0, 0] ![1024, 1792] inb_S1024x1792_S1024x1792_0_0) = x := View.ld_unit_lit _ x (by decide)
theorem ld_b (x : Vec F S1x1792 .f32) : View.ld (Val := Elt F) x (Rect.unit ![0, 0] ![1, 1792] inb_S1x1792_S1x1792_0_0) = x := View.ld_unit_lit _ x (by decide)
theorem ld_scr (x : Vec F S512x1024 .bf16) : View.ld (Val := Elt F) x rScr = x := View.ld_unit_lit _ x (by decide)

/-- A load of what a store of the whole scratch left. -/
theorem readCov_scr (v : View sig .tc .vmem S512x1024 .bf16) (w : Vec F S512x1024 .bf16) :
    v.readCov (Val := Elt F) [⟨rScr, w⟩] rScr.toLoadRect = w := by
  rw [View.readCov_eq_canon']
  refine Eq.trans ?_ (ld_scr w)
  funext j
  rw [View.canon_cons_unit_lit _ _ _ (by decide)]

end loads

section cases
variable {F : FTy → Type} [FloatOps F]
variable (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1792 .bf16) (harg7 : arg7.IsWhole) (arg8 : Memref sig .tc .vmem S1024x1792 .bf16) (harg8 : arg8.IsWhole) (arg9 : Memref sig .tc .vmem S1x1792 .f32) (harg9 : arg9.IsWhole) (arg10 : Memref sig .tc .vmem S1x1792 .f32) (harg10 : arg10.IsWhole) (arg11 : Memref sig .tc .vmem S1x512x1792 .bf16) (harg11 : arg11.IsWhole) (arg12 : Memref sig .tc .vmem S512x1024 .bf16) (harg12 : arg12.IsWhole)
  (x0 : Vec F S1x512x1024 .f32) (x1 : Vec F S1x1024 .f32) (x2 : Vec F S1x1x1024 .f32) (x3 : Vec F S1x1x1024 .f32) (x4 : Vec F S1024x1792 .bf16) (x5 : Vec F S1024x1792 .bf16) (x6 : Vec F S1x1792 .f32) (x7 : Vec F S1x1792 .f32) (xs0 : Vec F S512x1024 .bf16)

set_option maxHeartbeats 4000000 in
theorem runA_8 (hc0 : cond0_0 i) :
    (kernelRun0_A (F := F) c i arg3 harg3 arg4 harg4 arg5 harg5 arg6 harg6 arg7 harg7 arg8 harg8 arg9 harg9 arg10 harg10 arg11 harg11 arg12 harg12 hc0 x0 x1 x2 x3 x4 x5 x6 x7).1 = [⟨rOut, k0_pay2 (k0_pay1 x0 x1 x2 x3) x4 x6 x5 x7⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, readCov_scr, ld_w, ld_b, ld_x, ld_g, ld_s, ld_scr]

set_option maxHeartbeats 4000000 in
theorem runA_S (hc0 : cond0_0 i) :
    (kernelRun0_A (F := F) c i arg3 harg3 arg4 harg4 arg5 harg5 arg6 harg6 arg7 harg7 arg8 harg8 arg9 harg9 arg10 harg10 arg11 harg11 arg12 harg12 hc0 x0 x1 x2 x3 x4 x5 x6 x7).2.1 = [⟨rScr, k0_pay1 x0 x1 x2 x3⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, readCov_scr, ld_w, ld_b, ld_x, ld_g, ld_s, ld_scr]

set_option maxHeartbeats 4000000 in
theorem runB_8 (hc0 : ¬cond0_0 i) :
    (kernelRun0_B (F := F) c i arg3 harg3 arg4 harg4 arg5 harg5 arg6 harg6 arg7 harg7 arg8 harg8 arg9 harg9 arg10 harg10 arg11 harg11 arg12 harg12 hc0 x0 x1 x2 x3 x4 x5 x6 x7 xs0).1 = [⟨rOut, k0_pay2 xs0 x4 x6 x5 x7⟩] := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, readCov_scr, ld_w, ld_b, ld_x, ld_g, ld_s, ld_scr]

end cases

end Cert.Kernel2Ideal.Up

end
-- ==== Proof.Up.lean ====
/- The dense layer's first product: what each grid point leaves, and the kernel's result array. -/
module

public import proofs.«01_k».proof.Proof.UpBody

@[expose] public section

noncomputable section

namespace Cert.Kernel2Ideal.Up

open Cert.Kernel2Ideal Cert.Kernel2Ideal.Gen Idealize.ShloMosaic Idealize.ShloMosaic.TcCoe Idealize.SL.Sem

/-- The normalised and modulated input. -/
def normAt (x : Vec Ideal S2x16384x1024 .f32) (g : Vec Ideal S1024 .f32) (sc sh : Vec Ideal S2x1x1024 .f32) (b : Fin 2) (r : Fin 16384) (k : Fin 1024) : EReal :=
  x (ix3 b r k) * scale (fun j => x (ix3 b r j)) * g (ix1 k) * (1 + sc (ix3 b 0 k)) + sh (ix3 b 0 k)

/-- The result: the gated product of the normalised input's two products. -/
def upAt (x : Vec Ideal S2x16384x1024 .f32) (g : Vec Ideal S1024 .f32) (sc sh : Vec Ideal S2x1x1024 .f32) (wg wu : Vec Ideal S1024x3584 .f32)
    (b : Fin 2) (r : Fin 16384) (n : Fin 3584) : EReal :=
  gated (∑ k : Fin 1024, normAt x g sc sh b r k * wg (ix2 k n)) (∑ k : Fin 1024, normAt x g sc sh b r k * wu (ix2 k n))

def upA (x : Vec Ideal S2x16384x1024 .f32) (g : Vec Ideal S1024 .f32) (sc sh : Vec Ideal S2x1x1024 .f32) (wg wu : Vec Ideal S1024x3584 .f32) :
    Vec Ideal S2x16384x3584 .bf16 := fun i => upAt x g sc sh wg wu (i 0) (i 1) (i 2)

section Read
variable (m : (ℓ : Loc nD τ sig) → Buf (Elt Ideal) ℓ) (c : Dev nD) (t : Fin cfg0.N)

abbrev x0 : Vec Ideal S2x16384x1024 .f32 := m (c.tc.loc main_arg0)
abbrev x1 : Vec Ideal S1024 .f32 := m (c.tc.loc main_arg1)
abbrev x2 : Vec Ideal S2x1x1024 .f32 := m (c.tc.loc main_arg2)
abbrev x3 : Vec Ideal S2x1x1024 .f32 := m (c.tc.loc main_arg3)
abbrev x4 : Vec Ideal S1024x3584 .f32 := m (c.tc.loc main_arg4)
abbrev x5 : Vec Ideal S1024x3584 .f32 := m (c.tc.loc main_arg5)

theorem V0 : (V m c main_v0 : Vec Ideal S1024x3584 .bf16) = truncf (F := Ideal) (φ := .f32) .bf16 (x4 m c) bitsLt_bf16_f32 := by
  show StableHlo.after hostOps0 (fun b => m (c, b)) _ = _
  simp only [hostOps0]
  after_results

theorem V1 : (V m c main_v1 : Vec Ideal S1024x3584 .bf16) = truncf (F := Ideal) (φ := .f32) .bf16 (x5 m c) bitsLt_bf16_f32 := by
  show StableHlo.after hostOps0 (fun b => m (c, b)) _ = _
  simp only [hostOps0]
  after_results

theorem V4 : (V m c main_v4 : Vec Ideal S2x1x1024 .f32)
    = addf (F := Ideal) (φ := .f32) (broadcastInDim S2x1x1024 ![] bcast_S_S2x1x1024 (constant (F := Ideal) S_ .f32 0x3F800000#32)) (x2 m c) := by
  show StableHlo.after hostOps0 (fun b => m (c, b)) _ = _
  simp only [hostOps0]
  after_results

theorem V5 : (V m c main_v5 : Vec Ideal S1x3584 .f32)
    = shapeCast S1x3584 (broadcastInDim S3584 ![] bcast_S_S3584 (constant (F := Ideal) S_ .f32 0x00000000#32)) shapeCasts_S3584_S1x3584 := by
  show StableHlo.after hostOps0 (fun b => m (c, b)) _ = _
  simp only [hostOps0]
  after_results
  rfl

theorem V6 : (V m c main_v6 : Vec Ideal S1x3584 .f32)
    = shapeCast S1x3584 (broadcastInDim S3584 ![] bcast_S_S3584 (constant (F := Ideal) S_ .f32 0x00000000#32)) shapeCasts_S3584_S1x3584 := by
  show StableHlo.after hostOps0 (fun b => m (c, b)) _ = _
  simp only [hostOps0]
  after_results
  rfl

theorem V7 : (V m c main_v7 : Vec Ideal S1x1024 .f32) = shapeCast S1x1024 (x1 m c) shapeCasts_S1024_S1x1024 := by
  show StableHlo.after hostOps0 (fun b => m (c, b)) _ = _
  simp only [hostOps0]
  after_results
  rfl

theorem one_plus (s : Vec Ideal S2x1x1024 .f32) (b : Fin 2) (k : Fin 1024) :
    @Eq EReal (addf (F := Ideal) (φ := .f32) (broadcastInDim S2x1x1024 ![] bcast_S_S2x1x1024 (constant (F := Ideal) S_ .f32 0x3F800000#32)) s (ix3 b 0 k)) (1 + s (ix3 b 0 k)) := by
  pointwise

theorem V5_at (n : Fin 3584) : @Eq EReal ((V m c main_v5 : Vec Ideal S1x3584 .f32) (ix2 0 n)) 0 := by
  rw [V5]
  pointwise

theorem V6_at (n : Fin 3584) : @Eq EReal ((V m c main_v6 : Vec Ideal S1x3584 .f32) (ix2 0 n)) 0 := by
  rw [V6]
  pointwise

theorem row_at (g : Vec Ideal S1024 .f32) (k : Fin 1024) : (shapeCast S1x1024 g shapeCasts_S1024_S1x1024 : Vec Ideal S1x1024 .f32) (ix2 0 k) = g (ix1 k) := by
  pointwise

theorem ix_0 : ∀ t : Fin cfg0.N, win0_0.index t 0 = t.val / 64 ∧ win0_0.index t 1 = t.val / 2 % 32 ∧ win0_0.index t 2 = 0 := by decide +kernel
theorem ix_1 : ∀ t : Fin cfg0.N, win0_1.index t 0 = 0 ∧ win0_1.index t 1 = 0 := by decide +kernel
theorem ix_2 : ∀ t : Fin cfg0.N, win0_2.index t 0 = t.val / 64 ∧ win0_2.index t 1 = 0 ∧ win0_2.index t 2 = 0 := by decide +kernel
theorem ix_3 : ∀ t : Fin cfg0.N, win0_3.index t 0 = t.val / 64 ∧ win0_3.index t 1 = 0 ∧ win0_3.index t 2 = 0 := by decide +kernel
theorem ix_4 : ∀ t : Fin cfg0.N, win0_4.index t 0 = 0 ∧ win0_4.index t 1 = t.val % 2 := by decide +kernel
theorem ix_5 : ∀ t : Fin cfg0.N, win0_5.index t 0 = 0 ∧ win0_5.index t 1 = t.val % 2 := by decide +kernel
theorem ix_6 : ∀ t : Fin cfg0.N, win0_6.index t 0 = 0 ∧ win0_6.index t 1 = t.val % 2 := by decide +kernel
theorem ix_7 : ∀ t : Fin cfg0.N, win0_7.index t 0 = 0 ∧ win0_7.index t 1 = t.val % 2 := by decide +kernel
theorem ix_8 : ∀ t : Fin cfg0.N, win0_8.index t 0 = t.val / 64 ∧ win0_8.index t 1 = t.val / 2 % 32 ∧ win0_8.index t 2 = t.val % 2 := by decide +kernel

/-- The batch of point `t`, a row and a column of its block. -/
def bt : Fin 2 := ⟨t.val / 64, by have := lt_of_lt_of_eq t.isLt Gen.N_0; omega⟩
def row (r : Fin 512) : Fin 16384 := ⟨512 * (t.val / 2 % 32) + r.val, by omega⟩
def col (n : Fin 1792) : Fin 3584 := ⟨1792 * (t.val % 2) + n.val, by omega⟩

theorem blk_0 (r : Fin 512) (k : Fin 1024) : (iblk m c 0 t : Vec Ideal S1x512x1024 .f32) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 64; rw [hi.1]; omega
  | ⟨1, _⟩ => show win0_0.index t 1 * 512 + 1 * r.val = 512 * (t.val / 2 % 32) + r.val; rw [hi.2.1]; omega
  | ⟨2, _⟩ => show win0_0.index t 2 * 1024 + 1 * k.val = k.val; rw [hi.2.2]; omega

theorem blk_1 (k : Fin 1024) : (iblk m c 1 t : Vec Ideal S1x1024 .f32) (ix2 0 k) = x1 m c (ix1 k) := by
  have hi := ix_1 t
  unfold iblk
  rw [View.read_apply]
  refine Eq.trans ?_ (row_at (x1 m c) k)
  show (V m c main_v7 : Vec Ideal S1x1024 .f32) _ = _
  rw [V7]
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem blk_2 (k : Fin 1024) : @Eq EReal ((iblk m c 2 t : Vec Ideal S1x1x1024 .f32) (ix3 0 0 k)) (1 + x2 m c (ix3 (bt t) 0 k)) := by
  have hi := ix_2 t
  unfold iblk
  rw [View.read_apply]
  refine Eq.trans ?_ (one_plus (x2 m c) (bt t) k)
  show (V m c main_v4 : Vec Ideal S2x1x1024 .f32) _ = _
  rw [V4]
  congr 1
  funext a
  apply Fin.ext
  match a with
  | ⟨0, _⟩ => show win0_2.index t 0 * 1 + 1 * 0 = t.val / 64; rw [hi.1]; omega
  | ⟨1, _⟩ => show win0_2.index t 1 * 1 + 1 * 0 = 0; rw [hi.2.1]
  | ⟨2, _⟩ => show win0_2.index t 2 * 1024 + 1 * k.val = k.val; rw [hi.2.2]; omega

theorem blk_3 (k : Fin 1024) : (iblk m c 3 t : Vec Ideal S1x1x1024 .f32) (ix3 0 0 k) = x3 m c (ix3 (bt t) 0 k) := by
  have hi := ix_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = t.val / 64; rw [hi.1]; omega
  | ⟨1, _⟩ => show win0_3.index t 1 * 1 + 1 * 0 = 0; rw [hi.2.1]
  | ⟨2, _⟩ => show win0_3.index t 2 * 1024 + 1 * k.val = k.val; rw [hi.2.2]; omega

theorem blk_4 (k : Fin 1024) (n : Fin 1792) : (iblk m c 4 t : Vec Ideal S1024x1792 .bf16) (ix2 k n) = x4 m c (ix2 k (col t n)) := by
  have hi := ix_4 t
  unfold iblk
  rw [View.read_apply]
  show (V m c main_v0 : Vec Ideal S1024x3584 .bf16) _ = x4 m c _
  rw [V0]
  show x4 m c _ = x4 m c _
  congr 1
  funext a
  apply Fin.ext
  match a with
  | ⟨0, _⟩ => show win0_4.index t 0 * 1024 + 1 * k.val = k.val; rw [hi.1]; omega
  | ⟨1, _⟩ => show win0_4.index t 1 * 1792 + 1 * n.val = 1792 * (t.val % 2) + n.val; rw [hi.2]; omega

theorem blk_5 (k : Fin 1024) (n : Fin 1792) : (iblk m c 5 t : Vec Ideal S1024x1792 .bf16) (ix2 k n) = x5 m c (ix2 k (col t n)) := by
  have hi := ix_5 t
  unfold iblk
  rw [View.read_apply]
  show (V m c main_v1 : Vec Ideal S1024x3584 .bf16) _ = x5 m c _
  rw [V1]
  show x5 m c _ = x5 m c _
  congr 1
  funext a
  apply Fin.ext
  match a with
  | ⟨0, _⟩ => show win0_5.index t 0 * 1024 + 1 * k.val = k.val; rw [hi.1]; omega
  | ⟨1, _⟩ => show win0_5.index t 1 * 1792 + 1 * n.val = 1792 * (t.val % 2) + n.val; rw [hi.2]; omega

theorem blk_6 (n : Fin 1792) : @Eq EReal ((iblk m c 6 t : Vec Ideal S1x1792 .f32) (ix2 0 n)) 0 := by
  have hi := ix_6 t
  unfold iblk
  rw [View.read_apply]
  refine Eq.trans ?_ (V5_at m c (col t n))
  show (V m c main_v5 : Vec Ideal S1x3584 .f32) _ = (V m c main_v5 : Vec Ideal S1x3584 .f32) _
  congr 1
  funext a
  apply Fin.ext
  match a with
  | ⟨0, _⟩ => show win0_6.index t 0 * 1 + 1 * 0 = 0; rw [hi.1]
  | ⟨1, _⟩ => show win0_6.index t 1 * 1792 + 1 * n.val = 1792 * (t.val % 2) + n.val; rw [hi.2]; omega

theorem blk_7 (n : Fin 1792) : @Eq EReal ((iblk m c 7 t : Vec Ideal S1x1792 .f32) (ix2 0 n)) 0 := by
  have hi := ix_7 t
  unfold iblk
  rw [View.read_apply]
  refine Eq.trans ?_ (V6_at m c (col t n))
  show (V m c main_v6 : Vec Ideal S1x3584 .f32) _ = (V m c main_v6 : Vec Ideal S1x3584 .f32) _
  congr 1
  funext a
  apply Fin.ext
  match a with
  | ⟨0, _⟩ => show win0_7.index t 0 * 1 + 1 * 0 = 0; rw [hi.1]
  | ⟨1, _⟩ => show win0_7.index t 1 * 1792 + 1 * n.val = 1792 * (t.val % 2) + n.val; rw [hi.2]; omega

/-- What the scratch holds after a point: the normalised rows of the point's block. -/
theorem scr_at (n : ℕ) (hn : n < cfg0.N) (r : Fin 512) (k : Fin 1024) :
    @Eq EReal ((outsAt0 m c n hn).2 (ix2 r k)) (normAt (x0 m c) (x1 m c) (x2 m c) (x3 m c) (bt ⟨n, hn⟩) (row ⟨n, hn⟩ r) k) := by
  have even : ∀ t : Fin cfg0.N, t.val % 2 = 0 → @Eq EReal ((outsAt0 m c t.val t.isLt).2 (ix2 r k)) (normAt (x0 m c) (x1 m c) (x2 m c) (x3 m c) (bt t) (row t r) k) := by
    intro t h0
    rw [outsAt0_A m c t h0]
    dsimp only
    unfold sout0_A_0
    rw [runA_S, View.read_writes_junk_eq_canon, View.canon_cons_unit_lit (S := S512x1024) _ _ _ (by decide), pay1_at]
    unfold normAt
    rw [blk_0, blk_1, blk_2, blk_3]
    simp only [blk_0]
  by_cases h0 : n % 2 = 0
  · exact even ⟨n, hn⟩ h0
  · rw [outsAt0_B m c ⟨n, hn⟩ h0]
    dsimp only
    unfold sout0_B_0
    rw [even ⟨n - 1, Nat.lt_of_le_of_lt (Nat.sub_le _ _) hn⟩ (by show (n - 1) % 2 = 0; omega)]
    rw [show bt ⟨n - 1, Nat.lt_of_le_of_lt (Nat.sub_le _ _) hn⟩ = bt ⟨n, hn⟩ from Fin.ext (by show (n - 1) / 64 = n / 64; omega),
      show row ⟨n - 1, Nat.lt_of_le_of_lt (Nat.sub_le _ _) hn⟩ r = row ⟨n, hn⟩ r from Fin.ext (by show 512 * ((n - 1) / 2 % 32) + r.val = 512 * (n / 2 % 32) + r.val; omega)]

/-- The block of the result, over whatever the scratch holds. -/
theorem pay_of (s : Vec Ideal S512x1024 .bf16) (hs : ∀ r k, @Eq EReal (s (ix2 r k)) (normAt (x0 m c) (x1 m c) (x2 m c) (x3 m c) (bt t) (row t r) k)) (r : Fin 512) (n : Fin 1792) :
    @Eq EReal ((k0_pay2 s (iblk m c 4 t) (iblk m c 6 t) (iblk m c 5 t) (iblk m c 7 t) : Vec Ideal S1x512x1792 .bf16) (ix3 0 r n))
      (upAt (x0 m c) (x1 m c) (x2 m c) (x3 m c) (x4 m c) (x5 m c) (bt t) (row t r) (col t n)) := by
  rw [pay2_at, blk_6, blk_7, add_zero, add_zero]
  unfold upAt
  refine congrArg₂ gated (Finset.sum_congr rfl fun k _ => ?_) (Finset.sum_congr rfl fun k _ => ?_)
  · rw [hs, blk_4]
  · rw [hs, blk_5]

theorem point_8 (r : Fin 512) (n : Fin 1792) : @Eq EReal ((outsAt0 m c t.val t.isLt).1 (ix3 0 r n))
    (upAt (x0 m c) (x1 m c) (x2 m c) (x3 m c) (x4 m c) (x5 m c) (bt t) (row t r) (col t n)) := by
  by_cases h0 : t.val % 2 = 0
  · have hs : ∀ r k, @Eq EReal ((k0_pay1 (iblk m c 0 t) (iblk m c 1 t) (iblk m c 2 t) (iblk m c 3 t) : Vec Ideal S512x1024 .bf16) (ix2 r k))
        (normAt (x0 m c) (x1 m c) (x2 m c) (x3 m c) (bt t) (row t r) k) := by
      intro r k
      rw [pay1_at]
      unfold normAt
      rw [blk_0, blk_1, blk_2, blk_3]
      simp only [blk_0]
    rw [outsAt0_A m c t h0]
    dsimp only
    unfold out0_A_8
    rw [runA_8, View.read_writes_junk_eq_canon, View.canon_cons_unit_lit (S := S1x512x1792) _ _ _ (by decide)]
    exact pay_of m c t _ hs r n
  · rw [outsAt0_B m c t h0]
    dsimp only
    unfold out0_B_8
    rw [runB_8, View.read_writes_junk_eq_canon, View.canon_cons_unit_lit (S := S1x512x1792) _ _ _ (by decide)]
    refine pay_of m c t _ (fun r k => ?_) r n
    rw [scr_at]
    rw [show bt ⟨t.val - 1, Nat.lt_of_le_of_lt (Nat.sub_le _ _) t.isLt⟩ = bt t from Fin.ext (by show (t.val - 1) / 64 = t.val / 64; omega),
      show row ⟨t.val - 1, Nat.lt_of_le_of_lt (Nat.sub_le _ _) t.isLt⟩ r = row t r from Fin.ext (by show 512 * ((t.val - 1) / 2 % 32) + r.val = 512 * (t.val / 2 % 32) + r.val; omega)]

theorem flush_8 : (dats m 0 c).flushed 8 t = ((cfg0.win 8).blk t).view.read (Elt Ideal) (upA (x0 m c) (x1 m c) (x2 m c) (x3 m c) (x4 m c) (x5 m c)) := by
  have hi := ix_8 t
  rw [Value.flushed8]
  funext j
  rw [View.read_apply]
  have e : win0_8.xinj (grid0.coords t) j = (ix3 0 (j 1) (j 2) : S1x512x1792.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 8).blk t).view.emb j : S2x16384x3584.Idx) = ix3 (bt t) (row t (j 1)) (col t (j 2)) := by
    funext a
    apply Fin.ext
    match a with
    | ⟨0, _⟩ => show win0_8.index t 0 * 1 + 1 * (j 0).val = t.val / 64; rw [hi.1, h0]; omega
    | ⟨1, _⟩ => show win0_8.index t 1 * 512 + 1 * (j 1).val = 512 * (t.val / 2 % 32) + (j 1).val; rw [hi.2.1]; omega
    | ⟨2, _⟩ => show win0_8.index t 2 * 1792 + 1 * (j 2).val = 1792 * (t.val % 2) + (j 2).val; rw [hi.2.2]; omega
  exact ((congrArg _ e).trans (point_8 m c t _ _)).trans (congrArg (upA (x0 m c) (x1 m c) (x2 m c) (x3 m c) (x4 m c) (x5 m c)) e').symm

end Read

variable (m : (ℓ : Loc nD τ sig) → Buf (Elt Ideal) ℓ) (c : Dev nD)

theorem arr_8 : (dats m 0 c).arrAt 8 cfg0.N = upA (x0 m c) (x1 m c) (x2 m c) (x3 m c) (x4 m c) (x5 m c) :=
  (dats m 0 c).arrAt_eq_of_cover 8 (upA (x0 m c) (x1 m c) (x2 m c) (x3 m c) (x4 m c) (x5 m c)) (fun t _ => flush_8 m c t) fun i => by
    have h0 : (i 0 : Nat) < 2 := (i 0).isLt
    have h1 : (i 1 : Nat) < 16384 := (i 1).isLt
    have h2 : (i 2 : Nat) < 3584 := (i 2).isLt
    obtain ⟨t, ht⟩ : ∃ t : Fin cfg0.N, t.val = (i 0 : Nat) * 64 + (i 1 : Nat) / 512 * 2 + (i 2 : Nat) / 1792 := ⟨⟨_, by rw [show cfg0.N = 128 from Gen.N_0]; omega⟩, rfl⟩
    refine ⟨t, flush0_8 _, ?_⟩
    have hi := ix_8 t
    rw [ht] at hi
    show i ∈ ((View.whole main_v8).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 512 ≤ (i 1 : Nat) ∧ (i 1 : Nat) < win0_8.index t 1 * 512 + 512
      rw [hi.2.1]; omega
    | ⟨2, _⟩ =>
      show win0_8.index t 2 * 1792 ≤ (i 2 : Nat) ∧ (i 2 : Nat) < win0_8.index t 2 * 1792 + 1792
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v8) = upA (x0 m c) (x1 m c) (x2 m c) (x3 m c) (x4 m c) (x5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_8 m c), (h c).2⟩) (Value.run_blocks m ρ)

end Cert.Kernel2Ideal.Up

end
-- ==== Proof.UpRef.lean ====
/- The reference of the dense layer's first product: its result at an index. -/
module

public import proofs.«01_k».proof.Proof.Up
public import proofs.«01_k».proof.Proof.Gen.Reference2Ideal.Run

@[expose] public section

set_option maxRecDepth 100000

noncomputable section

namespace Cert.Reference2Ideal.Up

open Cert.Reference2Ideal Cert.Reference2Ideal.Gen Idealize.ShloMosaic Idealize.ShloMosaic.TcCoe Idealize.SL.Sem Cert.Kernel2Ideal.Up

/-- The normalised and modulated input, as the reference computes it. -/
def normR (x : Vec Ideal S2x16384x1024 .f32) (g : Vec Ideal S1024 .f32) (sc sh : Vec Ideal S2x1x1024 .f32) : Vec Ideal S2x16384x1024 .f32 :=
  addf (F := Ideal) (φ := .f32) (mulf (F := Ideal) (φ := .f32) (mulf (F := Ideal) (φ := .f32) (mulf (F := Ideal) (φ := .f32) x (broadcastInDim S2x16384x1024 ![0, 1, 2] bcast_S2x16384x1_S2x16384x1024_0_1_2 (Host.rsqrt (F := Ideal) (φ := .f32) (addf (F := Ideal) (φ := .f32) (Host.divf (F := Ideal) (φ := .f32) (broadcastInDim S2x16384x1 ![0, 1] bcast_S2x16384_S2x16384x1_0_1 (Host.reduceAdd (F := Ideal) (φ := .f32) (mulf (F := Ideal) (φ := .f32) x x) (constant (F := Ideal) S_ .f32 0x00000000#32) reducesTo_S2x16384x1024_S2x16384_d2 h_S_)) (broadcastInDim S2x16384x1 ![] bcast_S_S2x16384x1 (constant (F := Ideal) S_ .f32 0x44800000#32))) (broadcastInDim S2x16384x1 ![] bcast_S_S2x16384x1 (constant (F := Ideal) S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (F := Ideal) (φ := .f32) (broadcastInDim S2x1x1024 ![] bcast_S_S2x1x1024 (constant (F := Ideal) S_ .f32 0x3F800000#32)) sc))) (broadcastInDim S2x16384x1024 ![0, 1, 2] bcast_S2x1x1024_S2x16384x1024_0_1_2 sh)

/-- Its gated product. -/
def gatedR (h : Vec Ideal S2x16384x1024 .f32) (wg wu : Vec Ideal S1024x3584 .f32) : Vec Ideal S2x16384x3584 .bf16 :=
  truncf (F := Ideal) (φ := .f32) .bf16 (mulf (F := Ideal) (φ := .f32) (mulf (F := Ideal) (φ := .f32) (Host.dotGeneral (F := Ideal) (φ₁ := .f32) (φ₂ := .f32) dot_S2x16384x1024_S1024x3584_S2x16384x3584_2_0_01_1_n_n none h wg) (Host.divf (F := Ideal) (φ := .f32) (broadcastInDim S2x16384x3584 ![] bcast_S_S2x16384x3584 (constant (F := Ideal) S_ .f32 0x3F800000#32)) (addf (F := Ideal) (φ := .f32) (broadcastInDim S2x16384x3584 ![] bcast_S_S2x16384x3584 (constant (F := Ideal) S_ .f32 0x3F800000#32)) (Host.exp (F := Ideal) (φ := .f32) (Host.negf (F := Ideal) (φ := .f32) (Host.dotGeneral (F := Ideal) (φ₁ := .f32) (φ₂ := .f32) dot_S2x16384x1024_S1024x3584_S2x16384x3584_2_0_01_1_n_n none h wg)))))) (Host.dotGeneral (F := Ideal) (φ₁ := .f32) (φ₂ := .f32) dot_S2x16384x1024_S1024x3584_S2x16384x3584_2_0_01_1_n_n none h wu)) bitsLt_bf16_f32

theorem normR_at (x : Vec Ideal S2x16384x1024 .f32) (g : Vec Ideal S1024 .f32) (sc sh : Vec Ideal S2x1x1024 .f32) (b : Fin 2) (r : Fin 16384) (k : Fin 1024) :
    @Eq EReal (normR x g sc sh (ix3 b r k)) (normAt x g sc sh b r k) := by
  unfold normR normAt scale
  pointwise

theorem gatedR_at (h : Vec Ideal S2x16384x1024 .f32) (wg wu : Vec Ideal S1024x3584 .f32) (b : Fin 2) (r : Fin 16384) (n : Fin 3584) :
    @Eq EReal (gatedR h wg wu (ix3 b r n)) (gated (∑ k : Fin 1024, h (ix3 b r k) * wg (ix2 k n)) (∑ k : Fin 1024, h (ix3 b r k) * wu (ix2 k n))) := by
  unfold gatedR gated Ideal.logistic
  pointwise

theorem val_eq (x : Vec Ideal S2x16384x1024 .f32) (g : Vec Ideal S1024 .f32) (sc sh : Vec Ideal S2x1x1024 .f32) (wg wu : Vec Ideal S1024x3584 .f32) :
    gatedR (normR x g sc sh) wg wu = upA x g sc sh wg wu := by
  funext i
  have e : i = ix3 (i 0) (i 1) (i 2) := by
    funext a
    match a with
    | ⟨0, _⟩ => rfl
    | ⟨1, _⟩ => rfl
    | ⟨2, _⟩ => rfl
  rw [e]
  refine (gatedR_at _ wg wu _ _ _).trans ?_
  exact congrArg₂ gated (Finset.sum_congr rfl fun k _ => congrArg (fun z : EReal => z * wg (ix2 k (i 2))) (normR_at x g sc sh (i 0) (i 1) k))
    (Finset.sum_congr rfl fun k _ => congrArg (fun z : EReal => z * wu (ix2 k (i 2))) (normR_at x g sc sh (i 0) (i 1) k))

variable (m : (ℓ : Loc nD τ sig) → Buf (Elt Ideal) ℓ) (c : Dev nD)

abbrev a0 : Vec Ideal S2x16384x1024 .f32 := m (c.tc.loc main_arg0)
abbrev a1 : Vec Ideal S1024 .f32 := m (c.tc.loc main_arg1)
abbrev a2 : Vec Ideal S2x1x1024 .f32 := m (c.tc.loc main_arg2)
abbrev a3 : Vec Ideal S2x1x1024 .f32 := m (c.tc.loc main_arg3)
abbrev a4 : Vec Ideal S1024x3584 .f32 := m (c.tc.loc main_arg4)
abbrev a5 : Vec Ideal S1024x3584 .f32 := m (c.tc.loc main_arg5)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v23) = upA (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (val_eq (a0 m c) (a1 m c) (a2 m c) (a3 m c) (a4 m c) (a5 m c)), (h c).2⟩) (Value.run m ρ)

end Cert.Reference2Ideal.Up

end
-- ==== Proof.Down.lean ====
/- The dense layer's second product: the block the kernel's body writes, at an index, and the kernel's result array. -/
module

public import proofs.«01_k».proof.Proof.Gen.Kernel3Ideal.Value
public import Idealize.ShloMosaic.Lib.Pointwise
public import Idealize.ShloMosaic.PureOps.Ideal
public import Idealize.ShloMosaic.Lib.Pipeline.ValueKit

@[expose] public section

noncomputable section

namespace Cert.Kernel3Ideal.Down

open Cert.Kernel3Ideal Cert.Kernel3Ideal.Gen Idealize.ShloMosaic Idealize.ShloMosaic.TcCoe Idealize.SL.Sem

/-- The result: the input plus the gate times the product. -/
def downAt (h : Vec Ideal S2x16384x3584 .bf16) (w : Vec Ideal S3584x1024 .f32) (x : Vec Ideal S2x16384x1024 .f32) (g : Vec Ideal S2x1x1024 .f32)
    (b : Fin 2) (r : Fin 16384) (n : Fin 1024) : EReal :=
  x (ix3 b r n) + g (ix3 b 0 n) * ∑ k : Fin 3584, h (ix3 b r k) * w (ix2 k n)

def downA (h : Vec Ideal S2x16384x3584 .bf16) (w : Vec Ideal S3584x1024 .f32) (x : Vec Ideal S2x16384x1024 .f32) (g : Vec Ideal S2x1x1024 .f32) :
    Vec Ideal S2x16384x1024 .f32 := fun i => downAt h w x g (i 0) (i 1) (i 2)

theorem pay_at (v0 : Vec Ideal S1x512x3584 .bf16) (v2 : Vec Ideal S3584x1024 .bf16) (v5 : Vec Ideal S1x1024 .f32) (v9 : Vec Ideal S1x512x1024 .f32)
    (v11 : Vec Ideal S1x1x1024 .f32) (r : Fin 512) (n : Fin 1024) :
    (k0_pay1 v0 v2 v5 v9 v11 : Vec Ideal S1x512x1024 .f32) (ix3 0 r n)
      = v9 (ix3 0 r n) + v11 (ix3 0 0 n) * ((∑ k : Fin 3584, v0 (ix3 0 r k) * v2 (ix2 k n)) + v5 (ix2 0 n)) := by
  unfold k0_pay1
  pointwise

theorem out_eq (x0 : Vec Ideal S1x512x3584 .bf16) (x1 : Vec Ideal S3584x1024 .bf16) (x2 : Vec Ideal S1x1024 .f32) (x3 : Vec Ideal S1x512x1024 .f32)
    (x4 : Vec Ideal S1x1x1024 .f32) : out0_5 x0 x1 x2 x3 x4 = k0_pay1 x0 x1 x2 x3 x4 := by
  unfold out0_5
  refine (View.canon_cons_unit_lit (S := S1x512x1024) _ _ _ (by decide)).trans ?_
  congr 1 <;> exact View.ld_unit_lit _ _ (by decide)

section Read
variable (m : (ℓ : Loc nD τ sig) → Buf (Elt Ideal) ℓ) (c : Dev nD) (t : Fin cfg0.N)

abbrev x0 : Vec Ideal S2x16384x3584 .bf16 := m (c.tc.loc main_arg0)
abbrev x1 : Vec Ideal S3584x1024 .f32 := m (c.tc.loc main_arg1)
abbrev x2 : Vec Ideal S2x16384x1024 .f32 := m (c.tc.loc main_arg2)
abbrev x3 : Vec Ideal S2x1x1024 .f32 := m (c.tc.loc main_arg3)

theorem V0 : (V m c main_v0 : Vec Ideal S3584x1024 .bf16) = truncf (F := Ideal) (φ := .f32) .bf16 (x1 m c) bitsLt_bf16_f32 := by
  show StableHlo.after hostOps0 (fun b => m (c, b)) _ = _
  simp only [hostOps0]
  after_results

theorem V2 : (V m c main_v2 : Vec Ideal S1x1024 .f32)
    = shapeCast S1x1024 (broadcastInDim S1024 ![] bcast_S_S1024 (constant (F := Ideal) S_ .f32 0x00000000#32)) shapeCasts_S1024_S1x1024 := by
  show StableHlo.after hostOps0 (fun b => m (c, b)) _ = _
  simp only [hostOps0]
  after_results
  rfl

theorem V2_at (n : Fin 1024) : @Eq EReal ((V m c main_v2 : Vec Ideal S1x1024 .f32) (ix2 0 n)) 0 := by
  rw [V2]
  pointwise

theorem ix_0 : ∀ t : Fin cfg0.N, win0_0.index t 0 = t.val / 32 ∧ win0_0.index t 1 = t.val % 32 ∧ win0_0.index t 2 = 0 := by decide +kernel
theorem ix_1 : ∀ t : Fin cfg0.N, win0_1.index t 0 = 0 ∧ win0_1.index t 1 = 0 := by decide +kernel
theorem ix_2 : ∀ t : Fin cfg0.N, win0_2.index t 0 = 0 ∧ win0_2.index t 1 = 0 := by decide +kernel
theorem ix_3 : ∀ t : Fin cfg0.N, win0_3.index t 0 = t.val / 32 ∧ win0_3.index t 1 = t.val % 32 ∧ win0_3.index t 2 = 0 := by decide +kernel
theorem ix_4 : ∀ t : Fin cfg0.N, win0_4.index t 0 = t.val / 32 ∧ win0_4.index t 1 = 0 ∧ win0_4.index t 2 = 0 := by decide +kernel
theorem ix_5 : ∀ t : Fin cfg0.N, win0_5.index t 0 = t.val / 32 ∧ win0_5.index t 1 = t.val % 32 ∧ win0_5.index t 2 = 0 := by decide +kernel

/-- The batch of point `t`, and the row of its block. -/
def bt : Fin 2 := ⟨t.val / 32, by have := lt_of_lt_of_eq t.isLt Gen.N_0; omega⟩
def row (r : Fin 512) : Fin 16384 := ⟨512 * (t.val % 32) + r.val, by omega⟩

theorem blk_0 (r : Fin 512) (k : Fin 3584) : (iblk m c 0 t : Vec Ideal S1x512x3584 .bf16) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [hi.1]; omega
  | ⟨1, _⟩ => show win0_0.index t 1 * 512 + 1 * r.val = 512 * (t.val % 32) + r.val; rw [hi.2.1]; omega
  | ⟨2, _⟩ => show win0_0.index t 2 * 3584 + 1 * k.val = k.val; rw [hi.2.2]; omega

theorem blk_1 (k : Fin 3584) (n : Fin 1024) : (iblk m c 1 t : Vec Ideal S3584x1024 .bf16) (ix2 k n) = x1 m c (ix2 k n) := by
  have hi := ix_1 t
  unfold iblk
  rw [View.read_apply]
  show (V m c main_v0 : Vec Ideal S3584x1024 .bf16) _ = x1 m c _
  rw [V0]
  show x1 m c _ = x1 m c _
  congr 1
  funext a
  apply Fin.ext
  match a with
  | ⟨0, _⟩ => show win0_1.index t 0 * 3584 + 1 * k.val = k.val; rw [hi.1]; omega
  | ⟨1, _⟩ => show win0_1.index t 1 * 1024 + 1 * n.val = n.val; rw [hi.2]; omega

theorem blk_2 (n : Fin 1024) : @Eq EReal ((iblk m c 2 t : Vec Ideal S1x1024 .f32) (ix2 0 n)) 0 := by
  have hi := ix_2 t
  unfold iblk
  rw [View.read_apply]
  refine Eq.trans ?_ (V2_at m c n)
  show (V m c main_v2 : Vec Ideal S1x1024 .f32) _ = (V m c main_v2 : Vec Ideal S1x1024 .f32) _
  congr 1
  funext a
  apply Fin.ext
  match a with
  | ⟨0, _⟩ => show win0_2.index t 0 * 1 + 1 * 0 = 0; rw [hi.1]
  | ⟨1, _⟩ => show win0_2.index t 1 * 1024 + 1 * n.val = n.val; rw [hi.2]; omega

theorem blk_3 (r : Fin 512) (n : Fin 1024) : (iblk m c 3 t : Vec Ideal S1x512x1024 .f32) (ix3 0 r n) = x2 m c (ix3 (bt t) (row t r) n) := by
  have hi := ix_3 t
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = t.val / 32; rw [hi.1]; omega
  | ⟨1, _⟩ => show win0_3.index t 1 * 512 + 1 * r.val = 512 * (t.val % 32) + r.val; rw [hi.2.1]; omega
  | ⟨2, _⟩ => show win0_3.index t 2 * 1024 + 1 * n.val = n.val; rw [hi.2.2]; omega

theorem blk_4 (n : Fin 1024) : (iblk m c 4 t : Vec Ideal S1x1x1024 .f32) (ix3 0 0 n) = x3 m c (ix3 (bt t) 0 n) := by
  have hi := ix_4 t
  unfold iblk
  rw [View.read_apply]
  show V m c main_arg3 _ = m (c.tc.loc main_arg3) _
  rw [V_main_arg3]
  congr 1
  funext a
  apply Fin.ext
  match a with
  | ⟨0, _⟩ => show win0_4.index t 0 * 1 + 1 * 0 = t.val / 32; rw [hi.1]; omega
  | ⟨1, _⟩ => show win0_4.index t 1 * 1 + 1 * 0 = 0; rw [hi.2.1]
  | ⟨2, _⟩ => show win0_4.index t 2 * 1024 + 1 * n.val = n.val; rw [hi.2.2]; omega

theorem point_5 (r : Fin 512) (n : Fin 1024) : (out0_5 (iblk m c 0 t) (iblk m c 1 t) (iblk m c 2 t) (iblk m c 3 t) (iblk m c 4 t) : Vec Ideal S1x512x1024 .f32) (ix3 0 r n)
    = downAt (x0 m c) (x1 m c) (x2 m c) (x3 m c) (bt t) (row t r) n := by
  rw [out_eq, pay_at, blk_2, blk_3, blk_4, add_zero]
  unfold downAt
  refine congrArg (fun z : EReal => _ + _ * z) (Finset.sum_congr rfl fun k _ => ?_)
  rw [blk_0, blk_1]

theorem flush_5 : (dats m 0 c).flushed 5 t = ((cfg0.win 5).blk t).view.read (Elt Ideal) (downA (x0 m c) (x1 m c) (x2 m c) (x3 m c)) := by
  have hi := ix_5 t
  rw [Value.flushed5]
  funext j
  rw [View.read_apply]
  have e : win0_5.xinj (grid0.coords t) j = (ix3 0 (j 1) (j 2) : S1x512x1024.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 5).blk t).view.emb j : S2x16384x1024.Idx) = ix3 (bt t) (row t (j 1)) (j 2) := by
    funext a
    apply Fin.ext
    match a with
    | ⟨0, _⟩ => show win0_5.index t 0 * 1 + 1 * (j 0).val = t.val / 32; rw [hi.1, h0]; omega
    | ⟨1, _⟩ => show win0_5.index t 1 * 512 + 1 * (j 1).val = 512 * (t.val % 32) + (j 1).val; rw [hi.2.1]; omega
    | ⟨2, _⟩ => show win0_5.index t 2 * 1024 + 1 * (j 2).val = (j 2).val; rw [hi.2.2]; omega
  exact ((congrArg _ e).trans (point_5 m c t _ _)).trans (congrArg (downA (x0 m c) (x1 m c) (x2 m c) (x3 m c)) e').symm

end Read

variable (m : (ℓ : Loc nD τ sig) → Buf (Elt Ideal) ℓ) (c : Dev nD)

theorem arr_5 : (dats m 0 c).arrAt 5 cfg0.N = downA (x0 m c) (x1 m c) (x2 m c) (x3 m c) :=
  (dats m 0 c).arrAt_eq_of_cover 5 (downA (x0 m c) (x1 m c) (x2 m c) (x3 m c)) (fun t _ => flush_5 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 32 + (i 1 : Nat) / 512 := ⟨⟨_, by rw [show cfg0.N = 64 from Gen.N_0]; omega⟩, rfl⟩
    refine ⟨t, flush0_5 _, ?_⟩
    have hi := ix_5 t
    rw [ht] at hi
    show i ∈ ((View.whole main_v3).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [hi.1]; omega
    | ⟨1, _⟩ =>
      show win0_5.index t 1 * 512 ≤ (i 1 : Nat) ∧ (i 1 : Nat) < win0_5.index t 1 * 512 + 512
      rw [hi.2.1]; omega
    | ⟨2, _⟩ =>
      show win0_5.index t 2 * 1024 ≤ (i 2 : Nat) ∧ (i 2 : Nat) < win0_5.index t 2 * 1024 + 1024
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v3) = downA (x0 m c) (x1 m c) (x2 m c) (x3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr_5 m c), (h c).2⟩) (Value.run_blocks m ρ)

end Cert.Kernel3Ideal.Down

end
-- ==== Proof.DownRef.lean ====
/- The reference of the dense layer's second product: its result at an index. -/
module

public import proofs.«01_k».proof.Proof.Down
public import proofs.«01_k».proof.Proof.Gen.Reference3Ideal.Run

@[expose] public section

noncomputable section

namespace Cert.Reference3Ideal.Down

open Cert.Reference3Ideal Cert.Reference3Ideal.Gen Idealize.ShloMosaic Idealize.ShloMosaic.TcCoe Idealize.SL.Sem Cert.Kernel3Ideal.Down

theorem val_at (h : Vec Ideal S2x16384x3584 .bf16) (w : Vec Ideal S3584x1024 .f32) (x : Vec Ideal S2x16384x1024 .f32) (g : Vec Ideal S2x1x1024 .f32)
    (b : Fin 2) (r : Fin 16384) (n : Fin 1024) :
    (addf (F := Ideal) (φ := .f32) x (mulf (F := Ideal) (φ := .f32) (broadcastInDim S2x16384x1024 ![0, 1, 2] bcast_S2x1x1024_S2x16384x1024_0_1_2 g)
      (Host.dotGeneral (F := Ideal) (φ₁ := .f32) (φ₂ := .f32) dot_S2x16384x3584_S3584x1024_S2x16384x1024_2_0_01_1_n_n none (extf (F := Ideal) (φ := .bf16) .f32 h bitsLt_bf16_f32) w))) (ix3 b r n)
      = downAt h w x g b r n := by
  unfold downAt
  pointwise

theorem val_eq (h : Vec Ideal S2x16384x3584 .bf16) (w : Vec Ideal S3584x1024 .f32) (x : Vec Ideal S2x16384x1024 .f32) (g : Vec Ideal S2x1x1024 .f32) :
    addf (F := Ideal) (φ := .f32) x (mulf (F := Ideal) (φ := .f32) (broadcastInDim S2x16384x1024 ![0, 1, 2] bcast_S2x1x1024_S2x16384x1024_0_1_2 g)
      (Host.dotGeneral (F := Ideal) (φ₁ := .f32) (φ₂ := .f32) dot_S2x16384x3584_S3584x1024_S2x16384x1024_2_0_01_1_n_n none (extf (F := Ideal) (φ := .bf16) .f32 h bitsLt_bf16_f32) w))
      = downA h w x g := by
  funext i
  have e : i = ix3 (i 0) (i 1) (i 2) := by
    funext a
    match a with
    | ⟨0, _⟩ => rfl
    | ⟨1, _⟩ => rfl
    | ⟨2, _⟩ => rfl
  rw [e]
  exact val_at h w x g _ _ _

variable (m : (ℓ : Loc nD τ sig) → Buf (Elt Ideal) ℓ) (c : Dev nD)

abbrev a0 : Vec Ideal S2x16384x3584 .bf16 := m (c.tc.loc main_arg0)
abbrev a1 : Vec Ideal S3584x1024 .f32 := m (c.tc.loc main_arg1)
abbrev a2 : Vec Ideal S2x16384x1024 .f32 := m (c.tc.loc main_arg2)
abbrev a3 : Vec Ideal S2x1x1024 .f32 := m (c.tc.loc main_arg3)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v4) = downA (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (val_eq (a0 m c) (a1 m c) (a2 m c) (a3 m c)), (h c).2⟩) (Value.run m ρ)

end Cert.Reference3Ideal.Down

end
-- ==== Proof.ProjBody.lean ====
/- The recurrent mixer's input product: the blocks the kernel's body computes, at an index. -/
module

public import proofs.«01_k».proof.Proof.Gen.Kernel6Ideal.Value
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel6Ideal.Proj

open Cert.Kernel6Ideal Cert.Kernel6Ideal.Gen Idealize.ShloMosaic Idealize.ShloMosaic.Tactic

/-- A row's scale: one over the root of the mean square of its 1024 entries. -/
def scale (f : Fin 1024 → EReal) : EReal :=
  Ideal.rsqrt (Ideal.div (∑ j, f j * f j) (FloatOps.ofBits (F := Ideal) .f32 0x44800000#32) + FloatOps.ofBits (F := Ideal) .f32 0x358637BD#32)

theorem pay1_at (v25 : Vec Ideal S1x1024x1024 .f32) (v27 : Vec Ideal S1x1024 .f32) (v29 v31 : Vec Ideal S1x1x1024 .f32) (r : Fin 1024) (k : Fin 1024) :
    @Eq EReal ((k0_pay1 v25 v27 v29 v31 : Vec Ideal S1024x1024 .bf16) (ix2 r k))
      (v25 (ix3 0 r k) * scale (fun j => v25 (ix3 0 r j)) * v27 (ix2 0 k) * v29 (ix3 0 0 k) + v31 (ix3 0 0 k)) := by
  unfold k0_pay1 scale
  pointwise

theorem pay2_at (v3 : Vec Ideal S1024x1024 .bf16) (v4 : Vec Ideal S1024x1280 .bf16) (v7 : Vec Ideal S1x1280 .f32) (r : Fin 1024) (n : Fin 1280) :
    @Eq EReal ((k0_pay2 v3 v4 v7 : Vec Ideal S1x1024x1280 .f32) (ix3 0 r n)) ((∑ k : Fin 1024, v3 (ix2 r k) * v4 (ix2 k n)) + v7 (ix2 0 n)) := by
  unfold k0_pay2
  pointwise

/-- All of each block. -/
abbrev rOut : Rect S1x1024x1280 := Rect.unit ![0, 0, 0] ![1, 1024, 1280] inb_S1x1024x1280_S1x1024x1280_0_0_0
@[inherit_doc rOut] abbrev rScr : Rect S1024x1024 := Rect.unit ![0, 0] ![1024, 1024] inb_S1024x1024_S1024x1024_0_0

section loads
variable {F : FTy → Type} [FloatOps F]

theorem ld_x (x : Vec F S1x1024x1024 .f32) : View.ld (Val := Elt F) x (Rect.unit ![0, 0, 0] ![1, 1024, 1024] inb_S1x1024x1024_S1x1024x1024_0_0_0) = x := View.ld_unit_lit _ x (by decide)
theorem ld_g (x : Vec F S1x1024 .f32) : View.ld (Val := Elt F) x (Rect.unit ![0, 0] ![1, 1024] inb_S1x1024_S1x1024_0_0) = x := View.ld_unit_lit _ x (by decide)
theorem ld_s (x : Vec F S1x1x1024 .f32) : View.ld (Val := Elt F) x (Rect.unit ![0, 0, 0] ![1, 1, 1024] inb_S1x1x1024_S1x1x1024_0_0_0) = x := View.ld_unit_lit _ x (by decide)
theorem ld_w (x : Vec F S1024x1280 .bf16) : View.ld (Val := Elt F) x (Rect.unit ![0, 0] ![1024, 1280] inb_S1024x1280_S1024x1280_0_0) = x := View.ld_unit_lit _ x (by decide)
theorem ld_b (x : Vec F S1x1280 .f32) : View.ld (Val := Elt F) x (Rect.unit ![0, 0] ![1, 1280] inb_S1x1280_S1x1280_0_0) = x := View.ld_unit_lit _ x (by decide)
theorem ld_scr (x : Vec F S1024x1024 .bf16) : View.ld (Val := Elt F) x rScr = x := View.ld_unit_lit _ x (by decide)

/-- A load of what a store of the whole scratch left. -/
theorem readCov_scr (v : View sig .tc .vmem S1024x1024 .bf16) (w : Vec F S1024x1024 .bf16) :
    v.readCov (Val := Elt F) [⟨rScr, w⟩] rScr.toLoadRect = w := by
  rw [View.readCov_eq_canon']
  refine Eq.trans ?_ (ld_scr w)
  funext j
  rw [View.canon_cons_unit_lit _ _ _ (by decide)]

end loads

section cases
variable {F : FTy → Type} [FloatOps F]
variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1x1024x1280 .f32) (harg9 : arg9.IsWhole) (arg10 : Memref sig .tc .vmem S1024x1024 .bf16) (harg10 : arg10.IsWhole)
  (x0 : Vec F S1x1024x1024 .f32) (x1 : Vec F S1x1024 .f32) (x2 : Vec F S1x1x1024 .f32) (x3 : Vec F S1x1x1024 .f32) (x4 : Vec F S1024x1280 .bf16) (x5 : Vec F S1x1280 .f32) (xs0 : Vec F S1024x1024 .bf16)

set_option maxHeartbeats 4000000 in
theorem runA_6 (hc0 : cond0_0 i) :
    (kernelRun0_A (F := F) c i arg3 harg3 arg4 harg4 arg5 harg5 arg6 harg6 arg7 harg7 arg8 harg8 arg9 harg9 arg10 harg10 hc0 x0 x1 x2 x3 x4 x5).1 = [⟨rOut, k0_pay2 (k0_pay1 x0 x1 x2 x3) x4 x5⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

set_option maxHeartbeats 4000000 in
theorem runA_S (hc0 : cond0_0 i) :
    (kernelRun0_A (F := F) c i arg3 harg3 arg4 harg4 arg5 harg5 arg6 harg6 arg7 harg7 arg8 harg8 arg9 harg9 arg10 harg10 hc0 x0 x1 x2 x3 x4 x5).2.1 = [⟨rScr, k0_pay1 x0 x1 x2 x3⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

set_option maxHeartbeats 4000000 in
theorem runB_6 (hc0 : ¬cond0_0 i) :
    (kernelRun0_B (F := F) c i arg3 harg3 arg4 harg4 arg5 harg5 arg6 harg6 arg7 harg7 arg8 harg8 arg9 harg9 arg10 harg10 hc0 x0 x1 x2 x3 x4 x5 xs0).1 = [⟨rOut, k0_pay2 xs0 x4 x5⟩] := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

end cases

end Cert.Kernel6Ideal.Proj

end
-- ==== Proof.Proj.lean ====
/- The recurrent mixer's input product: what each grid point leaves, and the kernel's result array. -/
module

public import proofs.«01_k».proof.Proof.ProjBody

@[expose] public section

noncomputable section

namespace Cert.Kernel6Ideal.Proj

open Cert.Kernel6Ideal Cert.Kernel6Ideal.Gen Idealize.ShloMosaic Idealize.ShloMosaic.TcCoe Idealize.SL.Sem

/-- The normalised and modulated input. -/
def normAt (x : Vec Ideal S2x16384x1024 .f32) (g : Vec Ideal S1024 .f32) (sc sh : Vec Ideal S2x1x1024 .f32) (b : Fin 2) (r : Fin 16384) (k : Fin 1024) : EReal :=
  x (ix3 b r k) * scale (fun j => x (ix3 b r j)) * g (ix1 k) * (1 + sc (ix3 b 0 k)) + sh (ix3 b 0 k)

/-- The result: the normalised input's product with the weight. -/
def projAt (x : Vec Ideal S2x16384x1024 .f32) (g : Vec Ideal S1024 .f32) (sc sh : Vec Ideal S2x1x1024 .f32) (w : Vec Ideal S1024x5120 .f32)
    (b : Fin 2) (r : Fin 16384) (n : Fin 5120) : EReal :=
  ∑ k : Fin 1024, normAt x g sc sh b r k * w (ix2 k n)

def projA (x : Vec Ideal S2x16384x1024 .f32) (g : Vec Ideal S1024 .f32) (sc sh : Vec Ideal S2x1x1024 .f32) (w : Vec Ideal S1024x5120 .f32) :
    Vec Ideal S2x16384x5120 .f32 := fun i => projAt x g sc sh w (i 0) (i 1) (i 2)

section Read
variable (m : (ℓ : Loc nD τ sig) → Buf (Elt Ideal) ℓ) (c : Dev nD) (t : Fin cfg0.N)

abbrev x0 : Vec Ideal S2x16384x1024 .f32 := m (c.tc.loc main_arg0)
abbrev x1 : Vec Ideal S1024 .f32 := m (c.tc.loc main_arg1)
abbrev x2 : Vec Ideal S2x1x1024 .f32 := m (c.tc.loc main_arg2)
abbrev x3 : Vec Ideal S2x1x1024 .f32 := m (c.tc.loc main_arg3)
abbrev x4 : Vec Ideal S1024x5120 .f32 := m (c.tc.loc main_arg4)

theorem V0 : (V m c main_v0 : Vec Ideal S1024x5120 .bf16) = truncf (F := Ideal) (φ := .f32) .bf16 (x4 m c) bitsLt_bf16_f32 := by
  show StableHlo.after hostOps0 (fun b => m (c, b)) _ = _
  simp only [hostOps0]
  after_results

theorem V2 : (V m c main_v2 : Vec Ideal S2x1x1024 .f32)
    = addf (F := Ideal) (φ := .f32) (broadcastInDim S2x1x1024 ![] bcast_S_S2x1x1024 (constant (F := Ideal) S_ .f32 0x3F800000#32)) (x2 m c) := by
  show StableHlo.after hostOps0 (fun b => m (c, b)) _ = _
  simp only [hostOps0]
  after_results

theorem V4 : (V m c main_v4 : Vec Ideal S1x5120 .f32)
    = shapeCast S1x5120 (broadcastInDim S5120 ![] bcast_S_S5120 (constant (F := Ideal) S_ .f32 0x00000000#32)) shapeCasts_S5120_S1x5120 := by
  show StableHlo.after hostOps0 (fun b => m (c, b)) _ = _
  simp only [hostOps0]
  after_results
  rfl

theorem V5 : (V m c main_v5 : Vec Ideal S1x1024 .f32) = shapeCast S1x1024 (x1 m c) shapeCasts_S1024_S1x1024 := by
  show StableHlo.after hostOps0 (fun b => m (c, b)) _ = _
  simp only [hostOps0]
  after_results
  rfl

theorem one_plus (s : Vec Ideal S2x1x1024 .f32) (b : Fin 2) (k : Fin 1024) :
    @Eq EReal (addf (F := Ideal) (φ := .f32) (broadcastInDim S2x1x1024 ![] bcast_S_S2x1x1024 (constant (F := Ideal) S_ .f32 0x3F800000#32)) s (ix3 b 0 k)) (1 + s (ix3 b 0 k)) := by
  pointwise

theorem V4_at (n : Fin 5120) : @Eq EReal ((V m c main_v4 : Vec Ideal S1x5120 .f32) (ix2 0 n)) 0 := by
  rw [V4]
  pointwise

theorem row_at (g : Vec Ideal S1024 .f32) (k : Fin 1024) : (shapeCast S1x1024 g shapeCasts_S1024_S1x1024 : Vec Ideal S1x1024 .f32) (ix2 0 k) = g (ix1 k) := by
  pointwise

theorem ix_0 : ∀ t : Fin cfg0.N, win0_0.index t 0 = t.val / 64 ∧ win0_0.index t 1 = t.val / 4 % 16 ∧ win0_0.index t 2 = 0 := by decide +kernel
theorem ix_1 : ∀ t : Fin cfg0.N, win0_1.index t 0 = 0 ∧ win0_1.index t 1 = 0 := by decide +kernel
theorem ix_2 : ∀ t : Fin cfg0.N, win0_2.index t 0 = t.val / 64 ∧ win0_2.index t 1 = 0 ∧ win0_2.index t 2 = 0 := by decide +kernel
theorem ix_3 : ∀ t : Fin cfg0.N, win0_3.index t 0 = t.val / 64 ∧ win0_3.index t 1 = 0 ∧ win0_3.index t 2 = 0 := by decide +kernel
theorem ix_4 : ∀ t : Fin cfg0.N, win0_4.index t 0 = 0 ∧ win0_4.index t 1 = t.val % 4 := by decide +kernel
theorem ix_5 : ∀ t : Fin cfg0.N, win0_5.index t 0 = 0 ∧ win0_5.index t 1 = t.val % 4 := by decide +kernel
theorem ix_6 : ∀ t : Fin cfg0.N, win0_6.index t 0 = t.val / 64 ∧ win0_6.index t 1 = t.val / 4 % 16 ∧ win0_6.index t 2 = t.val % 4 := by decide +kernel

/-- The batch of point `t`, a row and a column of its block. -/
def bt : Fin 2 := ⟨t.val / 64, by have := lt_of_lt_of_eq t.isLt Gen.N_0; omega⟩
def row (r : Fin 1024) : Fin 16384 := ⟨1024 * (t.val / 4 % 16) + r.val, by omega⟩
def col (n : Fin 1280) : Fin 5120 := ⟨1280 * (t.val % 4) + n.val, by omega⟩

theorem blk_0 (r : Fin 1024) (k : Fin 1024) : (iblk m c 0 t : Vec Ideal S1x1024x1024 .f32) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 64; rw [hi.1]; omega
  | ⟨1, _⟩ => show win0_0.index t 1 * 1024 + 1 * r.val = 1024 * (t.val / 4 % 16) + r.val; rw [hi.2.1]; omega
  | ⟨2, _⟩ => show win0_0.index t 2 * 1024 + 1 * k.val = k.val; rw [hi.2.2]; omega

theorem blk_1 (k : Fin 1024) : (iblk m c 1 t : Vec Ideal S1x1024 .f32) (ix2 0 k) = x1 m c (ix1 k) := by
  have hi := ix_1 t
  unfold iblk
  rw [View.read_apply]
  refine Eq.trans ?_ (row_at (x1 m c) k)
  show (V m c main_v5 : Vec Ideal S1x1024 .f32) _ = _
  rw [V5]
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem blk_2 (k : Fin 1024) : @Eq EReal ((iblk m c 2 t : Vec Ideal S1x1x1024 .f32) (ix3 0 0 k)) (1 + x2 m c (ix3 (bt t) 0 k)) := by
  have hi := ix_2 t
  unfold iblk
  rw [View.read_apply]
  refine Eq.trans ?_ (one_plus (x2 m c) (bt t) k)
  show (V m c main_v2 : Vec Ideal S2x1x1024 .f32) _ = _
  rw [V2]
  congr 1
  funext a
  apply Fin.ext
  match a with
  | ⟨0, _⟩ => show win0_2.index t 0 * 1 + 1 * 0 = t.val / 64; rw [hi.1]; omega
  | ⟨1, _⟩ => show win0_2.index t 1 * 1 + 1 * 0 = 0; rw [hi.2.1]
  | ⟨2, _⟩ => show win0_2.index t 2 * 1024 + 1 * k.val = k.val; rw [hi.2.2]; omega

theorem blk_3 (k : Fin 1024) : (iblk m c 3 t : Vec Ideal S1x1x1024 .f32) (ix3 0 0 k) = x3 m c (ix3 (bt t) 0 k) := by
  have hi := ix_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = t.val / 64; rw [hi.1]; omega
  | ⟨1, _⟩ => show win0_3.index t 1 * 1 + 1 * 0 = 0; rw [hi.2.1]
  | ⟨2, _⟩ => show win0_3.index t 2 * 1024 + 1 * k.val = k.val; rw [hi.2.2]; omega

theorem blk_4 (k : Fin 1024) (n : Fin 1280) : (iblk m c 4 t : Vec Ideal S1024x1280 .bf16) (ix2 k n) = x4 m c (ix2 k (col t n)) := by
  have hi := ix_4 t
  unfold iblk
  rw [View.read_apply]
  show (V m c main_v0 : Vec Ideal S1024x5120 .bf16) _ = x4 m c _
  rw [V0]
  show x4 m c _ = x4 m c _
  congr 1
  funext a
  apply Fin.ext
  match a with
  | ⟨0, _⟩ => show win0_4.index t 0 * 1024 + 1 * k.val = k.val; rw [hi.1]; omega
  | ⟨1, _⟩ => show win0_4.index t 1 * 1280 + 1 * n.val = 1280 * (t.val % 4) + n.val; rw [hi.2]; omega

theorem blk_5 (n : Fin 1280) : @Eq EReal ((iblk m c 5 t : Vec Ideal S1x1280 .f32) (ix2 0 n)) 0 := by
  have hi := ix_5 t
  unfold iblk
  rw [View.read_apply]
  refine Eq.trans ?_ (V4_at m c (col t n))
  show (V m c main_v4 : Vec Ideal S1x5120 .f32) _ = (V m c main_v4 : Vec Ideal S1x5120 .f32) _
  congr 1
  funext a
  apply Fin.ext
  match a with
  | ⟨0, _⟩ => show win0_5.index t 0 * 1 + 1 * 0 = 0; rw [hi.1]
  | ⟨1, _⟩ => show win0_5.index t 1 * 1280 + 1 * n.val = 1280 * (t.val % 4) + n.val; rw [hi.2]; omega

/-- What the scratch holds after a point: the normalised rows of the point's block. -/
theorem scr_at (n : ℕ) (hn : n < cfg0.N) (r : Fin 1024) (k : Fin 1024) :
    @Eq EReal ((outsAt0 m c n hn).2 (ix2 r k)) (normAt (x0 m c) (x1 m c) (x2 m c) (x3 m c) (bt ⟨n, hn⟩) (row ⟨n, hn⟩ r) k) := by
  have start : ∀ t : Fin cfg0.N, t.val % 4 = 0 → @Eq EReal ((outsAt0 m c t.val t.isLt).2 (ix2 r k)) (normAt (x0 m c) (x1 m c) (x2 m c) (x3 m c) (bt t) (row t r) k) := by
    intro t h0
    rw [outsAt0_A m c t h0]
    dsimp only
    unfold sout0_A_0
    rw [runA_S, View.read_writes_junk_eq_canon, View.canon_cons_unit_lit (S := S1024x1024) _ _ _ (by decide), pay1_at]
    unfold normAt
    rw [blk_0, blk_1, blk_2, blk_3]
    simp only [blk_0]
  induction n with
  | zero => exact start ⟨0, hn⟩ rfl
  | succ n ih =>
    by_cases h0 : (n + 1) % 4 = 0
    · exact start ⟨n + 1, hn⟩ h0
    · rw [outsAt0_B m c ⟨n + 1, hn⟩ h0]
      dsimp only
      unfold sout0_B_0
      refine (ih (Nat.lt_of_succ_lt hn)).trans ?_
      rw [show bt ⟨n, Nat.lt_of_succ_lt hn⟩ = bt ⟨n + 1, hn⟩ from Fin.ext (by show n / 64 = (n + 1) / 64; omega),
        show row ⟨n, Nat.lt_of_succ_lt hn⟩ r = row ⟨n + 1, hn⟩ r from Fin.ext (by show 1024 * (n / 4 % 16) + r.val = 1024 * ((n + 1) / 4 % 16) + r.val; omega)]

/-- The block of the result, over whatever the scratch holds. -/
theorem pay_of (s : Vec Ideal S1024x1024 .bf16) (hs : ∀ r k, @Eq EReal (s (ix2 r k)) (normAt (x0 m c) (x1 m c) (x2 m c) (x3 m c) (bt t) (row t r) k)) (r : Fin 1024) (n : Fin 1280) :
    @Eq EReal ((k0_pay2 s (iblk m c 4 t) (iblk m c 5 t) : Vec Ideal S1x1024x1280 .f32) (ix3 0 r n))
      (projAt (x0 m c) (x1 m c) (x2 m c) (x3 m c) (x4 m c) (bt t) (row t r) (col t n)) := by
  rw [pay2_at, blk_5, add_zero]
  unfold projAt
  refine Finset.sum_congr rfl fun k _ => ?_
  rw [hs, blk_4]

theorem point_6 (r : Fin 1024) (n : Fin 1280) : @Eq EReal ((outsAt0 m c t.val t.isLt).1 (ix3 0 r n))
    (projAt (x0 m c) (x1 m c) (x2 m c) (x3 m c) (x4 m c) (bt t) (row t r) (col t n)) := by
  by_cases h0 : t.val % 4 = 0
  · have hs : ∀ r k, @Eq EReal ((k0_pay1 (iblk m c 0 t) (iblk m c 1 t) (iblk m c 2 t) (iblk m c 3 t) : Vec Ideal S1024x1024 .bf16) (ix2 r k))
        (normAt (x0 m c) (x1 m c) (x2 m c) (x3 m c) (bt t) (row t r) k) := by
      intro r k
      rw [pay1_at]
      unfold normAt
      rw [blk_0, blk_1, blk_2, blk_3]
      simp only [blk_0]
    rw [outsAt0_A m c t h0]
    dsimp only
    unfold out0_A_6
    rw [runA_6, View.read_writes_junk_eq_canon, View.canon_cons_unit_lit (S := S1x1024x1280) _ _ _ (by decide)]
    exact pay_of m c t _ hs r n
  · rw [outsAt0_B m c t h0]
    dsimp only
    unfold out0_B_6
    rw [runB_6, View.read_writes_junk_eq_canon, View.canon_cons_unit_lit (S := S1x1024x1280) _ _ _ (by decide)]
    refine pay_of m c t _ (fun r k => ?_) r n
    rw [scr_at]
    rw [show bt ⟨t.val - 1, Nat.lt_of_le_of_lt (Nat.sub_le _ _) t.isLt⟩ = bt t from Fin.ext (by show (t.val - 1) / 64 = t.val / 64; omega),
      show row ⟨t.val - 1, Nat.lt_of_le_of_lt (Nat.sub_le _ _) t.isLt⟩ r = row t r from Fin.ext (by show 1024 * ((t.val - 1) / 4 % 16) + r.val = 1024 * (t.val / 4 % 16) + r.val; omega)]

theorem flush_6 : (dats m 0 c).flushed 6 t = ((cfg0.win 6).blk t).view.read (Elt Ideal) (projA (x0 m c) (x1 m c) (x2 m c) (x3 m c) (x4 m c)) := by
  have hi := ix_6 t
  rw [Value.flushed6]
  funext j
  rw [View.read_apply]
  have e : win0_6.xinj (grid0.coords t) j = (ix3 0 (j 1) (j 2) : S1x1024x1280.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 6).blk t).view.emb j : S2x16384x5120.Idx) = ix3 (bt t) (row t (j 1)) (col t (j 2)) := by
    funext a
    apply Fin.ext
    match a with
    | ⟨0, _⟩ => show win0_6.index t 0 * 1 + 1 * (j 0).val = t.val / 64; rw [hi.1, h0]; omega
    | ⟨1, _⟩ => show win0_6.index t 1 * 1024 + 1 * (j 1).val = 1024 * (t.val / 4 % 16) + (j 1).val; rw [hi.2.1]; omega
    | ⟨2, _⟩ => show win0_6.index t 2 * 1280 + 1 * (j 2).val = 1280 * (t.val % 4) + (j 2).val; rw [hi.2.2]; omega
  exact ((congrArg _ e).trans (point_6 m c t _ _)).trans (congrArg (projA (x0 m c) (x1 m c) (x2 m c) (x3 m c) (x4 m c)) e').symm

end Read

variable (m : (ℓ : Loc nD τ sig) → Buf (Elt Ideal) ℓ) (c : Dev nD)

theorem arr_6 : (dats m 0 c).arrAt 6 cfg0.N = projA (x0 m c) (x1 m c) (x2 m c) (x3 m c) (x4 m c) :=
  (dats m 0 c).arrAt_eq_of_cover 6 (projA (x0 m c) (x1 m c) (x2 m c) (x3 m c) (x4 m c)) (fun t _ => flush_6 m c t) fun i => by
    have h0 : (i 0 : Nat) < 2 := (i 0).isLt
    have h1 : (i 1 : Nat) < 16384 := (i 1).isLt
    have h2 : (i 2 : Nat) < 5120 := (i 2).isLt
    obtain ⟨t, ht⟩ : ∃ t : Fin cfg0.N, t.val = (i 0 : Nat) * 64 + (i 1 : Nat) / 1024 * 4 + (i 2 : Nat) / 1280 := ⟨⟨_, by rw [show cfg0.N = 128 from Gen.N_0]; omega⟩, rfl⟩
    refine ⟨t, flush0_6 _, ?_⟩
    have hi := ix_6 t
    rw [ht] at hi
    show i ∈ ((View.whole main_v6).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [hi.1]; omega
    | ⟨1, _⟩ =>
      show win0_6.index t 1 * 1024 ≤ (i 1 : Nat) ∧ (i 1 : Nat) < win0_6.index t 1 * 1024 + 1024
      rw [hi.2.1]; omega
    | ⟨2, _⟩ =>
      show win0_6.index t 2 * 1280 ≤ (i 2 : Nat) ∧ (i 2 : Nat) < win0_6.index t 2 * 1280 + 1280
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v6) = projA (x0 m c) (x1 m c) (x2 m c) (x3 m c) (x4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_6 m c), (h c).2⟩) (Value.run_blocks m ρ)

end Cert.Kernel6Ideal.Proj

end
-- ==== Proof.ProjRef.lean ====
/- The reference of the recurrent mixer's input product: its result at an index. -/
module

public import proofs.«01_k».proof.Proof.Proj
public import proofs.«01_k».proof.Proof.Gen.Reference6Ideal.Run

@[expose] public section

set_option maxRecDepth 100000

noncomputable section

namespace Cert.Reference6Ideal.Proj

open Cert.Reference6Ideal Cert.Reference6Ideal.Gen Idealize.ShloMosaic Idealize.ShloMosaic.TcCoe Idealize.SL.Sem Cert.Kernel6Ideal.Proj

/-- The normalised and modulated input, as the reference computes it. -/
def normR (x : Vec Ideal S2x16384x1024 .f32) (g : Vec Ideal S1024 .f32) (sc sh : Vec Ideal S2x1x1024 .f32) : Vec Ideal S2x16384x1024 .f32 :=
  addf (F := Ideal) (φ := .f32) (mulf (F := Ideal) (φ := .f32) (mulf (F := Ideal) (φ := .f32) (mulf (F := Ideal) (φ := .f32) x (broadcastInDim S2x16384x1024 ![0, 1, 2] bcast_S2x16384x1_S2x16384x1024_0_1_2 (Host.rsqrt (F := Ideal) (φ := .f32) (addf (F := Ideal) (φ := .f32) (Host.divf (F := Ideal) (φ := .f32) (broadcastInDim S2x16384x1 ![0, 1] bcast_S2x16384_S2x16384x1_0_1 (Host.reduceAdd (F := Ideal) (φ := .f32) (mulf (F := Ideal) (φ := .f32) x x) (constant (F := Ideal) S_ .f32 0x00000000#32) reducesTo_S2x16384x1024_S2x16384_d2 h_S_)) (broadcastInDim S2x16384x1 ![] bcast_S_S2x16384x1 (constant (F := Ideal) S_ .f32 0x44800000#32))) (broadcastInDim S2x16384x1 ![] bcast_S_S2x16384x1 (constant (F := Ideal) S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (F := Ideal) (φ := .f32) (broadcastInDim S2x1x1024 ![] bcast_S_S2x1x1024 (constant (F := Ideal) S_ .f32 0x3F800000#32)) sc))) (broadcastInDim S2x16384x1024 ![0, 1, 2] bcast_S2x1x1024_S2x16384x1024_0_1_2 sh)

theorem normR_at (x : Vec Ideal S2x16384x1024 .f32) (g : Vec Ideal S1024 .f32) (sc sh : Vec Ideal S2x1x1024 .f32) (b : Fin 2) (r : Fin 16384) (k : Fin 1024) :
    @Eq EReal (normR x g sc sh (ix3 b r k)) (normAt x g sc sh b r k) := by
  unfold normR normAt scale
  pointwise

/-- Its product with the weight. -/
theorem projR_at (h : Vec Ideal S2x16384x1024 .f32) (w : Vec Ideal S1024x5120 .f32) (b : Fin 2) (r : Fin 16384) (n : Fin 5120) :
    @Eq EReal (Host.dotGeneral (F := Ideal) (φ₁ := .f32) (φ₂ := .f32) dot_S2x16384x1024_S1024x5120_S2x16384x5120_2_0_01_1_n_n none h w (ix3 b r n)) (∑ k : Fin 1024, h (ix3 b r k) * w (ix2 k n)) := by
  pointwise

theorem val_eq (x : Vec Ideal S2x16384x1024 .f32) (g : Vec Ideal S1024 .f32) (sc sh : Vec Ideal S2x1x1024 .f32) (w : Vec Ideal S1024x5120 .f32) :
    Host.dotGeneral (F := Ideal) (φ₁ := .f32) (φ₂ := .f32) dot_S2x16384x1024_S1024x5120_S2x16384x5120_2_0_01_1_n_n none (normR x g sc sh) w = projA x g sc sh w := by
  funext i
  have e : i = ix3 (i 0) (i 1) (i 2) := by
    funext a
    match a with
    | ⟨0, _⟩ => rfl
    | ⟨1, _⟩ => rfl
    | ⟨2, _⟩ => rfl
  rw [e]
  refine (projR_at _ w _ _ _).trans ?_
  exact Finset.sum_congr rfl fun k _ => congrArg (fun z : EReal => z * w (ix2 k (i 2))) (normR_at x g sc sh (i 0) (i 1) k)

variable (m : (ℓ : Loc nD τ sig) → Buf (Elt Ideal) ℓ) (c : Dev nD)

abbrev a0 : Vec Ideal S2x16384x1024 .f32 := m (c.tc.loc main_arg0)
abbrev a1 : Vec Ideal S1024 .f32 := m (c.tc.loc main_arg1)
abbrev a2 : Vec Ideal S2x1x1024 .f32 := m (c.tc.loc main_arg2)
abbrev a3 : Vec Ideal S2x1x1024 .f32 := m (c.tc.loc main_arg3)
abbrev a4 : Vec Ideal S1024x5120 .f32 := m (c.tc.loc main_arg4)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v19) = projA (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (val_eq (a0 m c) (a1 m c) (a2 m c) (a3 m c) (a4 m c)), (h c).2⟩) (Value.run m ρ)

end Cert.Reference6Ideal.Proj

end
-- ==== Proof.GluBody.lean ====
/- The convolution mixer's gated input product: the blocks the kernel's body computes, at an index. -/
module

public import proofs.«01_k».proof.Proof.Gen.Kernel7Ideal.Value
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel7Ideal.Glu

open Cert.Kernel7Ideal Cert.Kernel7Ideal.Gen Idealize.ShloMosaic Idealize.ShloMosaic.Tactic

/-- A row's scale: one over the root of the mean square of its 1024 entries. -/
def scale (f : Fin 1024 → EReal) : EReal :=
  Ideal.rsqrt (Ideal.div (∑ j, f j * f j) (FloatOps.ofBits (F := Ideal) .f32 0x44800000#32) + FloatOps.ofBits (F := Ideal) .f32 0x358637BD#32)

/-- The product of one sum with the logistic of another. -/
def gated (a b : EReal) : EReal := a * Ideal.logistic b

theorem pay1_at (v25 : Vec Ideal S1x1024x1024 .f32) (v27 : Vec Ideal S1x1024 .f32) (v29 v31 : Vec Ideal S1x1x1024 .f32) (r : Fin 1024) (k : Fin 1024) :
    @Eq EReal ((k0_pay1 v25 v27 v29 v31 : Vec Ideal S1024x1024 .bf16) (ix2 r k))
      (v25 (ix3 0 r k) * scale (fun j => v25 (ix3 0 r j)) * v27 (ix2 0 k) * v29 (ix3 0 0 k) + v31 (ix3 0 0 k)) := by
  unfold k0_pay1 scale
  pointwise

theorem pay2_at (v3 : Vec Ideal S1024x1024 .bf16) (v4 v11 : Vec Ideal S1024x1024 .bf16) (v7 v14 : Vec Ideal S1x1024 .f32) (r : Fin 1024) (n : Fin 1024) :
    @Eq EReal ((k0_pay2 v3 v4 v7 v11 v14 : Vec Ideal S1x1024x1024 .f32) (ix3 0 r n))
      (gated ((∑ k : Fin 1024, v3 (ix2 r k) * v4 (ix2 k n)) + v7 (ix2 0 n)) ((∑ k : Fin 1024, v3 (ix2 r k) * v11 (ix2 k n)) + v14 (ix2 0 n))) := by
  unfold k0_pay2 gated
  pointwise

/-- All of each block. -/
abbrev rOut : Rect S1x1024x1024 := Rect.unit ![0, 0, 0] ![1, 1024, 1024] inb_S1x1024x1024_S1x1024x1024_0_0_0
@[inherit_doc rOut] abbrev rScr : Rect S1024x1024 := Rect.unit ![0, 0] ![1024, 1024] inb_S1024x1024_S1024x1024_0_0

section loads
variable {F : FTy → Type} [FloatOps F]

theorem ld_x (x : Vec F S1x1024x1024 .f32) : View.ld (Val := Elt F) x (Rect.unit ![0, 0, 0] ![1, 1024, 1024] inb_S1x1024x1024_S1x1024x1024_0_0_0) = x := View.ld_unit_lit _ x (by decide)
theorem ld_g (x : Vec F S1x1024 .f32) : View.ld (Val := Elt F) x (Rect.unit ![0, 0] ![1, 1024] inb_S1x1024_S1x1024_0_0) = x := View.ld_unit_lit _ x (by decide)
theorem ld_s (x : Vec F S1x1x1024 .f32) : View.ld (Val := Elt F) x (Rect.unit ![0, 0, 0] ![1, 1, 1024] inb_S1x1x1024_S1x1x1024_0_0_0) = x := View.ld_unit_lit _ x (by decide)
theorem ld_scr (x : Vec F S1024x1024 .bf16) : View.ld (Val := Elt F) x rScr = x := View.ld_unit_lit _ x (by decide)

/-- A load of what a store of the whole scratch left. -/
theorem readCov_scr (v : View sig .tc .vmem S1024x1024 .bf16) (w : Vec F S1024x1024 .bf16) :
    v.readCov (Val := Elt F) [⟨rScr, w⟩] rScr.toLoadRect = w := by
  rw [View.readCov_eq_canon']
  refine Eq.trans ?_ (ld_scr w)
  funext j
  rw [View.canon_cons_unit_lit _ _ _ (by decide)]

end loads

section cases
variable {F : FTy → Type} [FloatOps F]
variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .bf16) (harg12 : arg12.IsWhole)
  (x0 : Vec F S1x1024x1024 .f32) (x1 : Vec F S1x1024 .f32) (x2 : Vec F S1x1x1024 .f32) (x3 : Vec F S1x1x1024 .f32) (x4 : Vec F S1024x1024 .bf16) (x5 : Vec F S1024x1024 .bf16) (x6 : Vec F S1x1024 .f32) (x7 : Vec F S1x1024 .f32)

set_option maxHeartbeats 4000000 in
theorem runA_8 (hc0 : cond0_0 i) :
    (kernelRun0_A (F := F) c i arg3 harg3 arg4 harg4 arg5 harg5 arg6 harg6 arg7 harg7 arg8 harg8 arg9 harg9 arg10 harg10 arg11 harg11 arg12 harg12 hc0 x0 x1 x2 x3 x4 x5 x6 x7).1 = [⟨rOut, k0_pay2 (k0_pay1 x0 x1 x2 x3) x4 x6 x5 x7⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, harg11.read_unread, harg12.read_unread, readCov_scr, ld_x, ld_g, ld_s, ld_scr]

end cases

end Cert.Kernel7Ideal.Glu

end
-- ==== Proof.Glu.lean ====
/- The convolution mixer's gated input product: what each grid point leaves, and the kernel's result array. -/
module

public import proofs.«01_k».proof.Proof.GluBody

@[expose] public section

noncomputable section

namespace Cert.Kernel7Ideal.Glu

open Cert.Kernel7Ideal Cert.Kernel7Ideal.Gen Idealize.ShloMosaic Idealize.ShloMosaic.TcCoe Idealize.SL.Sem

/-- The normalised and modulated input. -/
def normAt (x : Vec Ideal S2x16384x1024 .f32) (g : Vec Ideal S1024 .f32) (sc sh : Vec Ideal S2x1x1024 .f32) (b : Fin 2) (r : Fin 16384) (k : Fin 1024) : EReal :=
  x (ix3 b r k) * scale (fun j => x (ix3 b r j)) * g (ix1 k) * (1 + sc (ix3 b 0 k)) + sh (ix3 b 0 k)

/-- A column of each half of the weight. -/
def lo (n : Fin 1024) : Fin 2048 := ⟨n.val, by omega⟩
@[inherit_doc lo] def hi (n : Fin 1024) : Fin 2048 := ⟨1024 + n.val, by omega⟩

/-- The result: the first half's product with its bias, times the logistic of the second half's. -/
def gluAt (x : Vec Ideal S2x16384x1024 .f32) (g : Vec Ideal S1024 .f32) (sc sh : Vec Ideal S2x1x1024 .f32) (w : Vec Ideal S1024x2048 .f32) (d : Vec Ideal S2048 .f32)
    (b : Fin 2) (r : Fin 16384) (n : Fin 1024) : EReal :=
  gated ((∑ k : Fin 1024, normAt x g sc sh b r k * w (ix2 k (lo n))) + d (ix1 (lo n))) ((∑ k : Fin 1024, normAt x g sc sh b r k * w (ix2 k (hi n))) + d (ix1 (hi n)))

def gluA (x : Vec Ideal S2x16384x1024 .f32) (g : Vec Ideal S1024 .f32) (sc sh : Vec Ideal S2x1x1024 .f32) (w : Vec Ideal S1024x2048 .f32) (d : Vec Ideal S2048 .f32) :
    Vec Ideal S2x16384x1024 .f32 := fun i => gluAt x g sc sh w d (i 0) (i 1) (i 2)

section Read
variable (m : (ℓ : Loc nD τ sig) → Buf (Elt Ideal) ℓ) (c : Dev nD) (t : Fin cfg0.N)

abbrev x0 : Vec Ideal S2x16384x1024 .f32 := m (c.tc.loc main_arg0)
abbrev x1 : Vec Ideal S1024 .f32 := m (c.tc.loc main_arg1)
abbrev x2 : Vec Ideal S2x1x1024 .f32 := m (c.tc.loc main_arg2)
abbrev x3 : Vec Ideal S2x1x1024 .f32 := m (c.tc.loc main_arg3)
abbrev x4 : Vec Ideal S1024x2048 .f32 := m (c.tc.loc main_arg4)
abbrev x5 : Vec Ideal S2048 .f32 := m (c.tc.loc main_arg5)

theorem V1 : (V m c main_v1 : Vec Ideal S1024x1024 .bf16) = truncf (F := Ideal) (φ := .f32) .bf16 (extractStridedSlice S1024x1024 ![0, 0] (x4 m c) slices_S1024x2048_S1024x1024_0_0) bitsLt_bf16_f32 := by
  show StableHlo.after hostOps0 (fun b => m (c, b)) _ = _
  simp only [hostOps0]
  after_results

theorem V3 : (V m c main_v3 : Vec Ideal S1024x1024 .bf16) = truncf (F := Ideal) (φ := .f32) .bf16 (extractStridedSlice S1024x1024 ![0, 1024] (x4 m c) slices_S1024x2048_S1024x1024_0_1024) bitsLt_bf16_f32 := by
  show StableHlo.after hostOps0 (fun b => m (c, b)) _ = _
  simp only [hostOps0]
  after_results

theorem V5 : (V m c main_v5 : Vec Ideal S2x1x1024 .f32) = addf (F := Ideal) (φ := .f32) (broadcastInDim S2x1x1024 ![] bcast_S_S2x1x1024 (constant (F := Ideal) S_ .f32 0x3F800000#32)) (x2 m c) := by
  show StableHlo.after hostOps0 (fun b => m (c, b)) _ = _
  simp only [hostOps0]
  after_results

theorem V8 : (V m c main_v8 : Vec Ideal S1x1024 .f32) = shapeCast S1x1024 (extractStridedSlice S1024 ![0] (x5 m c) slices_S2048_S1024_0) shapeCasts_S1024_S1x1024 := by
  show StableHlo.after hostOps0 (fun b => m (c, b)) _ = _
  simp only [hostOps0]
  after_results
  rfl

theorem V9 : (V m c main_v9 : Vec Ideal S1x1024 .f32) = shapeCast S1x1024 (extractStridedSlice S1024 ![1024] (x5 m c) slices_S2048_S1024_1024) shapeCasts_S1024_S1x1024 := by
  show StableHlo.after hostOps0 (fun b => m (c, b)) _ = _
  simp only [hostOps0]
  after_results
  rfl

theorem V10 : (V m c main_v10 : Vec Ideal S1x1024 .f32) = shapeCast S1x1024 (x1 m c) shapeCasts_S1024_S1x1024 := by
  show StableHlo.after hostOps0 (fun b => m (c, b)) _ = _
  simp only [hostOps0]
  after_results
  rfl

theorem one_plus (s : Vec Ideal S2x1x1024 .f32) (b : Fin 2) (k : Fin 1024) :
    @Eq EReal (addf (F := Ideal) (φ := .f32) (broadcastInDim S2x1x1024 ![] bcast_S_S2x1x1024 (constant (F := Ideal) S_ .f32 0x3F800000#32)) s (ix3 b 0 k)) (1 + s (ix3 b 0 k)) := by
  pointwise

theorem V1_at (k n : Fin 1024) : @Eq EReal ((V m c main_v1 : Vec Ideal S1024x1024 .bf16) (ix2 k n)) (x4 m c (ix2 k (lo n))) := by
  rw [V1]
  unfold lo
  pointwise

theorem V3_at (k n : Fin 1024) : @Eq EReal ((V m c main_v3 : Vec Ideal S1024x1024 .bf16) (ix2 k n)) (x4 m c (ix2 k (hi n))) := by
  rw [V3]
  unfold hi
  pointwise

theorem V8_at (n : Fin 1024) : @Eq EReal ((V m c main_v8 : Vec Ideal S1x1024 .f32) (ix2 0 n)) (x5 m c (ix1 (lo n))) := by
  rw [V8]
  unfold lo
  pointwise

theorem V9_at (n : Fin 1024) : @Eq EReal ((V m c main_v9 : Vec Ideal S1x1024 .f32) (ix2 0 n)) (x5 m c (ix1 (hi n))) := by
  rw [V9]
  unfold hi
  pointwise

theorem row_at (g : Vec Ideal S1024 .f32) (k : Fin 1024) : (shapeCast S1x1024 g shapeCasts_S1024_S1x1024 : Vec Ideal S1x1024 .f32) (ix2 0 k) = g (ix1 k) := by
  pointwise

theorem ix_0 : ∀ t : Fin cfg0.N, win0_0.index t 0 = t.val / 16 ∧ win0_0.index t 1 = t.val % 16 ∧ win0_0.index t 2 = 0 := by decide +kernel
theorem ix_1 : ∀ t : Fin cfg0.N, win0_1.index t 0 = 0 ∧ win0_1.index t 1 = 0 := by decide +kernel
theorem ix_2 : ∀ t : Fin cfg0.N, win0_2.index t 0 = t.val / 16 ∧ win0_2.index t 1 = 0 ∧ win0_2.index t 2 = 0 := by decide +kernel
theorem ix_3 : ∀ t : Fin cfg0.N, win0_3.index t 0 = t.val / 16 ∧ win0_3.index t 1 = 0 ∧ win0_3.index t 2 = 0 := by decide +kernel
theorem ix_4 : ∀ t : Fin cfg0.N, win0_4.index t 0 = 0 ∧ win0_4.index t 1 = 0 := by decide +kernel
theorem ix_5 : ∀ t : Fin cfg0.N, win0_5.index t 0 = 0 ∧ win0_5.index t 1 = 0 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = t.val / 16 ∧ win0_8.index t 1 = t.val % 16 ∧ win0_8.index t 2 = 0 := by decide +kernel

/-- The batch of point `t`, a row and a column of its block. -/
def bt : Fin 2 := ⟨t.val / 16, by have := lt_of_lt_of_eq t.isLt Gen.N_0; omega⟩
def row (r : Fin 1024) : Fin 16384 := ⟨1024 * (t.val % 16) + r.val, by omega⟩

theorem blk_0 (r : Fin 1024) (k : Fin 1024) : (iblk m c 0 t : Vec Ideal S1x1024x1024 .f32) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 16; rw [hi.1]; omega
  | ⟨1, _⟩ => show win0_0.index t 1 * 1024 + 1 * r.val = 1024 * (t.val % 16) + r.val; rw [hi.2.1]; omega
  | ⟨2, _⟩ => show win0_0.index t 2 * 1024 + 1 * k.val = k.val; rw [hi.2.2]; omega

theorem blk_1 (k : Fin 1024) : (iblk m c 1 t : Vec Ideal S1x1024 .f32) (ix2 0 k) = x1 m c (ix1 k) := by
  have hi := ix_1 t
  unfold iblk
  rw [View.read_apply]
  refine Eq.trans ?_ (row_at (x1 m c) k)
  show (V m c main_v10 : Vec Ideal S1x1024 .f32) _ = _
  rw [V10]
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem blk_2 (k : Fin 1024) : @Eq EReal ((iblk m c 2 t : Vec Ideal S1x1x1024 .f32) (ix3 0 0 k)) (1 + x2 m c (ix3 (bt t) 0 k)) := by
  have hi := ix_2 t
  unfold iblk
  rw [View.read_apply]
  refine Eq.trans ?_ (one_plus (x2 m c) (bt t) k)
  show (V m c main_v5 : Vec Ideal S2x1x1024 .f32) _ = _
  rw [V5]
  congr 1
  funext a
  apply Fin.ext
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 1024 + 1 * k.val = k.val; rw [hi.2.2]; omega

theorem blk_3 (k : Fin 1024) : (iblk m c 3 t : Vec Ideal S1x1x1024 .f32) (ix3 0 0 k) = x3 m c (ix3 (bt t) 0 k) := by
  have hi := ix_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = t.val / 16; rw [hi.1]; omega
  | ⟨1, _⟩ => show win0_3.index t 1 * 1 + 1 * 0 = 0; rw [hi.2.1]
  | ⟨2, _⟩ => show win0_3.index t 2 * 1024 + 1 * k.val = k.val; rw [hi.2.2]; omega

theorem blk_4 (k n : Fin 1024) : @Eq EReal ((iblk m c 4 t : Vec Ideal S1024x1024 .bf16) (ix2 k n)) (x4 m c (ix2 k (lo n))) := by
  have hi := ix_4 t
  unfold iblk
  rw [View.read_apply]
  refine Eq.trans ?_ (V1_at m c k n)
  show (V m c main_v1 : Vec Ideal S1024x1024 .bf16) _ = (V m c main_v1 : Vec Ideal S1024x1024 .bf16) _
  congr 1
  funext a
  apply Fin.ext
  match a with
  | ⟨0, _⟩ => show win0_4.index t 0 * 1024 + 1 * k.val = k.val; rw [hi.1]; omega
  | ⟨1, _⟩ => show win0_4.index t 1 * 1024 + 1 * n.val = n.val; rw [hi.2]; omega

theorem blk_5 (k n : Fin 1024) : @Eq EReal ((iblk m c 5 t : Vec Ideal S1024x1024 .bf16) (ix2 k n)) (x4 m c (ix2 k (hi n))) := by
  have hi := ix_5 t
  unfold iblk
  rw [View.read_apply]
  refine Eq.trans ?_ (V3_at m c k n)
  show (V m c main_v3 : Vec Ideal S1024x1024 .bf16) _ = (V m c main_v3 : Vec Ideal S1024x1024 .bf16) _
  congr 1
  funext a
  apply Fin.ext
  match a with
  | ⟨0, _⟩ => show win0_5.index t 0 * 1024 + 1 * k.val = k.val; rw [hi.1]; omega
  | ⟨1, _⟩ => show win0_5.index t 1 * 1024 + 1 * n.val = n.val; rw [hi.2]; omega

theorem blk_6 (n : Fin 1024) : @Eq EReal ((iblk m c 6 t : Vec Ideal S1x1024 .f32) (ix2 0 n)) (x5 m c (ix1 (lo n))) := by
  have hi := ix_6 t
  unfold iblk
  rw [View.read_apply]
  refine Eq.trans ?_ (V8_at m c n)
  show (V m c main_v8 : Vec Ideal S1x1024 .f32) _ = (V m c main_v8 : Vec Ideal S1x1024 .f32) _
  congr 1
  funext a
  apply Fin.ext
  match a with
  | ⟨0, _⟩ => show win0_6.index t 0 * 1 + 1 * 0 = 0; rw [hi.1]
  | ⟨1, _⟩ => show win0_6.index t 1 * 1024 + 1 * n.val = n.val; rw [hi.2]; omega

theorem blk_7 (n : Fin 1024) : @Eq EReal ((iblk m c 7 t : Vec Ideal S1x1024 .f32) (ix2 0 n)) (x5 m c (ix1 (hi n))) := by
  have hi := ix_7 t
  unfold iblk
  rw [View.read_apply]
  refine Eq.trans ?_ (V9_at m c n)
  show (V m c main_v9 : Vec Ideal S1x1024 .f32) _ = (V m c main_v9 : Vec Ideal S1x1024 .f32) _
  congr 1
  funext a
  apply Fin.ext
  match a with
  | ⟨0, _⟩ => show win0_7.index t 0 * 1 + 1 * 0 = 0; rw [hi.1]
  | ⟨1, _⟩ => show win0_7.index t 1 * 1024 + 1 * n.val = n.val; rw [hi.2]; omega

theorem point_8 (r n : Fin 1024) : @Eq EReal ((outsAt0 m c t : Vec Ideal S1x1024x1024 .f32) (ix3 0 r n))
    (gluAt (x0 m c) (x1 m c) (x2 m c) (x3 m c) (x4 m c) (x5 m c) (bt t) (row t r) n) := by
  have hs : ∀ r k, @Eq EReal ((k0_pay1 (iblk m c 0 t) (iblk m c 1 t) (iblk m c 2 t) (iblk m c 3 t) : Vec Ideal S1024x1024 .bf16) (ix2 r k))
      (normAt (x0 m c) (x1 m c) (x2 m c) (x3 m c) (bt t) (row t r) k) := by
    intro r k
    rw [pay1_at]
    unfold normAt
    rw [blk_0, blk_1, blk_2, blk_3]
    simp only [blk_0]
  unfold outsAt0 out0_A_8
  rw [runA_8, View.read_writes_junk_eq_canon, View.canon_cons_unit_lit (S := S1x1024x1024) _ _ _ (by decide)]
  rw [pay2_at, blk_6, blk_7]
  unfold gluAt
  refine congrArg₂ gated (congrArg₂ (fun p q : EReal => p + q) (Finset.sum_congr rfl fun k _ => ?_) rfl) (congrArg₂ (fun p q : EReal => p + q) (Finset.sum_congr rfl fun k _ => ?_) rfl)
  · rw [hs, blk_4]
  · rw [hs, blk_5]

theorem flush_8 : (dats m 0 c).flushed 8 t = ((cfg0.win 8).blk t).view.read (Elt Ideal) (gluA (x0 m c) (x1 m c) (x2 m c) (x3 m c) (x4 m c) (x5 m c)) := by
  have hi := ix_8 t
  rw [Value.flushed8]
  funext j
  rw [View.read_apply]
  have e : win0_8.xinj (grid0.coords t) j = (ix3 0 (j 1) (j 2) : S1x1024x1024.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 8).blk t).view.emb j : S2x16384x1024.Idx) = ix3 (bt t) (row t (j 1)) (j 2) := by
    funext a
    apply Fin.ext
    match a with
    | ⟨0, _⟩ => show win0_8.index t 0 * 1 + 1 * (j 0).val = t.val / 16; rw [hi.1, h0]; omega
    | ⟨1, _⟩ => show win0_8.index t 1 * 1024 + 1 * (j 1).val = 1024 * (t.val % 16) + (j 1).val; rw [hi.2.1]; omega
    | ⟨2, _⟩ => show win0_8.index t 2 * 1024 + 1 * (j 2).val = (j 2).val; rw [hi.2.2]; omega
  exact ((congrArg _ e).trans (point_8 m c t _ _)).trans (congrArg (gluA (x0 m c) (x1 m c) (x2 m c) (x3 m c) (x4 m c) (x5 m c)) e').symm

end Read

variable (m : (ℓ : Loc nD τ sig) → Buf (Elt Ideal) ℓ) (c : Dev nD)

theorem arr_8 : (dats m 0 c).arrAt 8 cfg0.N = gluA (x0 m c) (x1 m c) (x2 m c) (x3 m c) (x4 m c) (x5 m c) :=
  (dats m 0 c).arrAt_eq_of_cover 8 (gluA (x0 m c) (x1 m c) (x2 m c) (x3 m c) (x4 m c) (x5 m c)) (fun t _ => flush_8 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 16 + (i 1 : Nat) / 1024 := ⟨⟨_, by rw [show cfg0.N = 32 from Gen.N_0]; omega⟩, rfl⟩
    refine ⟨t, flush0_8 _, ?_⟩
    have hi := ix_8 t
    rw [ht] at hi
    show i ∈ ((View.whole main_v11).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 1024 ≤ (i 1 : Nat) ∧ (i 1 : Nat) < win0_8.index t 1 * 1024 + 1024
      rw [hi.2.1]; omega
    | ⟨2, _⟩ =>
      show win0_8.index t 2 * 1024 ≤ (i 2 : Nat) ∧ (i 2 : Nat) < win0_8.index t 2 * 1024 + 1024
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v11) = gluA (x0 m c) (x1 m c) (x2 m c) (x3 m c) (x4 m c) (x5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_8 m c), (h c).2⟩) (Value.run_blocks m ρ)

end Cert.Kernel7Ideal.Glu

end
-- ==== Proof.GluRef.lean ====
/- The reference of the convolution mixer's gated input product: its result at an index. -/
module

public import proofs.«01_k».proof.Proof.Glu
public import proofs.«01_k».proof.Proof.Gen.Reference7Ideal.Run

@[expose] public section

set_option maxRecDepth 100000

noncomputable section

namespace Cert.Reference7Ideal.Glu

open Cert.Reference7Ideal Cert.Reference7Ideal.Gen Idealize.ShloMosaic Idealize.ShloMosaic.TcCoe Idealize.SL.Sem Cert.Kernel7Ideal.Glu

/-- The normalised and modulated input, as the reference computes it. -/
def normR (x : Vec Ideal S2x16384x1024 .f32) (g : Vec Ideal S1024 .f32) (sc sh : Vec Ideal S2x1x1024 .f32) : Vec Ideal S2x16384x1024 .f32 :=
  addf (F := Ideal) (φ := .f32) (mulf (F := Ideal) (φ := .f32) (mulf (F := Ideal) (φ := .f32) (mulf (F := Ideal) (φ := .f32) x (broadcastInDim S2x16384x1024 ![0, 1, 2] bcast_S2x16384x1_S2x16384x1024_0_1_2 (Host.rsqrt (F := Ideal) (φ := .f32) (addf (F := Ideal) (φ := .f32) (Host.divf (F := Ideal) (φ := .f32) (broadcastInDim S2x16384x1 ![0, 1] bcast_S2x16384_S2x16384x1_0_1 (Host.reduceAdd (F := Ideal) (φ := .f32) (mulf (F := Ideal) (φ := .f32) x x) (constant (F := Ideal) S_ .f32 0x00000000#32) reducesTo_S2x16384x1024_S2x16384_d2 h_S_)) (broadcastInDim S2x16384x1 ![] bcast_S_S2x16384x1 (constant (F := Ideal) S_ .f32 0x44800000#32))) (broadcastInDim S2x16384x1 ![] bcast_S_S2x16384x1 (constant (F := Ideal) S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (F := Ideal) (φ := .f32) (broadcastInDim S2x1x1024 ![] bcast_S_S2x1x1024 (constant (F := Ideal) S_ .f32 0x3F800000#32)) sc))) (broadcastInDim S2x16384x1024 ![0, 1, 2] bcast_S2x1x1024_S2x16384x1024_0_1_2 sh)

/-- Its two halves together: the product and the bias. -/
def bothR (h : Vec Ideal S2x16384x1024 .f32) (w : Vec Ideal S1024x2048 .f32) (d : Vec Ideal S2048 .f32) : Vec Ideal S2x16384x2048 .f32 :=
  addf (F := Ideal) (φ := .f32) (Host.dotGeneral (F := Ideal) (φ₁ := .f32) (φ₂ := .f32) dot_S2x16384x1024_S1024x2048_S2x16384x2048_2_0_01_1_n_n none h w) (broadcastInDim S2x16384x2048 ![0, 1, 2] bcast_S1x1x2048_S2x16384x2048_0_1_2 (broadcastInDim S1x1x2048 ![2] bcast_S2048_S1x1x2048_2 d))

/-- The first half times the logistic of the second. -/
def gluR (y : Vec Ideal S2x16384x2048 .f32) : Vec Ideal S2x16384x1024 .f32 :=
  mulf (F := Ideal) (φ := .f32) (extractStridedSlice S2x16384x1024 ![0, 0, 0] y slices_S2x16384x2048_S2x16384x1024_0_0_0) (Host.divf (F := Ideal) (φ := .f32) (broadcastInDim S2x16384x1024 ![] bcast_S_S2x16384x1024 (constant (F := Ideal) S_ .f32 0x3F800000#32)) (addf (F := Ideal) (φ := .f32) (broadcastInDim S2x16384x1024 ![] bcast_S_S2x16384x1024 (constant (F := Ideal) S_ .f32 0x3F800000#32)) (Host.exp (F := Ideal) (φ := .f32) (Host.negf (F := Ideal) (φ := .f32) (extractStridedSlice S2x16384x1024 ![0, 0, 1024] y slices_S2x16384x2048_S2x16384x1024_0_0_1024)))))

theorem normR_at (x : Vec Ideal S2x16384x1024 .f32) (g : Vec Ideal S1024 .f32) (sc sh : Vec Ideal S2x1x1024 .f32) (b : Fin 2) (r : Fin 16384) (k : Fin 1024) :
    @Eq EReal (normR x g sc sh (ix3 b r k)) (normAt x g sc sh b r k) := by
  unfold normR normAt scale
  pointwise

theorem bothR_at (h : Vec Ideal S2x16384x1024 .f32) (w : Vec Ideal S1024x2048 .f32) (d : Vec Ideal S2048 .f32) (b : Fin 2) (r : Fin 16384) (n : Fin 2048) :
    @Eq EReal (bothR h w d (ix3 b r n)) ((∑ k : Fin 1024, h (ix3 b r k) * w (ix2 k n)) + d (ix1 n)) := by
  unfold bothR
  pointwise

theorem gluR_at (y : Vec Ideal S2x16384x2048 .f32) (b : Fin 2) (r : Fin 16384) (n : Fin 1024) :
    @Eq EReal (gluR y (ix3 b r n)) (gated (y (ix3 b r (lo n))) (y (ix3 b r (hi n)))) := by
  unfold gluR gated Ideal.logistic lo hi
  pointwise

theorem val_eq (x : Vec Ideal S2x16384x1024 .f32) (g : Vec Ideal S1024 .f32) (sc sh : Vec Ideal S2x1x1024 .f32) (w : Vec Ideal S1024x2048 .f32) (d : Vec Ideal S2048 .f32) :
    gluR (bothR (normR x g sc sh) w d) = gluA x g sc sh w d := by
  funext i
  have e : i = ix3 (i 0) (i 1) (i 2) := by
    funext a
    match a with
    | ⟨0, _⟩ => rfl
    | ⟨1, _⟩ => rfl
    | ⟨2, _⟩ => rfl
  have half : ∀ n : Fin 2048, @Eq EReal (bothR (normR x g sc sh) w d (ix3 (i 0) (i 1) n)) ((∑ k : Fin 1024, normAt x g sc sh (i 0) (i 1) k * w (ix2 k n)) + d (ix1 n)) := fun n =>
    (bothR_at _ w d _ _ n).trans (congrArg (fun z : EReal => z + d (ix1 n)) (Finset.sum_congr rfl fun k _ => congrArg (fun z : EReal => z * w (ix2 k n)) (normR_at x g sc sh (i 0) (i 1) k)))
  rw [e]
  exact (gluR_at _ _ _ _).trans (congrArg₂ gated (half _) (half _))

variable (m : (ℓ : Loc nD τ sig) → Buf (Elt Ideal) ℓ) (c : Dev nD)

abbrev a0 : Vec Ideal S2x16384x1024 .f32 := m (c.tc.loc main_arg0)
abbrev a1 : Vec Ideal S1024 .f32 := m (c.tc.loc main_arg1)
abbrev a2 : Vec Ideal S2x1x1024 .f32 := m (c.tc.loc main_arg2)
abbrev a3 : Vec Ideal S2x1x1024 .f32 := m (c.tc.loc main_arg3)
abbrev a4 : Vec Ideal S1024x2048 .f32 := m (c.tc.loc main_arg4)
abbrev a5 : Vec Ideal S2048 .f32 := m (c.tc.loc main_arg5)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v31) = gluA (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (val_eq (a0 m c) (a1 m c) (a2 m c) (a3 m c) (a4 m c) (a5 m c)), (h c).2⟩) (Value.run m ρ)

end Cert.Reference7Ideal.Glu

end
-- ==== Proof.HyInBody.lean ====
/- The convolution mixer's input product: the blocks the kernel's body computes, at an index. -/
module

public import proofs.«01_k».proof.Proof.Gen.Kernel8Ideal.Value
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel8Ideal.HyIn

open Cert.Kernel8Ideal Cert.Kernel8Ideal.Gen Idealize.ShloMosaic Idealize.ShloMosaic.Tactic

/-- A row's scale: one over the root of the mean square of its 1024 entries. -/
def scale (f : Fin 1024 → EReal) : EReal :=
  Ideal.rsqrt (Ideal.div (∑ j, f j * f j) (FloatOps.ofBits (F := Ideal) .f32 0x44800000#32) + FloatOps.ofBits (F := Ideal) .f32 0x358637BD#32)

theorem pay1_at (v25 : Vec Ideal S1x1024x1024 .f32) (v27 : Vec Ideal S1x1024 .f32) (v29 v31 : Vec Ideal S1x1x1024 .f32) (r : Fin 1024) (k : Fin 1024) :
    @Eq EReal ((k0_pay1 v25 v27 v29 v31 : Vec Ideal S1024x1024 .bf16) (ix2 r k))
      (v25 (ix3 0 r k) * scale (fun j => v25 (ix3 0 r j)) * v27 (ix2 0 k) * v29 (ix3 0 0 k) + v31 (ix3 0 0 k)) := by
  unfold k0_pay1 scale
  pointwise

theorem pay2_at (v3 : Vec Ideal S1024x1024 .bf16) (v4 : Vec Ideal S1536x1024 .bf16) (v7 : Vec Ideal S1536x1 .f32) (r : Fin 1024) (n : Fin 1536) :
    @Eq EReal ((k0_pay2 v3 v4 v7 : Vec Ideal S1x1536x1024 .f32) (ix3 0 n r)) ((∑ k : Fin 1024, v4 (ix2 n k) * v3 (ix2 r k)) + v7 (ix2 n 0)) := by
  unfold k0_pay2
  pointwise

/-- All of each block. -/
abbrev rOut : Rect S1x1536x1024 := Rect.unit ![0, 0, 0] ![1, 1536, 1024] inb_S1x1536x1024_S1x1536x1024_0_0_0
@[inherit_doc rOut] abbrev rScr : Rect S1024x1024 := Rect.unit ![0, 0] ![1024, 1024] inb_S1024x1024_S1024x1024_0_0

section loads
variable {F : FTy → Type} [FloatOps F]

theorem ld_x (x : Vec F S1x1024x1024 .f32) : View.ld (Val := Elt F) x (Rect.unit ![0, 0, 0] ![1, 1024, 1024] inb_S1x1024x1024_S1x1024x1024_0_0_0) = x := View.ld_unit_lit _ x (by decide)
theorem ld_g (x : Vec F S1x1024 .f32) : View.ld (Val := Elt F) x (Rect.unit ![0, 0] ![1, 1024] inb_S1x1024_S1x1024_0_0) = x := View.ld_unit_lit _ x (by decide)
theorem ld_s (x : Vec F S1x1x1024 .f32) : View.ld (Val := Elt F) x (Rect.unit ![0, 0, 0] ![1, 1, 1024] inb_S1x1x1024_S1x1x1024_0_0_0) = x := View.ld_unit_lit _ x (by decide)
theorem ld_w (x : Vec F S1536x1024 .bf16) : View.ld (Val := Elt F) x (Rect.unit ![0, 0] ![1536, 1024] inb_S1536x1024_S1536x1024_0_0) = x := View.ld_unit_lit _ x (by decide)
theorem ld_b (x : Vec F S1536x1 .f32) : View.ld (Val := Elt F) x (Rect.unit ![0, 0] ![1536, 1] inb_S1536x1_S1536x1_0_0) = x := View.ld_unit_lit _ x (by decide)
theorem ld_scr (x : Vec F S1024x1024 .bf16) : View.ld (Val := Elt F) x rScr = x := View.ld_unit_lit _ x (by decide)

/-- A load of what a store of the whole scratch left. -/
theorem readCov_scr (v : View sig .tc .vmem S1024x1024 .bf16) (w : Vec F S1024x1024 .bf16) :
    v.readCov (Val := Elt F) [⟨rScr, w⟩] rScr.toLoadRect = w := by
  rw [View.readCov_eq_canon']
  refine Eq.trans ?_ (ld_scr w)
  funext j
  rw [View.canon_cons_unit_lit _ _ _ (by decide)]

end loads

section cases
variable {F : FTy → Type} [FloatOps F]
variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1536x1024 .bf16) (harg7 : arg7.IsWhole) (arg8 : Memref sig .tc .vmem S1536x1 .f32) (harg8 : arg8.IsWhole) (arg9 : Memref sig .tc .vmem S1x1536x1024 .f32) (harg9 : arg9.IsWhole) (arg10 : Memref sig .tc .vmem S1024x1024 .bf16) (harg10 : arg10.IsWhole)
  (x0 : Vec F S1x1024x1024 .f32) (x1 : Vec F S1x1024 .f32) (x2 : Vec F S1x1x1024 .f32) (x3 : Vec F S1x1x1024 .f32) (x4 : Vec F S1536x1024 .bf16) (x5 : Vec F S1536x1 .f32) (xs0 : Vec F S1024x1024 .bf16)

set_option maxHeartbeats 4000000 in
theorem runA_6 (hc0 : cond0_0 i) :
    (kernelRun0_A (F := F) c i arg3 harg3 arg4 harg4 arg5 harg5 arg6 harg6 arg7 harg7 arg8 harg8 arg9 harg9 arg10 harg10 hc0 x0 x1 x2 x3 x4 x5).1 = [⟨rOut, k0_pay2 (k0_pay1 x0 x1 x2 x3) x4 x5⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

set_option maxHeartbeats 4000000 in
theorem runA_S (hc0 : cond0_0 i) :
    (kernelRun0_A (F := F) c i arg3 harg3 arg4 harg4 arg5 harg5 arg6 harg6 arg7 harg7 arg8 harg8 arg9 harg9 arg10 harg10 hc0 x0 x1 x2 x3 x4 x5).2.1 = [⟨rScr, k0_pay1 x0 x1 x2 x3⟩] := by
  unfold kernelRun0_A
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

set_option maxHeartbeats 4000000 in
theorem runB_6 (hc0 : ¬cond0_0 i) :
    (kernelRun0_B (F := F) c i arg3 harg3 arg4 harg4 arg5 harg5 arg6 harg6 arg7 harg7 arg8 harg8 arg9 harg9 arg10 harg10 hc0 x0 x1 x2 x3 x4 x5 xs0).1 = [⟨rOut, k0_pay2 xs0 x4 x5⟩] := by
  unfold kernelRun0_B
  dsimp only
  sl_unfold_words
  simp (disch := decide) only [View.readAt_eq_ld, harg3.read_unread, harg4.read_unread, harg5.read_unread, harg6.read_unread, harg7.read_unread, harg8.read_unread, harg9.read_unread, harg10.read_unread, readCov_scr, ld_w, ld_b, ld_x, ld_g, ld_s, ld_scr]

end cases

end Cert.Kernel8Ideal.HyIn

end
-- ==== Proof.HyIn.lean ====
/- The convolution mixer's input product: what each grid point leaves, and the kernel's result array. -/
module

public import proofs.«01_k».proof.Proof.HyInBody

@[expose] public section

noncomputable section

namespace Cert.Kernel8Ideal.HyIn

open Cert.Kernel8Ideal Cert.Kernel8Ideal.Gen Idealize.ShloMosaic Idealize.ShloMosaic.TcCoe Idealize.SL.Sem

/-- The normalised and modulated input. -/
def normAt (x : Vec Ideal S2x16384x1024 .f32) (g : Vec Ideal S1024 .f32) (sc sh : Vec Ideal S2x1x1024 .f32) (b : Fin 2) (r : Fin 16384) (k : Fin 1024) : EReal :=
  x (ix3 b r k) * scale (fun j => x (ix3 b r j)) * g (ix1 k) * (1 + sc (ix3 b 0 k)) + sh (ix3 b 0 k)

/-- The result: the normalised input's product with the weight, plus the bias, handed over transposed. -/
def hyInAt (x : Vec Ideal S2x16384x1024 .f32) (g : Vec Ideal S1024 .f32) (sc sh : Vec Ideal S2x1x1024 .f32) (w : Vec Ideal S1024x3072 .f32) (bi : Vec Ideal S3072 .f32)
    (b : Fin 2) (r : Fin 16384) (n : Fin 3072) : EReal :=
  (∑ k : Fin 1024, normAt x g sc sh b r k * w (ix2 k n)) + bi (ix1 n)

def hyInA (x : Vec Ideal S2x16384x1024 .f32) (g : Vec Ideal S1024 .f32) (sc sh : Vec Ideal S2x1x1024 .f32) (w : Vec Ideal S1024x3072 .f32) (bi : Vec Ideal S3072 .f32) :
    Vec Ideal S2x3072x16384 .f32 := fun i => hyInAt x g sc sh w bi (i 0) (i 2) (i 1)

section Read
variable (m : (ℓ : Loc nD τ sig) → Buf (Elt Ideal) ℓ) (c : Dev nD) (t : Fin cfg0.N)

abbrev x0 : Vec Ideal S2x16384x1024 .f32 := m (c.tc.loc main_arg0)
abbrev x1 : Vec Ideal S1024 .f32 := m (c.tc.loc main_arg1)
abbrev x2 : Vec Ideal S2x1x1024 .f32 := m (c.tc.loc main_arg2)
abbrev x3 : Vec Ideal S2x1x1024 .f32 := m (c.tc.loc main_arg3)
abbrev x4 : Vec Ideal S1024x3072 .f32 := m (c.tc.loc main_arg4)
abbrev x5 : Vec Ideal S3072 .f32 := m (c.tc.loc main_arg5)

theorem V0 : (V m c main_v3 : Vec Ideal S3072x1024 .bf16)
    = truncf (F := Ideal) (φ := .f32) .bf16 (transpose S3072x1024 [1, 0] (x4 m c) transposes_S1024x3072_S3072x1024_1_0) bitsLt_bf16_f32 := by
  show StableHlo.after hostOps0 (fun b => m (c, b)) _ = _
  simp only [hostOps0]
  after_results

theorem V0_at (n : Fin 3072) (k : Fin 1024) : @Eq EReal ((V m c main_v3 : Vec Ideal S3072x1024 .bf16) (ix2 n k)) (x4 m c (ix2 k n)) := by
  rw [V0]
  pointwise

theorem V2 : (V m c main_v1 : Vec Ideal S2x1x1024 .f32)
    = addf (F := Ideal) (φ := .f32) (broadcastInDim S2x1x1024 ![] bcast_S_S2x1x1024 (constant (F := Ideal) S_ .f32 0x3F800000#32)) (x2 m c) := by
  show StableHlo.after hostOps0 (fun b => m (c, b)) _ = _
  simp only [hostOps0]
  after_results

theorem V4 : (V m c main_v4 : Vec Ideal S3072x1 .f32) = shapeCast S3072x1 (x5 m c) shapeCasts_S3072_S3072x1 := by
  show StableHlo.after hostOps0 (fun b => m (c, b)) _ = _
  simp only [hostOps0]
  after_results
  rfl

theorem V5 : (V m c main_v5 : Vec Ideal S1x1024 .f32) = shapeCast S1x1024 (x1 m c) shapeCasts_S1024_S1x1024 := by
  show StableHlo.after hostOps0 (fun b => m (c, b)) _ = _
  simp only [hostOps0]
  after_results
  rfl

theorem one_plus (s : Vec Ideal S2x1x1024 .f32) (b : Fin 2) (k : Fin 1024) :
    @Eq EReal (addf (F := Ideal) (φ := .f32) (broadcastInDim S2x1x1024 ![] bcast_S_S2x1x1024 (constant (F := Ideal) S_ .f32 0x3F800000#32)) s (ix3 b 0 k)) (1 + s (ix3 b 0 k)) := by
  pointwise

theorem V4_at (n : Fin 3072) : @Eq EReal ((V m c main_v4 : Vec Ideal S3072x1 .f32) (ix2 n 0)) (x5 m c (ix1 n)) := by
  rw [V4]
  pointwise

theorem row_at (g : Vec Ideal S1024 .f32) (k : Fin 1024) : (shapeCast S1x1024 g shapeCasts_S1024_S1x1024 : Vec Ideal S1x1024 .f32) (ix2 0 k) = g (ix1 k) := by
  pointwise

theorem ix_0 : ∀ t : Fin cfg0.N, win0_0.index t 0 = t.val / 32 ∧ win0_0.index t 1 = t.val / 2 % 16 ∧ win0_0.index t 2 = 0 := by decide +kernel
theorem ix_1 : ∀ t : Fin cfg0.N, win0_1.index t 0 = 0 ∧ win0_1.index t 1 = 0 := by decide +kernel
theorem ix_2 : ∀ t : Fin cfg0.N, win0_2.index t 0 = t.val / 32 ∧ win0_2.index t 1 = 0 ∧ win0_2.index t 2 = 0 := by decide +kernel
theorem ix_3 : ∀ t : Fin cfg0.N, win0_3.index t 0 = t.val / 32 ∧ win0_3.index t 1 = 0 ∧ win0_3.index t 2 = 0 := by decide +kernel
theorem ix_4 : ∀ t : Fin cfg0.N, win0_4.index t 0 = t.val % 2 ∧ win0_4.index t 1 = 0 := by decide +kernel
theorem ix_5 : ∀ t : Fin cfg0.N, win0_5.index t 0 = t.val % 2 ∧ win0_5.index t 1 = 0 := by decide +kernel
theorem ix_6 : ∀ t : Fin cfg0.N, win0_6.index t 0 = t.val / 32 ∧ win0_6.index t 1 = t.val % 2 ∧ win0_6.index t 2 = t.val / 2 % 16 := by decide +kernel

/-- The batch of point `t`, a row and a column of its block. -/
def bt : Fin 2 := ⟨t.val / 32, by have := lt_of_lt_of_eq t.isLt Gen.N_0; omega⟩
def row (r : Fin 1024) : Fin 16384 := ⟨1024 * (t.val / 2 % 16) + r.val, by omega⟩
def col (n : Fin 1536) : Fin 3072 := ⟨1536 * (t.val % 2) + n.val, by omega⟩

theorem blk_0 (r : Fin 1024) (k : Fin 1024) : (iblk m c 0 t : Vec Ideal S1x1024x1024 .f32) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [hi.1]; omega
  | ⟨1, _⟩ => show win0_0.index t 1 * 1024 + 1 * r.val = 1024 * (t.val / 2 % 16) + r.val; rw [hi.2.1]; omega
  | ⟨2, _⟩ => show win0_0.index t 2 * 1024 + 1 * k.val = k.val; rw [hi.2.2]; omega

theorem blk_1 (k : Fin 1024) : (iblk m c 1 t : Vec Ideal S1x1024 .f32) (ix2 0 k) = x1 m c (ix1 k) := by
  have hi := ix_1 t
  unfold iblk
  rw [View.read_apply]
  refine Eq.trans ?_ (row_at (x1 m c) k)
  show (V m c main_v5 : Vec Ideal S1x1024 .f32) _ = _
  rw [V5]
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem blk_2 (k : Fin 1024) : @Eq EReal ((iblk m c 2 t : Vec Ideal S1x1x1024 .f32) (ix3 0 0 k)) (1 + x2 m c (ix3 (bt t) 0 k)) := by
  have hi := ix_2 t
  unfold iblk
  rw [View.read_apply]
  refine Eq.trans ?_ (one_plus (x2 m c) (bt t) k)
  show (V m c main_v1 : Vec Ideal S2x1x1024 .f32) _ = _
  rw [V2]
  congr 1
  funext a
  apply Fin.ext
  match a with
  | ⟨0, _⟩ => show win0_2.index t 0 * 1 + 1 * 0 = t.val / 32; rw [hi.1]; omega
  | ⟨1, _⟩ => show win0_2.index t 1 * 1 + 1 * 0 = 0; rw [hi.2.1]
  | ⟨2, _⟩ => show win0_2.index t 2 * 1024 + 1 * k.val = k.val; rw [hi.2.2]; omega

theorem blk_3 (k : Fin 1024) : (iblk m c 3 t : Vec Ideal S1x1x1024 .f32) (ix3 0 0 k) = x3 m c (ix3 (bt t) 0 k) := by
  have hi := ix_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = t.val / 32; rw [hi.1]; omega
  | ⟨1, _⟩ => show win0_3.index t 1 * 1 + 1 * 0 = 0; rw [hi.2.1]
  | ⟨2, _⟩ => show win0_3.index t 2 * 1024 + 1 * k.val = k.val; rw [hi.2.2]; omega

theorem blk_4 (k : Fin 1024) (n : Fin 1536) : @Eq EReal ((iblk m c 4 t : Vec Ideal S1536x1024 .bf16) (ix2 n k)) (x4 m c (ix2 k (col t n))) := by
  have hi := ix_4 t
  unfold iblk
  rw [View.read_apply]
  refine Eq.trans ?_ (V0_at m c (col t n) k)
  show (V m c main_v3 : Vec Ideal S3072x1024 .bf16) _ = (V m c main_v3 : Vec Ideal S3072x1024 .bf16) _
  congr 1
  funext a
  apply Fin.ext
  match a with
  | ⟨0, _⟩ => show win0_4.index t 0 * 1536 + 1 * n.val = 1536 * (t.val % 2) + n.val; rw [hi.1]; omega
  | ⟨1, _⟩ => show win0_4.index t 1 * 1024 + 1 * k.val = k.val; rw [hi.2]; omega

theorem blk_5 (n : Fin 1536) : @Eq EReal ((iblk m c 5 t : Vec Ideal S1536x1 .f32) (ix2 n 0)) (x5 m c (ix1 (col t n))) := by
  have hi := ix_5 t
  unfold iblk
  rw [View.read_apply]
  refine Eq.trans ?_ (V4_at m c (col t n))
  show (V m c main_v4 : Vec Ideal S3072x1 .f32) _ = (V m c main_v4 : Vec Ideal S3072x1 .f32) _
  congr 1
  funext a
  apply Fin.ext
  match a with
  | ⟨0, _⟩ => show win0_5.index t 0 * 1536 + 1 * n.val = 1536 * (t.val % 2) + n.val; rw [hi.1]; omega
  | ⟨1, _⟩ => show win0_5.index t 1 * 1 + 1 * 0 = 0; rw [hi.2]

/-- What the scratch holds after a point: the normalised rows of the point's block. -/
theorem scr_at (n : ℕ) (hn : n < cfg0.N) (r : Fin 1024) (k : Fin 1024) :
    @Eq EReal ((outsAt0 m c n hn).2 (ix2 r k)) (normAt (x0 m c) (x1 m c) (x2 m c) (x3 m c) (bt ⟨n, hn⟩) (row ⟨n, hn⟩ r) k) := by
  have start : ∀ t : Fin cfg0.N, t.val % 2 = 0 → @Eq EReal ((outsAt0 m c t.val t.isLt).2 (ix2 r k)) (normAt (x0 m c) (x1 m c) (x2 m c) (x3 m c) (bt t) (row t r) k) := by
    intro t h0
    rw [outsAt0_A m c t h0]
    dsimp only
    unfold sout0_A_0
    rw [runA_S, View.read_writes_junk_eq_canon, View.canon_cons_unit_lit (S := S1024x1024) _ _ _ (by decide), pay1_at]
    unfold normAt
    rw [blk_0, blk_1, blk_2, blk_3]
    simp only [blk_0]
  induction n with
  | zero => exact start ⟨0, hn⟩ rfl
  | succ n ih =>
    by_cases h0 : (n + 1) % 2 = 0
    · exact start ⟨n + 1, hn⟩ h0
    · rw [outsAt0_B m c ⟨n + 1, hn⟩ h0]
      dsimp only
      unfold sout0_B_0
      refine (ih (Nat.lt_of_succ_lt hn)).trans ?_
      rw [show bt ⟨n, Nat.lt_of_succ_lt hn⟩ = bt ⟨n + 1, hn⟩ from Fin.ext (by show n / 32 = (n + 1) / 32; omega),
        show row ⟨n, Nat.lt_of_succ_lt hn⟩ r = row ⟨n + 1, hn⟩ r from Fin.ext (by show 1024 * (n / 2 % 16) + r.val = 1024 * ((n + 1) / 2 % 16) + r.val; omega)]

/-- The block of the result, over whatever the scratch holds. -/
theorem pay_of (s : Vec Ideal S1024x1024 .bf16) (hs : ∀ r k, @Eq EReal (s (ix2 r k)) (normAt (x0 m c) (x1 m c) (x2 m c) (x3 m c) (bt t) (row t r) k)) (r : Fin 1024) (n : Fin 1536) :
    @Eq EReal ((k0_pay2 s (iblk m c 4 t) (iblk m c 5 t) : Vec Ideal S1x1536x1024 .f32) (ix3 0 n r))
      (hyInAt (x0 m c) (x1 m c) (x2 m c) (x3 m c) (x4 m c) (x5 m c) (bt t) (row t r) (col t n)) := by
  rw [pay2_at, blk_5]
  unfold hyInAt
  refine congrArg (fun z : EReal => z + _) (Finset.sum_congr rfl fun k _ => ?_)
  rw [hs, blk_4, mul_comm]

theorem point_6 (r : Fin 1024) (n : Fin 1536) : @Eq EReal ((outsAt0 m c t.val t.isLt).1 (ix3 0 n r))
    (hyInAt (x0 m c) (x1 m c) (x2 m c) (x3 m c) (x4 m c) (x5 m c) (bt t) (row t r) (col t n)) := by
  by_cases h0 : t.val % 2 = 0
  · have hs : ∀ r k, @Eq EReal ((k0_pay1 (iblk m c 0 t) (iblk m c 1 t) (iblk m c 2 t) (iblk m c 3 t) : Vec Ideal S1024x1024 .bf16) (ix2 r k))
        (normAt (x0 m c) (x1 m c) (x2 m c) (x3 m c) (bt t) (row t r) k) := by
      intro r k
      rw [pay1_at]
      unfold normAt
      rw [blk_0, blk_1, blk_2, blk_3]
      simp only [blk_0]
    rw [outsAt0_A m c t h0]
    dsimp only
    unfold out0_A_6
    rw [runA_6, View.read_writes_junk_eq_canon, View.canon_cons_unit_lit (S := S1x1536x1024) _ _ _ (by decide)]
    exact pay_of m c t _ hs r n
  · rw [outsAt0_B m c t h0]
    dsimp only
    unfold out0_B_6
    rw [runB_6, View.read_writes_junk_eq_canon, View.canon_cons_unit_lit (S := S1x1536x1024) _ _ _ (by decide)]
    refine pay_of m c t _ (fun r k => ?_) r n
    rw [scr_at]
    rw [show bt ⟨t.val - 1, Nat.lt_of_le_of_lt (Nat.sub_le _ _) t.isLt⟩ = bt t from Fin.ext (by show (t.val - 1) / 32 = t.val / 32; omega),
      show row ⟨t.val - 1, Nat.lt_of_le_of_lt (Nat.sub_le _ _) t.isLt⟩ r = row t r from Fin.ext (by show 1024 * ((t.val - 1) / 2 % 16) + r.val = 1024 * (t.val / 2 % 16) + r.val; omega)]

theorem flush_6 : (dats m 0 c).flushed 6 t = ((cfg0.win 6).blk t).view.read (Elt Ideal) (hyInA (x0 m c) (x1 m c) (x2 m c) (x3 m c) (x4 m c) (x5 m c)) := by
  have hi := ix_6 t
  rw [Value.flushed6]
  funext j
  rw [View.read_apply]
  have e : win0_6.xinj (grid0.coords t) j = (ix3 0 (j 1) (j 2) : S1x1536x1024.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 6).blk t).view.emb j : S2x3072x16384.Idx) = ix3 (bt t) (col t (j 1)) (row t (j 2)) := by
    funext a
    apply Fin.ext
    match a with
    | ⟨0, _⟩ => show win0_6.index t 0 * 1 + 1 * (j 0).val = t.val / 32; rw [hi.1, h0]; omega
    | ⟨1, _⟩ => show win0_6.index t 1 * 1536 + 1 * (j 1).val = 1536 * (t.val % 2) + (j 1).val; rw [hi.2.1]; omega
    | ⟨2, _⟩ => show win0_6.index t 2 * 1024 + 1 * (j 2).val = 1024 * (t.val / 2 % 16) + (j 2).val; rw [hi.2.2]; omega
  exact ((congrArg _ e).trans (point_6 m c t _ _)).trans (congrArg (hyInA (x0 m c) (x1 m c) (x2 m c) (x3 m c) (x4 m c) (x5 m c)) e').symm

end Read

variable (m : (ℓ : Loc nD τ sig) → Buf (Elt Ideal) ℓ) (c : Dev nD)

theorem arr_6 : (dats m 0 c).arrAt 6 cfg0.N = hyInA (x0 m c) (x1 m c) (x2 m c) (x3 m c) (x4 m c) (x5 m c) :=
  (dats m 0 c).arrAt_eq_of_cover 6 (hyInA (x0 m c) (x1 m c) (x2 m c) (x3 m c) (x4 m c) (x5 m c)) (fun t _ => flush_6 m c t) fun i => by
    have h0 : (i 0 : Nat) < 2 := (i 0).isLt
    have h1 : (i 1 : Nat) < 3072 := (i 1).isLt
    have h2 : (i 2 : Nat) < 16384 := (i 2).isLt
    obtain ⟨t, ht⟩ : ∃ t : Fin cfg0.N, t.val = (i 0 : Nat) * 32 + (i 2 : Nat) / 1024 * 2 + (i 1 : Nat) / 1536 := ⟨⟨_, by rw [show cfg0.N = 64 from Gen.N_0]; omega⟩, rfl⟩
    refine ⟨t, flush0_6 _, ?_⟩
    have hi := ix_6 t
    rw [ht] at hi
    show i ∈ ((View.whole main_v6).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [hi.1]; omega
    | ⟨1, _⟩ =>
      show win0_6.index t 1 * 1536 ≤ (i 1 : Nat) ∧ (i 1 : Nat) < win0_6.index t 1 * 1536 + 1536
      rw [hi.2.1]; omega
    | ⟨2, _⟩ =>
      show win0_6.index t 2 * 1024 ≤ (i 2 : Nat) ∧ (i 2 : Nat) < win0_6.index t 2 * 1024 + 1024
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v6) = hyInA (x0 m c) (x1 m c) (x2 m c) (x3 m c) (x4 m c) (x5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_6 m c), (h c).2⟩) (Value.run_blocks m ρ)

end Cert.Kernel8Ideal.HyIn

end
-- ==== Proof.HyInRef.lean ====
/- The reference of the convolution mixer's input product: its result at an index. -/
module

public import proofs.«01_k».proof.Proof.HyIn
public import proofs.«01_k».proof.Proof.Gen.Reference8Ideal.Run

@[expose] public section

set_option maxRecDepth 100000

noncomputable section

namespace Cert.Reference8Ideal.HyIn

open Cert.Reference8Ideal Cert.Reference8Ideal.Gen Idealize.ShloMosaic Idealize.ShloMosaic.TcCoe Idealize.SL.Sem Cert.Kernel8Ideal.HyIn

/-- The normalised and modulated input, as the reference computes it. -/
def normR (x : Vec Ideal S2x16384x1024 .f32) (g : Vec Ideal S1024 .f32) (sc sh : Vec Ideal S2x1x1024 .f32) : Vec Ideal S2x16384x1024 .f32 :=
  addf (F := Ideal) (φ := .f32) (mulf (F := Ideal) (φ := .f32) (mulf (F := Ideal) (φ := .f32) (mulf (F := Ideal) (φ := .f32) x (broadcastInDim S2x16384x1024 ![0, 1, 2] bcast_S2x16384x1_S2x16384x1024_0_1_2 (Host.rsqrt (F := Ideal) (φ := .f32) (addf (F := Ideal) (φ := .f32) (Host.divf (F := Ideal) (φ := .f32) (broadcastInDim S2x16384x1 ![0, 1] bcast_S2x16384_S2x16384x1_0_1 (Host.reduceAdd (F := Ideal) (φ := .f32) (mulf (F := Ideal) (φ := .f32) x x) (constant (F := Ideal) S_ .f32 0x00000000#32) reducesTo_S2x16384x1024_S2x16384_d2 h_S_)) (broadcastInDim S2x16384x1 ![] bcast_S_S2x16384x1 (constant (F := Ideal) S_ .f32 0x44800000#32))) (broadcastInDim S2x16384x1 ![] bcast_S_S2x16384x1 (constant (F := Ideal) S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (F := Ideal) (φ := .f32) (broadcastInDim S2x1x1024 ![] bcast_S_S2x1x1024 (constant (F := Ideal) S_ .f32 0x3F800000#32)) sc))) (broadcastInDim S2x16384x1024 ![0, 1, 2] bcast_S2x1x1024_S2x16384x1024_0_1_2 sh)

theorem normR_at (x : Vec Ideal S2x16384x1024 .f32) (g : Vec Ideal S1024 .f32) (sc sh : Vec Ideal S2x1x1024 .f32) (b : Fin 2) (r : Fin 16384) (k : Fin 1024) :
    @Eq EReal (normR x g sc sh (ix3 b r k)) (normAt x g sc sh b r k) := by
  unfold normR normAt scale
  pointwise

/-- Its product with the weight, plus the bias, transposed. -/
theorem hyInR_at (h : Vec Ideal S2x16384x1024 .f32) (w : Vec Ideal S1024x3072 .f32) (bi : Vec Ideal S3072 .f32) (b : Fin 2) (r : Fin 16384) (n : Fin 3072) :
    @Eq EReal ((transpose S2x3072x16384 [0, 2, 1] (addf (F := Ideal) (φ := .f32) (Host.dotGeneral (F := Ideal) (φ₁ := .f32) (φ₂ := .f32) dot_S2x16384x1024_S1024x3072_S2x16384x3072_2_0_01_1_n_n none h w) (broadcastInDim S2x16384x3072 ![0, 1, 2] bcast_S1x1x3072_S2x16384x3072_0_1_2 (broadcastInDim S1x1x3072 ![2] bcast_S3072_S1x1x3072_2 bi))) transposes_S2x16384x3072_S2x3072x16384_0_2_1 : Vec Ideal S2x3072x16384 .f32) (ix3 b n r))
      ((∑ k : Fin 1024, h (ix3 b r k) * w (ix2 k n)) + bi (ix1 n)) := by
  pointwise

theorem val_eq (x : Vec Ideal S2x16384x1024 .f32) (g : Vec Ideal S1024 .f32) (sc sh : Vec Ideal S2x1x1024 .f32) (w : Vec Ideal S1024x3072 .f32) (bi : Vec Ideal S3072 .f32) :
    (transpose S2x3072x16384 [0, 2, 1] (addf (F := Ideal) (φ := .f32) (Host.dotGeneral (F := Ideal) (φ₁ := .f32) (φ₂ := .f32) dot_S2x16384x1024_S1024x3072_S2x16384x3072_2_0_01_1_n_n none (normR x g sc sh) w) (broadcastInDim S2x16384x3072 ![0, 1, 2] bcast_S1x1x3072_S2x16384x3072_0_1_2 (broadcastInDim S1x1x3072 ![2] bcast_S3072_S1x1x3072_2 bi))) transposes_S2x16384x3072_S2x3072x16384_0_2_1 : Vec Ideal S2x3072x16384 .f32) = hyInA x g sc sh w bi := by
  funext i
  have e : i = ix3 (i 0) (i 1) (i 2) := by
    funext a
    match a with
    | ⟨0, _⟩ => rfl
    | ⟨1, _⟩ => rfl
    | ⟨2, _⟩ => rfl
  rw [e]
  refine (hyInR_at _ w bi (i 0) (i 2) (i 1)).trans ?_
  refine congrArg (fun z : EReal => z + bi (ix1 (i 1))) ?_
  exact Finset.sum_congr rfl fun k _ => congrArg (fun z : EReal => z * w (ix2 k (i 1))) (normR_at x g sc sh (i 0) (i 2) k)

variable (m : (ℓ : Loc nD τ sig) → Buf (Elt Ideal) ℓ) (c : Dev nD)

abbrev a0 : Vec Ideal S2x16384x1024 .f32 := m (c.tc.loc main_arg0)
abbrev a1 : Vec Ideal S1024 .f32 := m (c.tc.loc main_arg1)
abbrev a2 : Vec Ideal S2x1x1024 .f32 := m (c.tc.loc main_arg2)
abbrev a3 : Vec Ideal S2x1x1024 .f32 := m (c.tc.loc main_arg3)
abbrev a4 : Vec Ideal S1024x3072 .f32 := m (c.tc.loc main_arg4)
abbrev a5 : Vec Ideal S3072 .f32 := m (c.tc.loc main_arg5)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v23) = hyInA (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (val_eq (a0 m c) (a1 m c) (a2 m c) (a3 m c) (a4 m c) (a5 m c)), (h c).2⟩) (Value.run m ρ)

end Cert.Reference8Ideal.HyIn

end
-- ==== Proof.HyOut.lean ====
/- The convolution mixer's output product: the block the kernel's body writes, at an index, and the kernel's result array. -/
module

public import proofs.«01_k».proof.Proof.Gen.Kernel9Ideal.Value
public import Idealize.ShloMosaic.Lib.Pointwise
public import Idealize.ShloMosaic.PureOps.Ideal
public import Idealize.ShloMosaic.Lib.Pipeline.ValueKit

@[expose] public section

noncomputable section

namespace Cert.Kernel9Ideal.HyOut

open Cert.Kernel9Ideal Cert.Kernel9Ideal.Gen Idealize.ShloMosaic Idealize.ShloMosaic.TcCoe Idealize.SL.Sem

/-- The result: the input plus the gate times the product and its bias. The product's left factor comes transposed. -/
def hyOutAt (h : Vec Ideal S2x1024x16384 .bf16) (w : Vec Ideal S1024x1024 .f32) (bi : Vec Ideal S1024 .f32) (x : Vec Ideal S2x16384x1024 .f32) (g : Vec Ideal S2x1x1024 .f32)
    (b : Fin 2) (r : Fin 16384) (n : Fin 1024) : EReal :=
  x (ix3 b r n) + g (ix3 b 0 n) * ((∑ k : Fin 1024, h (ix3 b k r) * w (ix2 k n)) + bi (ix1 n))

def hyOutA (h : Vec Ideal S2x1024x16384 .bf16) (w : Vec Ideal S1024x1024 .f32) (bi : Vec Ideal S1024 .f32) (x : Vec Ideal S2x16384x1024 .f32) (g : Vec Ideal S2x1x1024 .f32) :
    Vec Ideal S2x16384x1024 .f32 := fun i => hyOutAt h w bi x g (i 0) (i 1) (i 2)

theorem pay_at (v0 : Vec Ideal S1x1024x512 .bf16) (v2 : Vec Ideal S1024x1024 .bf16) (v5 : Vec Ideal S1x1024 .f32) (v9 : Vec Ideal S1x512x1024 .f32)
    (v11 : Vec Ideal S1x1x1024 .f32) (r : Fin 512) (n : Fin 1024) :
    (k0_pay1 v0 v2 v5 v9 v11 : Vec Ideal S1x512x1024 .f32) (ix3 0 r n)
      = v9 (ix3 0 r n) + v11 (ix3 0 0 n) * ((∑ k : Fin 1024, v0 (ix3 0 k r) * v2 (ix2 k n)) + v5 (ix2 0 n)) := by
  unfold k0_pay1
  pointwise

theorem out_eq (x0 : Vec Ideal S1x1024x512 .bf16) (x1 : Vec Ideal S1024x1024 .bf16) (x2 : Vec Ideal S1x1024 .f32) (x3 : Vec Ideal S1x512x1024 .f32)
    (x4 : Vec Ideal S1x1x1024 .f32) : out0_5 x0 x1 x2 x3 x4 = k0_pay1 x0 x1 x2 x3 x4 := by
  unfold out0_5
  refine (View.canon_cons_unit_lit (S := S1x512x1024) _ _ _ (by decide)).trans ?_
  congr 1 <;> exact View.ld_unit_lit _ _ (by decide)

section Read
variable (m : (ℓ : Loc nD τ sig) → Buf (Elt Ideal) ℓ) (c : Dev nD) (t : Fin cfg0.N)

abbrev x0 : Vec Ideal S2x1024x16384 .bf16 := m (c.tc.loc main_arg0)
abbrev x1 : Vec Ideal S1024x1024 .f32 := m (c.tc.loc main_arg1)
abbrev x2 : Vec Ideal S1024 .f32 := m (c.tc.loc main_arg2)
abbrev x3 : Vec Ideal S2x16384x1024 .f32 := m (c.tc.loc main_arg3)
abbrev x4 : Vec Ideal S2x1x1024 .f32 := m (c.tc.loc main_arg4)

theorem V0 : (V m c main_v0 : Vec Ideal S1024x1024 .bf16) = truncf (F := Ideal) (φ := .f32) .bf16 (x1 m c) bitsLt_bf16_f32 := by
  show StableHlo.after hostOps0 (fun b => m (c, b)) _ = _
  simp only [hostOps0]
  after_results

theorem V2 : (V m c main_v1 : Vec Ideal S1x1024 .f32) = shapeCast S1x1024 (x2 m c) shapeCasts_S1024_S1x1024 := by
  show StableHlo.after hostOps0 (fun b => m (c, b)) _ = _
  simp only [hostOps0]
  after_results
  rfl

theorem V2_at (n : Fin 1024) : @Eq EReal ((V m c main_v1 : Vec Ideal S1x1024 .f32) (ix2 0 n)) (x2 m c (ix1 n)) := by
  rw [V2]
  pointwise

theorem ix_0 : ∀ t : Fin cfg0.N, win0_0.index t 0 = t.val / 32 ∧ win0_0.index t 1 = 0 ∧ win0_0.index t 2 = t.val % 32 := by decide +kernel
theorem ix_1 : ∀ t : Fin cfg0.N, win0_1.index t 0 = 0 ∧ win0_1.index t 1 = 0 := by decide +kernel
theorem ix_2 : ∀ t : Fin cfg0.N, win0_2.index t 0 = 0 ∧ win0_2.index t 1 = 0 := by decide +kernel
theorem ix_3 : ∀ t : Fin cfg0.N, win0_3.index t 0 = t.val / 32 ∧ win0_3.index t 1 = t.val % 32 ∧ win0_3.index t 2 = 0 := by decide +kernel
theorem ix_4 : ∀ t : Fin cfg0.N, win0_4.index t 0 = t.val / 32 ∧ win0_4.index t 1 = 0 ∧ win0_4.index t 2 = 0 := by decide +kernel
theorem ix_5 : ∀ t : Fin cfg0.N, win0_5.index t 0 = t.val / 32 ∧ win0_5.index t 1 = t.val % 32 ∧ win0_5.index t 2 = 0 := by decide +kernel

/-- The batch of point `t`, and the row of its block. -/
def bt : Fin 2 := ⟨t.val / 32, by have := lt_of_lt_of_eq t.isLt Gen.N_0; omega⟩
def row (r : Fin 512) : Fin 16384 := ⟨512 * (t.val % 32) + r.val, by omega⟩

theorem blk_0 (r : Fin 512) (k : Fin 1024) : (iblk m c 0 t : Vec Ideal S1x1024x512 .bf16) (ix3 0 k r) = x0 m c (ix3 (bt t) k (row t r)) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [hi.1]; omega
  | ⟨1, _⟩ => show win0_0.index t 1 * 1024 + 1 * k.val = k.val; rw [hi.2.1]; omega
  | ⟨2, _⟩ => show win0_0.index t 2 * 512 + 1 * r.val = 512 * (t.val % 32) + r.val; rw [hi.2.2]; omega

theorem blk_1 (k : Fin 1024) (n : Fin 1024) : (iblk m c 1 t : Vec Ideal S1024x1024 .bf16) (ix2 k n) = x1 m c (ix2 k n) := by
  have hi := ix_1 t
  unfold iblk
  rw [View.read_apply]
  show (V m c main_v0 : Vec Ideal S1024x1024 .bf16) _ = x1 m c _
  rw [V0]
  show x1 m c _ = x1 m c _
  congr 1
  funext a
  apply Fin.ext
  match a with
  | ⟨0, _⟩ => show win0_1.index t 0 * 1024 + 1 * k.val = k.val; rw [hi.1]; omega
  | ⟨1, _⟩ => show win0_1.index t 1 * 1024 + 1 * n.val = n.val; rw [hi.2]; omega

theorem blk_2 (n : Fin 1024) : @Eq EReal ((iblk m c 2 t : Vec Ideal S1x1024 .f32) (ix2 0 n)) (x2 m c (ix1 n)) := by
  have hi := ix_2 t
  unfold iblk
  rw [View.read_apply]
  refine Eq.trans ?_ (V2_at m c n)
  show (V m c main_v1 : Vec Ideal S1x1024 .f32) _ = (V m c main_v1 : Vec Ideal S1x1024 .f32) _
  congr 1
  funext a
  apply Fin.ext
  match a with
  | ⟨0, _⟩ => show win0_2.index t 0 * 1 + 1 * 0 = 0; rw [hi.1]
  | ⟨1, _⟩ => show win0_2.index t 1 * 1024 + 1 * n.val = n.val; rw [hi.2]; omega

theorem blk_3 (r : Fin 512) (n : Fin 1024) : (iblk m c 3 t : Vec Ideal S1x512x1024 .f32) (ix3 0 r n) = x3 m c (ix3 (bt t) (row t r) n) := by
  have hi := ix_3 t
  unfold iblk
  rw [View.read_apply]
  show V m c main_arg3 _ = m (c.tc.loc main_arg3) _
  rw [V_main_arg3]
  congr 1
  funext a
  apply Fin.ext
  match a with
  | ⟨0, _⟩ => show win0_3.index t 0 * 1 + 1 * 0 = t.val / 32; rw [hi.1]; omega
  | ⟨1, _⟩ => show win0_3.index t 1 * 512 + 1 * r.val = 512 * (t.val % 32) + r.val; rw [hi.2.1]; omega
  | ⟨2, _⟩ => show win0_3.index t 2 * 1024 + 1 * n.val = n.val; rw [hi.2.2]; omega

theorem blk_4 (n : Fin 1024) : (iblk m c 4 t : Vec Ideal S1x1x1024 .f32) (ix3 0 0 n) = x4 m c (ix3 (bt t) 0 n) := by
  have hi := ix_4 t
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * 0 = t.val / 32; rw [hi.1]; omega
  | ⟨1, _⟩ => show win0_4.index t 1 * 1 + 1 * 0 = 0; rw [hi.2.1]
  | ⟨2, _⟩ => show win0_4.index t 2 * 1024 + 1 * n.val = n.val; rw [hi.2.2]; omega

theorem point_5 (r : Fin 512) (n : Fin 1024) : (out0_5 (iblk m c 0 t) (iblk m c 1 t) (iblk m c 2 t) (iblk m c 3 t) (iblk m c 4 t) : Vec Ideal S1x512x1024 .f32) (ix3 0 r n)
    = hyOutAt (x0 m c) (x1 m c) (x2 m c) (x3 m c) (x4 m c) (bt t) (row t r) n := by
  rw [out_eq, pay_at, blk_2, blk_3, blk_4]
  unfold hyOutAt
  refine congrArg (fun z : EReal => _ + _ * (z + _)) (Finset.sum_congr rfl fun k _ => ?_)
  rw [blk_0, blk_1]

theorem flush_5 : (dats m 0 c).flushed 5 t = ((cfg0.win 5).blk t).view.read (Elt Ideal) (hyOutA (x0 m c) (x1 m c) (x2 m c) (x3 m c) (x4 m c)) := by
  have hi := ix_5 t
  rw [Value.flushed5]
  funext j
  rw [View.read_apply]
  have e : win0_5.xinj (grid0.coords t) j = (ix3 0 (j 1) (j 2) : S1x512x1024.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 5).blk t).view.emb j : S2x16384x1024.Idx) = ix3 (bt t) (row t (j 1)) (j 2) := by
    funext a
    apply Fin.ext
    match a with
    | ⟨0, _⟩ => show win0_5.index t 0 * 1 + 1 * (j 0).val = t.val / 32; rw [hi.1, h0]; omega
    | ⟨1, _⟩ => show win0_5.index t 1 * 512 + 1 * (j 1).val = 512 * (t.val % 32) + (j 1).val; rw [hi.2.1]; omega
    | ⟨2, _⟩ => show win0_5.index t 2 * 1024 + 1 * (j 2).val = (j 2).val; rw [hi.2.2]; omega
  exact ((congrArg _ e).trans (point_5 m c t _ _)).trans (congrArg (hyOutA (x0 m c) (x1 m c) (x2 m c) (x3 m c) (x4 m c)) e').symm

end Read

variable (m : (ℓ : Loc nD τ sig) → Buf (Elt Ideal) ℓ) (c : Dev nD)

theorem arr_5 : (dats m 0 c).arrAt 5 cfg0.N = hyOutA (x0 m c) (x1 m c) (x2 m c) (x3 m c) (x4 m c) :=
  (dats m 0 c).arrAt_eq_of_cover 5 (hyOutA (x0 m c) (x1 m c) (x2 m c) (x3 m c) (x4 m c)) (fun t _ => flush_5 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 32 + (i 1 : Nat) / 512 := ⟨⟨_, by rw [show cfg0.N = 64 from Gen.N_0]; omega⟩, rfl⟩
    refine ⟨t, flush0_5 _, ?_⟩
    have hi := ix_5 t
    rw [ht] at hi
    show i ∈ ((View.whole main_v2).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [hi.1]; omega
    | ⟨1, _⟩ =>
      show win0_5.index t 1 * 512 ≤ (i 1 : Nat) ∧ (i 1 : Nat) < win0_5.index t 1 * 512 + 512
      rw [hi.2.1]; omega
    | ⟨2, _⟩ =>
      show win0_5.index t 2 * 1024 ≤ (i 2 : Nat) ∧ (i 2 : Nat) < win0_5.index t 2 * 1024 + 1024
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v2) = hyOutA (x0 m c) (x1 m c) (x2 m c) (x3 m c) (x4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_5 m c), (h c).2⟩) (Value.run_blocks m ρ)

end Cert.Kernel9Ideal.HyOut

end
-- ==== Proof.HyOutRef.lean ====
/- The reference of the convolution mixer's output product: its result at an index. -/
module

public import proofs.«01_k».proof.Proof.HyOut
public import proofs.«01_k».proof.Proof.Gen.Reference9Ideal.Run

@[expose] public section

noncomputable section

namespace Cert.Reference9Ideal.HyOut

open Cert.Reference9Ideal Cert.Reference9Ideal.Gen Idealize.ShloMosaic Idealize.ShloMosaic.TcCoe Idealize.SL.Sem Cert.Kernel9Ideal.HyOut

theorem val_at (h : Vec Ideal S2x1024x16384 .bf16) (w : Vec Ideal S1024x1024 .f32) (bi : Vec Ideal S1024 .f32) (x : Vec Ideal S2x16384x1024 .f32) (g : Vec Ideal S2x1x1024 .f32)
    (b : Fin 2) (r : Fin 16384) (n : Fin 1024) :
    (addf (F := Ideal) (φ := .f32) x (mulf (F := Ideal) (φ := .f32) (broadcastInDim S2x16384x1024 ![0, 1, 2] bcast_S2x1x1024_S2x16384x1024_0_1_2 g)
      (addf (F := Ideal) (φ := .f32) (Host.dotGeneral (F := Ideal) (φ₁ := .f32) (φ₂ := .f32) dot_S2x16384x1024_S1024x1024_S2x16384x1024_2_0_01_1_n_n none (transpose S2x16384x1024 [0, 2, 1] (extf (F := Ideal) (φ := .bf16) .f32 h bitsLt_bf16_f32) transposes_S2x1024x16384_S2x16384x1024_0_2_1) w) (broadcastInDim S2x16384x1024 ![0, 1, 2] bcast_S1x1x1024_S2x16384x1024_0_1_2 (broadcastInDim S1x1x1024 ![2] bcast_S1024_S1x1x1024_2 bi))))) (ix3 b r n)
      = hyOutAt h w bi x g b r n := by
  unfold hyOutAt
  pointwise

theorem val_eq (h : Vec Ideal S2x1024x16384 .bf16) (w : Vec Ideal S1024x1024 .f32) (bi : Vec Ideal S1024 .f32) (x : Vec Ideal S2x16384x1024 .f32) (g : Vec Ideal S2x1x1024 .f32) :
    addf (F := Ideal) (φ := .f32) x (mulf (F := Ideal) (φ := .f32) (broadcastInDim S2x16384x1024 ![0, 1, 2] bcast_S2x1x1024_S2x16384x1024_0_1_2 g)
      (addf (F := Ideal) (φ := .f32) (Host.dotGeneral (F := Ideal) (φ₁ := .f32) (φ₂ := .f32) dot_S2x16384x1024_S1024x1024_S2x16384x1024_2_0_01_1_n_n none (transpose S2x16384x1024 [0, 2, 1] (extf (F := Ideal) (φ := .bf16) .f32 h bitsLt_bf16_f32) transposes_S2x1024x16384_S2x16384x1024_0_2_1) w) (broadcastInDim S2x16384x1024 ![0, 1, 2] bcast_S1x1x1024_S2x16384x1024_0_1_2 (broadcastInDim S1x1x1024 ![2] bcast_S1024_S1x1x1024_2 bi))))
      = hyOutA h w bi x g := by
  funext i
  have e : i = ix3 (i 0) (i 1) (i 2) := by
    funext a
    match a with
    | ⟨0, _⟩ => rfl
    | ⟨1, _⟩ => rfl
    | ⟨2, _⟩ => rfl
  rw [e]
  exact val_at h w bi x g _ _ _

variable (m : (ℓ : Loc nD τ sig) → Buf (Elt Ideal) ℓ) (c : Dev nD)

abbrev a0 : Vec Ideal S2x1024x16384 .bf16 := m (c.tc.loc main_arg0)
abbrev a1 : Vec Ideal S1024x1024 .f32 := m (c.tc.loc main_arg1)
abbrev a2 : Vec Ideal S1024 .f32 := m (c.tc.loc main_arg2)
abbrev a3 : Vec Ideal S2x16384x1024 .f32 := m (c.tc.loc main_arg3)
abbrev a4 : Vec Ideal S2x1x1024 .f32 := m (c.tc.loc main_arg4)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v8) = hyOutA (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (val_eq (a0 m c) (a1 m c) (a2 m c) (a3 m c) (a4 m c)), (h c).2⟩) (Value.run m ρ)

end Cert.Reference9Ideal.HyOut

end
-- ==== Proof.HgOutBody.lean ====
/- The gated linear recurrence's output product: the blocks the kernel's body computes, at an index. -/
module

public import proofs.«01_k».proof.Proof.Gen.Kernel10Ideal.Value
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel10Ideal.HgOut

open Cert.Kernel10Ideal Cert.Kernel10Ideal.Gen Idealize.ShloMosaic Idealize.ShloMosaic.Tactic

/-- One head's row, normalised over its 128 channels, times its gain and the gate's `z * logistic z`. -/
def hd (f : Fin 128 → EReal) (g o : EReal) (k : Fin 128) : EReal :=
  f k * Ideal.rsqrt (Ideal.div (∑ j, f j * f j) (FloatOps.ofBits (F := Ideal) .f32 0x43000000#32) + FloatOps.ofBits (F := Ideal) .f32 0x358637BD#32) * g * (o * Ideal.logistic o)

theorem head0_at (a b o : Vec Ideal S1x512x128 .f32) (g : Vec Ideal S1x128 .f32) (r : Fin 512) (k : Fin 128) :
    @Eq EReal ((k0_pay3 a b g o : Vec Ideal S512x128 .bf16) (ix2 r k)) (hd (fun j => a (ix3 0 r j) + b (ix3 0 r j)) (g (ix2 0 k)) (o (ix3 0 r k)) k) := by
  unfold k0_pay3 hd
  pointwise

theorem head1_at (a b o : Vec Ideal S1x512x128 .f32) (g : Vec Ideal S1x128 .f32) (r : Fin 512) (k : Fin 128) :
    @Eq EReal ((k0_pay6 (k0_pay4 a b) (k0_pay5 a b) g o : Vec Ideal S512x128 .bf16) (ix2 r k)) (hd (fun j => a (ix3 0 r j) + b (ix3 0 r j)) (g (ix2 0 k)) (o (ix3 0 r k)) k) := by
  unfold k0_pay6 k0_pay5 k0_pay4 hd
  pointwise

theorem head2_at (a b o : Vec Ideal S1x512x128 .f32) (g : Vec Ideal S1x128 .f32) (r : Fin 512) (k : Fin 128) :
    @Eq EReal ((k0_pay9 (k0_pay7 a b) (k0_pay8 g) o : Vec Ideal S512x128 .bf16) (ix2 r k)) (hd (fun j => a (ix3 0 r j) + b (ix3 0 r j)) (g (ix2 0 k)) (o (ix3 0 r k)) k) := by
  unfold k0_pay9 k0_pay7 k0_pay8 hd
  pointwise

theorem head3_at (a b o : Vec Ideal S1x512x128 .f32) (g : Vec Ideal S1x128 .f32) (r : Fin 512) (k : Fin 128) :
    @Eq EReal ((k0_pay11 (k0_pay10 a b g o) : Vec Ideal S512x128 .bf16) (ix2 r k)) (hd (fun j => a (ix3 0 r j) + b (ix3 0 r j)) (g (ix2 0 k)) (o (ix3 0 r k)) k) := by
  unfold k0_pay11 k0_pay10 hd
  pointwise

theorem head4_at (a b o : Vec Ideal S1x512x128 .f32) (g : Vec Ideal S1x128 .f32) (r : Fin 512) (k : Fin 128) :
    @Eq EReal ((k0_pay12 a b g o : Vec Ideal S512x128 .bf16) (ix2 r k)) (hd (fun j => a (ix3 0 r j) + b (ix3 0 r j)) (g (ix2 0 k)) (o (ix3 0 r k)) k) := by
  unfold k0_pay12 hd
  pointwise

theorem head5_at (a b o : Vec Ideal S1x512x128 .f32) (g : Vec Ideal S1x128 .f32) (r : Fin 512) (k : Fin 128) :
    @Eq EReal ((k0_pay15 (k0_pay13 a b) (k0_pay14 a b) g o : Vec Ideal S512x128 .bf16) (ix2 r k)) (hd (fun j => a (ix3 0 r j) + b (ix3 0 r j)) (g (ix2 0 k)) (o (ix3 0 r k)) k) := by
  unfold k0_pay15 k0_pay14 k0_pay13 hd
  pointwise

theorem head6_at (a b o : Vec Ideal S1x512x128 .f32) (g : Vec Ideal S1x128 .f32) (r : Fin 512) (k : Fin 128) :
    @Eq EReal ((k0_pay18 (k0_pay16 a b) (k0_pay17 g) o : Vec Ideal S512x128 .bf16) (ix2 r k)) (hd (fun j => a (ix3 0 r j) + b (ix3 0 r j)) (g (ix2 0 k)) (o (ix3 0 r k)) k) := by
  unfold k0_pay18 k0_pay16 k0_pay17 hd
  pointwise

theorem head7_at (a b o : Vec Ideal S1x512x128 .f32) (g : Vec Ideal S1x128 .f32) (r : Fin 512) (k : Fin 128) :
    @Eq EReal ((k0_pay1 (k0_pay19 a b g o) : Vec Ideal S512x128 .bf16) (ix2 r k)) (hd (fun j => a (ix3 0 r j) + b (ix3 0 r j)) (g (ix2 0 k)) (o (ix3 0 r k)) k) := by
  unfold k0_pay1 k0_pay19 hd
  pointwise

theorem pay2_at (v224 : Vec Ideal S1x512x1024 .f32) (v226 : Vec Ideal S1x1x1024 .f32) (v228 : Vec Ideal S512x1024 .bf16) (v229 : Vec Ideal S1024x1024 .bf16) (r : Fin 512) (n : Fin 1024) :
    @Eq EReal ((k0_pay2 v224 v226 v228 v229 : Vec Ideal S1x512x1024 .f32) (ix3 0 r n)) (v224 (ix3 0 r n) + v226 (ix3 0 0 n) * ∑ k : Fin 1024, v228 (ix2 r k) * v229 (ix2 k n)) := by
  unfold k0_pay2
  pointwise

/-- All of each block. -/
abbrev rOut : Rect S1x512x1024 := Rect.unit ![0, 0, 0] ![1, 512, 1024] inb_S1x512x1024_S1x512x1024_0_0_0
@[inherit_doc rOut] abbrev rScr : Rect S512x1024 := Rect.unit ![0, 0] ![512, 1024] inb_S512x1024_S512x1024_0_0

/-! ### One head's columns of each block -/

abbrev rX0 : Rect S1x512x1024 := Rect.unit (s := S1x512x1024) ![0, 0, 0] S1x512x128.size inb_S1x512x1024_S1x512x128_0_0_0
abbrev rG0 : Rect S1x1024 := Rect.unit (s := S1x1024) ![0, 0] S1x128.size inb_S1x1024_S1x128_0_0
abbrev rS0 : Rect S512x1024 := Rect.unit (s := S512x1024) ![0, 0] S512x128.size inb_S512x1024_S512x128_0_0
abbrev rX1 : Rect S1x512x1024 := Rect.unit (s := S1x512x1024) ![0, 0, 128] S1x512x128.size inb_S1x512x1024_S1x512x128_0_0_128
abbrev rG1 : Rect S1x1024 := Rect.unit (s := S1x1024) ![0, 128] S1x128.size inb_S1x1024_S1x128_0_128
abbrev rS1 : Rect S512x1024 := Rect.unit (s := S512x1024) ![0, 128] S512x128.size inb_S512x1024_S512x128_0_128
abbrev rX2 : Rect S1x512x1024 := Rect.unit (s := S1x512x1024) ![0, 0, 256] S1x512x128.size inb_S1x512x1024_S1x512x128_0_0_256
abbrev rG2 : Rect S1x1024 := Rect.unit (s := S1x1024) ![0, 256] S1x128.size inb_S1x1024_S1x128_0_256
abbrev rS2 : Rect S512x1024 := Rect.unit (s := S512x1024) ![0, 256] S512x128.size inb_S512x1024_S512x128_0_256
abbrev rX3 : Rect S1x512x1024 := Rect.unit (s := S1x512x1024) ![0, 0, 384] S1x512x128.size inb_S1x512x1024_S1x512x128_0_0_384
abbrev rG3 : Rect S1x1024 := Rect.unit (s := S1x1024) ![0, 384] S1x128.size inb_S1x1024_S1x128_0_384
abbrev rS3 : Rect S512x1024 := Rect.unit (s := S512x1024) ![0, 384] S512x128.size inb_S512x1024_S512x128_0_384
abbrev rX4 : Rect S1x512x1024 := Rect.unit (s := S1x512x1024) ![0, 0, 512] S1x512x128.size inb_S1x512x1024_S1x512x128_0_0_512
abbrev rG4 : Rect S1x1024 := Rect.unit (s := S1x1024) ![0, 512] S1x128.size inb_S1x1024_S1x128_0_512
abbrev rS4 : Rect S512x1024 := Rect.unit (s := S512x1024) ![0, 512] S512x128.size inb_S512x1024_S512x128_0_512
abbrev rX5 : Rect S1x512x1024 := Rect.unit (s := S1x512x1024) ![0, 0, 640] S1x512x128.size inb_S1x512x1024_S1x512x128_0_0_640
abbrev rG5 : Rect S1x1024 := Rect.unit (s := S1x1024) ![0, 640] S1x128.size inb_S1x1024_S1x128_0_640
abbrev rS5 : Rect S512x1024 := Rect.unit (s := S512x1024) ![0, 640] S512x128.size inb_S512x1024_S512x128_0_640
abbrev rX6 : Rect S1x512x1024 := Rect.unit (s := S1x512x1024) ![0, 0, 768] S1x512x128.size inb_S1x512x1024_S1x512x128_0_0_768
abbrev rG6 : Rect S1x1024 := Rect.unit (s := S1x1024) ![0, 768] S1x128.size inb_S1x1024_S1x128_0_768
abbrev rS6 : Rect S512x1024 := Rect.unit (s := S512x1024) ![0, 768] S512x128.size inb_S512x1024_S512x128_0_768
abbrev rX7 : Rect S1x512x1024 := Rect.unit (s := S1x512x1024) ![0, 0, 896] S1x512x128.size inb_S1x512x1024_S1x512x128_0_0_896
abbrev rG7 : Rect S1x1024 := Rect.unit (s := S1x1024) ![0, 896] S1x128.size inb_S1x1024_S1x128_0_896
abbrev rS7 : Rect S512x1024 := Rect.unit (s := S512x1024) ![0, 896] S512x128.size inb_S512x1024_S512x128_0_896

section loads
variable {F : FTy → Type} [FloatOps F]

/-- What the eight heads leave in the scratch, the last first. -/
def pcs (a b o : Vec F S1x512x1024 .f32) (g : Vec F S1x1024 .f32) : List (View.Piece (Elt F) S512x1024 .bf16) :=
  [⟨rS7, k0_pay1 (k0_pay19 (View.ld a rX7) (View.ld b rX7) (View.ld g rG7) (View.ld o rX7))⟩,
   ⟨rS6, k0_pay18 (k0_pay16 (View.ld a rX6) (View.ld b rX6)) (k0_pay17 (View.ld g rG6)) (View.ld o rX6)⟩,
   ⟨rS5, k0_pay15 (k0_pay13 (View.ld a rX5) (View.ld b rX5)) (k0_pay14 (View.ld a rX5) (View.ld b rX5)) (View.ld g rG5) (View.ld o rX5)⟩,
   ⟨rS4, k0_pay12 (View.ld a rX4) (View.ld b rX4) (View.ld g rG4) (View.ld o rX4)⟩,
   ⟨rS3, k0_pay11 (k0_pay10 (View.ld a rX3) (View.ld b rX3) (View.ld g rG3) (View.ld o rX3))⟩,
   ⟨rS2, k0_pay9 (k0_pay7 (View.ld a rX2) (View.ld b rX2)) (k0_pay8 (View.ld g rG2)) (View.ld o rX2)⟩,
   ⟨rS1, k0_pay6 (k0_pay4 (View.ld a rX1) (View.ld b rX1)) (k0_pay5 (View.ld a rX1) (View.ld b rX1)) (View.ld g rG1) (View.ld o rX1)⟩,
   ⟨rS0, k0_pay3 (View.ld a rX0) (View.ld b rX0) (View.ld g rG0) (View.ld o rX0)⟩]

theorem ld_x (x : Vec F S1x512x1024 .f32) : View.ld (Val := Elt F) x (Rect.unit ![0, 0, 0] ![1, 512, 1024] inb_S1x512x1024_S1x512x1024_0_0_0) = x := View.ld_unit_lit _ x (by decide)
theorem ld_s (x : Vec F S1x1x1024 .f32) : View.ld (Val := Elt F) x (Rect.unit ![0, 0, 0] ![1, 1, 1024] inb_S1x1x1024_S1x1x1024_0_0_0) = x := View.ld_unit_lit _ x (by decide)
theorem ld_w (x : Vec F S1024x1024 .bf16) : View.ld (Val := Elt F) x (Rect.unit ![0, 0] ![1024, 1024] inb_S1024x1024_S1024x1024_0_0) = x := View.ld_unit_lit _ x (by decide)

/-- A load of all of the scratch. -/
theorem readCov_all (v : View sig .tc .vmem S512x1024 .bf16) (L : List (View.Piece (Elt F) S512x1024 .bf16)) :
    v.readCov (Val := Elt F) L rScr.toLoadRect = View.canon L := by
  rw [View.readCov_eq_canon']
  funext j
  refine congrArg (View.canon L) (funext fun a => Fin.ext ((Rect.idx_unit_val _ _ _ _ _).trans ?_))
  rw [show (![0, 0] : Fin 2 → ℕ) a = 0 from by revert a; decide, Nat.zero_add]

end loads

section cases
variable {F : FTy → Type} [FloatOps F]
variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x512x1024 .f32) (harg9 : arg9.IsWhole) (arg10 : Memref sig .tc .vmem S512x1024 .bf16) (harg10 : arg10.IsWhole)
  (x0 : Vec F S1x512x1024 .f32) (x1 : Vec F S1x512x1024 .f32) (x2 : Vec F S1x512x1024 .f32) (x3 : Vec F S1x1024 .f32) (x4 : Vec F S1024x1024 .bf16) (x5 : Vec F S1x512x1024 .f32) (x6 : Vec F S1x1x1024 .f32)

set_option maxHeartbeats 8000000 in
theorem runA_7 :
    (kernelRun0_A (F := F) c i arg2 harg2 arg3 harg3 arg4 harg4 arg5 harg5 arg6 harg6 arg7 harg7 arg8 harg8 arg9 harg9 arg10 harg10 x0 x1 x2 x3 x4 x5 x6).1 = [⟨rOut, k0_pay2 x5 x6 (View.canon (pcs x0 x1 x2 x3)) x4⟩] := by
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread, readCov_all, ld_w, ld_x, ld_s]
  rfl

end cases

/-! ### The scratch at an index -/

/-- Channel `k` of head `H`. -/
def colH (H : Fin 8) (k : Fin 128) : Fin 1024 := ⟨128 * H.val + k.val, by omega⟩

theorem ld_X (x : Vec Ideal S1x512x1024 .f32) (H : Fin 8) (off : Fin 3 → ℕ) (hoff : off = ![0, 0, 128 * H.val]) (inb : ∀ a, off a + S1x512x128.size a ≤ S1x512x1024.size a)
    (r : Fin 512) (k : Fin 128) : View.ld (Val := Elt Ideal) x (Rect.unit (s := S1x512x1024) off S1x512x128.size inb) (ix3 0 r k) = x (ix3 0 r (colH H k)) := by
  subst hoff
  refine congrArg x (funext fun a => Fin.ext ((Rect.idx_unit_val _ _ _ _ _).trans ?_))
  match a with
  | ⟨0, _⟩ => rfl
  | ⟨1, _⟩ => show 0 + r.val = r.val; omega
  | ⟨2, _⟩ => rfl

theorem ld_G (x : Vec Ideal S1x1024 .f32) (H : Fin 8) (off : Fin 2 → ℕ) (hoff : off = ![0, 128 * H.val]) (inb : ∀ a, off a + S1x128.size a ≤ S1x1024.size a)
    (k : Fin 128) : View.ld (Val := Elt Ideal) x (Rect.unit (s := S1x1024) off S1x128.size inb) (ix2 0 k) = x (ix2 0 (colH H k)) := by
  subst hoff
  refine congrArg x (funext fun a => Fin.ext ((Rect.idx_unit_val _ _ _ _ _).trans ?_))
  match a with
  | ⟨0, _⟩ => rfl
  | ⟨1, _⟩ => rfl

theorem emb_col (H : Fin 8) (off : Fin 2 → ℕ) (hoff : off = ![0, 128 * H.val]) (inb : ∀ a, off a + S512x128.size a ≤ S512x1024.size a) (r : Fin 512) (k : Fin 128) :
    (Rect.unit (s := S512x1024) off S512x128.size inb).idx (ix2 r k) = (ix2 r (colH H k) : S512x1024.Idx) := by
  subst hoff
  refine funext fun a => Fin.ext ((Rect.idx_unit_val _ _ _ _ _).trans ?_)
  match a with
  | ⟨0, _⟩ => show 0 + r.val = r.val; omega
  | ⟨1, _⟩ => rfl

theorem hitX (H : Fin 8) (off : Fin 2 → ℕ) (hoff : off = ![0, 128 * H.val]) (inb : ∀ a, off a + S512x128.size a ≤ S512x1024.size a)
    (P : Vec Ideal S512x128 .bf16) (L : List (View.Piece (Elt Ideal) S512x1024 .bf16)) (r : Fin 512) (k : Fin 128) :
    View.canon ((⟨Rect.unit (s := S512x1024) off S512x128.size inb, P⟩ : View.Piece (Elt Ideal) S512x1024 .bf16) :: L) (ix2 r (colH H k)) = P (ix2 r k) := by
  rw [← emb_col H off hoff inb r k]
  exact View.canon_cons_emb (Val := Elt Ideal) (Rect.unit (s := S512x1024) off S512x128.size inb) P L _

theorem missX (H h : Fin 8) (hne : H ≠ h) (off : Fin 2 → ℕ) (hoff : off = ![0, 128 * h.val]) (inb : ∀ a, off a + S512x128.size a ≤ S512x1024.size a)
    (P : Vec Ideal S512x128 .bf16) (L : List (View.Piece (Elt Ideal) S512x1024 .bf16)) (r : Fin 512) (k : Fin 128) :
    View.canon ((⟨Rect.unit (s := S512x1024) off S512x128.size inb, P⟩ : View.Piece (Elt Ideal) S512x1024 .bf16) :: L) (ix2 r (colH H k))
      = View.canon L (ix2 r (colH H k)) := by
  subst hoff
  refine View.canon_cons_of_not_mem _ _ fun hm => ?_
  rw [Rect.mem_set_unit] at hm
  have h2 : 128 * h.val ≤ 128 * H.val + k.val ∧ 128 * H.val + k.val < 128 * h.val + 128 := hm 1
  have : H.val ≠ h.val := fun e => hne (Fin.ext e)
  omega

/-- The entry a head leaves. -/
abbrev ent (a b o : Vec Ideal S1x512x1024 .f32) (g : Vec Ideal S1x1024 .f32) (r : Fin 512) (H : Fin 8) (k : Fin 128) : EReal :=
  hd (fun j => a (ix3 0 r (colH H j)) + b (ix3 0 r (colH H j))) (g (ix2 0 (colH H k))) (o (ix3 0 r (colH H k))) k

section entries
variable (a b o : Vec Ideal S1x512x1024 .f32) (g : Vec Ideal S1x1024 .f32) (r : Fin 512) (k : Fin 128)

theorem scr0 : @Eq EReal (View.canon (pcs (F := Ideal) a b o g) (ix2 r (colH 0 k))) (ent a b o g r 0 k) := by
  unfold pcs
  refine (missX 0 7 (by decide) _ rfl _ _ _ r k).trans ?_
  refine (missX 0 6 (by decide) _ rfl _ _ _ r k).trans ?_
  refine (missX 0 5 (by decide) _ rfl _ _ _ r k).trans ?_
  refine (missX 0 4 (by decide) _ rfl _ _ _ r k).trans ?_
  refine (missX 0 3 (by decide) _ rfl _ _ _ r k).trans ?_
  refine (missX 0 2 (by decide) _ rfl _ _ _ r k).trans ?_
  refine (missX 0 1 (by decide) _ rfl _ _ _ r k).trans ?_
  refine (hitX 0 _ rfl _ _ _ r k).trans ?_
  refine (head0_at _ _ _ _ r k).trans ?_
  have eo : ∀ (x : Vec Ideal S1x512x1024 .f32) (k : Fin 128), @Eq EReal (View.ld (Val := Elt Ideal) x rX0 (ix3 0 r k)) (x (ix3 0 r (colH 0 k))) := fun x k => ld_X x 0 _ rfl _ r k
  have eg : @Eq EReal (View.ld (Val := Elt Ideal) g rG0 (ix2 0 k)) (g (ix2 0 (colH 0 k))) := ld_G g 0 _ rfl _ k
  rw [eo o, eg]
  exact congrArg (fun f : Fin 128 → EReal => hd f (g (ix2 0 (colH 0 k))) (o (ix3 0 r (colH 0 k))) k) (funext fun j => congrArg₂ (fun u v : EReal => u + v) (eo a j) (eo b j))

theorem scr1 : @Eq EReal (View.canon (pcs (F := Ideal) a b o g) (ix2 r (colH 1 k))) (ent a b o g r 1 k) := by
  unfold pcs
  refine (missX 1 7 (by decide) _ rfl _ _ _ r k).trans ?_
  refine (missX 1 6 (by decide) _ rfl _ _ _ r k).trans ?_
  refine (missX 1 5 (by decide) _ rfl _ _ _ r k).trans ?_
  refine (missX 1 4 (by decide) _ rfl _ _ _ r k).trans ?_
  refine (missX 1 3 (by decide) _ rfl _ _ _ r k).trans ?_
  refine (missX 1 2 (by decide) _ rfl _ _ _ r k).trans ?_
  refine (hitX 1 _ rfl _ _ _ r k).trans ?_
  refine (head1_at _ _ _ _ r k).trans ?_
  have eo : ∀ (x : Vec Ideal S1x512x1024 .f32) (k : Fin 128), @Eq EReal (View.ld (Val := Elt Ideal) x rX1 (ix3 0 r k)) (x (ix3 0 r (colH 1 k))) := fun x k => ld_X x 1 _ rfl _ r k
  have eg : @Eq EReal (View.ld (Val := Elt Ideal) g rG1 (ix2 0 k)) (g (ix2 0 (colH 1 k))) := ld_G g 1 _ rfl _ k
  rw [eo o, eg]
  exact congrArg (fun f : Fin 128 → EReal => hd f (g (ix2 0 (colH 1 k))) (o (ix3 0 r (colH 1 k))) k) (funext fun j => congrArg₂ (fun u v : EReal => u + v) (eo a j) (eo b j))

theorem scr2 : @Eq EReal (View.canon (pcs (F := Ideal) a b o g) (ix2 r (colH 2 k))) (ent a b o g r 2 k) := by
  unfold pcs
  refine (missX 2 7 (by decide) _ rfl _ _ _ r k).trans ?_
  refine (missX 2 6 (by decide) _ rfl _ _ _ r k).trans ?_
  refine (missX 2 5 (by decide) _ rfl _ _ _ r k).trans ?_
  refine (missX 2 4 (by decide) _ rfl _ _ _ r k).trans ?_
  refine (missX 2 3 (by decide) _ rfl _ _ _ r k).trans ?_
  refine (hitX 2 _ rfl _ _ _ r k).trans ?_
  refine (head2_at _ _ _ _ r k).trans ?_
  have eo : ∀ (x : Vec Ideal S1x512x1024 .f32) (k : Fin 128), @Eq EReal (View.ld (Val := Elt Ideal) x rX2 (ix3 0 r k)) (x (ix3 0 r (colH 2 k))) := fun x k => ld_X x 2 _ rfl _ r k
  have eg : @Eq EReal (View.ld (Val := Elt Ideal) g rG2 (ix2 0 k)) (g (ix2 0 (colH 2 k))) := ld_G g 2 _ rfl _ k
  rw [eo o, eg]
  exact congrArg (fun f : Fin 128 → EReal => hd f (g (ix2 0 (colH 2 k))) (o (ix3 0 r (colH 2 k))) k) (funext fun j => congrArg₂ (fun u v : EReal => u + v) (eo a j) (eo b j))

theorem scr3 : @Eq EReal (View.canon (pcs (F := Ideal) a b o g) (ix2 r (colH 3 k))) (ent a b o g r 3 k) := by
  unfold pcs
  refine (missX 3 7 (by decide) _ rfl _ _ _ r k).trans ?_
  refine (missX 3 6 (by decide) _ rfl _ _ _ r k).trans ?_
  refine (missX 3 5 (by decide) _ rfl _ _ _ r k).trans ?_
  refine (missX 3 4 (by decide) _ rfl _ _ _ r k).trans ?_
  refine (hitX 3 _ rfl _ _ _ r k).trans ?_
  refine (head3_at _ _ _ _ r k).trans ?_
  have eo : ∀ (x : Vec Ideal S1x512x1024 .f32) (k : Fin 128), @Eq EReal (View.ld (Val := Elt Ideal) x rX3 (ix3 0 r k)) (x (ix3 0 r (colH 3 k))) := fun x k => ld_X x 3 _ rfl _ r k
  have eg : @Eq EReal (View.ld (Val := Elt Ideal) g rG3 (ix2 0 k)) (g (ix2 0 (colH 3 k))) := ld_G g 3 _ rfl _ k
  rw [eo o, eg]
  exact congrArg (fun f : Fin 128 → EReal => hd f (g (ix2 0 (colH 3 k))) (o (ix3 0 r (colH 3 k))) k) (funext fun j => congrArg₂ (fun u v : EReal => u + v) (eo a j) (eo b j))

theorem scr4 : @Eq EReal (View.canon (pcs (F := Ideal) a b o g) (ix2 r (colH 4 k))) (ent a b o g r 4 k) := by
  unfold pcs
  refine (missX 4 7 (by decide) _ rfl _ _ _ r k).trans ?_
  refine (missX 4 6 (by decide) _ rfl _ _ _ r k).trans ?_
  refine (missX 4 5 (by decide) _ rfl _ _ _ r k).trans ?_
  refine (hitX 4 _ rfl _ _ _ r k).trans ?_
  refine (head4_at _ _ _ _ r k).trans ?_
  have eo : ∀ (x : Vec Ideal S1x512x1024 .f32) (k : Fin 128), @Eq EReal (View.ld (Val := Elt Ideal) x rX4 (ix3 0 r k)) (x (ix3 0 r (colH 4 k))) := fun x k => ld_X x 4 _ rfl _ r k
  have eg : @Eq EReal (View.ld (Val := Elt Ideal) g rG4 (ix2 0 k)) (g (ix2 0 (colH 4 k))) := ld_G g 4 _ rfl _ k
  rw [eo o, eg]
  exact congrArg (fun f : Fin 128 → EReal => hd f (g (ix2 0 (colH 4 k))) (o (ix3 0 r (colH 4 k))) k) (funext fun j => congrArg₂ (fun u v : EReal => u + v) (eo a j) (eo b j))

theorem scr5 : @Eq EReal (View.canon (pcs (F := Ideal) a b o g) (ix2 r (colH 5 k))) (ent a b o g r 5 k) := by
  unfold pcs
  refine (missX 5 7 (by decide) _ rfl _ _ _ r k).trans ?_
  refine (missX 5 6 (by decide) _ rfl _ _ _ r k).trans ?_
  refine (hitX 5 _ rfl _ _ _ r k).trans ?_
  refine (head5_at _ _ _ _ r k).trans ?_
  have eo : ∀ (x : Vec Ideal S1x512x1024 .f32) (k : Fin 128), @Eq EReal (View.ld (Val := Elt Ideal) x rX5 (ix3 0 r k)) (x (ix3 0 r (colH 5 k))) := fun x k => ld_X x 5 _ rfl _ r k
  have eg : @Eq EReal (View.ld (Val := Elt Ideal) g rG5 (ix2 0 k)) (g (ix2 0 (colH 5 k))) := ld_G g 5 _ rfl _ k
  rw [eo o, eg]
  exact congrArg (fun f : Fin 128 → EReal => hd f (g (ix2 0 (colH 5 k))) (o (ix3 0 r (colH 5 k))) k) (funext fun j => congrArg₂ (fun u v : EReal => u + v) (eo a j) (eo b j))

theorem scr6 : @Eq EReal (View.canon (pcs (F := Ideal) a b o g) (ix2 r (colH 6 k))) (ent a b o g r 6 k) := by
  unfold pcs
  refine (missX 6 7 (by decide) _ rfl _ _ _ r k).trans ?_
  refine (hitX 6 _ rfl _ _ _ r k).trans ?_
  refine (head6_at _ _ _ _ r k).trans ?_
  have eo : ∀ (x : Vec Ideal S1x512x1024 .f32) (k : Fin 128), @Eq EReal (View.ld (Val := Elt Ideal) x rX6 (ix3 0 r k)) (x (ix3 0 r (colH 6 k))) := fun x k => ld_X x 6 _ rfl _ r k
  have eg : @Eq EReal (View.ld (Val := Elt Ideal) g rG6 (ix2 0 k)) (g (ix2 0 (colH 6 k))) := ld_G g 6 _ rfl _ k
  rw [eo o, eg]
  exact congrArg (fun f : Fin 128 → EReal => hd f (g (ix2 0 (colH 6 k))) (o (ix3 0 r (colH 6 k))) k) (funext fun j => congrArg₂ (fun u v : EReal => u + v) (eo a j) (eo b j))

theorem scr7 : @Eq EReal (View.canon (pcs (F := Ideal) a b o g) (ix2 r (colH 7 k))) (ent a b o g r 7 k) := by
  unfold pcs
  refine (hitX 7 _ rfl _ _ _ r k).trans ?_
  refine (head7_at _ _ _ _ r k).trans ?_
  have eo : ∀ (x : Vec Ideal S1x512x1024 .f32) (k : Fin 128), @Eq EReal (View.ld (Val := Elt Ideal) x rX7 (ix3 0 r k)) (x (ix3 0 r (colH 7 k))) := fun x k => ld_X x 7 _ rfl _ r k
  have eg : @Eq EReal (View.ld (Val := Elt Ideal) g rG7 (ix2 0 k)) (g (ix2 0 (colH 7 k))) := ld_G g 7 _ rfl _ k
  rw [eo o, eg]
  exact congrArg (fun f : Fin 128 → EReal => hd f (g (ix2 0 (colH 7 k))) (o (ix3 0 r (colH 7 k))) k) (funext fun j => congrArg₂ (fun u v : EReal => u + v) (eo a j) (eo b j))

theorem scr_at (H : Fin 8) : @Eq EReal (View.canon (pcs (F := Ideal) a b o g) (ix2 r (colH H k))) (ent a b o g r H k) := by
  match H with
  | ⟨0, _⟩ => exact scr0 a b o g r k
  | ⟨1, _⟩ => exact scr1 a b o g r k
  | ⟨2, _⟩ => exact scr2 a b o g r k
  | ⟨3, _⟩ => exact scr3 a b o g r k
  | ⟨4, _⟩ => exact scr4 a b o g r k
  | ⟨5, _⟩ => exact scr5 a b o g r k
  | ⟨6, _⟩ => exact scr6 a b o g r k
  | ⟨7, _⟩ => exact scr7 a b o g r k

end entries

end Cert.Kernel10Ideal.HgOut

end
-- ==== Proof.HgOut.lean ====
/- The gated linear recurrence's output product: what each grid point leaves, and the kernel's result array. -/
module

public import proofs.«01_k».proof.Proof.HgOutBody

@[expose] public section

noncomputable section

namespace Cert.Kernel10Ideal.HgOut

open Cert.Kernel10Ideal Cert.Kernel10Ideal.Gen Idealize.ShloMosaic Idealize.ShloMosaic.TcCoe Idealize.SL.Sem

/-- The head of channel `k`, and the channel among the head's. -/
def hOf (k : Fin 1024) : Fin 8 := ⟨k.val / 128, by omega⟩
@[inherit_doc hOf] def chOf (k : Fin 1024) : Fin 128 := ⟨k.val % 128, by omega⟩

theorem colH_of (k : Fin 1024) : colH (hOf k) (chOf k) = k := Fin.ext (by show 128 * (k.val / 128) + k.val % 128 = k.val; omega)

/-- Column `k` of the gate's third of the five input columns. -/
def gcol (k : Fin 1024) : Fin 5120 := ⟨2048 + k.val, by omega⟩

/-- The normalised and gated sum of the two directions' outputs. -/
def actAt (a b : Vec Ideal S2x16384x1024 .f32) (u : Vec Ideal S2x16384x5120 .f32) (gn : Vec Ideal S1024 .f32) (q : Fin 2) (r : Fin 16384) (k : Fin 1024) : EReal :=
  hd (fun j => a (ix3 q r (colH (hOf k) j)) + b (ix3 q r (colH (hOf k) j))) (gn (ix1 k)) (u (ix3 q r (gcol k))) (chOf k)

/-- The result: the input plus the gate times the product. -/
def hgOutAt (a b : Vec Ideal S2x16384x1024 .f32) (u : Vec Ideal S2x16384x5120 .f32) (gn : Vec Ideal S1024 .f32) (w : Vec Ideal S1024x1024 .f32)
    (x : Vec Ideal S2x16384x1024 .f32) (g : Vec Ideal S2x1x1024 .f32) (q : Fin 2) (r : Fin 16384) (n : Fin 1024) : EReal :=
  x (ix3 q r n) + g (ix3 q 0 n) * ∑ k : Fin 1024, actAt a b u gn q r k * w (ix2 k n)

def hgOutA (a b : Vec Ideal S2x16384x1024 .f32) (u : Vec Ideal S2x16384x5120 .f32) (gn : Vec Ideal S1024 .f32) (w : Vec Ideal S1024x1024 .f32)
    (x : Vec Ideal S2x16384x1024 .f32) (g : Vec Ideal S2x1x1024 .f32) : Vec Ideal S2x16384x1024 .f32 := fun i => hgOutAt a b u gn w x g (i 0) (i 1) (i 2)

section Read
variable (m : (ℓ : Loc nD τ sig) → Buf (Elt Ideal) ℓ) (c : Dev nD) (t : Fin cfg0.N)

abbrev x0 : Vec Ideal S2x16384x1024 .f32 := m (c.tc.loc main_arg0)
abbrev x1 : Vec Ideal S2x16384x1024 .f32 := m (c.tc.loc main_arg1)
abbrev x2 : Vec Ideal S2x16384x5120 .f32 := m (c.tc.loc main_arg2)
abbrev x3 : Vec Ideal S1024 .f32 := m (c.tc.loc main_arg3)
abbrev x4 : Vec Ideal S1024x1024 .f32 := m (c.tc.loc main_arg4)
abbrev x5 : Vec Ideal S2x16384x1024 .f32 := m (c.tc.loc main_arg5)
abbrev x6 : Vec Ideal S2x1x1024 .f32 := m (c.tc.loc main_arg6)

theorem V0 : (V m c main_v0 : Vec Ideal S1024x1024 .bf16) = truncf (F := Ideal) (φ := .f32) .bf16 (x4 m c) bitsLt_bf16_f32 := by
  show StableHlo.after hostOps0 (fun b => m (c, b)) _ = _
  simp only [hostOps0]
  after_results

theorem V1 : (V m c main_v1 : Vec Ideal S1x1024 .f32) = shapeCast S1x1024 (x3 m c) shapeCasts_S1024_S1x1024 := by
  show StableHlo.after hostOps0 (fun b => m (c, b)) _ = _
  simp only [hostOps0]
  after_results
  rfl

theorem V1_at (n : Fin 1024) : @Eq EReal ((V m c main_v1 : Vec Ideal S1x1024 .f32) (ix2 0 n)) (x3 m c (ix1 n)) := by
  rw [V1]
  pointwise

theorem ix_0 : ∀ t : Fin cfg0.N, win0_0.index t 0 = t.val / 32 ∧ win0_0.index t 1 = t.val % 32 ∧ win0_0.index t 2 = 0 := by decide +kernel
theorem ix_1 : ∀ t : Fin cfg0.N, win0_1.index t 0 = t.val / 32 ∧ win0_1.index t 1 = t.val % 32 ∧ win0_1.index t 2 = 0 := by decide +kernel
theorem ix_2 : ∀ t : Fin cfg0.N, win0_2.index t 0 = t.val / 32 ∧ win0_2.index t 1 = t.val % 32 ∧ win0_2.index t 2 = 2 := by decide +kernel
theorem ix_3 : ∀ t : Fin cfg0.N, win0_3.index t 0 = 0 ∧ win0_3.index t 1 = 0 := by decide +kernel
theorem ix_4 : ∀ t : Fin cfg0.N, win0_4.index t 0 = 0 ∧ win0_4.index t 1 = 0 := by decide +kernel
theorem ix_5 : ∀ t : Fin cfg0.N, win0_5.index t 0 = t.val / 32 ∧ win0_5.index t 1 = t.val % 32 ∧ win0_5.index t 2 = 0 := by decide +kernel
theorem ix_6 : ∀ t : Fin cfg0.N, win0_6.index t 0 = t.val / 32 ∧ win0_6.index t 1 = 0 ∧ win0_6.index t 2 = 0 := by decide +kernel
theorem ix_7 : ∀ t : Fin cfg0.N, win0_7.index t 0 = t.val / 32 ∧ win0_7.index t 1 = t.val % 32 ∧ win0_7.index t 2 = 0 := by decide +kernel

/-- The batch of point `t`, and the row of its block. -/
def bt : Fin 2 := ⟨t.val / 32, by have := lt_of_lt_of_eq t.isLt Gen.N_0; omega⟩
def row (r : Fin 512) : Fin 16384 := ⟨512 * (t.val % 32) + r.val, by omega⟩

theorem blk_0 (r : Fin 512) (k : Fin 1024) : (iblk m c 0 t : Vec Ideal S1x512x1024 .f32) (ix3 0 r k) = x0 m c (ix3 (bt t) (row t r) k) := by
  have hi := ix_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [hi.1]; omega
  | ⟨1, _⟩ => show win0_0.index t 1 * 512 + 1 * r.val = 512 * (t.val % 32) + r.val; rw [hi.2.1]; omega
  | ⟨2, _⟩ => show win0_0.index t 2 * 1024 + 1 * k.val = k.val; rw [hi.2.2]; omega

theorem blk_1 (r : Fin 512) (k : Fin 1024) : (iblk m c 1 t : Vec Ideal S1x512x1024 .f32) (ix3 0 r k) = x1 m c (ix3 (bt t) (row t r) k) := by
  have hi := ix_1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 32; rw [hi.1]; omega
  | ⟨1, _⟩ => show win0_1.index t 1 * 512 + 1 * r.val = 512 * (t.val % 32) + r.val; rw [hi.2.1]; omega
  | ⟨2, _⟩ => show win0_1.index t 2 * 1024 + 1 * k.val = k.val; rw [hi.2.2]; omega

theorem blk_2 (r : Fin 512) (k : Fin 1024) : (iblk m c 2 t : Vec Ideal S1x512x1024 .f32) (ix3 0 r k) = x2 m c (ix3 (bt t) (row t r) (gcol k)) := by
  have hi := ix_2 t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 32; rw [hi.1]; omega
  | ⟨1, _⟩ => show win0_2.index t 1 * 512 + 1 * r.val = 512 * (t.val % 32) + r.val; rw [hi.2.1]; omega
  | ⟨2, _⟩ => show win0_2.index t 2 * 1024 + 1 * k.val = 2048 + k.val; rw [hi.2.2]; omega

theorem blk_3 (n : Fin 1024) : @Eq EReal ((iblk m c 3 t : Vec Ideal S1x1024 .f32) (ix2 0 n)) (x3 m c (ix1 n)) := by
  have hi := ix_3 t
  unfold iblk
  rw [View.read_apply]
  refine Eq.trans ?_ (V1_at m c n)
  show (V m c main_v1 : Vec Ideal S1x1024 .f32) _ = (V m c main_v1 : Vec Ideal S1x1024 .f32) _
  congr 1
  funext a
  apply Fin.ext
  match a with
  | ⟨0, _⟩ => show win0_3.index t 0 * 1 + 1 * 0 = 0; rw [hi.1]
  | ⟨1, _⟩ => show win0_3.index t 1 * 1024 + 1 * n.val = n.val; rw [hi.2]; omega

theorem blk_4 (k : Fin 1024) (n : Fin 1024) : (iblk m c 4 t : Vec Ideal S1024x1024 .bf16) (ix2 k n) = x4 m c (ix2 k n) := by
  have hi := ix_4 t
  unfold iblk
  rw [View.read_apply]
  show (V m c main_v0 : Vec Ideal S1024x1024 .bf16) _ = x4 m c _
  rw [V0]
  show x4 m c _ = x4 m c _
  congr 1
  funext a
  apply Fin.ext
  match a with
  | ⟨0, _⟩ => show win0_4.index t 0 * 1024 + 1 * k.val = k.val; rw [hi.1]; omega
  | ⟨1, _⟩ => show win0_4.index t 1 * 1024 + 1 * n.val = n.val; rw [hi.2]; omega

theorem blk_5 (r : Fin 512) (k : Fin 1024) : (iblk m c 5 t : Vec Ideal S1x512x1024 .f32) (ix3 0 r k) = x5 m c (ix3 (bt t) (row t r) k) := by
  have hi := ix_5 t
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * 0 = t.val / 32; rw [hi.1]; omega
  | ⟨1, _⟩ => show win0_5.index t 1 * 512 + 1 * r.val = 512 * (t.val % 32) + r.val; rw [hi.2.1]; omega
  | ⟨2, _⟩ => show win0_5.index t 2 * 1024 + 1 * k.val = k.val; rw [hi.2.2]; omega

theorem blk_6 (n : Fin 1024) : (iblk m c 6 t : Vec Ideal S1x1x1024 .f32) (ix3 0 0 n) = x6 m c (ix3 (bt t) 0 n) := by
  have hi := ix_6 t
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * 0 = t.val / 32; rw [hi.1]; omega
  | ⟨1, _⟩ => show win0_6.index t 1 * 1 + 1 * 0 = 0; rw [hi.2.1]
  | ⟨2, _⟩ => show win0_6.index t 2 * 1024 + 1 * n.val = n.val; rw [hi.2.2]; omega

/-- The scratch after a point's eight heads. -/
theorem act_at (r : Fin 512) (k : Fin 1024) :
    @Eq EReal (View.canon (pcs (F := Ideal) (iblk m c 0 t) (iblk m c 1 t) (iblk m c 2 t) (iblk m c 3 t)) (ix2 r k))
      (actAt (x0 m c) (x1 m c) (x2 m c) (x3 m c) (bt t) (row t r) k) := by
  have e := scr_at (iblk m c 0 t) (iblk m c 1 t) (iblk m c 2 t) (iblk m c 3 t) r (chOf k) (hOf k)
  rw [colH_of] at e
  refine e.trans ?_
  unfold ent actAt
  rw [colH_of, blk_2, blk_3]
  simp only [blk_0, blk_1]

theorem point_7 (r : Fin 512) (n : Fin 1024) : @Eq EReal ((outsAt0 m c t : Vec Ideal S1x512x1024 .f32) (ix3 0 r n))
    (hgOutAt (x0 m c) (x1 m c) (x2 m c) (x3 m c) (x4 m c) (x5 m c) (x6 m c) (bt t) (row t r) n) := by
  unfold outsAt0 out0_A_7
  rw [runA_7, View.read_writes_junk_eq_canon, View.canon_cons_unit_lit (S := S1x512x1024) _ _ _ (by decide), pay2_at, blk_5, blk_6]
  unfold hgOutAt
  refine congrArg (fun z : EReal => _ + _ * z) (Finset.sum_congr rfl fun k _ => ?_)
  rw [act_at, blk_4]

theorem flush_7 : (dats m 0 c).flushed 7 t = ((cfg0.win 7).blk t).view.read (Elt Ideal) (hgOutA (x0 m c) (x1 m c) (x2 m c) (x3 m c) (x4 m c) (x5 m c) (x6 m c)) := by
  have hi := ix_7 t
  rw [Value.flushed7]
  funext j
  rw [View.read_apply]
  have e : win0_7.xinj (grid0.coords t) j = (ix3 0 (j 1) (j 2) : S1x512x1024.Idx) := by
    funext a
    match a with
    | ⟨0, _⟩ => exact Subsingleton.elim (α := Fin 1) _ _
    | ⟨1, _⟩ => rfl
    | ⟨2, _⟩ => rfl
  have h0 : (j 0).val = 0 := by have : (j 0).val < 1 := (j 0).isLt; omega
  have e' : (((cfg0.win 7).blk t).view.emb j : S2x16384x1024.Idx) = ix3 (bt t) (row t (j 1)) (j 2) := by
    funext a
    apply Fin.ext
    match a with
    | ⟨0, _⟩ => show win0_7.index t 0 * 1 + 1 * (j 0).val = t.val / 32; rw [hi.1, h0]; omega
    | ⟨1, _⟩ => show win0_7.index t 1 * 512 + 1 * (j 1).val = 512 * (t.val % 32) + (j 1).val; rw [hi.2.1]; omega
    | ⟨2, _⟩ => show win0_7.index t 2 * 1024 + 1 * (j 2).val = (j 2).val; rw [hi.2.2]; omega
  exact ((congrArg _ e).trans (point_7 m c t _ _)).trans (congrArg (hgOutA (x0 m c) (x1 m c) (x2 m c) (x3 m c) (x4 m c) (x5 m c) (x6 m c)) e').symm

end Read

variable (m : (ℓ : Loc nD τ sig) → Buf (Elt Ideal) ℓ) (c : Dev nD)

theorem arr_7 : (dats m 0 c).arrAt 7 cfg0.N = hgOutA (x0 m c) (x1 m c) (x2 m c) (x3 m c) (x4 m c) (x5 m c) (x6 m c) :=
  (dats m 0 c).arrAt_eq_of_cover 7 (hgOutA (x0 m c) (x1 m c) (x2 m c) (x3 m c) (x4 m c) (x5 m c) (x6 m c)) (fun t _ => flush_7 m c t) fun i => by
    have h0 : (i 0 : Nat) < 2 := (i 0).isLt
    have h1 : (i 1 : Nat) < 16384 := (i 1).isLt
    have h2 : (i 2 : Nat) < 1024 := (i 2).isLt
    obtain ⟨t, ht⟩ : ∃ t : Fin cfg0.N, t.val = (i 0 : Nat) * 32 + (i 1 : Nat) / 512 := ⟨⟨_, by rw [show cfg0.N = 64 from Gen.N_0]; omega⟩, rfl⟩
    refine ⟨t, flush0_7 _, ?_⟩
    have hi := ix_7 t
    rw [ht] at hi
    show i ∈ ((View.whole main_v2).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [hi.1]; omega
    | ⟨1, _⟩ =>
      show win0_7.index t 1 * 512 ≤ (i 1 : Nat) ∧ (i 1 : Nat) < win0_7.index t 1 * 512 + 512
      rw [hi.2.1]; omega
    | ⟨2, _⟩ =>
      show win0_7.index t 2 * 1024 ≤ (i 2 : Nat) ∧ (i 2 : Nat) < win0_7.index t 2 * 1024 + 1024
      rw [hi.2.2]; omega

/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v2) = hgOutA (x0 m c) (x1 m c) (x2 m c) (x3 m c) (x4 m c) (x5 m c) (x6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (arr_7 m c), (h c).2⟩) (Value.run_blocks m ρ)

end Cert.Kernel10Ideal.HgOut

end
-- ==== Proof.HgOutRef.lean ====
/- The reference of the gated linear recurrence's output product: its result at an index. -/
module

public import proofs.«01_k».proof.Proof.HgOut
public import proofs.«01_k».proof.Proof.Gen.Reference10Ideal.Run

@[expose] public section

set_option maxRecDepth 100000

noncomputable section

namespace Cert.Reference10Ideal.HgOut

open Cert.Reference10Ideal Cert.Reference10Ideal.Gen Idealize.ShloMosaic Idealize.ShloMosaic.TcCoe Idealize.SL.Sem Cert.Kernel10Ideal.HgOut

/-- The sum of the two directions' outputs, by heads. -/
def sumR (a b : Vec Ideal S2x16384x1024 .f32) : Vec Ideal S2x16384x8x128 .f32 :=
  shapeCast S2x16384x8x128 (addf (F := Ideal) (φ := .f32) a b) shapeCasts_S2x16384x1024_S2x16384x8x128

/-- Its heads normalised, times the gains. -/
def normR (o : Vec Ideal S2x16384x8x128 .f32) (gn : Vec Ideal S1024 .f32) : Vec Ideal S2x16384x8x128 .f32 :=
  mulf (F := Ideal) (φ := .f32) (mulf (F := Ideal) (φ := .f32) o (broadcastInDim S2x16384x8x128 ![0, 1, 2, 3] bcast_S2x16384x8x1_S2x16384x8x128_0_1_2_3 (Host.rsqrt (F := Ideal) (φ := .f32) (addf (F := Ideal) (φ := .f32) (Host.divf (F := Ideal) (φ := .f32) (broadcastInDim S2x16384x8x1 ![0, 1, 2] bcast_S2x16384x8_S2x16384x8x1_0_1_2 (Host.reduceAdd (F := Ideal) (φ := .f32) (mulf (F := Ideal) (φ := .f32) o o) (constant (F := Ideal) S_ .f32 0x00000000#32) reducesTo_S2x16384x8x128_S2x16384x8_d3 h_S_)) (broadcastInDim S2x16384x8x1 ![] bcast_S_S2x16384x8x1 (constant (F := Ideal) S_ .f32 0x43000000#32))) (broadcastInDim S2x16384x8x1 ![] bcast_S_S2x16384x8x1 (constant (F := Ideal) S_ .f32 0x358637BD#32)))))) (broadcastInDim S2x16384x8x128 ![0, 1, 2, 3] bcast_S1x1x8x128_S2x16384x8x128_0_1_2_3 (broadcastInDim S1x1x8x128 ![2, 3] bcast_S8x128_S1x1x8x128_2_3 (shapeCast S8x128 gn shapeCasts_S1024_S8x128)))

/-- The gate's third of the columns times its logistic. -/
def siluR (u : Vec Ideal S2x16384x5120 .f32) : Vec Ideal S2x16384x1024 .f32 :=
  mulf (F := Ideal) (φ := .f32) (extractStridedSlice S2x16384x1024 ![0, 0, 2048] u slices_S2x16384x5120_S2x16384x1024_0_0_2048) (Host.divf (F := Ideal) (φ := .f32) (broadcastInDim S2x16384x1024 ![] bcast_S_S2x16384x1024 (constant (F := Ideal) S_ .f32 0x3F800000#32)) (addf (F := Ideal) (φ := .f32) (broadcastInDim S2x16384x1024 ![] bcast_S_S2x16384x1024 (constant (F := Ideal) S_ .f32 0x3F800000#32)) (Host.exp (F := Ideal) (φ := .f32) (Host.negf (F := Ideal) (φ := .f32) (extractStridedSlice S2x16384x1024 ![0, 0, 2048] u slices_S2x16384x5120_S2x16384x1024_0_0_2048)))))

/-- The normalised and gated sum. -/
def actR (a b : Vec Ideal S2x16384x1024 .f32) (u : Vec Ideal S2x16384x5120 .f32) (gn : Vec Ideal S1024 .f32) : Vec Ideal S2x16384x1024 .f32 :=
  mulf (F := Ideal) (φ := .f32) (shapeCast S2x16384x1024 (normR (sumR a b) gn) shapeCasts_S2x16384x8x128_S2x16384x1024) (siluR u)

theorem sumR_at (a b : Vec Ideal S2x16384x1024 .f32) (q : Fin 2) (r : Fin 16384) (H : Fin 8) (k : Fin 128) :
    @Eq EReal (sumR a b (ix4 q r H k)) (a (ix3 q r (colH H k)) + b (ix3 q r (colH H k))) := by
  rw [show colH H k = ⟨H.val * 128 + k.val, by omega⟩ from Fin.ext (by show 128 * H.val + k.val = H.val * 128 + k.val; omega)]
  unfold sumR
  pointwise

theorem normR_at (o : Vec Ideal S2x16384x8x128 .f32) (gn : Vec Ideal S1024 .f32) (q : Fin 2) (r : Fin 16384) (H : Fin 8) (k : Fin 128) :
    @Eq EReal (normR o gn (ix4 q r H k))
      (o (ix4 q r H k) * Ideal.rsqrt (Ideal.div (∑ j : Fin 128, o (ix4 q r H j) * o (ix4 q r H j)) (FloatOps.ofBits (F := Ideal) .f32 0x43000000#32) + FloatOps.ofBits (F := Ideal) .f32 0x358637BD#32) * gn (ix1 (colH H k))) := by
  rw [show colH H k = ⟨H.val * 128 + k.val, by omega⟩ from Fin.ext (by show 128 * H.val + k.val = H.val * 128 + k.val; omega)]
  unfold normR
  pointwise

theorem siluR_at (u : Vec Ideal S2x16384x5120 .f32) (q : Fin 2) (r : Fin 16384) (k : Fin 1024) :
    @Eq EReal (siluR u (ix3 q r k)) (u (ix3 q r (gcol k)) * Ideal.logistic (u (ix3 q r (gcol k)))) := by
  unfold siluR Ideal.logistic gcol
  pointwise

theorem flat_at (y : Vec Ideal S2x16384x8x128 .f32) (q : Fin 2) (r : Fin 16384) (k : Fin 1024) :
    @Eq EReal (shapeCast S2x16384x1024 y shapeCasts_S2x16384x8x128_S2x16384x1024 (ix3 q r k)) (y (ix4 q r (hOf k) (chOf k))) := by
  unfold hOf chOf
  pointwise

theorem actR_at (a b : Vec Ideal S2x16384x1024 .f32) (u : Vec Ideal S2x16384x5120 .f32) (gn : Vec Ideal S1024 .f32) (q : Fin 2) (r : Fin 16384) (k : Fin 1024) :
    @Eq EReal (actR a b u gn (ix3 q r k)) (actAt a b u gn q r k) := by
  have e : @Eq EReal (actR a b u gn (ix3 q r k)) (shapeCast S2x16384x1024 (normR (sumR a b) gn) shapeCasts_S2x16384x8x128_S2x16384x1024 (ix3 q r k) * siluR u (ix3 q r k)) := rfl
  rw [e, flat_at, siluR_at, normR_at, colH_of]
  have hs : ∀ j : Fin 128, @Eq EReal (sumR a b (ix4 q r (hOf k) j)) (a (ix3 q r (colH (hOf k) j)) + b (ix3 q r (colH (hOf k) j))) := fun j => sumR_at a b q r (hOf k) j
  have hf : (fun j : Fin 128 => (sumR a b (ix4 q r (hOf k) j) : EReal)) = fun j => a (ix3 q r (colH (hOf k) j)) + b (ix3 q r (colH (hOf k) j)) := funext hs
  exact congrArg (fun f : Fin 128 → EReal => hd f (gn (ix1 k)) (u (ix3 q r (gcol k))) (chOf k)) hf

theorem outR_at (h : Vec Ideal S2x16384x1024 .f32) (w : Vec Ideal S1024x1024 .f32) (x : Vec Ideal S2x16384x1024 .f32) (g : Vec Ideal S2x1x1024 .f32) (q : Fin 2) (r : Fin 16384) (n : Fin 1024) :
    @Eq EReal (addf (F := Ideal) (φ := .f32) x (mulf (F := Ideal) (φ := .f32) (broadcastInDim S2x16384x1024 ![0, 1, 2] bcast_S2x1x1024_S2x16384x1024_0_1_2 g) (Host.dotGeneral (F := Ideal) (φ₁ := .f32) (φ₂ := .f32) dot_S2x16384x1024_S1024x1024_S2x16384x1024_2_0_01_1_n_n none h w)) (ix3 q r n))
      (x (ix3 q r n) + g (ix3 q 0 n) * ∑ k : Fin 1024, h (ix3 q r k) * w (ix2 k n)) := by
  pointwise

theorem val_eq (a b : Vec Ideal S2x16384x1024 .f32) (u : Vec Ideal S2x16384x5120 .f32) (gn : Vec Ideal S1024 .f32) (w : Vec Ideal S1024x1024 .f32) (x : Vec Ideal S2x16384x1024 .f32) (g : Vec Ideal S2x1x1024 .f32) :
    addf (F := Ideal) (φ := .f32) x (mulf (F := Ideal) (φ := .f32) (broadcastInDim S2x16384x1024 ![0, 1, 2] bcast_S2x1x1024_S2x16384x1024_0_1_2 g) (Host.dotGeneral (F := Ideal) (φ₁ := .f32) (φ₂ := .f32) dot_S2x16384x1024_S1024x1024_S2x16384x1024_2_0_01_1_n_n none (actR a b u gn) w))
      = hgOutA a b u gn w x g := by
  funext i
  have e : i = ix3 (i 0) (i 1) (i 2) := by
    funext a
    match a with
    | ⟨0, _⟩ => rfl
    | ⟨1, _⟩ => rfl
    | ⟨2, _⟩ => rfl
  rw [e]
  refine (outR_at _ w x g (i 0) (i 1) (i 2)).trans ?_
  refine congrArg (fun z : EReal => x (ix3 (i 0) (i 1) (i 2)) + g (ix3 (i 0) 0 (i 2)) * z) ?_
  exact Finset.sum_congr rfl fun k _ => congrArg (fun z : EReal => z * w (ix2 k (i 2))) (actR_at a b u gn (i 0) (i 1) k)

variable (m : (ℓ : Loc nD τ sig) → Buf (Elt Ideal) ℓ) (c : Dev nD)

abbrev a0 : Vec Ideal S2x16384x1024 .f32 := m (c.tc.loc main_arg0)
abbrev a1 : Vec Ideal S2x16384x1024 .f32 := m (c.tc.loc main_arg1)
abbrev a2 : Vec Ideal S2x16384x5120 .f32 := m (c.tc.loc main_arg2)
abbrev a3 : Vec Ideal S1024 .f32 := m (c.tc.loc main_arg3)
abbrev a4 : Vec Ideal S1024x1024 .f32 := m (c.tc.loc main_arg4)
abbrev a5 : Vec Ideal S2x16384x1024 .f32 := m (c.tc.loc main_arg5)
abbrev a6 : Vec Ideal S2x1x1024 .f32 := m (c.tc.loc main_arg6)

/-- The reference's run. -/
theorem runV (ρ : Dev nD → PrngReg) : θ_run defs (onTc (τ := τ) (main (F := Ideal))) ⟨m, fun _ => 0, ρ⟩ fun r => ∀ c : Dev nD,
      r.2.mem ((c : Thread nD τ).loc main_v23) = hgOutA (a0 m c) (a1 m c) (a2 m c) (a3 m c) (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (val_eq (a0 m c) (a1 m c) (a2 m c) (a3 m c) (a4 m c) (a5 m c) (a6 m c)), (h c).2⟩) (Value.run m ρ)

end Cert.Reference10Ideal.HgOut

end
-- ==== Proof.Table.lean ====
/- The experts' table: what the precondition says of its words, and the read of a weight array at the expert a word names. -/
module

public import proofs.«01_k».proof.Proof.Gen.Pre_experts_up
public import proofs.«01_k».proof.Proof.Gen.Pre_experts_down
public import Idealize.ShloMosaic.Lib.Pointwise
public import Idealize.ShloMosaic.Lib.StableHlo.Predicate
public import Idealize.ShloMosaic.Lib.Pipeline.ValueKit

@[expose] public section

noncomputable section

namespace Cert.Experts

open Idealize.ShloMosaic

/-- The expert of a block of 512 rows. -/
def pick (e : IVec ⟨1, ![136]⟩ 32) (g : Fin 136) : Fin 8 := ⟨(e (ix1 g)).toNat % 8, Nat.mod_lt _ (by decide)⟩

theorem pick_val (e : IVec ⟨1, ![136]⟩ 32) (h : ∀ g, (e (ix1 g)).toNat < 8) (g : Fin 136) : (pick e g).val = (e (ix1 g)).toNat :=
  Nat.mod_eq_of_lt (h g)

/-- A word that is at least zero and below eight, as signed numbers, is below eight. -/
theorem lt_of_signed (a : BitVec 32) (h : IntOp.andi (IntOp.cmpi .sge a 0#32) (IntOp.cmpi .slt a 8#32) = 1#1) : a.toNat < 8 := by
  have key : ∀ p q : Bool, IntOp.andi (BitVec.ofBool p) (BitVec.ofBool q) = 1#1 → p = true ∧ q = true := by decide
  obtain ⟨h0, h1⟩ := key _ _ h
  have h0' : (0#32).toInt ≤ a.toInt := of_decide_eq_true h0
  have h1' : a.toInt < (8#32).toInt := of_decide_eq_true h1
  have z : (0#32).toInt = 0 := by decide
  have e : (8#32).toInt = 8 := by decide
  rw [z] at h0'
  rw [e] at h1'
  rw [BitVec.toInt_eq_toNat_cond] at h0' h1'
  split at h0' <;> omega

theorem lt_of_down {F : FTy → Type} [FloatOps F] (x : FVec F ⟨2, ![69632, 3584]⟩ .bf16) (e : IVec ⟨1, ![136]⟩ 32) (w : FVec F ⟨3, ![8, 3584, 1024]⟩ .f32)
    (h : Cert.Pre_experts_down.fn x e w = fun _ => 1#1) (g : Fin 136) : (e (ix1 g)).toNat < 8 :=
  lt_of_signed _ (congrFun h (ix1 g))

theorem lt_of_up {F : FTy → Type} [FloatOps F] (x : FVec F ⟨2, ![69632, 1024]⟩ .f32) (e : IVec ⟨1, ![136]⟩ 32) (wg wu : FVec F ⟨3, ![8, 1024, 3584]⟩ .f32)
    (h : Cert.Pre_experts_up.fn x e wg wu = fun _ => 1#1) (g : Fin 136) : (e (ix1 g)).toNat < 8 :=
  lt_of_signed _ (congrFun h (ix1 g))

/-- The column of words a table is read at, when each is below eight: a word below zero, as a signed number, would be moved
    up by eight, and none is. -/
theorem words_at (e z k : IVec ⟨1, ![136]⟩ 32) (hz : ∀ g, z (ix1 g) = 0#32) (he : ∀ g, (e (ix1 g)).toNat < 8) (g : Fin 136) :
    (select (cmpi .slt e z) (addi e k) e : IVec ⟨1, ![136]⟩ 32) (ix1 g) = e (ix1 g) := by
  show (if IntOp.cmpi .slt (e (ix1 g)) (z (ix1 g)) = 1#1 then _ else e (ix1 g)) = e (ix1 g)
  refine if_neg fun h => ?_
  have key : ∀ p : Bool, BitVec.ofBool p = 1#1 → p = true := by decide
  have h' : (e (ix1 g)).toInt < (z (ix1 g)).toInt := of_decide_eq_true (key _ h)
  rw [hz, StableHlo.Predicate.toInt_eq_toNat_of_lt (by have := he g; omega)] at h'
  have z0 : (0#32).toInt = 0 := by decide
  rw [z0] at h'
  omega

/-- The rows of a stack of matrices at a column of words, each below the stack's height: the matrices the words name. -/
theorem gather_at {α : Type} {n A B : Nat} (d : GatherDims ⟨3, ![8, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![8, A, B]⟩ : Shape).Idx → α) (idx : IVec ⟨2, ![n, 1]⟩ 32) (g : Fin n) (a : Fin A) (b : Fin B) (p : Fin 8)
    (hp : (idx (ix2 g 0)).toNat = p.val) : Host.gather d x idx (ix3 g a b) = x (ix3 p a b) := by
  obtain ⟨od, cd, obd, sbd, sim, ivd, ss, wf⟩ := d
  dsimp only at hoff hcoll hob hsim hivd
  subst hoff hcoll hob hsim hivd
  have hsl : ss 0 = 1 := GatherDims.slice_collapsed ⟨[1, 2], [0], [], sbd, [0], 1, ss, wf⟩ 0 (List.mem_singleton.2 rfl)
  unfold Host.gather
  refine congrArg x (funext fun q => Fin.ext ?_)
  match q with
  | ⟨0, _⟩ =>
    show GatherDims.start _ (ix3 g a b) idx 0 + GatherDims.batchCoord _ (ix3 g a b) 0 + GatherDims.offCoord _ (ix3 g a b) 0 = p.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ [(0 : Fin 3)] from List.mem_singleton.mpr rfl)]
    have hsi : GatherDims.siIdx ⟨[1, 2], [0], [], sbd, [0], 1, ss, wf⟩ (ix3 g a b) ⟨List.idxOf (0 : Fin 3) [0], List.idxOf_lt_length_iff.2 (List.mem_singleton.mpr rfl)⟩ = (ix2 g 0 : (⟨2, ![n, 1]⟩ : Shape).Idx) := by
      funext t
      refine Fin.ext ?_
      match t with
      | ⟨0, _⟩ => rfl
      | ⟨1, _⟩ => rfl
    rw [hsi]
    show min (idx (ix2 g 0)).toInt.toNat (8 - ss 0) + 0 + 0 = p.val
    rw [StableHlo.Predicate.toInt_eq_toNat_of_lt (by omega), hp, hsl]
    have := p.isLt
    omega
  | ⟨1, _⟩ =>
    show GatherDims.start _ (ix3 g a b) idx 1 + GatherDims.batchCoord _ (ix3 g a b) 1 + GatherDims.offCoord _ (ix3 g a b) 1 = a.val
    rw [GatherDims.batchCoord_eq_zero _ _ _ List.not_mem_nil]
    unfold GatherDims.start
    rw [dif_neg (show ¬ (1 : Fin 3) ∈ [(0 : Fin 3)] by decide)]
    show 0 + 0 + a.val = a.val
    omega
  | ⟨2, _⟩ =>
    show GatherDims.start _ (ix3 g a b) idx 2 + GatherDims.batchCoord _ (ix3 g a b) 2 + GatherDims.offCoord _ (ix3 g a b) 2 = b.val
    rw [GatherDims.batchCoord_eq_zero _ _ _ List.not_mem_nil]
    unfold GatherDims.start
    rw [dif_neg (show ¬ (2 : Fin 3) ∈ [(0 : Fin 3)] by decide)]
    show 0 + 0 + b.val = b.val
    omega

end Cert.Experts

end
-- ==== Proof.ExpertUpBody.lean ====
/- The experts' first products: the pipeline's side condition from the table's bound, the blocks the kernel's body writes, at an
   index, and the blocks it reads. -/
module

public import proofs.«01_k».proof.Proof.Table
public import proofs.«01_k».proof.Proof.Gen.Kernel4.Frame
public import proofs.«01_k».proof.Proof.Gen.Kernel4Ideal.Frame
public import proofs.«01_k».proof.Proof.Gen.Kernel4Ideal.Points
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel4.ExpertUp

open Cert.Kernel4 Cert.Kernel4.Gen Idealize.ShloMosaic Idealize.ShloMosaic.TcCoe

variable {F : FTy → Type} [FloatOps F] (m : (ℓ : Loc nD τ sig) → Buf (Elt F) ℓ)

/-- The side condition: every word of the table names one of the eight matrices, and both weight windows are at the block it names. -/
theorem ok (h : ∀ g : Fin 136, ((m ((0 : Dev nD).tc.loc main_arg1) : IVec S136 32) (ix1 g)).toNat < 8) : Ok m := by
  have e : ∀ x : S136.Idx, ((V m (0 : Dev nD) main_arg1 : IVec S136 32) x).toNat < 8 := by
    intro x
    rw [V_main_arg1]
    have ex : x = ix1 (x 0) := by
      funext a
      match a with
      | ⟨0, _⟩ => rfl
    rw [ex]
    exact h _
  have aux : ∀ (v : BitVec 32) (n : Fin 2), v.toNat < 8 → ∀ a : Fin 3, ((![v.toNat, 0, (BitVec.ofNat 32 n.val).toNat] : Fin 3 → Nat) a + 1) * S1x1024x1792.size a ≤ S8x1024x3584.size a := by
    intro v n hv a
    have hn : (BitVec.ofNat 32 n.val).toNat = n.val := Nat.mod_eq_of_lt (by have := n.isLt; omega)
    match a with
    | ⟨0, _⟩ => show (v.toNat + 1) * 1 ≤ 8; omega
    | ⟨1, _⟩ => show (0 + 1) * 1024 ≤ 1024; omega
    | ⟨2, _⟩ => show ((BitVec.ofNat 32 n.val).toNat + 1) * 1792 ≤ 3584; rw [hn]; have := n.isLt; omega
  have h1 : ∀ i : grid0.Coords, ∀ a, (cc0_transform_1 k0_off1_inb numel1_S1 (tbl m) i a + 1) * S1x1024x1792.size a ≤ S8x1024x3584.size a :=
    fun i => aux _ (i 1) (e _)
  have h2 : ∀ i : grid0.Coords, ∀ a, (cc0_transform_2 k0_off1_inb numel1_S1 (tbl m) i a + 1) * S1x1024x1792.size a ≤ S8x1024x3584.size a :=
    fun i => aux _ (i 1) (e _)
  exact ⟨fun i => ⟨h1 i, .inr (Affine.block_words_dvd (of_decide_eq_true rfl) (by decide))⟩, fun i => ⟨h2 i, .inr (Affine.block_words_dvd (of_decide_eq_true rfl) (by decide))⟩⟩

end Cert.Kernel4.ExpertUp

namespace Cert.Kernel4Ideal.ExpertUp

open Cert.Kernel4Ideal Cert.Kernel4Ideal.Gen Cert.Experts Idealize.ShloMosaic Idealize.ShloMosaic.TcCoe Idealize.ShloMosaic.Tactic Idealize.SL.Sem

section side
variable {F : FTy → Type} [FloatOps F] (m : (ℓ : Loc nD τ sig) → Buf (Elt F) ℓ)

@[inherit_doc Cert.Kernel4.ExpertUp.ok]
theorem ok (h : ∀ g : Fin 136, ((m ((0 : Dev nD).tc.loc main_arg1) : IVec S136 32) (ix1 g)).toNat < 8) : Ok m := by
  have e : ∀ x : S136.Idx, ((V m (0 : Dev nD) main_arg1 : IVec S136 32) x).toNat < 8 := by
    intro x
    rw [V_main_arg1]
    have ex : x = ix1 (x 0) := by
      funext a
      match a with
      | ⟨0, _⟩ => rfl
    rw [ex]
    exact h _
  have aux : ∀ (v : BitVec 32) (n : Fin 2), v.toNat < 8 → ∀ a : Fin 3, ((![v.toNat, 0, (BitVec.ofNat 32 n.val).toNat] : Fin 3 → Nat) a + 1) * S1x1024x1792.size a ≤ S8x1024x3584.size a := by
    intro v n hv a
    have hn : (BitVec.ofNat 32 n.val).toNat = n.val := Nat.mod_eq_of_lt (by have := n.isLt; omega)
    match a with
    | ⟨0, _⟩ => show (v.toNat + 1) * 1 ≤ 8; omega
    | ⟨1, _⟩ => show (0 + 1) * 1024 ≤ 1024; omega
    | ⟨2, _⟩ => show ((BitVec.ofNat 32 n.val).toNat + 1) * 1792 ≤ 3584; rw [hn]; have := n.isLt; omega
  have h1 : ∀ i : grid0.Coords, ∀ a, (cc0_transform_1 k0_off1_inb numel1_S1 (tbl m) i a + 1) * S1x1024x1792.size a ≤ S8x1024x3584.size a :=
    fun i => aux _ (i 1) (e _)
  have h2 : ∀ i : grid0.Coords, ∀ a, (cc0_transform_2 k0_off1_inb numel1_S1 (tbl m) i a + 1) * S1x1024x1792.size a ≤ S8x1024x3584.size a :=
    fun i => aux _ (i 1) (e _)
  exact ⟨fun i => ⟨h1 i, .inr (Affine.block_words_dvd (of_decide_eq_true rfl) (by decide))⟩, fun i => ⟨h2 i, .inr (Affine.block_words_dvd (of_decide_eq_true rfl) (by decide))⟩⟩

end side

/-- The gated product of two sums. -/
def gated (a b : EReal) : EReal := a * Ideal.logistic a * b

/-- The result: the gated product of each row's products with the two matrices of its block's expert. -/
def upAt (x : Vec Ideal S69632x1024 .f32) (e : IVec S136 32) (wg wu : Vec Ideal S8x1024x3584 .f32) (r : Fin 69632) (n : Fin 3584) : EReal :=
  gated (∑ k : Fin 1024, x (ix2 r k) * wg (ix3 (pick e ⟨r.val / 512, by omega⟩) k n)) (∑ k : Fin 1024, x (ix2 r k) * wu (ix3 (pick e ⟨r.val / 512, by omega⟩) k n))

def upA (x : Vec Ideal S69632x1024 .f32) (e : IVec S136 32) (wg wu : Vec Ideal S8x1024x3584 .f32) : Vec Ideal S69632x3584 .bf16 :=
  fun i => upAt x e wg wu (i 0) (i 1)

theorem pay1_at (v : Vec Ideal S512x1024 .f32) (r : Fin 512) (k : Fin 1024) :
    @Eq EReal ((k0_pay1 v : Vec Ideal S512x1024 .bf16) (ix2 r k)) (v (ix2 r k)) := by
  unfold k0_pay1
  pointwise

theorem pay2_at (v3 : Vec Ideal S512x1024 .bf16) (v4 v9 : Vec Ideal S1x1024x1792 .bf16) (r : Fin 512) (n : Fin 1792) :
    @Eq EReal ((k0_pay2 v3 v4 v9 : Vec Ideal S512x1792 .bf16) (ix2 r n))
      (gated (∑ k : Fin 1024, v3 (ix2 r k) * v4 (ix3 0 k n)) (∑ k : Fin 1024, v3 (ix2 r k) * v9 (ix3 0 k n))) := by
  unfold k0_pay2 gated
  pointwise

/-- All of each block. -/
abbrev rOut : Rect S512x1792 := Rect.unit ![0, 0] ![512, 1792] inb_S512x1792_S512x1792_0_0
@[inherit_doc rOut] abbrev rScr : Rect S512x1024 := Rect.unit ![0, 0] ![512, 1024] inb_S512x1024_S512x1024_0_0

section run
variable {F : FTy → Type} [FloatOps F]

theorem ld_x (x : Vec F S512x1024 .f32) : View.ld (Val := Elt F) x rScr = x := View.ld_unit_lit _ x (by decide)
theorem ld_w (x : Vec F S1x1024x1792 .bf16) : View.ld (Val := Elt F) x (Rect.unit ![0, 0, 0] ![1, 1024, 1792] inb_S1x1024x1792_S1x1024x1792_0_0_0) = x := View.ld_unit_lit _ x (by decide)
theorem ld_scr (x : Vec F S512x1024 .bf16) : View.ld (Val := Elt F) x rScr = x := View.ld_unit_lit _ x (by decide)

/-- A load of what a store of the whole scratch left. -/
theorem readCov_scr (v : View sig .tc .vmem S512x1024 .bf16) (w : Vec F S512x1024 .bf16) :
    v.readCov (Val := Elt F) [⟨rScr, w⟩] rScr.toLoadRect = w := by
  rw [View.readCov_eq_canon']
  refine Eq.trans ?_ (ld_scr w)
  funext j
  rw [View.canon_cons_unit_lit _ _ _ (by decide)]

variable (c : Dev nD) (i : grid0.Coords) (arg3 : Memref sig .tc .vmem S512x1024 .f32) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S512x1792 .bf16) (harg6 : arg6.IsWhole) (arg7 : Memref sig .tc .vmem S512x1024 .bf16) (harg7 : arg7.IsWhole)
  (x0 : Vec F S512x1024 .f32) (x1 x2 : Vec F S1x1024x1792 .bf16) (xt0 : TbBuf0 (F := F) c tbM0_0) (xs0 : Vec F S512x1024 .bf16)

theorem runA_3 (hc0 : cond0_0 i) : (kernelRun0_A (F := F) c i arg3 harg3 arg4 harg4 arg5 harg5 arg6 harg6 arg7 harg7 hc0 x0 x1 x2 xt0).1 = [⟨rOut, k0_pay2 (k0_pay1 x0) x1 x2⟩] := by
  unfold kernelRun0_A
  dsimp only
  sl_unfold_words
  simp (disch := decide) only [View.readAt_eq_ld, harg3.read_unread, harg4.read_unread, harg5.read_unread, harg7.read_unread, readCov_scr, ld_x, ld_w, ld_scr]

theorem runA_S (hc0 : cond0_0 i) : (kernelRun0_A (F := F) c i arg3 harg3 arg4 harg4 arg5 harg5 arg6 harg6 arg7 harg7 hc0 x0 x1 x2 xt0).2.1 = [⟨rScr, k0_pay1 x0⟩] := by
  unfold kernelRun0_A
  dsimp only
  sl_unfold_words
  simp (disch := decide) only [View.readAt_eq_ld, harg3.read_unread, harg4.read_unread, harg5.read_unread, harg7.read_unread, readCov_scr, ld_x, ld_w, ld_scr]

theorem runB_3 (hc0 : ¬cond0_0 i) : (kernelRun0_B (F := F) c i arg3 harg3 arg4 harg4 arg5 harg5 arg6 harg6 arg7 harg7 hc0 x0 x1 x2 xt0 xs0).1 = [⟨rOut, k0_pay2 xs0 x1 x2⟩] := by
  unfold kernelRun0_B
  dsimp only
  sl_unfold_words
  simp (disch := decide) only [View.readAt_eq_ld, harg3.read_unread, harg4.read_unread, harg5.read_unread, harg7.read_unread, readCov_scr, ld_x, ld_w, ld_scr]

theorem outA_eq (hc0 : cond0_0 i) : out0_A_3 (F := F) c i arg3 harg3 arg4 harg4 arg5 harg5 arg6 harg6 arg7 harg7 hc0 x0 x1 x2 xt0 = k0_pay2 (k0_pay1 x0) x1 x2 := by
  unfold out0_A_3
  rw [runA_3, View.read_writes_junk_eq_canon, View.canon_cons_unit_lit (S := S512x1792) _ _ _ (by decide)]

theorem soutA_eq (hc0 : cond0_0 i) : sout0_A_0 (F := F) c i arg3 harg3 arg4 harg4 arg5 harg5 arg6 harg6 arg7 harg7 hc0 x0 x1 x2 xt0 = k0_pay1 x0 := by
  unfold sout0_A_0
  rw [runA_S, View.read_writes_junk_eq_canon, View.canon_cons_unit_lit (S := S512x1024) _ _ _ (by decide)]

theorem outB_eq (hc0 : ¬cond0_0 i) : out0_B_3 (F := F) c i arg3 harg3 arg4 harg4 arg5 harg5 arg6 harg6 arg7 harg7 hc0 x0 x1 x2 xt0 xs0 = k0_pay2 xs0 x1 x2 := by
  unfold out0_B_3
  rw [runB_3, View.read_writes_junk_eq_canon, View.canon_cons_unit_lit (S := S512x1792) _ _ _ (by decide)]

end run

section Read
variable (m : (ℓ : Loc nD τ sig) → Buf (Elt Ideal) ℓ) (hO : Ok m)
  (hlt : ∀ g : Fin 136, ((m ((0 : Dev nD).tc.loc main_arg1) : IVec S136 32) (ix1 g)).toNat < 8) (t : Fin (cfgM m hO).N)

abbrev x0 : Vec Ideal S69632x1024 .f32 := m ((0 : Dev nD).tc.loc main_arg0)
abbrev xe : IVec S136 32 := m ((0 : Dev nD).tc.loc main_arg1)
abbrev x2 : Vec Ideal S8x1024x3584 .f32 := m ((0 : Dev nD).tc.loc main_arg2)
abbrev x3 : Vec Ideal S8x1024x3584 .f32 := m ((0 : Dev nD).tc.loc main_arg3)

theorem V0 : (V m 0 main_v0 : Vec Ideal S8x1024x3584 .bf16) = truncf (F := Ideal) (φ := .f32) .bf16 (x2 m) bitsLt_bf16_f32 := by
  show StableHlo.after hostOps0 (fun b => m (0, b)) _ = _
  simp only [hostOps0]
  after_results

theorem V1 : (V m 0 main_v1 : Vec Ideal S8x1024x3584 .bf16) = truncf (F := Ideal) (φ := .f32) .bf16 (x3 m) bitsLt_bf16_f32 := by
  show StableHlo.after hostOps0 (fun b => m (0, b)) _ = _
  simp only [hostOps0]
  after_results

theorem ix_0 : ∀ t : Fin grid0.N, cc0_transform_0 (grid0.coords t) 0 = t.val / 2 ∧ cc0_transform_0 (grid0.coords t) 1 = 0 := by decide +kernel
theorem ix_3 : ∀ t : Fin grid0.N, cc0_transform_3 (grid0.coords t) 0 = t.val / 2 ∧ cc0_transform_3 (grid0.coords t) 1 = t.val % 2 := by decide +kernel
theorem off_1 : ∀ t : Fin grid0.N, k0_off1 (grid0.coords t) 0 = t.val / 2 := by decide +kernel
theorem crd_1 : ∀ t : Fin grid0.N, (BitVec.ofNat 32 (grid0.coords t 1).val).toNat = t.val % 2 := by decide +kernel

/-- The block of point `t`, and a row and a column of it. -/
def blk (t : Fin grid0.N) : Fin 136 := ⟨t.val / 2, by have := lt_of_lt_of_eq t.isLt Gen.N_0; omega⟩
def row (t : Fin grid0.N) (r : Fin 512) : Fin 69632 := ⟨512 * (t.val / 2) + r.val, by have := lt_of_lt_of_eq t.isLt Gen.N_0; omega⟩
def col (t : Fin grid0.N) (n : Fin 1792) : Fin 3584 := ⟨1792 * (t.val % 2) + n.val, by omega⟩

include hlt in
theorem word_at (t : Fin grid0.N) (i : S136.Idx) (hi : (i 0).val = t.val / 2) : ((V m (0 : Dev nD) main_arg1 : IVec S136 32) i).toNat = (pick (xe m) (blk t)).val := by
  rw [pick_val _ hlt, V_main_arg1]
  refine congrArg (fun z : S136.Idx => (xe m z).toNat) ?_
  funext a
  apply Fin.ext
  match a with
  | ⟨0, _⟩ => exact hi

include hlt in
theorem ix_1 (t : Fin grid0.N) : cc0_transform_1 k0_off1_inb numel1_S1 (tbl m) (grid0.coords t) 0 = (pick (xe m) (blk t)).val :=
  word_at m hlt t _ (by show k0_off1 (grid0.coords t) 0 + 1 * 0 = t.val / 2; rw [off_1]; omega)

include hlt in
theorem ix_2 (t : Fin grid0.N) : cc0_transform_2 k0_off1_inb numel1_S1 (tbl m) (grid0.coords t) 0 = (pick (xe m) (blk t)).val :=
  word_at m hlt t _ (by show k0_off1 (grid0.coords t) 0 + 1 * 0 = t.val / 2; rw [off_1]; omega)

theorem blk_0 (r : Fin 512) (k : Fin 1024) : (iblk m hO 0 0 t : Vec Ideal S512x1024 .f32) (ix2 r k) = x0 m (ix2 (row t r) k) := by
  have hi := ix_0 t
  have e : ((((cfgM m hO).win 0).blk t).view.emb (ix2 r k : S512x1024.Idx) : S69632x1024.Idx) = ix2 (row t r) k := by
    funext a
    apply Fin.ext
    match a with
    | ⟨0, _⟩ => show cc0_transform_0 (grid0.coords t) 0 * 512 + 1 * r.val = 512 * (t.val / 2) + r.val; rw [hi.1]; omega
    | ⟨1, _⟩ => show cc0_transform_0 (grid0.coords t) 1 * 1024 + 1 * k.val = k.val; rw [hi.2]; omega
  exact (congrArg (V m 0 main_arg0 : Vec Ideal S69632x1024 .f32) e).trans (congrFun (V_main_arg0 m 0) _)

include hlt in
theorem blk_1 (k : Fin 1024) (n : Fin 1792) : @Eq EReal ((iblk m hO 0 1 t : Vec Ideal S1x1024x1792 .bf16) (ix3 0 k n)) (x2 m (ix3 (pick (xe m) (blk t)) k (col t n))) := by
  have hi := ix_1 m hlt t
  have e : ((((cfgM m hO).win 1).blk t).view.emb (ix3 0 k n : S1x1024x1792.Idx) : S8x1024x3584.Idx) = ix3 (pick (xe m) (blk t)) k (col t n) := by
    funext a
    apply Fin.ext
    match a with
    | ⟨0, _⟩ => show cc0_transform_1 k0_off1_inb numel1_S1 (tbl m) (grid0.coords t) 0 * 1 + 1 * 0 = (pick (xe m) (blk t)).val; rw [hi]; omega
    | ⟨1, _⟩ => show 0 * 1024 + 1 * k.val = k.val; omega
    | ⟨2, _⟩ => show (BitVec.ofNat 32 (grid0.coords t 1).val).toNat * 1792 + 1 * n.val = 1792 * (t.val % 2) + n.val; rw [crd_1]; omega
  exact (congrArg (V m 0 main_v0 : Vec Ideal S8x1024x3584 .bf16) e).trans (congrFun (V0 m) _)

include hlt in
theorem blk_2 (k : Fin 1024) (n : Fin 1792) : @Eq EReal ((iblk m hO 0 2 t : Vec Ideal S1x1024x1792 .bf16) (ix3 0 k n)) (x3 m (ix3 (pick (xe m) (blk t)) k (col t n))) := by
  have hi := ix_2 m hlt t
  have e : ((((cfgM m hO).win 2).blk t).view.emb (ix3 0 k n : S1x1024x1792.Idx) : S8x1024x3584.Idx) = ix3 (pick (xe m) (blk t)) k (col t n) := by
    funext a
    apply Fin.ext
    match a with
    | ⟨0, _⟩ => show cc0_transform_2 k0_off1_inb numel1_S1 (tbl m) (grid0.coords t) 0 * 1 + 1 * 0 = (pick (xe m) (blk t)).val; rw [hi]; omega
    | ⟨1, _⟩ => show 0 * 1024 + 1 * k.val = k.val; omega
    | ⟨2, _⟩ => show (BitVec.ofNat 32 (grid0.coords t 1).val).toNat * 1792 + 1 * n.val = 1792 * (t.val % 2) + n.val; rw [crd_1]; omega
  exact (congrArg (V m 0 main_v1 : Vec Ideal S8x1024x3584 .bf16) e).trans (congrFun (V1 m) _)

end Read

end Cert.Kernel4Ideal.ExpertUp

end
-- ==== Proof.ExpertUp.lean ====
/- The experts' first products: what each grid point leaves, and the kernel's result array. -/
module

public import proofs.«01_k».proof.Proof.ExpertUpBody

@[expose] public section

noncomputable section

namespace Cert.Kernel4Ideal.ExpertUp

open Cert.Kernel4Ideal Cert.Kernel4Ideal.Gen Cert.Experts Idealize.ShloMosaic Idealize.ShloMosaic.TcCoe Idealize.ShloMosaic.Tactic Idealize.SL.Sem

section Read
variable (m : (ℓ : Loc nD τ sig) → Buf (Elt Ideal) ℓ) (hO : Ok m)
  (hlt : ∀ g : Fin 136, ((m ((0 : Dev nD).tc.loc main_arg1) : IVec S136 32) (ix1 g)).toNat < 8) (t : Fin (cfgM m hO).N)

/-- The block and the scratch a point of each kind leaves. -/
theorem fstA (h0 : t.val % 2 = 0) : (outsAt0 m hO 0 t.val t.isLt).1 = k0_pay2 (F := Ideal) (k0_pay1 (F := Ideal) (iblk m hO 0 0 t)) (iblk m hO 0 1 t) (iblk m hO 0 2 t) := by
  rw [outsAt0_A m hO 0 t h0]
  dsimp only
  exact outA_eq (F := Ideal) 0 (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO 0 0 t) (iblk m hO 0 1 t) (iblk m hO 0 2 t) (tbl m 0) ((hcond0_0 t).mpr h0)
@[inherit_doc fstA] theorem sndA (h0 : t.val % 2 = 0) : (outsAt0 m hO 0 t.val t.isLt).2 = k0_pay1 (F := Ideal) (iblk m hO 0 0 t) := by
  rw [outsAt0_A m hO 0 t h0]
  dsimp only
  exact soutA_eq (F := Ideal) 0 (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO 0 0 t) (iblk m hO 0 1 t) (iblk m hO 0 2 t) (tbl m 0) ((hcond0_0 t).mpr h0)
@[inherit_doc fstA] theorem fstB (h0 : ¬t.val % 2 = 0) : (outsAt0 m hO 0 t.val t.isLt).1 = k0_pay2 (F := Ideal) (outsAt0 m hO 0 (t.val - 1) (Nat.lt_of_le_of_lt (Nat.sub_le _ _) t.isLt)).2 (iblk m hO 0 1 t) (iblk m hO 0 2 t) := by
  rw [outsAt0_B m hO 0 t h0]
  dsimp only
  exact outB_eq (F := Ideal) 0 (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO 0 0 t) (iblk m hO 0 1 t) (iblk m hO 0 2 t) (tbl m 0) (outsAt0 m hO 0 (t.val - 1) (Nat.lt_of_le_of_lt (Nat.sub_le _ _) t.isLt)).2 (fun h => h0 ((hcond0_0 t).mp h))
@[inherit_doc fstA] theorem sndB (h0 : ¬t.val % 2 = 0) : (outsAt0 m hO 0 t.val t.isLt).2 = (outsAt0 m hO 0 (t.val - 1) (Nat.lt_of_le_of_lt (Nat.sub_le _ _) t.isLt)).2 := by
  rw [outsAt0_B m hO 0 t h0]
  dsimp only
  unfold sout0_B_0
  rfl

/-- What the scratch holds after a point: the rows of the point's block. -/
theorem scr_at (n : ℕ) (hn : n < (cfgM m hO).N) (r : Fin 512) (k : Fin 1024) :
    @Eq EReal (((outsAt0 m hO 0 n hn).2 : Vec Ideal S512x1024 .bf16) (ix2 r k)) (x0 m (ix2 (row ⟨n, hn⟩ r) k)) := by
  have even : ∀ t : Fin (cfgM m hO).N, t.val % 2 = 0 → @Eq EReal (((outsAt0 m hO 0 t.val t.isLt).2 : Vec Ideal S512x1024 .bf16) (ix2 r k)) (x0 m (ix2 (row t r) k)) := by
    intro t h0
    refine (congrFun (sndA m hO t h0) (ix2 r k)).trans ?_
    exact (pay1_at _ r k).trans (blk_0 m hO t r k)
  by_cases h0 : n % 2 = 0
  · exact even ⟨n, hn⟩ h0
  · refine (congrFun (sndB m hO ⟨n, hn⟩ h0) (ix2 r k)).trans ?_
    refine (even ⟨n - 1, Nat.lt_of_le_of_lt (Nat.sub_le _ _) hn⟩ (by show (n - 1) % 2 = 0; omega)).trans ?_
    rw [show row ⟨n - 1, Nat.lt_of_le_of_lt (Nat.sub_le _ _) hn⟩ r = row ⟨n, hn⟩ r from Fin.ext (by show 512 * ((n - 1) / 2) + r.val = 512 * (n / 2) + r.val; omega)]

include hlt in
/-- The block of the result, over whatever the scratch holds. -/
theorem pay_of (s : Vec Ideal S512x1024 .bf16) (hs : ∀ r k, @Eq EReal (s (ix2 r k)) (x0 m (ix2 (row t r) k))) (r : Fin 512) (n : Fin 1792) :
    @Eq EReal ((k0_pay2 s (iblk m hO 0 1 t : Vec Ideal S1x1024x1792 .bf16) (iblk m hO 0 2 t : Vec Ideal S1x1024x1792 .bf16) : Vec Ideal S512x1792 .bf16) (ix2 r n))
      (upAt (x0 m) (xe m) (x2 m) (x3 m) (row t r) (col t n)) := by
  refine (pay2_at _ _ _ r n).trans ?_
  unfold upAt
  rw [show (⟨(row t r).val / 512, by omega⟩ : Fin 136) = blk t from Fin.ext (by show (512 * (t.val / 2) + r.val) / 512 = t.val / 2; omega)]
  exact congrArg₂ gated (Finset.sum_congr rfl fun k _ => congrArg₂ (fun y z : EReal => y * z) (hs r k) (blk_1 m hO hlt t k n))
    (Finset.sum_congr rfl fun k _ => congrArg₂ (fun y z : EReal => y * z) (hs r k) (blk_2 m hO hlt t k n))

include hlt in
theorem point_3 (r : Fin 512) (n : Fin 1792) : @Eq EReal (((outsAt0 m hO 0 t.val t.isLt).1 : Vec Ideal S512x1792 .bf16) (ix2 r n))
    (upAt (x0 m) (xe m) (x2 m) (x3 m) (row t r) (col t n)) := by
  by_cases h0 : t.val % 2 = 0
  · refine (congrFun (fstA m hO t h0) (ix2 r n)).trans ?_
    exact pay_of m hO hlt t _ (fun r k => (pay1_at _ r k).trans (blk_0 m hO t r k)) r n
  · refine (congrFun (fstB m hO t h0) (ix2 r n)).trans ?_
    refine pay_of m hO hlt t _ (fun r k => (scr_at m hO _ _ r k).trans ?_) r n
    rw [show row ⟨t.val - 1, Nat.lt_of_le_of_lt (Nat.sub_le _ _) t.isLt⟩ r = row t r from Fin.ext (by show 512 * ((t.val - 1) / 2) + r.val = 512 * (t.val / 2) + r.val; omega)]

include hlt in
theorem flush_3 : (dats m hO 0 0).flushed 3 t = (((cfgM m hO).win 3).blk t).view.read (Elt Ideal) (upA (x0 m) (xe m) (x2 m) (x3 m)) := by
  have hi := ix_3 t
  refine (congrArg (((cfgM m hO).win 3).cut (grid0.coords t)) (after0_3 m hO 0 t)).trans ?_
  funext (j : S512x1792.Idx)
  have e : ((cfgM m hO).win 3).xinj (grid0.coords t) j = (ix2 (j 0) (j 1) : S512x1792.Idx) := by
    funext a
    match a with
    | ⟨0, _⟩ => rfl
    | ⟨1, _⟩ => rfl
  have e' : ((((cfgM m hO).win 3).blk t).view.emb j : S69632x3584.Idx) = ix2 (row t (j 0)) (col t (j 1)) := by
    funext a
    apply Fin.ext
    match a with
    | ⟨0, _⟩ => show cc0_transform_3 (grid0.coords t) 0 * 512 + 1 * (j 0).val = 512 * (t.val / 2) + (j 0).val; rw [hi.1]; omega
    | ⟨1, _⟩ => show cc0_transform_3 (grid0.coords t) 1 * 1792 + 1 * (j 1).val = 1792 * (t.val % 2) + (j 1).val; rw [hi.2]; omega
  exact ((congrArg ((outsAt0 m hO 0 t.val t.isLt).1 : Vec Ideal S512x1792 .bf16) e).trans (point_3 m hO hlt t _ _)).trans (congrArg (upA (x0 m) (xe m) (x2 m) (x3 m)) e').symm

end Read

variable (m : (ℓ : Loc nD τ sig) → Buf (Elt Ideal) ℓ)
  (hlt : ∀ g : Fin 136, ((m ((0 : Dev nD).tc.loc main_arg1) : IVec S136 32) (ix1 g)).toNat < 8)

include hlt in
theorem arr_3 (hO : Ok m) : (dats m hO 0 0).arrAt 3 (cfgM m hO).N = upA (x0 m) (xe m) (x2 m) (x3 m) :=
  (dats m hO 0 0).arrAt_eq_of_cover 3 (upA (x0 m) (xe m) (x2 m) (x3 m)) (fun t _ => flush_3 m hO hlt t) fun (i : S69632x3584.Idx) => by
    have h0 : (i 0 : Nat) < 69632 := (i 0).isLt
    have h1 : (i 1 : Nat) < 3584 := (i 1).isLt
    obtain ⟨t, ht⟩ : ∃ t : Fin grid0.N, t.val = (i 0 : Nat) / 512 * 2 + (i 1 : Nat) / 1792 := ⟨⟨_, by rw [Gen.N_0]; omega⟩, rfl⟩
    refine ⟨t, flush0_3 (adm m hO) t, ?_⟩
    have hi := ix_3 t
    rw [ht] at hi
    refine (congrArg (fun s : Finset S69632x3584.Idx => i ∈ s) (View.set_slice_whole main_v2 (((cfgM m hO).win 3).rect t))).mpr ?_
    refine Rect.mem_set_unit.mpr ?_
    intro a
    match a with
    | ⟨0, _⟩ =>
      show cc0_transform_3 (grid0.coords t) 0 * 512 ≤ (i 0 : Nat) ∧ (i 0 : Nat) < cc0_transform_3 (grid0.coords t) 0 * 512 + 512
      rw [hi.1]; omega
    | ⟨1, _⟩ =>
      show cc0_transform_3 (grid0.coords t) 1 * 1792 ≤ (i 1 : Nat) ∧ (i 1 : Nat) < cc0_transform_3 (grid0.coords t) 1 * 1792 + 1792
      rw [hi.2]; omega

include hlt in
/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v2) = upA (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  have hO : Ok m := ok m hlt
  (θ_run defs _ _).mono (fun r h c => by
    obtain rfl : c = 0 := Subsingleton.elim _ _
    exact ⟨((h.1 0).1 3).trans (arr_3 m hlt hO), h.2 0⟩)
    (θ_run_and (run_main m ρ hO) (unchanged m ρ hO))

end Cert.Kernel4Ideal.ExpertUp

end
-- ==== Proof.ExpertUpRef.lean ====
/- The reference of the experts' first products: its result at an index. -/
module

public import proofs.«01_k».proof.Proof.ExpertUp
public import proofs.«01_k».proof.Proof.Gen.Reference4Ideal.Run

@[expose] public section

set_option maxRecDepth 100000

noncomputable section

namespace Cert.Reference4Ideal.ExpertUp

open Cert.Reference4Ideal Cert.Reference4Ideal.Gen Cert.Experts Idealize.ShloMosaic Idealize.ShloMosaic.TcCoe Idealize.SL.Sem Cert.Kernel4Ideal.ExpertUp

/-- The column of words the reference reads the matrices at. -/
def words (e : IVec S136 32) : IVec S136x1 32 :=
  broadcastInDim S136x1 ![0] bcast_S136_S136x1_0 (select (cmpi .slt e (broadcastInDim S136 ![] bcast_S_S136 (constantI S_ 32 0#32))) (addi e (broadcastInDim S136 ![] bcast_S_S136 (constantI S_ 32 8#32))) e)

theorem words_toNat (e : IVec S136 32) (he : ∀ g : Fin 136, (e (ix1 g)).toNat < 8) (g : Fin 136) : (words e (ix2 g 0)).toNat = (pick e g).val := by
  have hw : words e (ix2 g 0) = (select (cmpi .slt e (broadcastInDim S136 ![] bcast_S_S136 (constantI S_ 32 0#32))) (addi e (broadcastInDim S136 ![] bcast_S_S136 (constantI S_ 32 8#32))) e : IVec S136 32) (ix1 g) := by
    unfold words
    refine congrArg (select (cmpi .slt e (broadcastInDim S136 ![] bcast_S_S136 (constantI S_ 32 0#32))) (addi e (broadcastInDim S136 ![] bcast_S_S136 (constantI S_ 32 8#32))) e : IVec S136 32) ?_
    funext a
    match a with
    | ⟨0, _⟩ => rfl
  rw [hw, words_at e _ _ (fun _ => rfl) he, pick_val e he]

/-- The reference's gated product, over whatever matrices it picked. -/
def gatedR (x : Vec Ideal S69632x1024 .f32) (wg wu : Vec Ideal S136x1024x3584 .f32) : Vec Ideal S136x512x3584 .f32 :=
  mulf (F := Ideal) (φ := .f32) (mulf (F := Ideal) (φ := .f32) (Host.dotGeneral (F := Ideal) (φ₁ := .f32) (φ₂ := .f32) dot_S136x512x1024_S136x1024x3584_S136x512x3584_2_1_1_2_0_0 none (shapeCast S136x512x1024 x shapeCasts_S69632x1024_S136x512x1024) wg) (Host.divf (F := Ideal) (φ := .f32) (broadcastInDim S136x512x3584 ![] bcast_S_S136x512x3584 (constant (F := Ideal) S_ .f32 0x3F800000#32)) (addf (F := Ideal) (φ := .f32) (broadcastInDim S136x512x3584 ![] bcast_S_S136x512x3584 (constant (F := Ideal) S_ .f32 0x3F800000#32)) (Host.exp (F := Ideal) (φ := .f32) (Host.negf (F := Ideal) (φ := .f32) (Host.dotGeneral (F := Ideal) (φ₁ := .f32) (φ₂ := .f32) dot_S136x512x1024_S136x1024x3584_S136x512x3584_2_1_1_2_0_0 none (shapeCast S136x512x1024 x shapeCasts_S69632x1024_S136x512x1024) wg)))))) (Host.dotGeneral (F := Ideal) (φ₁ := .f32) (φ₂ := .f32) dot_S136x512x1024_S136x1024x3584_S136x512x3584_2_1_1_2_0_0 none (shapeCast S136x512x1024 x shapeCasts_S69632x1024_S136x512x1024) wu)

theorem gatedR_at (x : Vec Ideal S69632x1024 .f32) (wg wu : Vec Ideal S136x1024x3584 .f32) (g : Fin 136) (r : Fin 512) (n : Fin 3584) :
    gatedR x wg wu (ix3 g r n) = gated (∑ k : Fin 1024, x (ix2 (⟨g.val * 512 + r.val, by omega⟩ : Fin 69632) k) * wg (ix3 g k n))
      (∑ k : Fin 1024, x (ix2 (⟨g.val * 512 + r.val, by omega⟩ : Fin 69632) k) * wu (ix3 g k n)) := by
  unfold gatedR gated Ideal.logistic
  pointwise

theorem cast_at (v : Vec Ideal S136x512x3584 .f32) (r : Fin 69632) (n : Fin 3584) :
    @Eq EReal ((truncf (F := Ideal) (φ := .f32) .bf16 (shapeCast S69632x3584 v shapeCasts_S136x512x3584_S69632x3584) bitsLt_bf16_f32 : Vec Ideal S69632x3584 .bf16) (ix2 r n))
      (v (ix3 ⟨r.val / 512, by omega⟩ ⟨r.val % 512, by omega⟩ n)) := by
  pointwise

/-- The matrices the reference picks. -/
def picked (w : Vec Ideal S8x1024x3584 .f32) (e : IVec S136 32) : Vec Ideal S136x1024x3584 .f32 :=
  Host.gather gather_S8x1024x3584_S136x1_S136x1024x3584_12_0_n_n_0_1_110243584 w (words e)

theorem picked_at (w : Vec Ideal S8x1024x3584 .f32) (e : IVec S136 32) (he : ∀ g : Fin 136, (e (ix1 g)).toNat < 8) (g : Fin 136) (k : Fin 1024) (n : Fin 3584) :
    picked w e (ix3 g k n) = w (ix3 (pick e g) k n) :=
  gather_at _ rfl rfl rfl rfl rfl w (words e) g k n _ (words_toNat e he g)

theorem val_eq (x : Vec Ideal S69632x1024 .f32) (e : IVec S136 32) (wg wu : Vec Ideal S8x1024x3584 .f32) (he : ∀ g : Fin 136, (e (ix1 g)).toNat < 8) :
    (truncf (F := Ideal) (φ := .f32) .bf16 (shapeCast S69632x3584 (gatedR x (picked wg e) (picked wu e)) shapeCasts_S136x512x3584_S69632x3584) bitsLt_bf16_f32 : Vec Ideal S69632x3584 .bf16)
      = upA x e wg wu := by
  funext i
  have ei : i = ix2 (i 0) (i 1) := by
    funext a
    match a with
    | ⟨0, _⟩ => rfl
    | ⟨1, _⟩ => rfl
  rw [ei]
  refine (cast_at _ (i 0) (i 1)).trans ((gatedR_at x _ _ _ _ _).trans ?_)
  show _ = upAt x e wg wu (i 0) (i 1)
  unfold upAt
  exact congrArg₂ gated
    (Finset.sum_congr rfl fun k _ => congrArg₂ (fun y z : EReal => y * z) (congrArg (fun q : Fin 69632 => x (ix2 q k)) (Fin.ext (Nat.div_add_mod' _ _))) (picked_at wg e he _ k (i 1)))
    (Finset.sum_congr rfl fun k _ => congrArg₂ (fun y z : EReal => y * z) (congrArg (fun q : Fin 69632 => x (ix2 q k)) (Fin.ext (Nat.div_add_mod' _ _))) (picked_at wu e he _ k (i 1)))

variable (m : (ℓ : Loc nD τ sig) → Buf (Elt Ideal) ℓ) (c : Dev nD)

abbrev a0 : Vec Ideal S69632x1024 .f32 := m (c.tc.loc main_arg0)
abbrev ae : IVec S136 32 := m (c.tc.loc main_arg1)
abbrev a2 : Vec Ideal S8x1024x3584 .f32 := m (c.tc.loc main_arg2)
abbrev a3 : Vec Ideal S8x1024x3584 .f32 := m (c.tc.loc main_arg3)

/-- The reference's run. -/
theorem runV (he : ∀ (c : Dev nD) (g : Fin 136), (ae m c (ix1 g)).toNat < 8) (ρ : Dev nD → PrngReg) :
    θ_run defs (onTc (τ := τ) (main (F := Ideal))) ⟨m, fun _ => 0, ρ⟩ fun r => ∀ c : Dev nD,
      r.2.mem ((c : Thread nD τ).loc main_v20) = upA (a0 m c) (ae m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (val_eq (a0 m c) (ae m c) (a2 m c) (a3 m c) (he c)), (h c).2⟩) (Value.run m ρ)

end Cert.Reference4Ideal.ExpertUp

end
-- ==== Proof.ExpertDown.lean ====
/- The experts' second product: the pipeline's side condition from the table's bound, the block the kernel's body writes, at an
   index, and the kernel's result array. -/
module

public import proofs.«01_k».proof.Proof.Table
public import proofs.«01_k».proof.Proof.Gen.Kernel5.Frame
public import proofs.«01_k».proof.Proof.Gen.Kernel5Ideal.Frame
public import proofs.«01_k».proof.Proof.Gen.Kernel5Ideal.Points
public import Idealize.ShloMosaic.Lib.Pointwise
public import Idealize.ShloMosaic.PureOps.Ideal
public import Idealize.ShloMosaic.Lib.Pipeline.Value
public import Idealize.ShloMosaic.Lib.Pipeline.ValueKit

@[expose] public section

set_option maxRecDepth 16384

noncomputable section

namespace Cert.Kernel5.ExpertDown

open Cert.Kernel5 Cert.Kernel5.Gen Idealize.ShloMosaic Idealize.ShloMosaic.TcCoe

variable {F : FTy → Type} [FloatOps F] (m : (ℓ : Loc nD τ sig) → Buf (Elt F) ℓ)

/-- The side condition: every word of the table names one of the eight matrices. -/
theorem ok (h : ∀ g : Fin 136, ((m ((0 : Dev nD).tc.loc main_arg1) : IVec S136 32) (ix1 g)).toNat < 8) : Ok m := by
  have hb : ∀ i : grid0.Coords, ∀ a, (cc0_transform_1 k0_off1_inb numel1_S1 (tbl m) i a + 1) * S1x3584x1024.size a ≤ S8x3584x1024.size a := by
    intro i
    have aux : ∀ v : BitVec 32, v.toNat < 8 → ∀ a : Fin 3, ((![v.toNat, 0, 0] : Fin 3 → Nat) a + 1) * S1x3584x1024.size a ≤ S8x3584x1024.size a := by
      intro v hv a
      match a with
      | ⟨0, _⟩ => show (v.toNat + 1) * 1 ≤ 8; omega
      | ⟨1, _⟩ => show (0 + 1) * 3584 ≤ 3584; omega
      | ⟨2, _⟩ => show (0 + 1) * 1024 ≤ 1024; omega
    refine aux _ ?_
    have e : ∀ x : S136.Idx, ((V m (0 : Dev nD) main_arg1 : IVec S136 32) x).toNat < 8 := by
      intro x
      rw [V_main_arg1]
      have ex : x = ix1 (x 0) := by
        funext a
        match a with
        | ⟨0, _⟩ => rfl
      rw [ex]
      exact h _
    exact e _
  exact fun i => ⟨hb i, .inr (Affine.block_words_dvd (of_decide_eq_true rfl) (by decide))⟩

end Cert.Kernel5.ExpertDown

namespace Cert.Kernel5Ideal.ExpertDown

open Cert.Kernel5Ideal Cert.Kernel5Ideal.Gen Cert.Experts Idealize.ShloMosaic Idealize.ShloMosaic.TcCoe Idealize.ShloMosaic.Tactic Idealize.SL.Sem

section side
variable {F : FTy → Type} [FloatOps F] (m : (ℓ : Loc nD τ sig) → Buf (Elt F) ℓ)

@[inherit_doc Cert.Kernel5.ExpertDown.ok]
theorem ok (h : ∀ g : Fin 136, ((m ((0 : Dev nD).tc.loc main_arg1) : IVec S136 32) (ix1 g)).toNat < 8) : Ok m := by
  have hb : ∀ i : grid0.Coords, ∀ a, (cc0_transform_1 k0_off1_inb numel1_S1 (tbl m) i a + 1) * S1x3584x1024.size a ≤ S8x3584x1024.size a := by
    intro i
    have aux : ∀ v : BitVec 32, v.toNat < 8 → ∀ a : Fin 3, ((![v.toNat, 0, 0] : Fin 3 → Nat) a + 1) * S1x3584x1024.size a ≤ S8x3584x1024.size a := by
      intro v hv a
      match a with
      | ⟨0, _⟩ => show (v.toNat + 1) * 1 ≤ 8; omega
      | ⟨1, _⟩ => show (0 + 1) * 3584 ≤ 3584; omega
      | ⟨2, _⟩ => show (0 + 1) * 1024 ≤ 1024; omega
    refine aux _ ?_
    have e : ∀ x : S136.Idx, ((V m (0 : Dev nD) main_arg1 : IVec S136 32) x).toNat < 8 := by
      intro x
      rw [V_main_arg1]
      have ex : x = ix1 (x 0) := by
        funext a
        match a with
        | ⟨0, _⟩ => rfl
      rw [ex]
      exact h _
    exact e _
  exact fun i => ⟨hb i, .inr (Affine.block_words_dvd (of_decide_eq_true rfl) (by decide))⟩

end side

/-- The result: each row by the matrix of its block's expert. -/
def downAt (h : Vec Ideal S69632x3584 .bf16) (e : IVec S136 32) (w : Vec Ideal S8x3584x1024 .f32) (r : Fin 69632) (n : Fin 1024) : EReal :=
  ∑ k : Fin 3584, h (ix2 r k) * w (ix3 (pick e ⟨r.val / 512, by omega⟩) k n)

def downA (h : Vec Ideal S69632x3584 .bf16) (e : IVec S136 32) (w : Vec Ideal S8x3584x1024 .f32) : Vec Ideal S69632x1024 .f32 :=
  fun i => downAt h e w (i 0) (i 1)

theorem pay_at (v0 : Vec Ideal S512x3584 .bf16) (v1 : Vec Ideal S1x3584x1024 .bf16) (r : Fin 512) (n : Fin 1024) :
    (k0_pay1 v0 v1 : Vec Ideal S512x1024 .f32) (ix2 r n) = ∑ k : Fin 3584, v0 (ix2 r k) * v1 (ix3 0 k n) := by
  unfold k0_pay1
  pointwise

section run
variable {F : FTy → Type} [FloatOps F]
variable (c : Dev nD) (i : grid0.Coords) (arg2 : Memref sig .tc .vmem S512x3584 .bf16) (harg2 : arg2.IsWhole) (arg3 : Memref sig .tc .vmem S1x3584x1024 .bf16) (harg3 : arg3.IsWhole) (arg4 : Memref sig .tc .vmem S512x1024 .f32) (harg4 : arg4.IsWhole)
  (x0 : Vec F S512x3584 .bf16) (x1 : Vec F S1x3584x1024 .bf16) (xt0 : TbBuf0 (F := F) c tbM0_0)

theorem ld_h (x : Vec F S512x3584 .bf16) : View.ld (Val := Elt F) x (Rect.unit ![0, 0] ![512, 3584] inb_S512x3584_S512x3584_0_0) = x := View.ld_unit_lit _ x (by decide)
theorem ld_w (x : Vec F S1x3584x1024 .bf16) : View.ld (Val := Elt F) x (Rect.unit ![0, 0, 0] ![1, 3584, 1024] inb_S1x3584x1024_S1x3584x1024_0_0_0) = x := View.ld_unit_lit _ x (by decide)

theorem run_2 : (kernelRun0_A (F := F) c i arg2 harg2 arg3 harg3 arg4 harg4 x0 x1 xt0).1
    = [⟨Rect.unit ![0, 0] ![512, 1024] inb_S512x1024_S512x1024_0_0, k0_pay1 x0 x1⟩] := by
  unfold kernelRun0_A
  dsimp only
  sl_unfold_words
  simp (disch := decide) only [View.readAt_eq_ld, harg2.read_unread, harg3.read_unread, ld_h, ld_w]

theorem out_eq : out0_A_2 (F := F) c i arg2 harg2 arg3 harg3 arg4 harg4 x0 x1 xt0 = k0_pay1 x0 x1 := by
  unfold out0_A_2
  rw [run_2, View.read_writes_junk_eq_canon, View.canon_cons_unit_lit (S := S512x1024) _ _ _ (by decide)]

end run

section Read
variable (m : (ℓ : Loc nD τ sig) → Buf (Elt Ideal) ℓ) (hO : Ok m)
  (hlt : ∀ g : Fin 136, ((m ((0 : Dev nD).tc.loc main_arg1) : IVec S136 32) (ix1 g)).toNat < 8) (t : Fin (cfgM m hO).N)

abbrev x0 : Vec Ideal S69632x3584 .bf16 := m ((0 : Dev nD).tc.loc main_arg0)
abbrev xe : IVec S136 32 := m ((0 : Dev nD).tc.loc main_arg1)
abbrev x2 : Vec Ideal S8x3584x1024 .f32 := m ((0 : Dev nD).tc.loc main_arg2)

theorem V0 : (V m 0 main_v0 : Vec Ideal S8x3584x1024 .bf16) = truncf (F := Ideal) (φ := .f32) .bf16 (x2 m) bitsLt_bf16_f32 := by
  show StableHlo.after hostOps0 (fun b => m (0, b)) _ = _
  simp only [hostOps0]
  after_results

theorem ix_0 : ∀ t : Fin grid0.N, cc0_transform_0 (grid0.coords t) 0 = t.val ∧ cc0_transform_0 (grid0.coords t) 1 = 0 := by decide +kernel
theorem ix_2 : ∀ t : Fin grid0.N, cc0_transform_2 (grid0.coords t) 0 = t.val ∧ cc0_transform_2 (grid0.coords t) 1 = 0 := by decide +kernel
theorem off_1 : ∀ t : Fin grid0.N, k0_off1 (grid0.coords t) 0 = t.val := by decide +kernel

/-- The block of point `t`, and a row of it. -/
def blk (t : Fin grid0.N) : Fin 136 := ⟨t.val, lt_of_lt_of_eq t.isLt Gen.N_0⟩
def row (t : Fin grid0.N) (r : Fin 512) : Fin 69632 := ⟨512 * t.val + r.val, by have := lt_of_lt_of_eq t.isLt Gen.N_0; omega⟩

include hlt in
theorem ix_1 (t : Fin grid0.N) : cc0_transform_1 k0_off1_inb numel1_S1 (tbl m) (grid0.coords t) 0 = (pick (xe m) (blk t)).val := by
  rw [pick_val _ hlt]
  show ((V m (0 : Dev nD) main_arg1 : IVec S136 32) _).toNat = _
  rw [V_main_arg1]
  refine congrArg (fun z : S136.Idx => (xe m z).toNat) ?_
  funext a
  apply Fin.ext
  match a with
  | ⟨0, _⟩ => show k0_off1 (grid0.coords t) 0 + 1 * 0 = t.val; rw [off_1]; omega

theorem blk_0 (r : Fin 512) (k : Fin 3584) : (iblk m hO 0 0 t : Vec Ideal S512x3584 .bf16) (ix2 r k) = x0 m (ix2 (row t r) k) := by
  have hi := ix_0 t
  have e : ((((cfgM m hO).win 0).blk t).view.emb (ix2 r k : S512x3584.Idx) : S69632x3584.Idx) = ix2 (row t r) k := by
    funext a
    apply Fin.ext
    match a with
    | ⟨0, _⟩ => show cc0_transform_0 (grid0.coords t) 0 * 512 + 1 * r.val = 512 * t.val + r.val; rw [hi.1]; omega
    | ⟨1, _⟩ => show cc0_transform_0 (grid0.coords t) 1 * 3584 + 1 * k.val = k.val; rw [hi.2]; omega
  exact (congrArg (V m 0 main_arg0 : Vec Ideal S69632x3584 .bf16) e).trans (congrFun (V_main_arg0 m 0) _)

include hlt in
theorem blk_1 (k : Fin 3584) (n : Fin 1024) : @Eq EReal ((iblk m hO 0 1 t : Vec Ideal S1x3584x1024 .bf16) (ix3 0 k n)) (x2 m (ix3 (pick (xe m) (blk t)) k n)) := by
  have hi := ix_1 m hlt t
  have e : ((((cfgM m hO).win 1).blk t).view.emb (ix3 0 k n : S1x3584x1024.Idx) : S8x3584x1024.Idx) = ix3 (pick (xe m) (blk t)) k n := by
    funext a
    apply Fin.ext
    match a with
    | ⟨0, _⟩ => show cc0_transform_1 k0_off1_inb numel1_S1 (tbl m) (grid0.coords t) 0 * 1 + 1 * 0 = (pick (xe m) (blk t)).val; rw [hi]; omega
    | ⟨1, _⟩ => show 0 * 3584 + 1 * k.val = k.val; omega
    | ⟨2, _⟩ => show 0 * 1024 + 1 * n.val = n.val; omega
  exact (congrArg (V m 0 main_v0 : Vec Ideal S8x3584x1024 .bf16) e).trans (congrFun (V0 m) _)

include hlt in
theorem point_2 (r : Fin 512) (n : Fin 1024) : (outsAt0 m hO 0 t : Vec Ideal S512x1024 .f32) (ix2 r n) = downAt (x0 m) (xe m) (x2 m) (row t r) n := by
  refine (congrFun (out_eq (F := Ideal) 0 (grid0.coords t) _ _ _ _ _ _ (iblk m hO 0 0 t) (iblk m hO 0 1 t) (tbl m 0)) (ix2 r n)).trans ?_
  refine (pay_at _ _ r n).trans ?_
  unfold downAt
  refine Finset.sum_congr rfl fun k _ => ?_
  rw [show (⟨(row t r).val / 512, by omega⟩ : Fin 136) = blk t from Fin.ext (by show (512 * t.val + r.val) / 512 = t.val; omega)]
  exact congrArg₂ (fun y z : EReal => y * z) (blk_0 m hO t r k) (blk_1 m hO hlt t k n)

include hlt in
theorem flush_2 : (dats m hO 0 0).flushed 2 t = (((cfgM m hO).win 2).blk t).view.read (Elt Ideal) (downA (x0 m) (xe m) (x2 m)) := by
  have hi := ix_2 t
  refine (congrArg (((cfgM m hO).win 2).cut (grid0.coords t)) (after0_2 m hO 0 t)).trans ?_
  funext (j : S512x1024.Idx)
  have e : ((cfgM m hO).win 2).xinj (grid0.coords t) j = (ix2 (j 0) (j 1) : S512x1024.Idx) := by
    funext a
    match a with
    | ⟨0, _⟩ => rfl
    | ⟨1, _⟩ => rfl
  have e' : ((((cfgM m hO).win 2).blk t).view.emb j : S69632x1024.Idx) = ix2 (row t (j 0)) (j 1) := by
    funext a
    apply Fin.ext
    match a with
    | ⟨0, _⟩ => show cc0_transform_2 (grid0.coords t) 0 * 512 + 1 * (j 0).val = 512 * t.val + (j 0).val; rw [hi.1]; omega
    | ⟨1, _⟩ => show cc0_transform_2 (grid0.coords t) 1 * 1024 + 1 * (j 1).val = (j 1).val; rw [hi.2]; omega
  exact ((congrArg (outsAt0 m hO 0 t : Vec Ideal S512x1024 .f32) e).trans (point_2 m hO hlt t _ _)).trans (congrArg (downA (x0 m) (xe m) (x2 m)) e').symm

end Read

variable (m : (ℓ : Loc nD τ sig) → Buf (Elt Ideal) ℓ)
  (hlt : ∀ g : Fin 136, ((m ((0 : Dev nD).tc.loc main_arg1) : IVec S136 32) (ix1 g)).toNat < 8)

include hlt in
theorem arr_2 (hO : Ok m) : (dats m hO 0 0).arrAt 2 (cfgM m hO).N = downA (x0 m) (xe m) (x2 m) :=
  (dats m hO 0 0).arrAt_eq_of_cover 2 (downA (x0 m) (xe m) (x2 m)) (fun t _ => flush_2 m hO hlt t) fun (i : S69632x1024.Idx) => by
    have h0 : (i 0 : Nat) < 69632 := (i 0).isLt
    have h1 : (i 1 : Nat) < 1024 := (i 1).isLt
    obtain ⟨t, ht⟩ : ∃ t : Fin grid0.N, t.val = (i 0 : Nat) / 512 := ⟨⟨_, by rw [Gen.N_0]; omega⟩, rfl⟩
    refine ⟨t, flush0_2 (adm m hO) t, ?_⟩
    have hi := ix_2 t
    rw [ht] at hi
    refine (congrArg (fun s : Finset S69632x1024.Idx => i ∈ s) (View.set_slice_whole main_v1 (((cfgM m hO).win 2).rect t))).mpr ?_
    refine Rect.mem_set_unit.mpr ?_
    intro a
    match a with
    | ⟨0, _⟩ =>
      show cc0_transform_2 (grid0.coords t) 0 * 512 ≤ (i 0 : Nat) ∧ (i 0 : Nat) < cc0_transform_2 (grid0.coords t) 0 * 512 + 512
      rw [hi.1]; omega
    | ⟨1, _⟩ =>
      show cc0_transform_2 (grid0.coords t) 1 * 1024 ≤ (i 1 : Nat) ∧ (i 1 : Nat) < cc0_transform_2 (grid0.coords t) 1 * 1024 + 1024
      rw [hi.2]; omega

include hlt in
/-- The kernel's run. -/
theorem runV (ρ : Dev nD → PrngReg) : θ_run defs (onTc (τ := τ) (main (F := Ideal))) ⟨m, fun _ => 0, ρ⟩ fun r => ∀ c : Dev nD,
      r.2.mem ((c : Thread nD τ).loc main_v1) = downA (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := ok m hlt
  (θ_run defs _ _).mono (fun r h c => by
    obtain rfl : c = 0 := Subsingleton.elim _ _
    exact ⟨((h.1 0).1 2).trans (arr_2 m hlt hO), h.2 0⟩)
    (θ_run_and (run_main m ρ hO) (unchanged m ρ hO))

end Cert.Kernel5Ideal.ExpertDown

end
-- ==== Proof.ExpertDownRef.lean ====
/- The reference of the experts' second product: its result at an index. -/
module

public import proofs.«01_k».proof.Proof.ExpertDown
public import proofs.«01_k».proof.Proof.Gen.Reference5Ideal.Run

@[expose] public section

set_option maxRecDepth 100000

noncomputable section

namespace Cert.Reference5Ideal.ExpertDown

open Cert.Reference5Ideal Cert.Reference5Ideal.Gen Cert.Experts Idealize.ShloMosaic Idealize.ShloMosaic.TcCoe Idealize.SL.Sem Cert.Kernel5Ideal.ExpertDown

/-- The column of words the reference reads the matrices at. -/
def words (e : IVec S136 32) : IVec S136x1 32 :=
  broadcastInDim S136x1 ![0] bcast_S136_S136x1_0 (select (cmpi .slt e (broadcastInDim S136 ![] bcast_S_S136 (constantI S_ 32 0#32))) (addi e (broadcastInDim S136 ![] bcast_S_S136 (constantI S_ 32 8#32))) e)

theorem words_toNat (e : IVec S136 32) (he : ∀ g : Fin 136, (e (ix1 g)).toNat < 8) (g : Fin 136) : (words e (ix2 g 0)).toNat = (pick e g).val := by
  have hw : words e (ix2 g 0) = (select (cmpi .slt e (broadcastInDim S136 ![] bcast_S_S136 (constantI S_ 32 0#32))) (addi e (broadcastInDim S136 ![] bcast_S_S136 (constantI S_ 32 8#32))) e : IVec S136 32) (ix1 g) := by
    unfold words
    refine congrArg (select (cmpi .slt e (broadcastInDim S136 ![] bcast_S_S136 (constantI S_ 32 0#32))) (addi e (broadcastInDim S136 ![] bcast_S_S136 (constantI S_ 32 8#32))) e : IVec S136 32) ?_
    funext a
    match a with
    | ⟨0, _⟩ => rfl
  rw [hw, words_at e _ _ (fun _ => rfl) he, pick_val e he]

/-- The reference's products, over whatever matrices it picked. -/
theorem val_at (h : Vec Ideal S69632x3584 .bf16) (w : Vec Ideal S136x3584x1024 .f32) (g : Fin 136) (r : Fin 512) (n : Fin 1024) :
    (Host.dotGeneral (F := Ideal) (φ₁ := .f32) (φ₂ := .f32) dot_S136x512x3584_S136x3584x1024_S136x512x1024_2_1_1_2_0_0 none
      (shapeCast S136x512x3584 (extf (F := Ideal) (φ := .bf16) .f32 h bitsLt_bf16_f32) shapeCasts_S69632x3584_S136x512x3584) w : Vec Ideal S136x512x1024 .f32) (ix3 g r n)
      = ∑ k : Fin 3584, h (ix2 (⟨g.val * 512 + r.val, by omega⟩ : Fin 69632) k) * w (ix3 g k n) := by
  pointwise

theorem cast_at (v : Vec Ideal S136x512x1024 .f32) (r : Fin 69632) (n : Fin 1024) :
    (shapeCast S69632x1024 v shapeCasts_S136x512x1024_S69632x1024 : Vec Ideal S69632x1024 .f32) (ix2 r n) = v (ix3 ⟨r.val / 512, by omega⟩ ⟨r.val % 512, by omega⟩ n) := by
  pointwise

theorem val_eq (h : Vec Ideal S69632x3584 .bf16) (e : IVec S136 32) (w : Vec Ideal S8x3584x1024 .f32) (he : ∀ g : Fin 136, (e (ix1 g)).toNat < 8) :
    (shapeCast S69632x1024 (Host.dotGeneral (F := Ideal) (φ₁ := .f32) (φ₂ := .f32) dot_S136x512x3584_S136x3584x1024_S136x512x1024_2_1_1_2_0_0 none
      (shapeCast S136x512x3584 (extf (F := Ideal) (φ := .bf16) .f32 h bitsLt_bf16_f32) shapeCasts_S69632x3584_S136x512x3584)
      (Host.gather gather_S8x3584x1024_S136x1_S136x3584x1024_12_0_n_n_0_1_135841024 w (words e)) : Vec Ideal S136x512x1024 .f32) shapeCasts_S136x512x1024_S69632x1024 : Vec Ideal S69632x1024 .f32)
      = downA h e w := by
  funext i
  have ei : i = ix2 (i 0) (i 1) := by
    funext a
    match a with
    | ⟨0, _⟩ => rfl
    | ⟨1, _⟩ => rfl
  rw [ei]
  refine (cast_at _ (i 0) (i 1)).trans ((val_at h _ _ _ _).trans ?_)
  show _ = downAt h e w (i 0) (i 1)
  unfold downAt
  refine Finset.sum_congr rfl fun k _ => congrArg₂ (fun y z : EReal => y * z) (congrArg (fun q : Fin 69632 => h (ix2 q k)) (Fin.ext (Nat.div_add_mod' _ _))) ?_
  exact gather_at _ rfl rfl rfl rfl rfl w (words e) _ k (i 1) _ (words_toNat e he _)

variable (m : (ℓ : Loc nD τ sig) → Buf (Elt Ideal) ℓ) (c : Dev nD)

abbrev a0 : Vec Ideal S69632x3584 .bf16 := m (c.tc.loc main_arg0)
abbrev ae : IVec S136 32 := m (c.tc.loc main_arg1)
abbrev a2 : Vec Ideal S8x3584x1024 .f32 := m (c.tc.loc main_arg2)

/-- The reference's run. -/
theorem runV (he : ∀ (c : Dev nD) (g : Fin 136), (ae m c (ix1 g)).toNat < 8) (ρ : Dev nD → PrngReg) :
    θ_run defs (onTc (τ := τ) (main (F := Ideal))) ⟨m, fun _ => 0, ρ⟩ fun r => ∀ c : Dev nD,
      r.2.mem ((c : Thread nD τ).loc main_v10) = downA (a0 m c) (ae m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (val_eq (a0 m c) (ae m c) (a2 m c) (he c)), (h c).2⟩) (Value.run m ρ)

end Cert.Reference5Ideal.ExpertDown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import proofs.«01_k».proof.Proof.RefResult
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.UpRef
public import proofs.«01_k».proof.Proof.DownRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.ProjRef
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.GluRef
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.HyInRef
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.HyOutRef
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.HgOutRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Pre_experts_up
public import proofs.«01_k».proof.Proof.Gen.Pre_experts_down
public import proofs.«01_k».proof.Proof.ExpertUpRef
public import proofs.«01_k».proof.Proof.ExpertDownRef
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run m ρ)

/-- The results of the layer on one device, from the kernel's memory. -/
theorem algebraic : Cert.algebraic_KernelIdeal_ReferenceIdeal := by
  intro m g m' g' _ h
  refine ⟨_, _, _, Cert.KernelIdeal.Scan.runV m g, (θ_run Cert.ReferenceIdeal.defs _ _).mono (fun r hr c => ?_) (Cert.ReferenceIdeal.Scan.runV m' g')⟩
  have h0 : Cert.ReferenceIdeal.Scan.a0 m' c = Cert.KernelIdeal.Scan.x0 m c := (h c).1
  have h1 : Cert.ReferenceIdeal.Scan.a1 m' c = Cert.KernelIdeal.Scan.x1 m c := (h c).2.1
  have h2 : Cert.ReferenceIdeal.Scan.a2 m' c = Cert.KernelIdeal.Scan.x2 m c := (h c).2.2
  have hc := hr c
  rw [h0, h1, h2] at hc
  exact hc

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The dense layer's first product. -/
theorem algebraic2 : Cert.algebraic_Kernel2Ideal_Reference2Ideal := by
  intro m g m' g' _ h
  refine ⟨_, Cert.Kernel2Ideal.Up.runV m g, (θ_run Cert.Reference2Ideal.defs _ _).mono (fun r hr c => ?_) (Cert.Reference2Ideal.Up.runV m' g')⟩
  have h0 : Cert.Reference2Ideal.Up.a0 m' c = Cert.Kernel2Ideal.Up.x0 m c := (h c).1
  have h1 : Cert.Reference2Ideal.Up.a1 m' c = Cert.Kernel2Ideal.Up.x1 m c := (h c).2.1
  have h2 : Cert.Reference2Ideal.Up.a2 m' c = Cert.Kernel2Ideal.Up.x2 m c := (h c).2.2.1
  have h3 : Cert.Reference2Ideal.Up.a3 m' c = Cert.Kernel2Ideal.Up.x3 m c := (h c).2.2.2.1
  have h4 : Cert.Reference2Ideal.Up.a4 m' c = Cert.Kernel2Ideal.Up.x4 m c := (h c).2.2.2.2.1
  have h5 : Cert.Reference2Ideal.Up.a5 m' c = Cert.Kernel2Ideal.Up.x5 m c := (h c).2.2.2.2.2
  have hc := hr c
  rw [h0, h1, h2, h3, h4, h5] at hc
  exact hc

/-- The dense layer's second product. -/
theorem algebraic3 : Cert.algebraic_Kernel3Ideal_Reference3Ideal := by
  intro m g m' g' _ h
  refine ⟨_, Cert.Kernel3Ideal.Down.runV m g, (θ_run Cert.Reference3Ideal.defs _ _).mono (fun r hr c => ?_) (Cert.Reference3Ideal.Down.runV m' g')⟩
  have h0 : Cert.Reference3Ideal.Down.a0 m' c = Cert.Kernel3Ideal.Down.x0 m c := (h c).1
  have h1 : Cert.Reference3Ideal.Down.a1 m' c = Cert.Kernel3Ideal.Down.x1 m c := (h c).2.1
  have h2 : Cert.Reference3Ideal.Down.a2 m' c = Cert.Kernel3Ideal.Down.x2 m c := (h c).2.2.1
  have h3 : Cert.Reference3Ideal.Down.a3 m' c = Cert.Kernel3Ideal.Down.x3 m c := (h c).2.2.2
  have hc := hr c
  rw [h0, h1, h2, h3] at hc
  exact hc

theorem frame_r6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- The recurrent mixer's input product. -/
theorem algebraic6 : Cert.algebraic_Kernel6Ideal_Reference6Ideal := by
  intro m g m' g' _ h
  refine ⟨_, Cert.Kernel6Ideal.Proj.runV m g, (θ_run Cert.Reference6Ideal.defs _ _).mono (fun r hr c => ?_) (Cert.Reference6Ideal.Proj.runV m' g')⟩
  have h0 : Cert.Reference6Ideal.Proj.a0 m' c = Cert.Kernel6Ideal.Proj.x0 m c := (h c).1
  have h1 : Cert.Reference6Ideal.Proj.a1 m' c = Cert.Kernel6Ideal.Proj.x1 m c := (h c).2.1
  have h2 : Cert.Reference6Ideal.Proj.a2 m' c = Cert.Kernel6Ideal.Proj.x2 m c := (h c).2.2.1
  have h3 : Cert.Reference6Ideal.Proj.a3 m' c = Cert.Kernel6Ideal.Proj.x3 m c := (h c).2.2.2.1
  have h4 : Cert.Reference6Ideal.Proj.a4 m' c = Cert.Kernel6Ideal.Proj.x4 m c := (h c).2.2.2.2
  have hc := hr c
  rw [h0, h1, h2, h3, h4] at hc
  exact hc

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- The convolution mixer's gated input product. -/
theorem algebraic7 : Cert.algebraic_Kernel7Ideal_Reference7Ideal := by
  intro m g m' g' _ h
  refine ⟨_, Cert.Kernel7Ideal.Glu.runV m g, (θ_run Cert.Reference7Ideal.defs _ _).mono (fun r hr c => ?_) (Cert.Reference7Ideal.Glu.runV m' g')⟩
  have h0 : Cert.Reference7Ideal.Glu.a0 m' c = Cert.Kernel7Ideal.Glu.x0 m c := (h c).1
  have h1 : Cert.Reference7Ideal.Glu.a1 m' c = Cert.Kernel7Ideal.Glu.x1 m c := (h c).2.1
  have h2 : Cert.Reference7Ideal.Glu.a2 m' c = Cert.Kernel7Ideal.Glu.x2 m c := (h c).2.2.1
  have h3 : Cert.Reference7Ideal.Glu.a3 m' c = Cert.Kernel7Ideal.Glu.x3 m c := (h c).2.2.2.1
  have h4 : Cert.Reference7Ideal.Glu.a4 m' c = Cert.Kernel7Ideal.Glu.x4 m c := (h c).2.2.2.2.1
  have h5 : Cert.Reference7Ideal.Glu.a5 m' c = Cert.Kernel7Ideal.Glu.x5 m c := (h c).2.2.2.2.2
  have hc := hr c
  rw [h0, h1, h2, h3, h4, h5] at hc
  exact hc

theorem frame_r8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

/-- The convolution mixer's input product. -/
theorem algebraic8 : Cert.algebraic_Kernel8Ideal_Reference8Ideal := by
  intro m g m' g' _ h
  refine ⟨_, Cert.Kernel8Ideal.HyIn.runV m g, (θ_run Cert.Reference8Ideal.defs _ _).mono (fun r hr c => ?_) (Cert.Reference8Ideal.HyIn.runV m' g')⟩
  have h0 : Cert.Reference8Ideal.HyIn.a0 m' c = Cert.Kernel8Ideal.HyIn.x0 m c := (h c).1
  have h1 : Cert.Reference8Ideal.HyIn.a1 m' c = Cert.Kernel8Ideal.HyIn.x1 m c := (h c).2.1
  have h2 : Cert.Reference8Ideal.HyIn.a2 m' c = Cert.Kernel8Ideal.HyIn.x2 m c := (h c).2.2.1
  have h3 : Cert.Reference8Ideal.HyIn.a3 m' c = Cert.Kernel8Ideal.HyIn.x3 m c := (h c).2.2.2.1
  have h4 : Cert.Reference8Ideal.HyIn.a4 m' c = Cert.Kernel8Ideal.HyIn.x4 m c := (h c).2.2.2.2.1
  have h5 : Cert.Reference8Ideal.HyIn.a5 m' c = Cert.Kernel8Ideal.HyIn.x5 m c := (h c).2.2.2.2.2
  have hc := hr c
  rw [h0, h1, h2, h3, h4, h5] at hc
  exact hc

theorem frame_r9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run m ρ)

/-- The convolution mixer's output product. -/
theorem algebraic9 : Cert.algebraic_Kernel9Ideal_Reference9Ideal := by
  intro m g m' g' _ h
  refine ⟨_, Cert.Kernel9Ideal.HyOut.runV m g, (θ_run Cert.Reference9Ideal.defs _ _).mono (fun r hr c => ?_) (Cert.Reference9Ideal.HyOut.runV m' g')⟩
  have h0 : Cert.Reference9Ideal.HyOut.a0 m' c = Cert.Kernel9Ideal.HyOut.x0 m c := (h c).1
  have h1 : Cert.Reference9Ideal.HyOut.a1 m' c = Cert.Kernel9Ideal.HyOut.x1 m c := (h c).2.1
  have h2 : Cert.Reference9Ideal.HyOut.a2 m' c = Cert.Kernel9Ideal.HyOut.x2 m c := (h c).2.2.1
  have h3 : Cert.Reference9Ideal.HyOut.a3 m' c = Cert.Kernel9Ideal.HyOut.x3 m c := (h c).2.2.2.1
  have h4 : Cert.Reference9Ideal.HyOut.a4 m' c = Cert.Kernel9Ideal.HyOut.x4 m c := (h c).2.2.2.2
  have hc := hr c
  rw [h0, h1, h2, h3, h4] at hc
  exact hc

theorem frame_r10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

/-- The gated linear recurrence's output product. -/
theorem algebraic10 : Cert.algebraic_Kernel10Ideal_Reference10Ideal := by
  intro m g m' g' _ h
  refine ⟨_, Cert.Kernel10Ideal.HgOut.runV m g, (θ_run Cert.Reference10Ideal.defs _ _).mono (fun r hr c => ?_) (Cert.Reference10Ideal.HgOut.runV m' g')⟩
  have h0 : Cert.Reference10Ideal.HgOut.a0 m' c = Cert.Kernel10Ideal.HgOut.x0 m c := (h c).1
  have h1 : Cert.Reference10Ideal.HgOut.a1 m' c = Cert.Kernel10Ideal.HgOut.x1 m c := (h c).2.1
  have h2 : Cert.Reference10Ideal.HgOut.a2 m' c = Cert.Kernel10Ideal.HgOut.x2 m c := (h c).2.2.1
  have h3 : Cert.Reference10Ideal.HgOut.a3 m' c = Cert.Kernel10Ideal.HgOut.x3 m c := (h c).2.2.2.1
  have h4 : Cert.Reference10Ideal.HgOut.a4 m' c = Cert.Kernel10Ideal.HgOut.x4 m c := (h c).2.2.2.2.1
  have h5 : Cert.Reference10Ideal.HgOut.a5 m' c = Cert.Kernel10Ideal.HgOut.x5 m c := (h c).2.2.2.2.2.1
  have h6 : Cert.Reference10Ideal.HgOut.a6 m' c = Cert.Kernel10Ideal.HgOut.x6 m c := (h c).2.2.2.2.2.2
  have hc := hr c
  rw [h0, h1, h2, h3, h4, h5, h6] at hc
  exact hc

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

theorem frame_r4_pre : Cert.quiescent_Reference4Ideal_pre_experts_up := fun m ρ _ => frame_r4 m ρ trivial

theorem frame_r5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

theorem frame_r5_pre : Cert.quiescent_Reference5Ideal_pre_experts_down := fun m ρ _ => frame_r5 m ρ trivial

theorem frame_k4 : Cert.quiescent_Kernel4 := fun m ρ h =>
  Cert.Kernel4.Gen.frame m ρ (Cert.Kernel4.ExpertUp.ok m fun g => Cert.Experts.lt_of_up _ _ _ _ (h 0) g)
theorem frame_k4i : Cert.quiescent_Kernel4Ideal := fun m ρ h =>
  Cert.Kernel4Ideal.Gen.frame m ρ (Cert.Kernel4Ideal.ExpertUp.ok m fun g => Cert.Experts.lt_of_up _ _ _ _ (h 0) g)
theorem frame_k5 : Cert.quiescent_Kernel5 := fun m ρ h =>
  Cert.Kernel5.Gen.frame m ρ (Cert.Kernel5.ExpertDown.ok m fun g => Cert.Experts.lt_of_down _ _ _ (h 0) g)
theorem frame_k5i : Cert.quiescent_Kernel5Ideal := fun m ρ h =>
  Cert.Kernel5Ideal.Gen.frame m ρ (Cert.Kernel5Ideal.ExpertDown.ok m fun g => Cert.Experts.lt_of_down _ _ _ (h 0) g)

/-- The experts' first products. -/
theorem algebraic4 : Cert.algebraic_Kernel4Ideal_Reference4Ideal := by
  intro m g m' g' hp h
  have hlt : ∀ b : Fin 136, (Cert.Kernel4Ideal.ExpertUp.xe m (ix1 b)).toNat < 8 := fun b => Cert.Experts.lt_of_up _ _ _ _ (hp 0) b
  have hlt' : ∀ (c : Dev Cert.Reference4Ideal.nD) (b : Fin 136), (Cert.Reference4Ideal.ExpertUp.ae m' c (ix1 b)).toNat < 8 := by
    intro c b
    have h1 : Cert.Reference4Ideal.ExpertUp.ae m' c = m ((c.tc : Thread Cert.Kernel4Ideal.nD Cert.Kernel4Ideal.τ).loc Cert.Kernel4Ideal.main_arg1) := (h c).2.1
    rw [h1]
    exact Cert.Experts.lt_of_up _ _ _ _ (hp c) b
  refine ⟨_, Cert.Kernel4Ideal.ExpertUp.runV m hlt g, (θ_run Cert.Reference4Ideal.defs _ _).mono (fun r hr c => ?_) (Cert.Reference4Ideal.ExpertUp.runV m' hlt' g')⟩
  have h0 : Cert.Reference4Ideal.ExpertUp.a0 m' c = m ((c.tc : Thread Cert.Kernel4Ideal.nD Cert.Kernel4Ideal.τ).loc Cert.Kernel4Ideal.main_arg0) := (h c).1
  have h1 : Cert.Reference4Ideal.ExpertUp.ae m' c = m ((c.tc : Thread Cert.Kernel4Ideal.nD Cert.Kernel4Ideal.τ).loc Cert.Kernel4Ideal.main_arg1) := (h c).2.1
  have h2 : Cert.Reference4Ideal.ExpertUp.a2 m' c = m ((c.tc : Thread Cert.Kernel4Ideal.nD Cert.Kernel4Ideal.τ).loc Cert.Kernel4Ideal.main_arg2) := (h c).2.2.1
  have h3 : Cert.Reference4Ideal.ExpertUp.a3 m' c = m ((c.tc : Thread Cert.Kernel4Ideal.nD Cert.Kernel4Ideal.τ).loc Cert.Kernel4Ideal.main_arg3) := (h c).2.2.2
  have hc := hr c
  rw [h0, h1, h2, h3] at hc
  exact hc

/-- The experts' second product. -/
theorem algebraic5 : Cert.algebraic_Kernel5Ideal_Reference5Ideal := by
  intro m g m' g' hp h
  have hlt : ∀ b : Fin 136, (Cert.Kernel5Ideal.ExpertDown.xe m (ix1 b)).toNat < 8 := fun b => Cert.Experts.lt_of_down _ _ _ (hp 0) b
  have hlt' : ∀ (c : Dev Cert.Reference5Ideal.nD) (b : Fin 136), (Cert.Reference5Ideal.ExpertDown.ae m' c (ix1 b)).toNat < 8 := by
    intro c b
    have h1 : Cert.Reference5Ideal.ExpertDown.ae m' c = m ((c.tc : Thread Cert.Kernel5Ideal.nD Cert.Kernel5Ideal.τ).loc Cert.Kernel5Ideal.main_arg1) := (h c).2.1
    rw [h1]
    exact Cert.Experts.lt_of_down _ _ _ (hp c) b
  refine ⟨_, Cert.Kernel5Ideal.ExpertDown.runV m hlt g, (θ_run Cert.Reference5Ideal.defs _ _).mono (fun r hr c => ?_) (Cert.Reference5Ideal.ExpertDown.runV m' hlt' g')⟩
  have h0 : Cert.Reference5Ideal.ExpertDown.a0 m' c = m ((c.tc : Thread Cert.Kernel5Ideal.nD Cert.Kernel5Ideal.τ).loc Cert.Kernel5Ideal.main_arg0) := (h c).1
  have h1 : Cert.Reference5Ideal.ExpertDown.ae m' c = m ((c.tc : Thread Cert.Kernel5Ideal.nD Cert.Kernel5Ideal.τ).loc Cert.Kernel5Ideal.main_arg1) := (h c).2.1
  have h2 : Cert.Reference5Ideal.ExpertDown.a2 m' c = m ((c.tc : Thread Cert.Kernel5Ideal.nD Cert.Kernel5Ideal.τ).loc Cert.Kernel5Ideal.main_arg2) := (h c).2.2
  have hc := hr c
  rw [h0, h1, h2] at hc
  exact hc

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_experts_up.Gen.facts, Cert.Pre_experts_down.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  frame_k4, frame_k4i, frame_r4, frame_r4_pre, frame_k5, frame_k5i, frame_r5, frame_r5_pre,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  trivial, algebraic, trivial, algebraic2, trivial, algebraic3, trivial, algebraic4, trivial, algebraic5, trivial, algebraic6,
  trivial, algebraic7, trivial, algebraic8, trivial, algebraic9, trivial, algebraic10⟩

end Cert.Proof

end
